-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_nonneg [hPre_gates_nonneg : Cert.Pre_gates_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_gates_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_nonneg [hPre_gates_nonneg : Cert.Pre_gates_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gates_nonneg [hKernelIdeal : Cert.KernelIdeal.Facts] [hPre_gates_nonneg : Cert.Pre_gates_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gates_nonneg [hReferenceIdeal : Cert.ReferenceIdeal.Facts] [hPre_gates_nonneg : Cert.Pre_gates_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_gates_nonneg [hKernelIdeal : Cert.KernelIdeal.Facts] [hReferenceIdeal : Cert.ReferenceIdeal.Facts] [hPre_gates_nonneg : Cert.Pre_gates_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v2) = v1 c
          ∧ r.2.mem ((c.tc : Thread Cert.Reference3Ideal.nD Cert.Reference3Ideal.τ).loc Cert.Reference3Ideal.main_v3) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12)) (v1 : (c : Dev Cert.Kernel4Ideal.nD) → Buf (Elt Ideal) ((c.tc : Thread Cert.Kernel4Ideal.nD Cert.Kernel4Ideal.τ).loc Cert.Kernel4Ideal.main_v15)) (v2 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_v15) = v1 c
          ∧ r.2.mem ((c.tc : Thread Cert.Kernel4Ideal.nD Cert.Kernel4Ideal.τ).loc Cert.Kernel4Ideal.main_v16) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v5) = v1 c
          ∧ r.2.mem ((c.tc : Thread Cert.Reference4Ideal.nD Cert.Reference4Ideal.τ).loc Cert.Reference4Ideal.main_v9) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_gates_nonneg : Cert.Pre_gates_nonneg.Facts),
    quiescent_Kernel (hKernel := hKernel)
    ∧ quiescent_KernelIdeal (hKernelIdeal := hKernelIdeal)
    ∧ quiescent_KernelIdeal_pre_gates_nonneg (hKernelIdeal := hKernelIdeal) (hPre_gates_nonneg := hPre_gates_nonneg)
    ∧ quiescent_ReferenceIdeal (hReferenceIdeal := hReferenceIdeal)
    ∧ quiescent_ReferenceIdeal_pre_gates_nonneg (hReferenceIdeal := hReferenceIdeal) (hPre_gates_nonneg := hPre_gates_nonneg)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_gates_nonneg (hKernelIdeal := hKernelIdeal) (hReferenceIdeal := hReferenceIdeal) (hPre_gates_nonneg := hPre_gates_nonneg)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_gates_nonneg.lean ====
abbrev S32768x1024 : Shape := ⟨2, ![32768, 1024]⟩
abbrev S8x32768 : Shape := ⟨2, ![8, 32768]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S8x32768 : S_.BroadcastsInDim S8x32768 (![] : Fin 0 → Fin S8x32768.rank)

variable [Facts]

def fn {F : FTy → Type} [FloatOps F] (main_arg0 : FVec F S32768x1024 .f32) (main_arg1 : FVec F S8x32768 .f32) (main_arg2 : FVec F S8x1024x7168 .f32) (main_arg3 : FVec F S8x3584x1024 .f32) : IVec S8x32768 1 :=
  let main_cst : FVec F S_ .f32 := constant S_ .f32 0x00000000#32
  let main_v0 : FVec F S8x32768 .f32 := broadcastInDim S8x32768 ![] bcast_S_S8x32768 main_cst
  let main_v1 : IVec S8x32768 1 := cmpf .oge main_arg1 main_v0
  main_v1
-- ==== Kernel.lean ====
abbrev S32768x1024 : Shape := ⟨2, ![32768, 1024]⟩
abbrev S8x32768 : Shape := ⟨2, ![8, 32768]⟩
abbrev S8x1024x7168 : Shape := ⟨3, ![8, 1024, 7168]⟩
abbrev S8x3584x1024 : Shape := ⟨3, ![8, 3584, 1024]⟩
abbrev S_ : Shape := ⟨0, ![]⟩
abbrev S8x16x2048 : Shape := ⟨3, ![8, 16, 2048]⟩
abbrev S8x16x4x512 : Shape := ⟨4, ![8, 16, 4, 512]⟩
abbrev S8x16x4 : Shape := ⟨3, ![8, 16, 4]⟩
abbrev S8x16x1 : Shape := ⟨3, ![8, 16, 1]⟩
abbrev S8x16x5 : Shape := ⟨3, ![8, 16, 5]⟩
abbrev S16x8x5 : Shape := ⟨3, ![16, 8, 5]⟩
abbrev S640 : Shape := ⟨1, ![640]⟩
abbrev S2048x1024 : Shape := ⟨2, ![2048, 1024]⟩
abbrev S8x2048 : Shape := ⟨2, ![8, 2048]⟩
abbrev S1x1024x1792 : Shape := ⟨3, ![1, 1024, 1792]⟩
abbrev S1x1792x1024 : Shape := ⟨3, ![1, 1792, 1024]⟩
abbrev S1 : Shape := ⟨1, ![1]⟩
abbrev S256x1024 : Shape := ⟨2, ![256, 1024]⟩
abbrev S1x512 : Shape := ⟨2, ![1, 512]⟩
abbrev S256x512 : Shape := ⟨2, ![256, 512]⟩
abbrev S512x1024 : Shape := ⟨2, ![512, 1024]⟩
abbrev S128x1024 : Shape := ⟨2, ![128, 1024]⟩
abbrev S128x512 : Shape := ⟨2, ![128, 512]⟩
abbrev S1024x1792 : Shape := ⟨2, ![1024, 1792]⟩
abbrev S256x1792 : Shape := ⟨2, ![256, 1792]⟩
abbrev S1792x1024 : Shape := ⟨2, ![1792, 1024]⟩
abbrev S128x1792 : Shape := ⟨2, ![128, 1792]⟩
abbrev S256 : Shape := ⟨1, ![256]⟩
abbrev S256x1 : Shape := ⟨2, ![256, 1]⟩
abbrev S128 : Shape := ⟨1, ![128]⟩
abbrev S128x1 : Shape := ⟨2, ![128, 1]⟩

abbrev nBuf : Space → Nat
  | .hbm => 28
  | .vmem => 16
  | .smem => 1
  | _ => 0

abbrev bufTy : (tb : Table) → Fin (tcTables nBuf tb) → BufTy
  | .hbm, ⟨0, _⟩ => ⟨S32768x1024, .f32⟩
  | .hbm, ⟨1, _⟩ => ⟨S8x32768, .f32⟩
  | .hbm, ⟨2, _⟩ => ⟨S8x1024x7168, .f32⟩
  | .hbm, ⟨3, _⟩ => ⟨S8x3584x1024, .f32⟩
  | .hbm, ⟨4, _⟩ => ⟨S32768x1024, .bf16⟩
  | .hbm, ⟨5, _⟩ => ⟨S_, .f32⟩
  | .hbm, ⟨6, _⟩ => ⟨S8x32768, .f32⟩
  | .hbm, ⟨7, _⟩ => ⟨S8x32768, .i1⟩
  | .hbm, ⟨8, _⟩ => ⟨S8x32768, .i32⟩
  | .hbm, ⟨9, _⟩ => ⟨S8x16x2048, .i32⟩
  | .hbm, ⟨10, _⟩ => ⟨S_, .i32⟩
  | .hbm, ⟨11, _⟩ => ⟨S_, .i32⟩
  | .hbm, ⟨12, _⟩ => ⟨S8x16x2048, .i32⟩
  | .hbm, ⟨13, _⟩ => ⟨S8x16x2048, .i32⟩
  | .hbm, ⟨14, _⟩ => ⟨S8x32768, .i32⟩
  | .hbm, ⟨15, _⟩ => ⟨S8x16x4x512, .i32⟩
  | .hbm, ⟨16, _⟩ => ⟨S_, .i32⟩
  | .hbm, ⟨17, _⟩ => ⟨S8x16x4, .i32⟩
  | .hbm, ⟨18, _⟩ => ⟨S_, .i32⟩
  | .hbm, ⟨19, _⟩ => ⟨S8x16x1, .i32⟩
  | .hbm, ⟨20, _⟩ => ⟨S_, .i32⟩
  | .hbm, ⟨21, _⟩ => ⟨S_, .i32⟩
  | .hbm, ⟨22, _⟩ => ⟨S8x16x4, .i32⟩
  | .hbm, ⟨23, _⟩ => ⟨S8x16x5, .i32⟩
  | .hbm, ⟨24, _⟩ => ⟨S16x8x5, .i32⟩
  | .hbm, ⟨25, _⟩ => ⟨S8x1024x7168, .bf16⟩
  | .hbm, ⟨26, _⟩ => ⟨S8x3584x1024, .bf16⟩
  | .hbm, ⟨27, _⟩ => ⟨S32768x1024, .f32⟩
  | .local _ .vmem, ⟨0, _⟩ => ⟨S2048x1024, .bf16⟩
  | .local _ .vmem, ⟨1, _⟩ => ⟨S2048x1024, .bf16⟩
  | .local _ .vmem, ⟨2, _⟩ => ⟨S8x2048, .f32⟩
  | .local _ .vmem, ⟨3, _⟩ => ⟨S8x2048, .f32⟩
  | .local _ .vmem, ⟨4, _⟩ => ⟨S8x2048, .i32⟩
  | .local _ .vmem, ⟨5, _⟩ => ⟨S8x2048, .i32⟩
  | .local _ .vmem, ⟨6, _⟩ => ⟨S1x1024x1792, .bf16⟩
  | .local _ .vmem, ⟨7, _⟩ => ⟨S1x1024x1792, .bf16⟩
  | .local _ .vmem, ⟨8, _⟩ => ⟨S1x1024x1792, .bf16⟩
  | .local _ .vmem, ⟨9, _⟩ => ⟨S1x1024x1792, .bf16⟩
  | .local _ .vmem, ⟨10, _⟩ => ⟨S1x1792x1024, .bf16⟩
  | .local _ .vmem, ⟨11, _⟩ => ⟨S1x1792x1024, .bf16⟩
  | .local _ .vmem, ⟨12, _⟩ => ⟨S2048x1024, .f32⟩
  | .local _ .vmem, ⟨13, _⟩ => ⟨S2048x1024, .f32⟩
  | .local _ .vmem, ⟨14, _⟩ => ⟨S2048x1024, .bf16⟩
  | .local _ .vmem, ⟨15, _⟩ => ⟨S2048x1024, .f32⟩
  | .local _ .smem, ⟨0, _⟩ => ⟨S640, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_call0_c : Ref sig .tc := ⟨.hbm, 10, rfl⟩
abbrev main_call0_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_call1_call0_c : Ref sig .tc := ⟨.hbm, 20, rfl⟩
abbrev main_call1_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v14 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 8, 2], ![false, false, false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c5_i32 : BitVec 32 := 5#32
  let v2 : BitVec 32 := Scalar.muli v1 c5_i32
  let c4_i32 : BitVec 32 := 4#32
  let v3 : BitVec 32 := Scalar.addi v2 c4_i32
  let v4 : Index := Scalar.indexCast v3
  ![v4.toNat]
def k0_cond2 (i : grid0.Coords) : BitVec 1 :=
  let arg2 : BitVec 32 := BitVec.ofNat 32 (i 2).val
  let c0_i32_7 : BitVec 32 := 0#32
  let v29 : BitVec 1 := Scalar.cmpi .eq arg2 c0_i32_7
  let v30 : BitVec 32 := Scalar.extui v29
  let c0_i32_8 : BitVec 32 := 0#32
  let v31 : BitVec 1 := Scalar.cmpi .ne v30 c0_i32_8
  v31

@[reducible] def k0_t1_loop (v5 : BitVec 32) : Scf.Loop 32 :=
  let c0_i32_18 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v46 : BitVec 32 := Scalar.subi v23 c0_i32_18
  let c1_i32_20 : BitVec 32 := 1#32
  let v48 : BitVec 32 := Scalar.divsi v46 c1_i32_20
  let v49 : BitVec 32 := Scalar.muli v48 c1_i32_20
  let v50 : BitVec 32 := Scalar.addi c0_i32_18 v49
  let c1_i32_21 : BitVec 32 := 1#32
  ⟨c0_i32_18, v50, c1_i32_21⟩

def k0_mult1 (v5 : BitVec 32) (k0_t1 : Fin (k0_t1_loop v5).trips) : BitVec 32 :=
  let c0_i32_18 : BitVec 32 := 0#32
  let c1_i32_21 : BitVec 32 := 1#32
  let arg13 : BitVec 32 := Scf.iv c0_i32_18 c1_i32_21 k0_t1
  let c256_i32_25 : BitVec 32 := 256#32
  let v57 : BitVec 32 := Scalar.muli arg13 c256_i32_25
  v57
def k0_off2 (v5 : BitVec 32) (k0_t1 : Fin (k0_t1_loop v5).trips) : Fin 2 → Nat :=
  let c0_i32_18 : BitVec 32 := 0#32
  let c1_i32_21 : BitVec 32 := 1#32
  let arg13 : BitVec 32 := Scf.iv c0_i32_18 c1_i32_21 k0_t1
  let c256_i32_25 : BitVec 32 := 256#32
  let v57 : BitVec 32 := Scalar.muli arg13 c256_i32_25
  let v58 : BitVec 32 := v57
  let v60 : Index := Scalar.indexCast v58
  let c0 : Index := 0#32
  ![v60.toNat, 0]
@[reducible] def k0_t2_loop : Scf.Loop 32 :=
  let c0_i32_27 : BitVec 32 := 0#32
  let c4_i32_28 : BitVec 32 := 4#32
  let v64 : BitVec 32 := Scalar.addi c0_i32_27 c4_i32_28
  let c1_i32_29 : BitVec 32 := 1#32
  ⟨c0_i32_27, v64, c1_i32_29⟩
def k0_off3 (i : grid0.Coords) (k0_t2 : Fin k0_t2_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c5_i32 : BitVec 32 := 5#32
  let v2 : BitVec 32 := Scalar.muli v1 c5_i32
  let c0_i32_27 : BitVec 32 := 0#32
  let c1_i32_29 : BitVec 32 := 1#32
  let arg15 : BitVec 32 := Scf.iv c0_i32_27 c1_i32_29 k0_t2
  let v66 : BitVec 32 := Scalar.addi v2 arg15
  let v67 : Index := Scalar.indexCast v66
  ![v67.toNat]
def k0_off4 (i : grid0.Coords) (k0_t2 : Fin k0_t2_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c5_i32 : BitVec 32 := 5#32
  let v2 : BitVec 32 := Scalar.muli v1 c5_i32
  let c0_i32_27 : BitVec 32 := 0#32
  let c1_i32_29 : BitVec 32 := 1#32
  let arg15 : BitVec 32 := Scf.iv c0_i32_27 c1_i32_29 k0_t2
  let v71 : BitVec 32 := Scalar.addi v2 arg15
  let c1_i32_33 : BitVec 32 := 1#32
  let v72 : BitVec 32 := Scalar.addi v71 c1_i32_33
  let v73 : Index := Scalar.indexCast v72
  ![v73.toNat]
def k0_mult2 (k0_t2 : Fin k0_t2_loop.trips) : BitVec 32 :=
  let c0_i32_27 : BitVec 32 := 0#32
  let c1_i32_29 : BitVec 32 := 1#32
  let arg15 : BitVec 32 := Scf.iv c0_i32_27 c1_i32_29 k0_t2
  let c512_i32 : BitVec 32 := 512#32
  let v79 : BitVec 32 := Scalar.muli arg15 c512_i32
  v79
def k0_off5 (i : grid0.Coords) (k0_t2 : Fin k0_t2_loop.trips) : Fin 2 → Nat :=
  let arg1 : BitVec 32 := BitVec.ofNat 32 (i 1).val
  let v81 : Index := Scalar.indexCast arg1
  let c0_i32_27 : BitVec 32 := 0#32
  let c1_i32_29 : BitVec 32 := 1#32
  let arg15 : BitVec 32 := Scf.iv c0_i32_27 c1_i32_29 k0_t2
  let c512_i32 : BitVec 32 := 512#32
  let v79 : BitVec 32 := Scalar.muli arg15 c512_i32
  let v80 : BitVec 32 := v79
  let v82 : Index := Scalar.indexCast v80
  ![v81.toNat, v82.toNat]
def k0_off6 (k0_t2 : Fin k0_t2_loop.trips) : Fin 2 → Nat :=
  let c0_i32_27 : BitVec 32 := 0#32
  let c1_i32_29 : BitVec 32 := 1#32
  let arg15 : BitVec 32 := Scf.iv c0_i32_27 c1_i32_29 k0_t2
  let c512_i32 : BitVec 32 := 512#32
  let v79 : BitVec 32 := Scalar.muli arg15 c512_i32
  let v80 : BitVec 32 := v79
  let v101 : Index := Scalar.indexCast v80
  let c0_39 : Index := 0#32
  ![v101.toNat, 0]
def k0_off7 (v5 : BitVec 32) (k0_t1 : Fin (k0_t1_loop v5).trips) : Fin 2 → Nat :=
  let c0_i32_18 : BitVec 32 := 0#32
  let c1_i32_21 : BitVec 32 := 1#32
  let arg13 : BitVec 32 := Scf.iv c0_i32_18 c1_i32_21 k0_t1
  let c256_i32_25 : BitVec 32 := 256#32
  let v57 : BitVec 32 := Scalar.muli arg13 c256_i32_25
  let v58 : BitVec 32 := v57
  let v105 : Index := Scalar.indexCast v58
  let c0_41 : Index := 0#32
  ![v105.toNat, 0]
def k0_cond3 (v5 : BitVec 32) (k0_t1 : Fin (k0_t1_loop v5).trips) (v68 : BitVec 32) (v74 : BitVec 32) : BitVec 1 :=
  let c0_i32_18 : BitVec 32 := 0#32
  let c1_i32_21 : BitVec 32 := 1#32
  let arg13 : BitVec 32 := Scf.iv c0_i32_18 c1_i32_21 k0_t1
  let c256_i32_25 : BitVec 32 := 256#32
  let v57 : BitVec 32 := Scalar.muli arg13 c256_i32_25
  let v58 : BitVec 32 := v57
  let c256_i32_32 : BitVec 32 := 256#32
  let v69 : BitVec 32 := Scalar.addi v58 c256_i32_32
  let v70 : BitVec 1 := Scalar.cmpi .slt v68 v69
  let v75 : BitVec 1 := Scalar.cmpi .sgt v74 v58
  let v76 : BitVec 1 := Scalar.andi v70 v75
  let v77 : BitVec 32 := Scalar.extui v76
  let c0_i32_34 : BitVec 32 := 0#32
  let v78 : BitVec 1 := Scalar.cmpi .ne v77 c0_i32_34
  v78

def k0_chk2 (i : grid0.Coords) (v5 : BitVec 32) (k0_t1 : Fin (k0_t1_loop v5).trips) (v68 : BitVec 32) (v74 : BitVec 32) : Prop :=
  (∀ (k0_h2 : k0_cond2 i = 1#1), ∀ (k0_h3 : k0_cond3 v5 k0_t1 v68 v74 = 1#1), ∀ a, (k0_off7 v5 k0_t1) a + S256x1024.size a ≤ S2048x1024.size a) ∧
  (∀ (k0_h2 : k0_cond2 i = 1#1), ∀ (k0_h3 : k0_cond3 v5 k0_t1 v68 v74 = 1#1), ∀ (hinb : ∀ a, (k0_off7 v5 k0_t1) a + S256x1024.size a ≤ S2048x1024.size a), (Rect.unit (s := S2048x1024) (k0_off7 v5 k0_t1) S256x1024.size hinb).PackedRows (EltTy.packing .bf16))
theorem k0_off7_inb : ∀ (i : grid0.Coords) (v5 : BitVec 32) (k0_t1 : Fin (k0_t1_loop v5).trips) (v68 : BitVec 32) (v74 : BitVec 32) (k0_hw2 : k0_chk2 i v5 k0_t1 v68 v74), ∀ (k0_h2 : k0_cond2 i = 1#1), ∀ (k0_h3 : k0_cond3 v5 k0_t1 v68 v74 = 1#1), ∀ a, (k0_off7 v5 k0_t1) a + S256x1024.size a ≤ S2048x1024.size a := fun i v5 k0_t1 v68 v74 k0_hw2 k0_h2 k0_h3 => k0_hw2.1 k0_h2 k0_h3
theorem k0_off7_packedbf16 : ∀ (i : grid0.Coords) (v5 : BitVec 32) (k0_t1 : Fin (k0_t1_loop v5).trips) (v68 : BitVec 32) (v74 : BitVec 32) (k0_hw2 : k0_chk2 i v5 k0_t1 v68 v74), ∀ (k0_h2 : k0_cond2 i = 1#1), ∀ (k0_h3 : k0_cond3 v5 k0_t1 v68 v74 = 1#1), (Rect.unit (s := S2048x1024) (k0_off7 v5 k0_t1) S256x1024.size (k0_off7_inb i v5 k0_t1 v68 v74 k0_hw2 k0_h2 k0_h3)).PackedRows (EltTy.packing .bf16) := fun i v5 k0_t1 v68 v74 k0_hw2 k0_h2 k0_h3 => k0_hw2.2 k0_h2 k0_h3 (k0_off7_inb i v5 k0_t1 v68 v74 k0_hw2 k0_h2 k0_h3)

@[reducible] def k0_t3_loop (v5 : BitVec 32) : Scf.Loop 32 :=
  let c0_i32_18 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v46 : BitVec 32 := Scalar.subi v23 c0_i32_18
  let c1_i32_20 : BitVec 32 := 1#32
  let v48 : BitVec 32 := Scalar.divsi v46 c1_i32_20
  let v49 : BitVec 32 := Scalar.muli v48 c1_i32_20
  let v50 : BitVec 32 := Scalar.addi c0_i32_18 v49
  let v47 : BitVec 32 := Scalar.addi c0_i32_18 v46
  let c1_i32_22 : BitVec 32 := 1#32
  ⟨v50, v47, c1_i32_22⟩
def k0_mult3 (v5 : BitVec 32) (k0_t3 : Fin (k0_t3_loop v5).trips) : BitVec 32 :=
  let c0_i32_18 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v46 : BitVec 32 := Scalar.subi v23 c0_i32_18
  let c1_i32_20 : BitVec 32 := 1#32
  let v48 : BitVec 32 := Scalar.divsi v46 c1_i32_20
  let v49 : BitVec 32 := Scalar.muli v48 c1_i32_20
  let v50 : BitVec 32 := Scalar.addi c0_i32_18 v49
  let c1_i32_22 : BitVec 32 := 1#32
  let arg13 : BitVec 32 := Scf.iv v50 c1_i32_22 k0_t3
  let c256_i32_25 : BitVec 32 := 256#32
  let v57 : BitVec 32 := Scalar.muli arg13 c256_i32_25
  v57
def k0_off8 (v5 : BitVec 32) (k0_t3 : Fin (k0_t3_loop v5).trips) : Fin 2 → Nat :=
  let c0_i32_18 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v46 : BitVec 32 := Scalar.subi v23 c0_i32_18
  let c1_i32_20 : BitVec 32 := 1#32
  let v48 : BitVec 32 := Scalar.divsi v46 c1_i32_20
  let v49 : BitVec 32 := Scalar.muli v48 c1_i32_20
  let v50 : BitVec 32 := Scalar.addi c0_i32_18 v49
  let c1_i32_22 : BitVec 32 := 1#32
  let arg13 : BitVec 32 := Scf.iv v50 c1_i32_22 k0_t3
  let c256_i32_25 : BitVec 32 := 256#32
  let v57 : BitVec 32 := Scalar.muli arg13 c256_i32_25
  let v58 : BitVec 32 := v57
  let v60 : Index := Scalar.indexCast v58
  let c0 : Index := 0#32
  ![v60.toNat, 0]
@[reducible] def k0_t4_loop : Scf.Loop 32 :=
  let c0_i32_27 : BitVec 32 := 0#32
  let c4_i32_28 : BitVec 32 := 4#32
  let v64 : BitVec 32 := Scalar.addi c0_i32_27 c4_i32_28
  let c1_i32_29 : BitVec 32 := 1#32
  ⟨c0_i32_27, v64, c1_i32_29⟩
def k0_off9 (i : grid0.Coords) (k0_t4 : Fin k0_t4_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c5_i32 : BitVec 32 := 5#32
  let v2 : BitVec 32 := Scalar.muli v1 c5_i32
  let c0_i32_27 : BitVec 32 := 0#32
  let c1_i32_29 : BitVec 32 := 1#32
  let arg15 : BitVec 32 := Scf.iv c0_i32_27 c1_i32_29 k0_t4
  let v66 : BitVec 32 := Scalar.addi v2 arg15
  let v67 : Index := Scalar.indexCast v66
  ![v67.toNat]
def k0_off10 (i : grid0.Coords) (k0_t4 : Fin k0_t4_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c5_i32 : BitVec 32 := 5#32
  let v2 : BitVec 32 := Scalar.muli v1 c5_i32
  let c0_i32_27 : BitVec 32 := 0#32
  let c1_i32_29 : BitVec 32 := 1#32
  let arg15 : BitVec 32 := Scf.iv c0_i32_27 c1_i32_29 k0_t4
  let v71 : BitVec 32 := Scalar.addi v2 arg15
  let c1_i32_33 : BitVec 32 := 1#32
  let v72 : BitVec 32 := Scalar.addi v71 c1_i32_33
  let v73 : Index := Scalar.indexCast v72
  ![v73.toNat]
def k0_mult4 (k0_t4 : Fin k0_t4_loop.trips) : BitVec 32 :=
  let c0_i32_27 : BitVec 32 := 0#32
  let c1_i32_29 : BitVec 32 := 1#32
  let arg15 : BitVec 32 := Scf.iv c0_i32_27 c1_i32_29 k0_t4
  let c512_i32 : BitVec 32 := 512#32
  let v79 : BitVec 32 := Scalar.muli arg15 c512_i32
  v79
def k0_off11 (i : grid0.Coords) (k0_t4 : Fin k0_t4_loop.trips) : Fin 2 → Nat :=
  let arg1 : BitVec 32 := BitVec.ofNat 32 (i 1).val
  let v81 : Index := Scalar.indexCast arg1
  let c0_i32_27 : BitVec 32 := 0#32
  let c1_i32_29 : BitVec 32 := 1#32
  let arg15 : BitVec 32 := Scf.iv c0_i32_27 c1_i32_29 k0_t4
  let c512_i32 : BitVec 32 := 512#32
  let v79 : BitVec 32 := Scalar.muli arg15 c512_i32
  let v80 : BitVec 32 := v79
  let v82 : Index := Scalar.indexCast v80
  ![v81.toNat, v82.toNat]
def k0_off12 (k0_t4 : Fin k0_t4_loop.trips) : Fin 2 → Nat :=
  let c0_i32_27 : BitVec 32 := 0#32
  let c1_i32_29 : BitVec 32 := 1#32
  let arg15 : BitVec 32 := Scf.iv c0_i32_27 c1_i32_29 k0_t4
  let c512_i32 : BitVec 32 := 512#32
  let v79 : BitVec 32 := Scalar.muli arg15 c512_i32
  let v80 : BitVec 32 := v79
  let v101 : Index := Scalar.indexCast v80
  let c0_39 : Index := 0#32
  ![v101.toNat, 0]
def k0_off13 (v5 : BitVec 32) (k0_t3 : Fin (k0_t3_loop v5).trips) : Fin 2 → Nat :=
  let c0_i32_18 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v46 : BitVec 32 := Scalar.subi v23 c0_i32_18
  let c1_i32_20 : BitVec 32 := 1#32
  let v48 : BitVec 32 := Scalar.divsi v46 c1_i32_20
  let v49 : BitVec 32 := Scalar.muli v48 c1_i32_20
  let v50 : BitVec 32 := Scalar.addi c0_i32_18 v49
  let c1_i32_22 : BitVec 32 := 1#32
  let arg13 : BitVec 32 := Scf.iv v50 c1_i32_22 k0_t3
  let c256_i32_25 : BitVec 32 := 256#32
  let v57 : BitVec 32 := Scalar.muli arg13 c256_i32_25
  let v58 : BitVec 32 := v57
  let v105 : Index := Scalar.indexCast v58
  let c0_41 : Index := 0#32
  ![v105.toNat, 0]
def k0_cond4 (v5 : BitVec 32) (k0_t3 : Fin (k0_t3_loop v5).trips) (v68 : BitVec 32) (v74 : BitVec 32) : BitVec 1 :=
  let c0_i32_18 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v46 : BitVec 32 := Scalar.subi v23 c0_i32_18
  let c1_i32_20 : BitVec 32 := 1#32
  let v48 : BitVec 32 := Scalar.divsi v46 c1_i32_20
  let v49 : BitVec 32 := Scalar.muli v48 c1_i32_20
  let v50 : BitVec 32 := Scalar.addi c0_i32_18 v49
  let c1_i32_22 : BitVec 32 := 1#32
  let arg13 : BitVec 32 := Scf.iv v50 c1_i32_22 k0_t3
  let c256_i32_25 : BitVec 32 := 256#32
  let v57 : BitVec 32 := Scalar.muli arg13 c256_i32_25
  let v58 : BitVec 32 := v57
  let c256_i32_32 : BitVec 32 := 256#32
  let v69 : BitVec 32 := Scalar.addi v58 c256_i32_32
  let v70 : BitVec 1 := Scalar.cmpi .slt v68 v69
  let v75 : BitVec 1 := Scalar.cmpi .sgt v74 v58
  let v76 : BitVec 1 := Scalar.andi v70 v75
  let v77 : BitVec 32 := Scalar.extui v76
  let c0_i32_34 : BitVec 32 := 0#32
  let v78 : BitVec 1 := Scalar.cmpi .ne v77 c0_i32_34
  v78

def k0_chk3 (i : grid0.Coords) (v5 : BitVec 32) (k0_t3 : Fin (k0_t3_loop v5).trips) (v68 : BitVec 32) (v74 : BitVec 32) : Prop :=
  (∀ (k0_h2 : k0_cond2 i = 1#1), ∀ (k0_h4 : k0_cond4 v5 k0_t3 v68 v74 = 1#1), ∀ a, (k0_off13 v5 k0_t3) a + S256x1024.size a ≤ S2048x1024.size a) ∧
  (∀ (k0_h2 : k0_cond2 i = 1#1), ∀ (k0_h4 : k0_cond4 v5 k0_t3 v68 v74 = 1#1), ∀ (hinb : ∀ a, (k0_off13 v5 k0_t3) a + S256x1024.size a ≤ S2048x1024.size a), (Rect.unit (s := S2048x1024) (k0_off13 v5 k0_t3) S256x1024.size hinb).PackedRows (EltTy.packing .bf16))
theorem k0_off13_inb : ∀ (i : grid0.Coords) (v5 : BitVec 32) (k0_t3 : Fin (k0_t3_loop v5).trips) (v68 : BitVec 32) (v74 : BitVec 32) (k0_hw3 : k0_chk3 i v5 k0_t3 v68 v74), ∀ (k0_h2 : k0_cond2 i = 1#1), ∀ (k0_h4 : k0_cond4 v5 k0_t3 v68 v74 = 1#1), ∀ a, (k0_off13 v5 k0_t3) a + S256x1024.size a ≤ S2048x1024.size a := fun i v5 k0_t3 v68 v74 k0_hw3 k0_h2 k0_h4 => k0_hw3.1 k0_h2 k0_h4
theorem k0_off13_packedbf16 : ∀ (i : grid0.Coords) (v5 : BitVec 32) (k0_t3 : Fin (k0_t3_loop v5).trips) (v68 : BitVec 32) (v74 : BitVec 32) (k0_hw3 : k0_chk3 i v5 k0_t3 v68 v74), ∀ (k0_h2 : k0_cond2 i = 1#1), ∀ (k0_h4 : k0_cond4 v5 k0_t3 v68 v74 = 1#1), (Rect.unit (s := S2048x1024) (k0_off13 v5 k0_t3) S256x1024.size (k0_off13_inb i v5 k0_t3 v68 v74 k0_hw3 k0_h2 k0_h4)).PackedRows (EltTy.packing .bf16) := fun i v5 k0_t3 v68 v74 k0_hw3 k0_h2 k0_h4 => k0_hw3.2 k0_h2 k0_h4 (k0_off13_inb i v5 k0_t3 v68 v74 k0_hw3 k0_h2 k0_h4)

def k0_mult5 (v5 : BitVec 32) : BitVec 32 :=
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let c256_i32_25 : BitVec 32 := 256#32
  let v57 : BitVec 32 := Scalar.muli v23 c256_i32_25
  v57
def k0_cond5 (v5 : BitVec 32) : BitVec 1 :=
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let c256_i32_23 : BitVec 32 := 256#32
  let v53 : BitVec 32 := Scalar.muli v23 c256_i32_23
  let v54 : BitVec 1 := Scalar.cmpi .sgt v5 v53
  let v55 : BitVec 32 := Scalar.extui v54
  let c0_i32_24 : BitVec 32 := 0#32
  let v56 : BitVec 1 := Scalar.cmpi .ne v55 c0_i32_24
  v56

def k0_off14 (v5 : BitVec 32) : Fin 2 → Nat :=
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let c256_i32_25 : BitVec 32 := 256#32
  let v57 : BitVec 32 := Scalar.muli v23 c256_i32_25
  let v58 : BitVec 32 := v57
  let v60 : Index := Scalar.indexCast v58
  let c0 : Index := 0#32
  ![v60.toNat, 0]
@[reducible] def k0_t5_loop : Scf.Loop 32 :=
  let c0_i32_26 : BitVec 32 := 0#32
  let c4_i32_27 : BitVec 32 := 4#32
  let v64 : BitVec 32 := Scalar.addi c0_i32_26 c4_i32_27
  let c1_i32_28 : BitVec 32 := 1#32
  ⟨c0_i32_26, v64, c1_i32_28⟩
def k0_off15 (i : grid0.Coords) (k0_t5 : Fin k0_t5_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c5_i32 : BitVec 32 := 5#32
  let v2 : BitVec 32 := Scalar.muli v1 c5_i32
  let c0_i32_26 : BitVec 32 := 0#32
  let c1_i32_28 : BitVec 32 := 1#32
  let arg13 : BitVec 32 := Scf.iv c0_i32_26 c1_i32_28 k0_t5
  let v65 : BitVec 32 := Scalar.addi v2 arg13
  let v66 : Index := Scalar.indexCast v65
  ![v66.toNat]
def k0_off16 (i : grid0.Coords) (k0_t5 : Fin k0_t5_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c5_i32 : BitVec 32 := 5#32
  let v2 : BitVec 32 := Scalar.muli v1 c5_i32
  let c0_i32_26 : BitVec 32 := 0#32
  let c1_i32_28 : BitVec 32 := 1#32
  let arg13 : BitVec 32 := Scf.iv c0_i32_26 c1_i32_28 k0_t5
  let v70 : BitVec 32 := Scalar.addi v2 arg13
  let c1_i32_30 : BitVec 32 := 1#32
  let v71 : BitVec 32 := Scalar.addi v70 c1_i32_30
  let v72 : Index := Scalar.indexCast v71
  ![v72.toNat]
def k0_mult6 (k0_t5 : Fin k0_t5_loop.trips) : BitVec 32 :=
  let c0_i32_26 : BitVec 32 := 0#32
  let c1_i32_28 : BitVec 32 := 1#32
  let arg13 : BitVec 32 := Scf.iv c0_i32_26 c1_i32_28 k0_t5
  let c512_i32 : BitVec 32 := 512#32
  let v78 : BitVec 32 := Scalar.muli arg13 c512_i32
  v78
def k0_off17 (i : grid0.Coords) (k0_t5 : Fin k0_t5_loop.trips) : Fin 2 → Nat :=
  let arg1 : BitVec 32 := BitVec.ofNat 32 (i 1).val
  let v80 : Index := Scalar.indexCast arg1
  let c0_i32_26 : BitVec 32 := 0#32
  let c1_i32_28 : BitVec 32 := 1#32
  let arg13 : BitVec 32 := Scf.iv c0_i32_26 c1_i32_28 k0_t5
  let c512_i32 : BitVec 32 := 512#32
  let v78 : BitVec 32 := Scalar.muli arg13 c512_i32
  let v79 : BitVec 32 := v78
  let v81 : Index := Scalar.indexCast v79
  ![v80.toNat, v81.toNat]
def k0_off18 (k0_t5 : Fin k0_t5_loop.trips) : Fin 2 → Nat :=
  let c0_i32_26 : BitVec 32 := 0#32
  let c1_i32_28 : BitVec 32 := 1#32
  let arg13 : BitVec 32 := Scf.iv c0_i32_26 c1_i32_28 k0_t5
  let c512_i32 : BitVec 32 := 512#32
  let v78 : BitVec 32 := Scalar.muli arg13 c512_i32
  let v79 : BitVec 32 := v78
  let v100 : Index := Scalar.indexCast v79
  let c0_35 : Index := 0#32
  ![v100.toNat, 0]
def k0_off19 (v5 : BitVec 32) : Fin 2 → Nat :=
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let c256_i32_25 : BitVec 32 := 256#32
  let v57 : BitVec 32 := Scalar.muli v23 c256_i32_25
  let v58 : BitVec 32 := v57
  let v104 : Index := Scalar.indexCast v58
  let c0_37 : Index := 0#32
  ![v104.toNat, 0]
def k0_cond6 (v5 : BitVec 32) (v67 : BitVec 32) (v73 : BitVec 32) : BitVec 1 :=
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let c256_i32_25 : BitVec 32 := 256#32
  let v57 : BitVec 32 := Scalar.muli v23 c256_i32_25
  let v58 : BitVec 32 := v57
  let c128_i32 : BitVec 32 := 128#32
  let v68 : BitVec 32 := Scalar.addi v58 c128_i32
  let v69 : BitVec 1 := Scalar.cmpi .slt v67 v68
  let v74 : BitVec 1 := Scalar.cmpi .sgt v73 v58
  let v75 : BitVec 1 := Scalar.andi v69 v74
  let v76 : BitVec 32 := Scalar.extui v75
  let c0_i32_31 : BitVec 32 := 0#32
  let v77 : BitVec 1 := Scalar.cmpi .ne v76 c0_i32_31
  v77

def k0_chk4 (i : grid0.Coords) (v5 : BitVec 32) (v67 : BitVec 32) (v73 : BitVec 32) : Prop :=
  (∀ (k0_h2 : k0_cond2 i = 1#1), ∀ (k0_h5 : k0_cond5 v5 = 1#1), ∀ (k0_h6 : k0_cond6 v5 v67 v73 = 1#1), ∀ a, (k0_off19 v5) a + S128x1024.size a ≤ S2048x1024.size a) ∧
  (∀ (k0_h2 : k0_cond2 i = 1#1), ∀ (k0_h5 : k0_cond5 v5 = 1#1), ∀ (k0_h6 : k0_cond6 v5 v67 v73 = 1#1), ∀ (hinb : ∀ a, (k0_off19 v5) a + S128x1024.size a ≤ S2048x1024.size a), (Rect.unit (s := S2048x1024) (k0_off19 v5) S128x1024.size hinb).PackedRows (EltTy.packing .bf16))
theorem k0_off19_inb : ∀ (i : grid0.Coords) (v5 : BitVec 32) (v67 : BitVec 32) (v73 : BitVec 32) (k0_hw4 : k0_chk4 i v5 v67 v73), ∀ (k0_h2 : k0_cond2 i = 1#1), ∀ (k0_h5 : k0_cond5 v5 = 1#1), ∀ (k0_h6 : k0_cond6 v5 v67 v73 = 1#1), ∀ a, (k0_off19 v5) a + S128x1024.size a ≤ S2048x1024.size a := fun i v5 v67 v73 k0_hw4 k0_h2 k0_h5 k0_h6 => k0_hw4.1 k0_h2 k0_h5 k0_h6
theorem k0_off19_packedbf16 : ∀ (i : grid0.Coords) (v5 : BitVec 32) (v67 : BitVec 32) (v73 : BitVec 32) (k0_hw4 : k0_chk4 i v5 v67 v73), ∀ (k0_h2 : k0_cond2 i = 1#1), ∀ (k0_h5 : k0_cond5 v5 = 1#1), ∀ (k0_h6 : k0_cond6 v5 v67 v73 = 1#1), (Rect.unit (s := S2048x1024) (k0_off19 v5) S128x1024.size (k0_off19_inb i v5 v67 v73 k0_hw4 k0_h2 k0_h5 k0_h6)).PackedRows (EltTy.packing .bf16) := fun i v5 v67 v73 k0_hw4 k0_h2 k0_h5 k0_h6 => k0_hw4.2 k0_h2 k0_h5 k0_h6 (k0_off19_inb i v5 v67 v73 k0_hw4 k0_h2 k0_h5 k0_h6)

@[reducible] def k0_t6_loop (v5 : BitVec 32) : Scf.Loop 32 :=
  let c0_i32_9 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v32 : BitVec 32 := Scalar.subi v23 c0_i32_9
  let c1_i32_11 : BitVec 32 := 1#32
  let v34 : BitVec 32 := Scalar.divsi v32 c1_i32_11
  let v35 : BitVec 32 := Scalar.muli v34 c1_i32_11
  let v36 : BitVec 32 := Scalar.addi c0_i32_9 v35
  let c1_i32_12 : BitVec 32 := 1#32
  ⟨c0_i32_9, v36, c1_i32_12⟩
def k0_mult7 (v5 : BitVec 32) (k0_t6 : Fin (k0_t6_loop v5).trips) : BitVec 32 :=
  let c0_i32_9 : BitVec 32 := 0#32
  let c1_i32_12 : BitVec 32 := 1#32
  let arg13 : BitVec 32 := Scf.iv c0_i32_9 c1_i32_12 k0_t6
  let c256_i32_18 : BitVec 32 := 256#32
  let v46 : BitVec 32 := Scalar.muli arg13 c256_i32_18
  v46
def k0_off20 (v5 : BitVec 32) (k0_t6 : Fin (k0_t6_loop v5).trips) : Fin 2 → Nat :=
  let c0_i32_9 : BitVec 32 := 0#32
  let c1_i32_12 : BitVec 32 := 1#32
  let arg13 : BitVec 32 := Scf.iv c0_i32_9 c1_i32_12 k0_t6
  let c256_i32_18 : BitVec 32 := 256#32
  let v46 : BitVec 32 := Scalar.muli arg13 c256_i32_18
  let v47 : BitVec 32 := v46
  let v48 : Index := Scalar.indexCast v47
  let c0 : Index := 0#32
  ![v48.toNat, 0]
def k0_cond7 (i : grid0.Coords) : BitVec 1 :=
  let arg2 : BitVec 32 := BitVec.ofNat 32 (i 2).val
  let c0_i32_33 : BitVec 32 := 0#32
  let v69 : BitVec 1 := Scalar.cmpi .eq arg2 c0_i32_33
  let v70 : BitVec 32 := Scalar.extui v69
  let c0_i32_34 : BitVec 32 := 0#32
  let v71 : BitVec 1 := Scalar.cmpi .ne v70 c0_i32_34
  v71

def k0_off21 (v5 : BitVec 32) (k0_t6 : Fin (k0_t6_loop v5).trips) : Fin 2 → Nat :=
  let c0_i32_9 : BitVec 32 := 0#32
  let c1_i32_12 : BitVec 32 := 1#32
  let arg13 : BitVec 32 := Scf.iv c0_i32_9 c1_i32_12 k0_t6
  let c256_i32_18 : BitVec 32 := 256#32
  let v46 : BitVec 32 := Scalar.muli arg13 c256_i32_18
  let v47 : BitVec 32 := v46
  let v75 : Index := Scalar.indexCast v47
  let c0_38 : Index := 0#32
  ![v75.toNat, 0]
def k0_cond8 (i : grid0.Coords) : BitVec 1 :=
  let arg2 : BitVec 32 := BitVec.ofNat 32 (i 2).val
  let c0_i32_35 : BitVec 32 := 0#32
  let v72 : BitVec 1 := Scalar.cmpi .sgt arg2 c0_i32_35
  let v73 : BitVec 32 := Scalar.extui v72
  let c0_i32_36 : BitVec 32 := 0#32
  let v74 : BitVec 1 := Scalar.cmpi .ne v73 c0_i32_36
  v74

def k0_off22 (v5 : BitVec 32) (k0_t6 : Fin (k0_t6_loop v5).trips) : Fin 2 → Nat :=
  let c0_i32_9 : BitVec 32 := 0#32
  let c1_i32_12 : BitVec 32 := 1#32
  let arg13 : BitVec 32 := Scf.iv c0_i32_9 c1_i32_12 k0_t6
  let c256_i32_18 : BitVec 32 := 256#32
  let v46 : BitVec 32 := Scalar.muli arg13 c256_i32_18
  let v47 : BitVec 32 := v46
  let v75 : Index := Scalar.indexCast v47
  let c0_38 : Index := 0#32
  ![v75.toNat, 0]
@[reducible] def k0_t7_loop (v5 : BitVec 32) : Scf.Loop 32 :=
  let c0_i32_9 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v32 : BitVec 32 := Scalar.subi v23 c0_i32_9
  let c1_i32_11 : BitVec 32 := 1#32
  let v34 : BitVec 32 := Scalar.divsi v32 c1_i32_11
  let v35 : BitVec 32 := Scalar.muli v34 c1_i32_11
  let v36 : BitVec 32 := Scalar.addi c0_i32_9 v35
  let v33 : BitVec 32 := Scalar.addi c0_i32_9 v32
  let c1_i32_13 : BitVec 32 := 1#32
  ⟨v36, v33, c1_i32_13⟩
def k0_mult8 (v5 : BitVec 32) (k0_t7 : Fin (k0_t7_loop v5).trips) : BitVec 32 :=
  let c0_i32_9 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v32 : BitVec 32 := Scalar.subi v23 c0_i32_9
  let c1_i32_11 : BitVec 32 := 1#32
  let v34 : BitVec 32 := Scalar.divsi v32 c1_i32_11
  let v35 : BitVec 32 := Scalar.muli v34 c1_i32_11
  let v36 : BitVec 32 := Scalar.addi c0_i32_9 v35
  let c1_i32_13 : BitVec 32 := 1#32
  let arg13 : BitVec 32 := Scf.iv v36 c1_i32_13 k0_t7
  let c256_i32_18 : BitVec 32 := 256#32
  let v46 : BitVec 32 := Scalar.muli arg13 c256_i32_18
  v46
def k0_off23 (v5 : BitVec 32) (k0_t7 : Fin (k0_t7_loop v5).trips) : Fin 2 → Nat :=
  let c0_i32_9 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v32 : BitVec 32 := Scalar.subi v23 c0_i32_9
  let c1_i32_11 : BitVec 32 := 1#32
  let v34 : BitVec 32 := Scalar.divsi v32 c1_i32_11
  let v35 : BitVec 32 := Scalar.muli v34 c1_i32_11
  let v36 : BitVec 32 := Scalar.addi c0_i32_9 v35
  let c1_i32_13 : BitVec 32 := 1#32
  let arg13 : BitVec 32 := Scf.iv v36 c1_i32_13 k0_t7
  let c256_i32_18 : BitVec 32 := 256#32
  let v46 : BitVec 32 := Scalar.muli arg13 c256_i32_18
  let v47 : BitVec 32 := v46
  let v48 : Index := Scalar.indexCast v47
  let c0 : Index := 0#32
  ![v48.toNat, 0]
def k0_cond9 (i : grid0.Coords) : BitVec 1 :=
  let arg2 : BitVec 32 := BitVec.ofNat 32 (i 2).val
  let c0_i32_33 : BitVec 32 := 0#32
  let v69 : BitVec 1 := Scalar.cmpi .eq arg2 c0_i32_33
  let v70 : BitVec 32 := Scalar.extui v69
  let c0_i32_34 : BitVec 32 := 0#32
  let v71 : BitVec 1 := Scalar.cmpi .ne v70 c0_i32_34
  v71

def k0_off24 (v5 : BitVec 32) (k0_t7 : Fin (k0_t7_loop v5).trips) : Fin 2 → Nat :=
  let c0_i32_9 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v32 : BitVec 32 := Scalar.subi v23 c0_i32_9
  let c1_i32_11 : BitVec 32 := 1#32
  let v34 : BitVec 32 := Scalar.divsi v32 c1_i32_11
  let v35 : BitVec 32 := Scalar.muli v34 c1_i32_11
  let v36 : BitVec 32 := Scalar.addi c0_i32_9 v35
  let c1_i32_13 : BitVec 32 := 1#32
  let arg13 : BitVec 32 := Scf.iv v36 c1_i32_13 k0_t7
  let c256_i32_18 : BitVec 32 := 256#32
  let v46 : BitVec 32 := Scalar.muli arg13 c256_i32_18
  let v47 : BitVec 32 := v46
  let v75 : Index := Scalar.indexCast v47
  let c0_38 : Index := 0#32
  ![v75.toNat, 0]
def k0_cond10 (i : grid0.Coords) : BitVec 1 :=
  let arg2 : BitVec 32 := BitVec.ofNat 32 (i 2).val
  let c0_i32_35 : BitVec 32 := 0#32
  let v72 : BitVec 1 := Scalar.cmpi .sgt arg2 c0_i32_35
  let v73 : BitVec 32 := Scalar.extui v72
  let c0_i32_36 : BitVec 32 := 0#32
  let v74 : BitVec 1 := Scalar.cmpi .ne v73 c0_i32_36
  v74

def k0_off25 (v5 : BitVec 32) (k0_t7 : Fin (k0_t7_loop v5).trips) : Fin 2 → Nat :=
  let c0_i32_9 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v32 : BitVec 32 := Scalar.subi v23 c0_i32_9
  let c1_i32_11 : BitVec 32 := 1#32
  let v34 : BitVec 32 := Scalar.divsi v32 c1_i32_11
  let v35 : BitVec 32 := Scalar.muli v34 c1_i32_11
  let v36 : BitVec 32 := Scalar.addi c0_i32_9 v35
  let c1_i32_13 : BitVec 32 := 1#32
  let arg13 : BitVec 32 := Scf.iv v36 c1_i32_13 k0_t7
  let c256_i32_18 : BitVec 32 := 256#32
  let v46 : BitVec 32 := Scalar.muli arg13 c256_i32_18
  let v47 : BitVec 32 := v46
  let v75 : Index := Scalar.indexCast v47
  let c0_38 : Index := 0#32
  ![v75.toNat, 0]
def k0_mult9 (v5 : BitVec 32) : BitVec 32 :=
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let c256_i32_18 : BitVec 32 := 256#32
  let v46 : BitVec 32 := Scalar.muli v23 c256_i32_18
  v46
def k0_cond11 (v5 : BitVec 32) : BitVec 1 :=
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let c256_i32_14 : BitVec 32 := 256#32
  let v39 : BitVec 32 := Scalar.muli v23 c256_i32_14
  let v40 : BitVec 1 := Scalar.cmpi .sgt v5 v39
  let v41 : BitVec 32 := Scalar.extui v40
  let c0_i32_15 : BitVec 32 := 0#32
  let v42 : BitVec 1 := Scalar.cmpi .ne v41 c0_i32_15
  v42

def k0_off26 (v5 : BitVec 32) : Fin 2 → Nat :=
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let c256_i32_18 : BitVec 32 := 256#32
  let v46 : BitVec 32 := Scalar.muli v23 c256_i32_18
  let v47 : BitVec 32 := v46
  let v48 : Index := Scalar.indexCast v47
  let c0 : Index := 0#32
  ![v48.toNat, 0]
def k0_cond12 (i : grid0.Coords) : BitVec 1 :=
  let arg2 : BitVec 32 := BitVec.ofNat 32 (i 2).val
  let c0_i32_33 : BitVec 32 := 0#32
  let v69 : BitVec 1 := Scalar.cmpi .eq arg2 c0_i32_33
  let v70 : BitVec 32 := Scalar.extui v69
  let c0_i32_34 : BitVec 32 := 0#32
  let v71 : BitVec 1 := Scalar.cmpi .ne v70 c0_i32_34
  v71

def k0_off27 (v5 : BitVec 32) : Fin 2 → Nat :=
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let c256_i32_18 : BitVec 32 := 256#32
  let v46 : BitVec 32 := Scalar.muli v23 c256_i32_18
  let v47 : BitVec 32 := v46
  let v75 : Index := Scalar.indexCast v47
  let c0_37 : Index := 0#32
  ![v75.toNat, 0]
def k0_cond13 (i : grid0.Coords) : BitVec 1 :=
  let arg2 : BitVec 32 := BitVec.ofNat 32 (i 2).val
  let c0_i32_35 : BitVec 32 := 0#32
  let v72 : BitVec 1 := Scalar.cmpi .sgt arg2 c0_i32_35
  let v73 : BitVec 32 := Scalar.extui v72
  let c0_i32_36 : BitVec 32 := 0#32
  let v74 : BitVec 1 := Scalar.cmpi .ne v73 c0_i32_36
  v74

def k0_off28 (v5 : BitVec 32) : Fin 2 → Nat :=
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let c256_i32_18 : BitVec 32 := 256#32
  let v46 : BitVec 32 := Scalar.muli v23 c256_i32_18
  let v47 : BitVec 32 := v46
  let v75 : Index := Scalar.indexCast v47
  let c0_37 : Index := 0#32
  ![v75.toNat, 0]
def k0_cond14 (i : grid0.Coords) : BitVec 1 :=
  let arg2 : BitVec 32 := BitVec.ofNat 32 (i 2).val
  let c1_i32_16 : BitVec 32 := 1#32
  let v43 : BitVec 1 := Scalar.cmpi .eq arg2 c1_i32_16
  let v44 : BitVec 32 := Scalar.extui v43
  let c0_i32_17 : BitVec 32 := 0#32
  let v45 : BitVec 1 := Scalar.cmpi .ne v44 c0_i32_17
  v45

@[reducible] def k0_t8_loop (v5 : BitVec 32) : Scf.Loop 32 :=
  let c0_i32_18 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v46 : BitVec 32 := Scalar.subi v23 c0_i32_18
  let c1_i32_20 : BitVec 32 := 1#32
  let v48 : BitVec 32 := Scalar.divsi v46 c1_i32_20
  let v49 : BitVec 32 := Scalar.muli v48 c1_i32_20
  let v50 : BitVec 32 := Scalar.addi c0_i32_18 v49
  let c1_i32_21 : BitVec 32 := 1#32
  ⟨c0_i32_18, v50, c1_i32_21⟩
def k0_mult10 (v5 : BitVec 32) (k0_t8 : Fin (k0_t8_loop v5).trips) : BitVec 32 :=
  let c0_i32_18 : BitVec 32 := 0#32
  let c1_i32_21 : BitVec 32 := 1#32
  let arg13 : BitVec 32 := Scf.iv c0_i32_18 c1_i32_21 k0_t8
  let c256_i32_25 : BitVec 32 := 256#32
  let v57 : BitVec 32 := Scalar.muli arg13 c256_i32_25
  v57
@[reducible] def k0_t9_loop : Scf.Loop 32 :=
  let c0_i32_27 : BitVec 32 := 0#32
  let c4_i32_28 : BitVec 32 := 4#32
  let v59 : BitVec 32 := Scalar.addi c0_i32_27 c4_i32_28
  let c1_i32_29 : BitVec 32 := 1#32
  ⟨c0_i32_27, v59, c1_i32_29⟩
def k0_off29 (i : grid0.Coords) (k0_t9 : Fin k0_t9_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c5_i32 : BitVec 32 := 5#32
  let v2 : BitVec 32 := Scalar.muli v1 c5_i32
  let c0_i32_27 : BitVec 32 := 0#32
  let c1_i32_29 : BitVec 32 := 1#32
  let arg15 : BitVec 32 := Scf.iv c0_i32_27 c1_i32_29 k0_t9
  let v61 : BitVec 32 := Scalar.addi v2 arg15
  let v62 : Index := Scalar.indexCast v61
  ![v62.toNat]
def k0_off30 (i : grid0.Coords) (k0_t9 : Fin k0_t9_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c5_i32 : BitVec 32 := 5#32
  let v2 : BitVec 32 := Scalar.muli v1 c5_i32
  let c0_i32_27 : BitVec 32 := 0#32
  let c1_i32_29 : BitVec 32 := 1#32
  let arg15 : BitVec 32 := Scf.iv c0_i32_27 c1_i32_29 k0_t9
  let v66 : BitVec 32 := Scalar.addi v2 arg15
  let c1_i32_33 : BitVec 32 := 1#32
  let v67 : BitVec 32 := Scalar.addi v66 c1_i32_33
  let v68 : Index := Scalar.indexCast v67
  ![v68.toNat]
def k0_mult11 (k0_t9 : Fin k0_t9_loop.trips) : BitVec 32 :=
  let c0_i32_27 : BitVec 32 := 0#32
  let c1_i32_29 : BitVec 32 := 1#32
  let arg15 : BitVec 32 := Scf.iv c0_i32_27 c1_i32_29 k0_t9
  let c512_i32 : BitVec 32 := 512#32
  let v74 : BitVec 32 := Scalar.muli arg15 c512_i32
  v74
def k0_off31 (i : grid0.Coords) (k0_t9 : Fin k0_t9_loop.trips) : Fin 2 → Nat :=
  let arg1 : BitVec 32 := BitVec.ofNat 32 (i 1).val
  let v76 : Index := Scalar.indexCast arg1
  let c0_i32_27 : BitVec 32 := 0#32
  let c1_i32_29 : BitVec 32 := 1#32
  let arg15 : BitVec 32 := Scf.iv c0_i32_27 c1_i32_29 k0_t9
  let c512_i32 : BitVec 32 := 512#32
  let v74 : BitVec 32 := Scalar.muli arg15 c512_i32
  let v75 : BitVec 32 := v74
  let v77 : Index := Scalar.indexCast v75
  ![v76.toNat, v77.toNat]
def k0_off32 (v5 : BitVec 32) (k0_t8 : Fin (k0_t8_loop v5).trips) : Fin 2 → Nat :=
  let c0_i32_18 : BitVec 32 := 0#32
  let c1_i32_21 : BitVec 32 := 1#32
  let arg13 : BitVec 32 := Scf.iv c0_i32_18 c1_i32_21 k0_t8
  let c256_i32_25 : BitVec 32 := 256#32
  let v57 : BitVec 32 := Scalar.muli arg13 c256_i32_25
  let v58 : BitVec 32 := v57
  let v98 : Index := Scalar.indexCast v58
  let c0 : Index := 0#32
  ![v98.toNat, 0]
def k0_cond15 (v5 : BitVec 32) (k0_t8 : Fin (k0_t8_loop v5).trips) (v63 : BitVec 32) (v69 : BitVec 32) : BitVec 1 :=
  let c0_i32_18 : BitVec 32 := 0#32
  let c1_i32_21 : BitVec 32 := 1#32
  let arg13 : BitVec 32 := Scf.iv c0_i32_18 c1_i32_21 k0_t8
  let c256_i32_25 : BitVec 32 := 256#32
  let v57 : BitVec 32 := Scalar.muli arg13 c256_i32_25
  let v58 : BitVec 32 := v57
  let c256_i32_32 : BitVec 32 := 256#32
  let v64 : BitVec 32 := Scalar.addi v58 c256_i32_32
  let v65 : BitVec 1 := Scalar.cmpi .slt v63 v64
  let v70 : BitVec 1 := Scalar.cmpi .sgt v69 v58
  let v71 : BitVec 1 := Scalar.andi v65 v70
  let v72 : BitVec 32 := Scalar.extui v71
  let c0_i32_34 : BitVec 32 := 0#32
  let v73 : BitVec 1 := Scalar.cmpi .ne v72 c0_i32_34
  v73

def k0_chk5 (i : grid0.Coords) (v5 : BitVec 32) (k0_t8 : Fin (k0_t8_loop v5).trips) (v63 : BitVec 32) (v69 : BitVec 32) : Prop :=
  (∀ (k0_h14 : k0_cond14 i = 1#1), ∀ (k0_h15 : k0_cond15 v5 k0_t8 v63 v69 = 1#1), ∀ a, (k0_off32 v5 k0_t8) a + S256x1024.size a ≤ S2048x1024.size a)
theorem k0_off32_inb : ∀ (i : grid0.Coords) (v5 : BitVec 32) (k0_t8 : Fin (k0_t8_loop v5).trips) (v63 : BitVec 32) (v69 : BitVec 32) (k0_hw5 : k0_chk5 i v5 k0_t8 v63 v69), ∀ (k0_h14 : k0_cond14 i = 1#1), ∀ (k0_h15 : k0_cond15 v5 k0_t8 v63 v69 = 1#1), ∀ a, (k0_off32 v5 k0_t8) a + S256x1024.size a ≤ S2048x1024.size a := fun i v5 k0_t8 v63 v69 k0_hw5 k0_h14 k0_h15 => k0_hw5 k0_h14 k0_h15

def k0_off33 (k0_t9 : Fin k0_t9_loop.trips) : Fin 2 → Nat :=
  let c0_i32_27 : BitVec 32 := 0#32
  let c1_i32_29 : BitVec 32 := 1#32
  let arg15 : BitVec 32 := Scf.iv c0_i32_27 c1_i32_29 k0_t9
  let c512_i32 : BitVec 32 := 512#32
  let v74 : BitVec 32 := Scalar.muli arg15 c512_i32
  let v75 : BitVec 32 := v74
  let v103 : Index := Scalar.indexCast v75
  let c0_38 : Index := 0#32
  ![v103.toNat, 0]
@[reducible] def k0_t10_loop (v5 : BitVec 32) : Scf.Loop 32 :=
  let c0_i32_18 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v46 : BitVec 32 := Scalar.subi v23 c0_i32_18
  let c1_i32_20 : BitVec 32 := 1#32
  let v48 : BitVec 32 := Scalar.divsi v46 c1_i32_20
  let v49 : BitVec 32 := Scalar.muli v48 c1_i32_20
  let v50 : BitVec 32 := Scalar.addi c0_i32_18 v49
  let v47 : BitVec 32 := Scalar.addi c0_i32_18 v46
  let c1_i32_22 : BitVec 32 := 1#32
  ⟨v50, v47, c1_i32_22⟩
def k0_mult12 (v5 : BitVec 32) (k0_t10 : Fin (k0_t10_loop v5).trips) : BitVec 32 :=
  let c0_i32_18 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v46 : BitVec 32 := Scalar.subi v23 c0_i32_18
  let c1_i32_20 : BitVec 32 := 1#32
  let v48 : BitVec 32 := Scalar.divsi v46 c1_i32_20
  let v49 : BitVec 32 := Scalar.muli v48 c1_i32_20
  let v50 : BitVec 32 := Scalar.addi c0_i32_18 v49
  let c1_i32_22 : BitVec 32 := 1#32
  let arg13 : BitVec 32 := Scf.iv v50 c1_i32_22 k0_t10
  let c256_i32_25 : BitVec 32 := 256#32
  let v57 : BitVec 32 := Scalar.muli arg13 c256_i32_25
  v57
@[reducible] def k0_t11_loop : Scf.Loop 32 :=
  let c0_i32_27 : BitVec 32 := 0#32
  let c4_i32_28 : BitVec 32 := 4#32
  let v59 : BitVec 32 := Scalar.addi c0_i32_27 c4_i32_28
  let c1_i32_29 : BitVec 32 := 1#32
  ⟨c0_i32_27, v59, c1_i32_29⟩
def k0_off34 (i : grid0.Coords) (k0_t11 : Fin k0_t11_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c5_i32 : BitVec 32 := 5#32
  let v2 : BitVec 32 := Scalar.muli v1 c5_i32
  let c0_i32_27 : BitVec 32 := 0#32
  let c1_i32_29 : BitVec 32 := 1#32
  let arg15 : BitVec 32 := Scf.iv c0_i32_27 c1_i32_29 k0_t11
  let v61 : BitVec 32 := Scalar.addi v2 arg15
  let v62 : Index := Scalar.indexCast v61
  ![v62.toNat]
def k0_off35 (i : grid0.Coords) (k0_t11 : Fin k0_t11_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c5_i32 : BitVec 32 := 5#32
  let v2 : BitVec 32 := Scalar.muli v1 c5_i32
  let c0_i32_27 : BitVec 32 := 0#32
  let c1_i32_29 : BitVec 32 := 1#32
  let arg15 : BitVec 32 := Scf.iv c0_i32_27 c1_i32_29 k0_t11
  let v66 : BitVec 32 := Scalar.addi v2 arg15
  let c1_i32_33 : BitVec 32 := 1#32
  let v67 : BitVec 32 := Scalar.addi v66 c1_i32_33
  let v68 : Index := Scalar.indexCast v67
  ![v68.toNat]
def k0_mult13 (k0_t11 : Fin k0_t11_loop.trips) : BitVec 32 :=
  let c0_i32_27 : BitVec 32 := 0#32
  let c1_i32_29 : BitVec 32 := 1#32
  let arg15 : BitVec 32 := Scf.iv c0_i32_27 c1_i32_29 k0_t11
  let c512_i32 : BitVec 32 := 512#32
  let v74 : BitVec 32 := Scalar.muli arg15 c512_i32
  v74
def k0_off36 (i : grid0.Coords) (k0_t11 : Fin k0_t11_loop.trips) : Fin 2 → Nat :=
  let arg1 : BitVec 32 := BitVec.ofNat 32 (i 1).val
  let v76 : Index := Scalar.indexCast arg1
  let c0_i32_27 : BitVec 32 := 0#32
  let c1_i32_29 : BitVec 32 := 1#32
  let arg15 : BitVec 32 := Scf.iv c0_i32_27 c1_i32_29 k0_t11
  let c512_i32 : BitVec 32 := 512#32
  let v74 : BitVec 32 := Scalar.muli arg15 c512_i32
  let v75 : BitVec 32 := v74
  let v77 : Index := Scalar.indexCast v75
  ![v76.toNat, v77.toNat]
def k0_off37 (v5 : BitVec 32) (k0_t10 : Fin (k0_t10_loop v5).trips) : Fin 2 → Nat :=
  let c0_i32_18 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v46 : BitVec 32 := Scalar.subi v23 c0_i32_18
  let c1_i32_20 : BitVec 32 := 1#32
  let v48 : BitVec 32 := Scalar.divsi v46 c1_i32_20
  let v49 : BitVec 32 := Scalar.muli v48 c1_i32_20
  let v50 : BitVec 32 := Scalar.addi c0_i32_18 v49
  let c1_i32_22 : BitVec 32 := 1#32
  let arg13 : BitVec 32 := Scf.iv v50 c1_i32_22 k0_t10
  let c256_i32_25 : BitVec 32 := 256#32
  let v57 : BitVec 32 := Scalar.muli arg13 c256_i32_25
  let v58 : BitVec 32 := v57
  let v98 : Index := Scalar.indexCast v58
  let c0 : Index := 0#32
  ![v98.toNat, 0]
def k0_cond16 (v5 : BitVec 32) (k0_t10 : Fin (k0_t10_loop v5).trips) (v63 : BitVec 32) (v69 : BitVec 32) : BitVec 1 :=
  let c0_i32_18 : BitVec 32 := 0#32
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v46 : BitVec 32 := Scalar.subi v23 c0_i32_18
  let c1_i32_20 : BitVec 32 := 1#32
  let v48 : BitVec 32 := Scalar.divsi v46 c1_i32_20
  let v49 : BitVec 32 := Scalar.muli v48 c1_i32_20
  let v50 : BitVec 32 := Scalar.addi c0_i32_18 v49
  let c1_i32_22 : BitVec 32 := 1#32
  let arg13 : BitVec 32 := Scf.iv v50 c1_i32_22 k0_t10
  let c256_i32_25 : BitVec 32 := 256#32
  let v57 : BitVec 32 := Scalar.muli arg13 c256_i32_25
  let v58 : BitVec 32 := v57
  let c256_i32_32 : BitVec 32 := 256#32
  let v64 : BitVec 32 := Scalar.addi v58 c256_i32_32
  let v65 : BitVec 1 := Scalar.cmpi .slt v63 v64
  let v70 : BitVec 1 := Scalar.cmpi .sgt v69 v58
  let v71 : BitVec 1 := Scalar.andi v65 v70
  let v72 : BitVec 32 := Scalar.extui v71
  let c0_i32_34 : BitVec 32 := 0#32
  let v73 : BitVec 1 := Scalar.cmpi .ne v72 c0_i32_34
  v73

def k0_chk6 (i : grid0.Coords) (v5 : BitVec 32) (k0_t10 : Fin (k0_t10_loop v5).trips) (v63 : BitVec 32) (v69 : BitVec 32) : Prop :=
  (∀ (k0_h14 : k0_cond14 i = 1#1), ∀ (k0_h16 : k0_cond16 v5 k0_t10 v63 v69 = 1#1), ∀ a, (k0_off37 v5 k0_t10) a + S256x1024.size a ≤ S2048x1024.size a)
theorem k0_off37_inb : ∀ (i : grid0.Coords) (v5 : BitVec 32) (k0_t10 : Fin (k0_t10_loop v5).trips) (v63 : BitVec 32) (v69 : BitVec 32) (k0_hw6 : k0_chk6 i v5 k0_t10 v63 v69), ∀ (k0_h14 : k0_cond14 i = 1#1), ∀ (k0_h16 : k0_cond16 v5 k0_t10 v63 v69 = 1#1), ∀ a, (k0_off37 v5 k0_t10) a + S256x1024.size a ≤ S2048x1024.size a := fun i v5 k0_t10 v63 v69 k0_hw6 k0_h14 k0_h16 => k0_hw6 k0_h14 k0_h16

def k0_off38 (k0_t11 : Fin k0_t11_loop.trips) : Fin 2 → Nat :=
  let c0_i32_27 : BitVec 32 := 0#32
  let c1_i32_29 : BitVec 32 := 1#32
  let arg15 : BitVec 32 := Scf.iv c0_i32_27 c1_i32_29 k0_t11
  let c512_i32 : BitVec 32 := 512#32
  let v74 : BitVec 32 := Scalar.muli arg15 c512_i32
  let v75 : BitVec 32 := v74
  let v103 : Index := Scalar.indexCast v75
  let c0_38 : Index := 0#32
  ![v103.toNat, 0]
def k0_mult14 (v5 : BitVec 32) : BitVec 32 :=
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let c256_i32_25 : BitVec 32 := 256#32
  let v57 : BitVec 32 := Scalar.muli v23 c256_i32_25
  v57
def k0_cond17 (v5 : BitVec 32) : BitVec 1 :=
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let c256_i32_23 : BitVec 32 := 256#32
  let v53 : BitVec 32 := Scalar.muli v23 c256_i32_23
  let v54 : BitVec 1 := Scalar.cmpi .sgt v5 v53
  let v55 : BitVec 32 := Scalar.extui v54
  let c0_i32_24 : BitVec 32 := 0#32
  let v56 : BitVec 1 := Scalar.cmpi .ne v55 c0_i32_24
  v56

def k0_chk1 (i : grid0.Coords) (v5 : BitVec 32) : Prop :=
  (∀ (k0_h2 : k0_cond2 i = 1#1), (k0_t1_loop v5).OK) ∧
  (∀ k0_t1 : Fin (k0_t1_loop v5).trips, ∀ (k0_h2 : k0_cond2 i = 1#1), 256 ∣ (k0_mult1 v5 k0_t1).toNat) ∧
  (∀ k0_t1 : Fin (k0_t1_loop v5).trips, ∀ (k0_h2 : k0_cond2 i = 1#1), ∀ a, (k0_off2 v5 k0_t1) a + S256x1024.size a ≤ S2048x1024.size a) ∧
  (∀ k0_t1 : Fin (k0_t1_loop v5).trips, ∀ (k0_h2 : k0_cond2 i = 1#1), ∀ (hinb : ∀ a, (k0_off2 v5 k0_t1) a + S256x1024.size a ≤ S2048x1024.size a), (Rect.unit (s := S2048x1024) (k0_off2 v5 k0_t1) S256x1024.size hinb).PackedRows (EltTy.packing .bf16)) ∧
  (∀ (k0_h2 : k0_cond2 i = 1#1), (k0_t3_loop v5).OK) ∧
  (∀ k0_t3 : Fin (k0_t3_loop v5).trips, ∀ (k0_h2 : k0_cond2 i = 1#1), 256 ∣ (k0_mult3 v5 k0_t3).toNat) ∧
  (∀ k0_t3 : Fin (k0_t3_loop v5).trips, ∀ (k0_h2 : k0_cond2 i = 1#1), ∀ a, (k0_off8 v5 k0_t3) a + S256x1024.size a ≤ S2048x1024.size a) ∧
  (∀ k0_t3 : Fin (k0_t3_loop v5).trips, ∀ (k0_h2 : k0_cond2 i = 1#1), ∀ (hinb : ∀ a, (k0_off8 v5 k0_t3) a + S256x1024.size a ≤ S2048x1024.size a), (Rect.unit (s := S2048x1024) (k0_off8 v5 k0_t3) S256x1024.size hinb).PackedRows (EltTy.packing .bf16)) ∧
  (∀ (k0_h2 : k0_cond2 i = 1#1), ∀ (k0_h5 : k0_cond5 v5 = 1#1), 256 ∣ (k0_mult5 v5).toNat) ∧
  (∀ (k0_h2 : k0_cond2 i = 1#1), ∀ (k0_h5 : k0_cond5 v5 = 1#1), ∀ a, (k0_off14 v5) a + S128x1024.size a ≤ S2048x1024.size a) ∧
  (∀ (k0_h2 : k0_cond2 i = 1#1), ∀ (k0_h5 : k0_cond5 v5 = 1#1), ∀ (hinb : ∀ a, (k0_off14 v5) a + S128x1024.size a ≤ S2048x1024.size a), (Rect.unit (s := S2048x1024) (k0_off14 v5) S128x1024.size hinb).PackedRows (EltTy.packing .bf16)) ∧
  ((k0_t6_loop v5).OK) ∧
  (∀ k0_t6 : Fin (k0_t6_loop v5).trips, 256 ∣ (k0_mult7 v5 k0_t6).toNat) ∧
  (∀ k0_t6 : Fin (k0_t6_loop v5).trips, ∀ a, (k0_off20 v5 k0_t6) a + S256x1024.size a ≤ S2048x1024.size a) ∧
  (∀ k0_t6 : Fin (k0_t6_loop v5).trips, ∀ (k0_h7 : k0_cond7 i = 1#1), ∀ a, (k0_off21 v5 k0_t6) a + S256x1024.size a ≤ S2048x1024.size a) ∧
  (∀ k0_t6 : Fin (k0_t6_loop v5).trips, ∀ (k0_h8 : k0_cond8 i = 1#1), ∀ a, (k0_off22 v5 k0_t6) a + S256x1024.size a ≤ S2048x1024.size a) ∧
  ((k0_t7_loop v5).OK) ∧
  (∀ k0_t7 : Fin (k0_t7_loop v5).trips, 256 ∣ (k0_mult8 v5 k0_t7).toNat) ∧
  (∀ k0_t7 : Fin (k0_t7_loop v5).trips, ∀ a, (k0_off23 v5 k0_t7) a + S256x1024.size a ≤ S2048x1024.size a) ∧
  (∀ k0_t7 : Fin (k0_t7_loop v5).trips, ∀ (k0_h9 : k0_cond9 i = 1#1), ∀ a, (k0_off24 v5 k0_t7) a + S256x1024.size a ≤ S2048x1024.size a) ∧
  (∀ k0_t7 : Fin (k0_t7_loop v5).trips, ∀ (k0_h10 : k0_cond10 i = 1#1), ∀ a, (k0_off25 v5 k0_t7) a + S256x1024.size a ≤ S2048x1024.size a) ∧
  (∀ (k0_h11 : k0_cond11 v5 = 1#1), 256 ∣ (k0_mult9 v5).toNat) ∧
  (∀ (k0_h11 : k0_cond11 v5 = 1#1), ∀ a, (k0_off26 v5) a + S128x1024.size a ≤ S2048x1024.size a) ∧
  (∀ (k0_h11 : k0_cond11 v5 = 1#1), ∀ (k0_h12 : k0_cond12 i = 1#1), ∀ a, (k0_off27 v5) a + S128x1024.size a ≤ S2048x1024.size a) ∧
  (∀ (k0_h11 : k0_cond11 v5 = 1#1), ∀ (k0_h13 : k0_cond13 i = 1#1), ∀ a, (k0_off28 v5) a + S128x1024.size a ≤ S2048x1024.size a) ∧
  (∀ (k0_h14 : k0_cond14 i = 1#1), (k0_t8_loop v5).OK) ∧
  (∀ k0_t8 : Fin (k0_t8_loop v5).trips, ∀ (k0_h14 : k0_cond14 i = 1#1), 256 ∣ (k0_mult10 v5 k0_t8).toNat) ∧
  (∀ (k0_h14 : k0_cond14 i = 1#1), (k0_t10_loop v5).OK) ∧
  (∀ k0_t10 : Fin (k0_t10_loop v5).trips, ∀ (k0_h14 : k0_cond14 i = 1#1), 256 ∣ (k0_mult12 v5 k0_t10).toNat) ∧
  (∀ (k0_h14 : k0_cond14 i = 1#1), ∀ (k0_h17 : k0_cond17 v5 = 1#1), 256 ∣ (k0_mult14 v5).toNat)
theorem k0_t1_ok : ∀ (i : grid0.Coords) (v5 : BitVec 32) (k0_hw1 : k0_chk1 i v5), ∀ (k0_h2 : k0_cond2 i = 1#1), (k0_t1_loop v5).OK := fun i v5 k0_hw1 k0_h2 => k0_hw1.1 k0_h2
theorem k0_mult1_dvd : ∀ (i : grid0.Coords) (v5 : BitVec 32) (k0_hw1 : k0_chk1 i v5) (k0_t1 : Fin (k0_t1_loop v5).trips), ∀ (k0_h2 : k0_cond2 i = 1#1), 256 ∣ (k0_mult1 v5 k0_t1).toNat := fun i v5 k0_hw1 k0_t1 k0_h2 => k0_hw1.2.1 k0_t1 k0_h2
theorem k0_off2_inb : ∀ (i : grid0.Coords) (v5 : BitVec 32) (k0_hw1 : k0_chk1 i v5) (k0_t1 : Fin (k0_t1_loop v5).trips), ∀ (k0_h2 : k0_cond2 i = 1#1), ∀ a, (k0_off2 v5 k0_t1) a + S256x1024.size a ≤ S2048x1024.size a := fun i v5 k0_hw1 k0_t1 k0_h2 => k0_hw1.2.2.1 k0_t1 k0_h2
theorem k0_off2_packedbf16 : ∀ (i : grid0.Coords) (v5 : BitVec 32) (k0_hw1 : k0_chk1 i v5) (k0_t1 : Fin (k0_t1_loop v5).trips), ∀ (k0_h2 : k0_cond2 i = 1#1), (Rect.unit (s := S2048x1024) (k0_off2 v5 k0_t1) S256x1024.size (k0_off2_inb i v5 k0_hw1 k0_t1 k0_h2)).PackedRows (EltTy.packing .bf16) := fun i v5 k0_hw1 k0_t1 k0_h2 => k0_hw1.2.2.2.1 k0_t1 k0_h2 (k0_off2_inb i v5 k0_hw1 k0_t1 k0_h2)
theorem k0_t3_ok : ∀ (i : grid0.Coords) (v5 : BitVec 32) (k0_hw1 : k0_chk1 i v5), ∀ (k0_h2 : k0_cond2 i = 1#1), (k0_t3_loop v5).OK := fun i v5 k0_hw1 k0_h2 => k0_hw1.2.2.2.2.1 k0_h2
theorem k0_mult3_dvd : ∀ (i : grid0.Coords) (v5 : BitVec 32) (k0_hw1 : k0_chk1 i v5) (k0_t3 : Fin (k0_t3_loop v5).trips), ∀ (k0_h2 : k0_cond2 i = 1#1), 256 ∣ (k0_mult3 v5 k0_t3).toNat := fun i v5 k0_hw1 k0_t3 k0_h2 => k0_hw1.2.2.2.2.2.1 k0_t3 k0_h2
theorem k0_off8_inb : ∀ (i : grid0.Coords) (v5 : BitVec 32) (k0_hw1 : k0_chk1 i v5) (k0_t3 : Fin (k0_t3_loop v5).trips), ∀ (k0_h2 : k0_cond2 i = 1#1), ∀ a, (k0_off8 v5 k0_t3) a + S256x1024.size a ≤ S2048x1024.size a := fun i v5 k0_hw1 k0_t3 k0_h2 => k0_hw1.2.2.2.2.2.2.1 k0_t3 k0_h2
theorem k0_off8_packedbf16 : ∀ (i : grid0.Coords) (v5 : BitVec 32) (k0_hw1 : k0_chk1 i v5) (k0_t3 : Fin (k0_t3_loop v5).trips), ∀ (k0_h2 : k0_cond2 i = 1#1), (Rect.unit (s := S2048x1024) (k0_off8 v5 k0_t3) S256x1024.size (k0_off8_inb i v5 k0_hw1 k0_t3 k0_h2)).PackedRows (EltTy.packing .bf16) := fun i v5 k0_hw1 k0_t3 k0_h2 => k0_hw1.2.2.2.2.2.2.2.1 k0_t3 k0_h2 (k0_off8_inb i v5 k0_hw1 k0_t3 k0_h2)
theorem k0_mult5_dvd : ∀ (i : grid0.Coords) (v5 : BitVec 32) (k0_hw1 : k0_chk1 i v5), ∀ (k0_h2 : k0_cond2 i = 1#1), ∀ (k0_h5 : k0_cond5 v5 = 1#1), 256 ∣ (k0_mult5 v5).toNat := fun i v5 k0_hw1 k0_h2 k0_h5 => k0_hw1.2.2.2.2.2.2.2.2.1 k0_h2 k0_h5
theorem k0_off14_inb : ∀ (i : grid0.Coords) (v5 : BitVec 32) (k0_hw1 : k0_chk1 i v5), ∀ (k0_h2 : k0_cond2 i = 1#1), ∀ (k0_h5 : k0_cond5 v5 = 1#1), ∀ a, (k0_off14 v5) a + S128x1024.size a ≤ S2048x1024.size a := fun i v5 k0_hw1 k0_h2 k0_h5 => k0_hw1.2.2.2.2.2.2.2.2.2.1 k0_h2 k0_h5
theorem k0_off14_packedbf16 : ∀ (i : grid0.Coords) (v5 : BitVec 32) (k0_hw1 : k0_chk1 i v5), ∀ (k0_h2 : k0_cond2 i = 1#1), ∀ (k0_h5 : k0_cond5 v5 = 1#1), (Rect.unit (s := S2048x1024) (k0_off14 v5) S128x1024.size (k0_off14_inb i v5 k0_hw1 k0_h2 k0_h5)).PackedRows (EltTy.packing .bf16) := fun i v5 k0_hw1 k0_h2 k0_h5 => k0_hw1.2.2.2.2.2.2.2.2.2.2.1 k0_h2 k0_h5 (k0_off14_inb i v5 k0_hw1 k0_h2 k0_h5)
theorem k0_t6_ok : ∀ (i : grid0.Coords) (v5 : BitVec 32) (k0_hw1 : k0_chk1 i v5), (k0_t6_loop v5).OK := fun i v5 k0_hw1 => k0_hw1.2.2.2.2.2.2.2.2.2.2.2.1
theorem k0_mult7_dvd : ∀ (i : grid0.Coords) (v5 : BitVec 32) (k0_hw1 : k0_chk1 i v5) (k0_t6 : Fin (k0_t6_loop v5).trips), 256 ∣ (k0_mult7 v5 k0_t6).toNat := fun i v5 k0_hw1 k0_t6 => k0_hw1.2.2.2.2.2.2.2.2.2.2.2.2.1 k0_t6
theorem k0_off20_inb : ∀ (i : grid0.Coords) (v5 : BitVec 32) (k0_hw1 : k0_chk1 i v5) (k0_t6 : Fin (k0_t6_loop v5).trips), ∀ a, (k0_off20 v5 k0_t6) a + S256x1024.size a ≤ S2048x1024.size a := fun i v5 k0_hw1 k0_t6 => k0_hw1.2.2.2.2.2.2.2.2.2.2.2.2.2.1 k0_t6
theorem k0_off21_inb : ∀ (i : grid0.Coords) (v5 : BitVec 32) (k0_hw1 : k0_chk1 i v5) (k0_t6 : Fin (k0_t6_loop v5).trips), ∀ (k0_h7 : k0_cond7 i = 1#1), ∀ a, (k0_off21 v5 k0_t6) a + S256x1024.size a ≤ S2048x1024.size a := fun i v5 k0_hw1 k0_t6 k0_h7 => k0_hw1.2.2.2.2.2.2.2.2.2.2.2.2.2.2.1 k0_t6 k0_h7
theorem k0_off22_inb : ∀ (i : grid0.Coords) (v5 : BitVec 32) (k0_hw1 : k0_chk1 i v5) (k0_t6 : Fin (k0_t6_loop v5).trips), ∀ (k0_h8 : k0_cond8 i = 1#1), ∀ a, (k0_off22 v5 k0_t6) a + S256x1024.size a ≤ S2048x1024.size a := fun i v5 k0_hw1 k0_t6 k0_h8 => k0_hw1.2.2.2.2.2.2.2.2.2.2.2.2.2.2.2.1 k0_t6 k0_h8
theorem k0_t7_ok : ∀ (i : grid0.Coords) (v5 : BitVec 32) (k0_hw1 : k0_chk1 i v5), (k0_t7_loop v5).OK := fun i v5 k0_hw1 => k0_hw1.2.2.2.2.2.2.2.2.2.2.2.2.2.2.2.2.1
theorem k0_mult8_dvd : ∀ (i : grid0.Coords) (v5 : BitVec 32) (k0_hw1 : k0_chk1 i v5) (k0_t7 : Fin (k0_t7_loop v5).trips), 256 ∣ (k0_mult8 v5 k0_t7).toNat := fun i v5 k0_hw1 k0_t7 => k0_hw1.2.2.2.2.2.2.2.2.2.2.2.2.2.2.2.2.2.1 k0_t7
theorem k0_off23_inb : ∀ (i : grid0.Coords) (v5 : BitVec 32) (k0_hw1 : k0_chk1 i v5) (k0_t7 : Fin (k0_t7_loop v5).trips), ∀ a, (k0_off23 v5 k0_t7) a + S256x1024.size a ≤ S2048x1024.size a := fun i v5 k0_hw1 k0_t7 => k0_hw1.2.2.2.2.2.2.2.2.2.2.2.2.2.2.2.2.2.2.1 k0_t7
theorem k0_off24_inb : ∀ (i : grid0.Coords) (v5 : BitVec 32) (k0_hw1 : k0_chk1 i v5) (k0_t7 : Fin (k0_t7_loop v5).trips), ∀ (k0_h9 : k0_cond9 i = 1#1), ∀ a, (k0_off24 v5 k0_t7) a + S256x1024.size a ≤ S2048x1024.size a := fun i v5 k0_hw1 k0_t7 k0_h9 => k0_hw1.2.2.2.2.2.2.2.2.2.2.2.2.2.2.2.2.2.2.2.1 k0_t7 k0_h9
theorem k0_off25_inb : ∀ (i : grid0.Coords) (v5 : BitVec 32) (k0_hw1 : k0_chk1 i v5) (k0_t7 : Fin (k0_t7_loop v5).trips), ∀ (k0_h10 : k0_cond10 i = 1#1), ∀ a, (k0_off25 v5 k0_t7) a + S256x1024.size a ≤ S2048x1024.size a := fun i v5 k0_hw1 k0_t7 k0_h10 => k0_hw1.2.2.2.2.2.2.2.2.2.2.2.2.2.2.2.2.2.2.2.2.1 k0_t7 k0_h10
theorem k0_mult9_dvd : ∀ (i : grid0.Coords) (v5 : BitVec 32) (k0_hw1 : k0_chk1 i v5), ∀ (k0_h11 : k0_cond11 v5 = 1#1), 256 ∣ (k0_mult9 v5).toNat := fun i v5 k0_hw1 k0_h11 => k0_hw1.2.2.2.2.2.2.2.2.2.2.2.2.2.2.2.2.2.2.2.2.2.1 k0_h11
theorem k0_off26_inb : ∀ (i : grid0.Coords) (v5 : BitVec 32) (k0_hw1 : k0_chk1 i v5), ∀ (k0_h11 : k0_cond11 v5 = 1#1), ∀ a, (k0_off26 v5) a + S128x1024.size a ≤ S2048x1024.size a := fun i v5 k0_hw1 k0_h11 => k0_hw1.2.2.2.2.2.2.2.2.2.2.2.2.2.2.2.2.2.2.2.2.2.2.1 k0_h11
theorem k0_off27_inb : ∀ (i : grid0.Coords) (v5 : BitVec 32) (k0_hw1 : k0_chk1 i v5), ∀ (k0_h11 : k0_cond11 v5 = 1#1), ∀ (k0_h12 : k0_cond12 i = 1#1), ∀ a, (k0_off27 v5) a + S128x1024.size a ≤ S2048x1024.size a := fun i v5 k0_hw1 k0_h11 k0_h12 => k0_hw1.2.2.2.2.2.2.2.2.2.2.2.2.2.2.2.2.2.2.2.2.2.2.2.1 k0_h11 k0_h12
theorem k0_off28_inb : ∀ (i : grid0.Coords) (v5 : BitVec 32) (k0_hw1 : k0_chk1 i v5), ∀ (k0_h11 : k0_cond11 v5 = 1#1), ∀ (k0_h13 : k0_cond13 i = 1#1), ∀ a, (k0_off28 v5) a + S128x1024.size a ≤ S2048x1024.size a := fun i v5 k0_hw1 k0_h11 k0_h13 => k0_hw1.2.2.2.2.2.2.2.2.2.2.2.2.2.2.2.2.2.2.2.2.2.2.2.2.1 k0_h11 k0_h13
theorem k0_t8_ok : ∀ (i : grid0.Coords) (v5 : BitVec 32) (k0_hw1 : k0_chk1 i v5), ∀ (k0_h14 : k0_cond14 i = 1#1), (k0_t8_loop v5).OK := fun i v5 k0_hw1 k0_h14 => k0_hw1.2.2.2.2.2.2.2.2.2.2.2.2.2.2.2.2.2.2.2.2.2.2.2.2.2.1 k0_h14
theorem k0_mult10_dvd : ∀ (i : grid0.Coords) (v5 : BitVec 32) (k0_hw1 : k0_chk1 i v5) (k0_t8 : Fin (k0_t8_loop v5).trips), ∀ (k0_h14 : k0_cond14 i = 1#1), 256 ∣ (k0_mult10 v5 k0_t8).toNat := fun i v5 k0_hw1 k0_t8 k0_h14 => k0_hw1.2.2.2.2.2.2.2.2.2.2.2.2.2.2.2.2.2.2.2.2.2.2.2.2.2.2.1 k0_t8 k0_h14
theorem k0_t10_ok : ∀ (i : grid0.Coords) (v5 : BitVec 32) (k0_hw1 : k0_chk1 i v5), ∀ (k0_h14 : k0_cond14 i = 1#1), (k0_t10_loop v5).OK := fun i v5 k0_hw1 k0_h14 => k0_hw1.2.2.2.2.2.2.2.2.2.2.2.2.2.2.2.2.2.2.2.2.2.2.2.2.2.2.2.1 k0_h14
theorem k0_mult12_dvd : ∀ (i : grid0.Coords) (v5 : BitVec 32) (k0_hw1 : k0_chk1 i v5) (k0_t10 : Fin (k0_t10_loop v5).trips), ∀ (k0_h14 : k0_cond14 i = 1#1), 256 ∣ (k0_mult12 v5 k0_t10).toNat := fun i v5 k0_hw1 k0_t10 k0_h14 => k0_hw1.2.2.2.2.2.2.2.2.2.2.2.2.2.2.2.2.2.2.2.2.2.2.2.2.2.2.2.2.1 k0_t10 k0_h14
theorem k0_mult14_dvd : ∀ (i : grid0.Coords) (v5 : BitVec 32) (k0_hw1 : k0_chk1 i v5), ∀ (k0_h14 : k0_cond14 i = 1#1), ∀ (k0_h17 : k0_cond17 v5 = 1#1), 256 ∣ (k0_mult14 v5).toNat := fun i v5 k0_hw1 k0_h14 k0_h17 => k0_hw1.2.2.2.2.2.2.2.2.2.2.2.2.2.2.2.2.2.2.2.2.2.2.2.2.2.2.2.2.2 k0_h14 k0_h17

@[reducible] def k0_t12_loop : Scf.Loop 32 :=
  let c0_i32_26 : BitVec 32 := 0#32
  let c4_i32_27 : BitVec 32 := 4#32
  let v59 : BitVec 32 := Scalar.addi c0_i32_26 c4_i32_27
  let c1_i32_28 : BitVec 32 := 1#32
  ⟨c0_i32_26, v59, c1_i32_28⟩
def k0_off39 (i : grid0.Coords) (k0_t12 : Fin k0_t12_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c5_i32 : BitVec 32 := 5#32
  let v2 : BitVec 32 := Scalar.muli v1 c5_i32
  let c0_i32_26 : BitVec 32 := 0#32
  let c1_i32_28 : BitVec 32 := 1#32
  let arg13 : BitVec 32 := Scf.iv c0_i32_26 c1_i32_28 k0_t12
  let v60 : BitVec 32 := Scalar.addi v2 arg13
  let v61 : Index := Scalar.indexCast v60
  ![v61.toNat]
def k0_off40 (i : grid0.Coords) (k0_t12 : Fin k0_t12_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c5_i32 : BitVec 32 := 5#32
  let v2 : BitVec 32 := Scalar.muli v1 c5_i32
  let c0_i32_26 : BitVec 32 := 0#32
  let c1_i32_28 : BitVec 32 := 1#32
  let arg13 : BitVec 32 := Scf.iv c0_i32_26 c1_i32_28 k0_t12
  let v65 : BitVec 32 := Scalar.addi v2 arg13
  let c1_i32_30 : BitVec 32 := 1#32
  let v66 : BitVec 32 := Scalar.addi v65 c1_i32_30
  let v67 : Index := Scalar.indexCast v66
  ![v67.toNat]
def k0_mult15 (k0_t12 : Fin k0_t12_loop.trips) : BitVec 32 :=
  let c0_i32_26 : BitVec 32 := 0#32
  let c1_i32_28 : BitVec 32 := 1#32
  let arg13 : BitVec 32 := Scf.iv c0_i32_26 c1_i32_28 k0_t12
  let c512_i32 : BitVec 32 := 512#32
  let v73 : BitVec 32 := Scalar.muli arg13 c512_i32
  v73
def k0_off41 (i : grid0.Coords) (k0_t12 : Fin k0_t12_loop.trips) : Fin 2 → Nat :=
  let arg1 : BitVec 32 := BitVec.ofNat 32 (i 1).val
  let v75 : Index := Scalar.indexCast arg1
  let c0_i32_26 : BitVec 32 := 0#32
  let c1_i32_28 : BitVec 32 := 1#32
  let arg13 : BitVec 32 := Scf.iv c0_i32_26 c1_i32_28 k0_t12
  let c512_i32 : BitVec 32 := 512#32
  let v73 : BitVec 32 := Scalar.muli arg13 c512_i32
  let v74 : BitVec 32 := v73
  let v76 : Index := Scalar.indexCast v74
  ![v75.toNat, v76.toNat]
def k0_off42 (v5 : BitVec 32) : Fin 2 → Nat :=
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let c256_i32_25 : BitVec 32 := 256#32
  let v57 : BitVec 32 := Scalar.muli v23 c256_i32_25
  let v58 : BitVec 32 := v57
  let v97 : Index := Scalar.indexCast v58
  let c0 : Index := 0#32
  ![v97.toNat, 0]
def k0_cond18 (v5 : BitVec 32) (v62 : BitVec 32) (v68 : BitVec 32) : BitVec 1 :=
  let c127_i32 : BitVec 32 := 127#32
  let v6 : BitVec 32 := Scalar.addi v5 c127_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c256_i32 : BitVec 32 := 256#32
  let c0_i32_1 : BitVec 32 := 0#32
  let v13 : BitVec 1 := Scalar.cmpi .sgt c256_i32 c0_i32_1
  let v14 : BitVec 32 := Scalar.extui v13
  let c0_i32_2 : BitVec 32 := 0#32
  let v15 : BitVec 1 := Scalar.cmpi .slt c256_i32 c0_i32_2
  let v16 : BitVec 32 := Scalar.extui v15
  let v17 : BitVec 32 := Scalar.subi v14 v16
  let v18 : BitVec 1 := Scalar.cmpi .ne v12 v17
  let v19 : BitVec 32 := Scalar.remsi v6 c256_i32
  let c0_i32_3 : BitVec 32 := 0#32
  let v20 : BitVec 1 := Scalar.cmpi .ne v19 c0_i32_3
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let c256_i32_25 : BitVec 32 := 256#32
  let v57 : BitVec 32 := Scalar.muli v23 c256_i32_25
  let v58 : BitVec 32 := v57
  let c128_i32 : BitVec 32 := 128#32
  let v63 : BitVec 32 := Scalar.addi v58 c128_i32
  let v64 : BitVec 1 := Scalar.cmpi .slt v62 v63
  let v69 : BitVec 1 := Scalar.cmpi .sgt v68 v58
  let v70 : BitVec 1 := Scalar.andi v64 v69
  let v71 : BitVec 32 := Scalar.extui v70
  let c0_i32_31 : BitVec 32 := 0#32
  let v72 : BitVec 1 := Scalar.cmpi .ne v71 c0_i32_31
  v72

def k0_chk7 (i : grid0.Coords) (v5 : BitVec 32) (v62 : BitVec 32) (v68 : BitVec 32) : Prop :=
  (∀ (k0_h14 : k0_cond14 i = 1#1), ∀ (k0_h17 : k0_cond17 v5 = 1#1), ∀ (k0_h18 : k0_cond18 v5 v62 v68 = 1#1), ∀ a, (k0_off42 v5) a + S128x1024.size a ≤ S2048x1024.size a)
theorem k0_off42_inb : ∀ (i : grid0.Coords) (v5 : BitVec 32) (v62 : BitVec 32) (v68 : BitVec 32) (k0_hw7 : k0_chk7 i v5 v62 v68), ∀ (k0_h14 : k0_cond14 i = 1#1), ∀ (k0_h17 : k0_cond17 v5 = 1#1), ∀ (k0_h18 : k0_cond18 v5 v62 v68 = 1#1), ∀ a, (k0_off42 v5) a + S128x1024.size a ≤ S2048x1024.size a := fun i v5 v62 v68 k0_hw7 k0_h14 k0_h17 k0_h18 => k0_hw7 k0_h14 k0_h17 k0_h18

def k0_off43 (k0_t12 : Fin k0_t12_loop.trips) : Fin 2 → Nat :=
  let c0_i32_26 : BitVec 32 := 0#32
  let c1_i32_28 : BitVec 32 := 1#32
  let arg13 : BitVec 32 := Scf.iv c0_i32_26 c1_i32_28 k0_t12
  let c512_i32 : BitVec 32 := 512#32
  let v73 : BitVec 32 := Scalar.muli arg13 c512_i32
  let v74 : BitVec 32 := v73
  let v102 : Index := Scalar.indexCast v74
  let c0_34 : Index := 0#32
  ![v102.toNat, 0]
def k0_cond1 (i : grid0.Coords) : BitVec 1 :=
  let arg1 : BitVec 32 := BitVec.ofNat 32 (i 1).val
  let c0_i32_4 : BitVec 32 := 0#32
  let v24 : BitVec 1 := Scalar.cmpi .eq arg1 c0_i32_4
  let arg2 : BitVec 32 := BitVec.ofNat 32 (i 2).val
  let c0_i32_5 : BitVec 32 := 0#32
  let v25 : BitVec 1 := Scalar.cmpi .eq arg2 c0_i32_5
  let v26 : BitVec 1 := Scalar.andi v24 v25
  let v27 : BitVec 32 := Scalar.extui v26
  let c0_i32_6 : BitVec 32 := 0#32
  let v28 : BitVec 1 := Scalar.cmpi .ne v27 c0_i32_6
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S8x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1792x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== ReferenceIdeal.lean ====
abbrev S32768x1024 : Shape := ⟨2, ![32768, 1024]⟩
abbrev S8x32768 : Shape := ⟨2, ![8, 32768]⟩
abbrev S8x1024x7168 : Shape := ⟨3, ![8, 1024, 7168]⟩
abbrev S8x3584x1024 : Shape := ⟨3, ![8, 3584, 1024]⟩
abbrev S_ : Shape := ⟨0, ![]⟩
abbrev S1x32768 : Shape := ⟨2, ![1, 32768]⟩
abbrev S32768 : Shape := ⟨1, ![32768]⟩
abbrev S32768x1 : Shape := ⟨2, ![32768, 1]⟩
abbrev S1x1024x7168 : Shape := ⟨3, ![1, 1024, 7168]⟩
abbrev S1024x7168 : Shape := ⟨2, ![1024, 7168]⟩
abbrev S1x3584x1024 : Shape := ⟨3, ![1, 3584, 1024]⟩
abbrev S3584x1024 : Shape := ⟨2, ![3584, 1024]⟩
abbrev S32768x7168 : Shape := ⟨2, ![32768, 7168]⟩
abbrev S32768x3584 : Shape := ⟨2, ![32768, 3584]⟩

abbrev nBuf : Space → Nat
  | .hbm => 198
  | .vmem => 0
  | .smem => 0
  | _ => 0

abbrev hbmTy0_0 (i : Nat) : BufTy := match i % 128 with
  | 0 => ⟨S32768x1024, .f32⟩
  | 1 => ⟨S8x32768, .f32⟩
  | 2 => ⟨S8x1024x7168, .f32⟩
  | 3 => ⟨S8x3584x1024, .f32⟩
  | 4 => ⟨S_, .f32⟩
  | 5 => ⟨S32768x1024, .f32⟩
  | 6 => ⟨S1x32768, .f32⟩
  | 7 => ⟨S32768, .f32⟩
  | 8 => ⟨S32768x1, .f32⟩
  | 9 => ⟨S1x1024x7168, .f32⟩
  | 10 => ⟨S1024x7168, .f32⟩
  | 11 => ⟨S1x3584x1024, .f32⟩
  | 12 => ⟨S3584x1024, .f32⟩
  | 13 => ⟨S32768x7168, .f32⟩
  | 14 => ⟨S32768x3584, .f32⟩
  | 15 => ⟨S32768x3584, .f32⟩
  | 16 => ⟨S32768x3584, .f32⟩
  | 17 => ⟨S32768x3584, .f32⟩
  | 18 => ⟨S_, .f32⟩
  | 19 => ⟨S32768x3584, .f32⟩
  | 20 => ⟨S32768x3584, .f32⟩
  | 21 => ⟨S_, .f32⟩
  | 22 => ⟨S32768x3584, .f32⟩
  | 23 => ⟨S32768x3584, .f32⟩
  | 24 => ⟨S32768x3584, .f32⟩
  | 25 => ⟨S32768x3584, .f32⟩
  | 26 => ⟨S32768x1024, .f32⟩
  | 27 => ⟨S32768x1024, .f32⟩
  | 28 => ⟨S32768x1024, .f32⟩
  | 29 => ⟨S32768x1024, .f32⟩
  | 30 => ⟨S1x32768, .f32⟩
  | 31 => ⟨S32768, .f32⟩
  | 32 => ⟨S32768x1, .f32⟩
  | 33 => ⟨S1x1024x7168, .f32⟩
  | 34 => ⟨S1024x7168, .f32⟩
  | 35 => ⟨S1x3584x1024, .f32⟩
  | 36 => ⟨S3584x1024, .f32⟩
  | 37 => ⟨S32768x7168, .f32⟩
  | 38 => ⟨S32768x3584, .f32⟩
  | 39 => ⟨S32768x3584, .f32⟩
  | 40 => ⟨S32768x3584, .f32⟩
  | 41 => ⟨S32768x3584, .f32⟩
  | 42 => ⟨S_, .f32⟩
  | 43 => ⟨S32768x3584, .f32⟩
  | 44 => ⟨S32768x3584, .f32⟩
  | 45 => ⟨S_, .f32⟩
  | 46 => ⟨S32768x3584, .f32⟩
  | 47 => ⟨S32768x3584, .f32⟩
  | 48 => ⟨S32768x3584, .f32⟩
  | 49 => ⟨S32768x3584, .f32⟩
  | 50 => ⟨S32768x1024, .f32⟩
  | 51 => ⟨S32768x1024, .f32⟩
  | 52 => ⟨S32768x1024, .f32⟩
  | 53 => ⟨S32768x1024, .f32⟩
  | 54 => ⟨S1x32768, .f32⟩
  | 55 => ⟨S32768, .f32⟩
  | 56 => ⟨S32768x1, .f32⟩
  | 57 => ⟨S1x1024x7168, .f32⟩
  | 58 => ⟨S1024x7168, .f32⟩
  | 59 => ⟨S1x3584x1024, .f32⟩
  | 60 => ⟨S3584x1024, .f32⟩
  | 61 => ⟨S32768x7168, .f32⟩
  | 62 => ⟨S32768x3584, .f32⟩
  | 63 => ⟨S32768x3584, .f32⟩
  | 64 => ⟨S32768x3584, .f32⟩
  | 65 => ⟨S32768x3584, .f32⟩
  | 66 => ⟨S_, .f32⟩
  | 67 => ⟨S32768x3584, .f32⟩
  | 68 => ⟨S32768x3584, .f32⟩
  | 69 => ⟨S_, .f32⟩
  | 70 => ⟨S32768x3584, .f32⟩
  | 71 => ⟨S32768x3584, .f32⟩
  | 72 => ⟨S32768x3584, .f32⟩
  | 73 => ⟨S32768x3584, .f32⟩
  | 74 => ⟨S32768x1024, .f32⟩
  | 75 => ⟨S32768x1024, .f32⟩
  | 76 => ⟨S32768x1024, .f32⟩
  | 77 => ⟨S32768x1024, .f32⟩
  | 78 => ⟨S1x32768, .f32⟩
  | 79 => ⟨S32768, .f32⟩
  | 80 => ⟨S32768x1, .f32⟩
  | 81 => ⟨S1x1024x7168, .f32⟩
  | 82 => ⟨S1024x7168, .f32⟩
  | 83 => ⟨S1x3584x1024, .f32⟩
  | 84 => ⟨S3584x1024, .f32⟩
  | 85 => ⟨S32768x7168, .f32⟩
  | 86 => ⟨S32768x3584, .f32⟩
  | 87 => ⟨S32768x3584, .f32⟩
  | 88 => ⟨S32768x3584, .f32⟩
  | 89 => ⟨S32768x3584, .f32⟩
  | 90 => ⟨S_, .f32⟩
  | 91 => ⟨S32768x3584, .f32⟩
  | 92 => ⟨S32768x3584, .f32⟩
  | 93 => ⟨S_, .f32⟩
  | 94 => ⟨S32768x3584, .f32⟩
  | 95 => ⟨S32768x3584, .f32⟩
  | 96 => ⟨S32768x3584, .f32⟩
  | 97 => ⟨S32768x3584, .f32⟩
  | 98 => ⟨S32768x1024, .f32⟩
  | 99 => ⟨S32768x1024, .f32⟩
  | 100 => ⟨S32768x1024, .f32⟩
  | 101 => ⟨S32768x1024, .f32⟩
  | 102 => ⟨S1x32768, .f32⟩
  | 103 => ⟨S32768, .f32⟩
  | 104 => ⟨S32768x1, .f32⟩
  | 105 => ⟨S1x1024x7168, .f32⟩
  | 106 => ⟨S1024x7168, .f32⟩
  | 107 => ⟨S1x3584x1024, .f32⟩
  | 108 => ⟨S3584x1024, .f32⟩
  | 109 => ⟨S32768x7168, .f32⟩
  | 110 => ⟨S32768x3584, .f32⟩
  | 111 => ⟨S32768x3584, .f32⟩
  | 112 => ⟨S32768x3584, .f32⟩
  | 113 => ⟨S32768x3584, .f32⟩
  | 114 => ⟨S_, .f32⟩
  | 115 => ⟨S32768x3584, .f32⟩
  | 116 => ⟨S32768x3584, .f32⟩
  | 117 => ⟨S_, .f32⟩
  | 118 => ⟨S32768x3584, .f32⟩
  | 119 => ⟨S32768x3584, .f32⟩
  | 120 => ⟨S32768x3584, .f32⟩
  | 121 => ⟨S32768x3584, .f32⟩
  | 122 => ⟨S32768x1024, .f32⟩
  | 123 => ⟨S32768x1024, .f32⟩
  | 124 => ⟨S32768x1024, .f32⟩
  | 125 => ⟨S32768x1024, .f32⟩
  | 126 => ⟨S1x32768, .f32⟩
  | 127 => ⟨S32768, .f32⟩
  | _ => ⟨S32768x1024, .f32⟩

abbrev hbmTy0_1 (i : Nat) : BufTy := match i % 128 with
  | 0 => ⟨S32768x1, .f32⟩
  | 1 => ⟨S1x1024x7168, .f32⟩
  | 2 => ⟨S1024x7168, .f32⟩
  | 3 => ⟨S1x3584x1024, .f32⟩
  | 4 => ⟨S3584x1024, .f32⟩
  | 5 => ⟨S32768x7168, .f32⟩
  | 6 => ⟨S32768x3584, .f32⟩
  | 7 => ⟨S32768x3584, .f32⟩
  | 8 => ⟨S32768x3584, .f32⟩
  | 9 => ⟨S32768x3584, .f32⟩
  | 10 => ⟨S_, .f32⟩
  | 11 => ⟨S32768x3584, .f32⟩
  | 12 => ⟨S32768x3584, .f32⟩
  | 13 => ⟨S_, .f32⟩
  | 14 => ⟨S32768x3584, .f32⟩
  | 15 => ⟨S32768x3584, .f32⟩
  | 16 => ⟨S32768x3584, .f32⟩
  | 17 => ⟨S32768x3584, .f32⟩
  | 18 => ⟨S32768x1024, .f32⟩
  | 19 => ⟨S32768x1024, .f32⟩
  | 20 => ⟨S32768x1024, .f32⟩
  | 21 => ⟨S32768x1024, .f32⟩
  | 22 => ⟨S1x32768, .f32⟩
  | 23 => ⟨S32768, .f32⟩
  | 24 => ⟨S32768x1, .f32⟩
  | 25 => ⟨S1x1024x7168, .f32⟩
  | 26 => ⟨S1024x7168, .f32⟩
  | 27 => ⟨S1x3584x1024, .f32⟩
  | 28 => ⟨S3584x1024, .f32⟩
  | 29 => ⟨S32768x7168, .f32⟩
  | 30 => ⟨S32768x3584, .f32⟩
  | 31 => ⟨S32768x3584, .f32⟩
  | 32 => ⟨S32768x3584, .f32⟩
  | 33 => ⟨S32768x3584, .f32⟩
  | 34 => ⟨S_, .f32⟩
  | 35 => ⟨S32768x3584, .f32⟩
  | 36 => ⟨S32768x3584, .f32⟩
  | 37 => ⟨S_, .f32⟩
  | 38 => ⟨S32768x3584, .f32⟩
  | 39 => ⟨S32768x3584, .f32⟩
  | 40 => ⟨S32768x3584, .f32⟩
  | 41 => ⟨S32768x3584, .f32⟩
  | 42 => ⟨S32768x1024, .f32⟩
  | 43 => ⟨S32768x1024, .f32⟩
  | 44 => ⟨S32768x1024, .f32⟩
  | 45 => ⟨S32768x1024, .f32⟩
  | 46 => ⟨S1x32768, .f32⟩
  | 47 => ⟨S32768, .f32⟩
  | 48 => ⟨S32768x1, .f32⟩
  | 49 => ⟨S1x1024x7168, .f32⟩
  | 50 => ⟨S1024x7168, .f32⟩
  | 51 => ⟨S1x3584x1024, .f32⟩
  | 52 => ⟨S3584x1024, .f32⟩
  | 53 => ⟨S32768x7168, .f32⟩
  | 54 => ⟨S32768x3584, .f32⟩
  | 55 => ⟨S32768x3584, .f32⟩
  | 56 => ⟨S32768x3584, .f32⟩
  | 57 => ⟨S32768x3584, .f32⟩
  | 58 => ⟨S_, .f32⟩
  | 59 => ⟨S32768x3584, .f32⟩
  | 60 => ⟨S32768x3584, .f32⟩
  | 61 => ⟨S_, .f32⟩
  | 62 => ⟨S32768x3584, .f32⟩
  | 63 => ⟨S32768x3584, .f32⟩
  | 64 => ⟨S32768x3584, .f32⟩
  | 65 => ⟨S32768x3584, .f32⟩
  | 66 => ⟨S32768x1024, .f32⟩
  | 67 => ⟨S32768x1024, .f32⟩
  | 68 => ⟨S32768x1024, .f32⟩
  | 69 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_call2_v5 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call3_v0 : Ref sig .tc := ⟨.hbm, 88, rfl⟩
abbrev main_call3_v1 : Ref sig .tc := ⟨.hbm, 89, rfl⟩
abbrev main_call3_cst : Ref sig .tc := ⟨.hbm, 90, rfl⟩
abbrev main_call3_v2 : Ref sig .tc := ⟨.hbm, 91, rfl⟩
abbrev main_call3_v3 : Ref sig .tc := ⟨.hbm, 92, rfl⟩
abbrev main_call3_cst_0 : Ref sig .tc := ⟨.hbm, 93, rfl⟩
abbrev main_call3_v4 : Ref sig .tc := ⟨.hbm, 94, rfl⟩
abbrev main_call3_v5 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_call4_v0 : Ref sig .tc := ⟨.hbm, 112, rfl⟩
abbrev main_call4_v1 : Ref sig .tc := ⟨.hbm, 113, rfl⟩
abbrev main_call4_cst : Ref sig .tc := ⟨.hbm, 114, rfl⟩
abbrev main_call4_v2 : Ref sig .tc := ⟨.hbm, 115, rfl⟩
abbrev main_call4_v3 : Ref sig .tc := ⟨.hbm, 116, rfl⟩
abbrev main_call4_cst_0 : Ref sig .tc := ⟨.hbm, 117, rfl⟩
abbrev main_call4_v4 : Ref sig .tc := ⟨.hbm, 118, rfl⟩
abbrev main_call4_v5 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_call5_v0 : Ref sig .tc := ⟨.hbm, 136, rfl⟩
abbrev main_call5_v1 : Ref sig .tc := ⟨.hbm, 137, rfl⟩
abbrev main_call5_cst : Ref sig .tc := ⟨.hbm, 138, rfl⟩
abbrev main_call5_v2 : Ref sig .tc := ⟨.hbm, 139, rfl⟩
abbrev main_call5_v3 : Ref sig .tc := ⟨.hbm, 140, rfl⟩
abbrev main_call5_cst_0 : Ref sig .tc := ⟨.hbm, 141, rfl⟩
abbrev main_call5_v4 : Ref sig .tc := ⟨.hbm, 142, rfl⟩
abbrev main_call5_v5 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_call6_v0 : Ref sig .tc := ⟨.hbm, 160, rfl⟩
abbrev main_call6_v1 : Ref sig .tc := ⟨.hbm, 161, rfl⟩
abbrev main_call6_cst : Ref sig .tc := ⟨.hbm, 162, rfl⟩
abbrev main_call6_v2 : Ref sig .tc := ⟨.hbm, 163, rfl⟩
abbrev main_call6_v3 : Ref sig .tc := ⟨.hbm, 164, rfl⟩
abbrev main_call6_cst_0 : Ref sig .tc := ⟨.hbm, 165, rfl⟩
abbrev main_call6_v4 : Ref sig .tc := ⟨.hbm, 166, rfl⟩
abbrev main_call6_v5 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_call7_v0 : Ref sig .tc := ⟨.hbm, 184, rfl⟩
abbrev main_call7_v1 : Ref sig .tc := ⟨.hbm, 185, rfl⟩
abbrev main_call7_cst : Ref sig .tc := ⟨.hbm, 186, rfl⟩
abbrev main_call7_v2 : Ref sig .tc := ⟨.hbm, 187, rfl⟩
abbrev main_call7_v3 : Ref sig .tc := ⟨.hbm, 188, rfl⟩
abbrev main_call7_cst_0 : Ref sig .tc := ⟨.hbm, 189, rfl⟩
abbrev main_call7_v4 : Ref sig .tc := ⟨.hbm, 190, rfl⟩
abbrev main_call7_v5 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S1x1024, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024x1536 : Shape := ⟨2, ![1024, 1536]⟩
abbrev S1024x1072 : Shape := ⟨2, ![1024, 1072]⟩
abbrev S1024x2608 : Shape := ⟨2, ![1024, 2608]⟩
abbrev S_ : Shape := ⟨0, ![]⟩
abbrev S1024x2688 : Shape := ⟨2, ![1024, 2688]⟩
abbrev S16x2048x512 : Shape := ⟨3, ![16, 2048, 512]⟩
abbrev S16x16x2048x64 : Shape := ⟨4, ![16, 16, 2048, 64]⟩
abbrev S16x4x2048x64 : Shape := ⟨4, ![16, 4, 2048, 64]⟩
abbrev S16x4x2048x128 : Shape := ⟨4, ![16, 4, 2048, 128]⟩
abbrev S16x2048x128 : Shape := ⟨3, ![16, 2048, 128]⟩
abbrev S1x512x1024 : Shape := ⟨3, ![1, 512, 1024]⟩
abbrev S1x512x512 : Shape := ⟨3, ![1, 512, 512]⟩
abbrev S1x16x512x64 : Shape := ⟨4, ![1, 16, 512, 64]⟩
abbrev S1x4x512x64 : Shape := ⟨4, ![1, 4, 512, 64]⟩
abbrev S1x4x512x128 : Shape := ⟨4, ![1, 4, 512, 128]⟩
abbrev S1x512x128 : Shape := ⟨3, ![1, 512, 128]⟩
abbrev S512x1024 : Shape := ⟨2, ![512, 1024]⟩
abbrev S512x2688 : Shape := ⟨2, ![512, 2688]⟩
abbrev S512x512 : Shape := ⟨2, ![512, 512]⟩
abbrev S512x128 : Shape := ⟨2, ![512, 128]⟩
abbrev S512x64 : Shape := ⟨2, ![512, 64]⟩
abbrev S1x1x512x64 : Shape := ⟨4, ![1, 1, 512, 64]⟩
abbrev S1x1x512x128 : Shape := ⟨4, ![1, 1, 512, 128]⟩

abbrev nBuf : Space → Nat
  | .hbm => 17
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S1024x1536, .f32⟩
  | .hbm, ⟨2, _⟩ => ⟨S1024x1072, .f32⟩
  | .hbm, ⟨3, _⟩ => ⟨S1024x2608, .f32⟩
  | .hbm, ⟨4, _⟩ => ⟨S_, .i32⟩
  | .hbm, ⟨5, _⟩ => ⟨S_, .f32⟩
  | .hbm, ⟨6, _⟩ => ⟨S1024x2688, .f32⟩
  | .hbm, ⟨7, _⟩ => ⟨S1024x2688, .bf16⟩
  | .hbm, ⟨8, _⟩ => ⟨S16x2048x512, .f32⟩
  | .hbm, ⟨9, _⟩ => ⟨S16x2048x512, .f32⟩
  | .hbm, ⟨10, _⟩ => ⟨S16x2048x512, .f32⟩
  | .hbm, ⟨11, _⟩ => ⟨S16x16x2048x64, .bf16⟩
  | .hbm, ⟨12, _⟩ => ⟨S16x4x2048x64, .bf16⟩
  | .hbm, ⟨13, _⟩ => ⟨S16x4x2048x128, .bf16⟩
  | .hbm, ⟨14, _⟩ => ⟨S16x4x2048x64, .bf16⟩
  | .hbm, ⟨15, _⟩ => ⟨S16x4x2048x128, .bf16⟩
  | .hbm, ⟨16, _⟩ => ⟨S16x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1024x2688, .bf16⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x16x512x64, .bf16⟩
  | .local _ .vmem, ⟨10, _⟩ => ⟨S1x16x512x64, .bf16⟩
  | .local _ .vmem, ⟨11, _⟩ => ⟨S1x4x512x64, .bf16⟩
  | .local _ .vmem, ⟨12, _⟩ => ⟨S1x4x512x64, .bf16⟩
  | .local _ .vmem, ⟨13, _⟩ => ⟨S1x4x512x128, .bf16⟩
  | .local _ .vmem, ⟨14, _⟩ => ⟨S1x4x512x128, .bf16⟩
  | .local _ .vmem, ⟨15, _⟩ => ⟨S1x4x512x64, .bf16⟩
  | .local _ .vmem, ⟨16, _⟩ => ⟨S1x4x512x64, .bf16⟩
  | .local _ .vmem, ⟨17, _⟩ => ⟨S1x4x512x128, .bf16⟩
  | .local _ .vmem, ⟨18, _⟩ => ⟨S1x4x512x128, .bf16⟩
  | .local _ .vmem, ⟨19, _⟩ => ⟨S1x512x128, .f32⟩
  | .local _ .vmem, ⟨20, _⟩ => ⟨S1x512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev main_v3_7 : Ref sig .tc := ⟨.hbm, 15, rfl⟩
abbrev main_v3_8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S16x2048x1024 : Shape := ⟨3, ![16, 2048, 1024]⟩
abbrev S1024x1536 : Shape := ⟨2, ![1024, 1536]⟩
abbrev S1024x1072 : Shape := ⟨2, ![1024, 1072]⟩
abbrev S16x2048x1536 : Shape := ⟨3, ![16, 2048, 1536]⟩
abbrev S16x2048x512 : Shape := ⟨3, ![16, 2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x1536, .f32⟩
  | .hbm, ⟨2, _⟩ => ⟨S1024x1072, .f32⟩
  | .hbm, ⟨3, _⟩ => ⟨S16x2048x1536, .f32⟩
  | .hbm, ⟨4, _⟩ => ⟨S16x2048x512, .f32⟩
  | .hbm, ⟨5, _⟩ => ⟨S16x2048x512, .f32⟩
  | .hbm, ⟨6, _⟩ => ⟨S16x2048x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S256x1024 : Shape := ⟨2, ![256, 1024]⟩
abbrev S32x512x2x4x64 : Shape := ⟨5, ![32, 512, 2, 4, 64]⟩
abbrev S1024x1536 : Shape := ⟨2, ![1024, 1536]⟩
abbrev S1024x1072 : Shape := ⟨2, ![1024, 1072]⟩
abbrev S1024x2608 : Shape := ⟨2, ![1024, 2608]⟩
abbrev S_ : Shape := ⟨0, ![]⟩
abbrev S1024x2688 : Shape := ⟨2, ![1024, 2688]⟩
abbrev S256x2688 : Shape := ⟨2, ![256, 2688]⟩
abbrev S256x1536 : Shape := ⟨2, ![256, 1536]⟩
abbrev S32x8x3x512 : Shape := ⟨4, ![32, 8, 3, 512]⟩
abbrev S32x8x1x512 : Shape := ⟨4, ![32, 8, 1, 512]⟩
abbrev S32x8x512 : Shape := ⟨3, ![32, 8, 512]⟩
abbrev S32x8x2x4x64 : Shape := ⟨5, ![32, 8, 2, 4, 64]⟩
abbrev S32x520x2x4x64 : Shape := ⟨5, ![32, 520, 2, 4, 64]⟩

abbrev nBuf : Space → Nat
  | .hbm => 23
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S32x512x2x4x64, .f32⟩
  | .hbm, ⟨2, _⟩ => ⟨S1024x1536, .f32⟩
  | .hbm, ⟨3, _⟩ => ⟨S1024x1072, .f32⟩
  | .hbm, ⟨4, _⟩ => ⟨S1024x2608, .f32⟩
  | .hbm, ⟨5, _⟩ => ⟨S_, .i32⟩
  | .hbm, ⟨6, _⟩ => ⟨S_, .f32⟩
  | .hbm, ⟨7, _⟩ => ⟨S1024x2688, .f32⟩
  | .hbm, ⟨8, _⟩ => ⟨S1024x2688, .bf16⟩
  | .hbm, ⟨9, _⟩ => ⟨S256x2688, .f32⟩
  | .hbm, ⟨10, _⟩ => ⟨S256x1536, .f32⟩
  | .hbm, ⟨11, _⟩ => ⟨S32x8x3x512, .f32⟩
  | .hbm, ⟨12, _⟩ => ⟨S32x8x1x512, .f32⟩
  | .hbm, ⟨13, _⟩ => ⟨S32x8x512, .f32⟩
  | .hbm, ⟨14, _⟩ => ⟨S32x8x2x4x64, .f32⟩
  | .hbm, ⟨15, _⟩ => ⟨S32x520x2x4x64, .f32⟩
  | .hbm, ⟨16, _⟩ => ⟨S32x8x1x512, .f32⟩
  | .hbm, ⟨17, _⟩ => ⟨S32x8x512, .f32⟩
  | .hbm, ⟨18, _⟩ => ⟨S32x8x2x4x64, .f32⟩
  | .hbm, ⟨19, _⟩ => ⟨S32x8x1x512, .f32⟩
  | .hbm, ⟨20, _⟩ => ⟨S32x8x512, .f32⟩
  | .hbm, ⟨21, _⟩ => ⟨S32x8x2x4x64, .f32⟩
  | .hbm, ⟨22, _⟩ => ⟨S32x512x2x4x64, .f32⟩
  | .local _ .vmem, ⟨0, _⟩ => ⟨S256x1024, .f32⟩
  | .local _ .vmem, ⟨1, _⟩ => ⟨S1024x2688, .bf16⟩
  | .local _ .vmem, ⟨2, _⟩ => ⟨S256x2688, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2688 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference4Ideal.lean ====
abbrev S256x1024 : Shape := ⟨2, ![256, 1024]⟩
abbrev S32x512x2x4x64 : Shape := ⟨5, ![32, 512, 2, 4, 64]⟩
abbrev S1024x1536 : Shape := ⟨2, ![1024, 1536]⟩
abbrev S1024x1072 : Shape := ⟨2, ![1024, 1072]⟩
abbrev S256x1536 : Shape := ⟨2, ![256, 1536]⟩
abbrev S32x8x3x2x4x64 : Shape := ⟨6, ![32, 8, 3, 2, 4, 64]⟩
abbrev S32x8x1x2x4x64 : Shape := ⟨6, ![32, 8, 1, 2, 4, 64]⟩
abbrev S32x8x2x4x64 : Shape := ⟨5, ![32, 8, 2, 4, 64]⟩
abbrev S32x520x2x4x64 : Shape := ⟨5, ![32, 520, 2, 4, 64]⟩

abbrev nBuf : Space → Nat
  | .hbm => 14
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S32x512x2x4x64, .f32⟩
  | .hbm, ⟨2, _⟩ => ⟨S1024x1536, .f32⟩
  | .hbm, ⟨3, _⟩ => ⟨S1024x1072, .f32⟩
  | .hbm, ⟨4, _⟩ => ⟨S256x1536, .f32⟩
  | .hbm, ⟨5, _⟩ => ⟨S32x8x3x2x4x64, .f32⟩
  | .hbm, ⟨6, _⟩ => ⟨S32x8x1x2x4x64, .f32⟩
  | .hbm, ⟨7, _⟩ => ⟨S32x8x2x4x64, .f32⟩
  | .hbm, ⟨8, _⟩ => ⟨S32x8x1x2x4x64, .f32⟩
  | .hbm, ⟨9, _⟩ => ⟨S32x8x2x4x64, .f32⟩
  | .hbm, ⟨10, _⟩ => ⟨S32x8x1x2x4x64, .f32⟩
  | .hbm, ⟨11, _⟩ => ⟨S32x8x2x4x64, .f32⟩
  | .hbm, ⟨12, _⟩ => ⟨S32x520x2x4x64, .f32⟩
  | .hbm, ⟨13, _⟩ => ⟨S32x512x2x4x64, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 7
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference5Ideal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x1024, .f32⟩
  | .hbm, ⟨28, _⟩ => ⟨S256x1024, .f32⟩
  | .hbm, ⟨29, _⟩ => ⟨S1x1024, .f32⟩
  | .hbm, ⟨30, _⟩ => ⟨S256x1024, .f32⟩
  | .hbm, ⟨31, _⟩ => ⟨S256x1024, .f32⟩
  | .hbm, ⟨32, _⟩ => ⟨S1x1024, .f32⟩
  | .hbm, ⟨33, _⟩ => ⟨S256x1024, .f32⟩
  | .hbm, ⟨34, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel6.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S1024x1024 : Shape := ⟨2, ![1024, 1024]⟩
abbrev S1024x1408 : Shape := ⟨2, ![1024, 1408]⟩
abbrev S1408x1024 : Shape := ⟨2, ![1408, 1024]⟩
abbrev S256x1024 : Shape := ⟨2, ![256, 1024]⟩
abbrev S256x1408 : Shape := ⟨2, ![256, 1408]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c256_i32 : BitVec 32 := 256#32
  let v7 : BitVec 32 := Scalar.muli arg11 c256_i32
  v7
def k0_off1 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c256_i32 : BitVec 32 := 256#32
  let v7 : BitVec 32 := Scalar.muli arg11 c256_i32
  let v8 : BitVec 32 := v7
  let v9 : Index := Scalar.indexCast v8
  let c0 : Index := 0#32
  ![v9.toNat, 0]
def k0_cond2 (i : grid0.Coords) : BitVec 1 :=
  let arg1 : BitVec 32 := BitVec.ofNat 32 (i 1).val
  let c0_i32_16 : BitVec 32 := 0#32
  let v30 : BitVec 1 := Scalar.cmpi .eq arg1 c0_i32_16
  let v31 : BitVec 32 := Scalar.extui v30
  let c0_i32_17 : BitVec 32 := 0#32
  let v32 : BitVec 1 := Scalar.cmpi .ne v31 c0_i32_17
  v32

def k0_off2 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c256_i32 : BitVec 32 := 256#32
  let v7 : BitVec 32 := Scalar.muli arg11 c256_i32
  let v8 : BitVec 32 := v7
  let v36 : Index := Scalar.indexCast v8
  let c0_20 : Index := 0#32
  ![v36.toNat, 0]
def k0_cond3 (i : grid0.Coords) : BitVec 1 :=
  let arg1 : BitVec 32 := BitVec.ofNat 32 (i 1).val
  let c0_i32_18 : BitVec 32 := 0#32
  let v33 : BitVec 1 := Scalar.cmpi .sgt arg1 c0_i32_18
  let v34 : BitVec 32 := Scalar.extui v33
  let c0_i32_19 : BitVec 32 := 0#32
  let v35 : BitVec 1 := Scalar.cmpi .ne v34 c0_i32_19
  v35

def k0_off3 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c256_i32 : BitVec 32 := 256#32
  let v7 : BitVec 32 := Scalar.muli arg11 c256_i32
  let v8 : BitVec 32 := v7
  let v36 : Index := Scalar.indexCast v8
  let c0_20 : Index := 0#32
  ![v36.toNat, 0]
def k0_cond4 (i : grid0.Coords) : BitVec 1 :=
  let arg1 : BitVec 32 := BitVec.ofNat 32 (i 1).val
  let c1_i32_3 : BitVec 32 := 1#32
  let v4 : BitVec 1 := Scalar.cmpi .eq arg1 c1_i32_3
  let v5 : BitVec 32 := Scalar.extui v4
  let c0_i32_4 : BitVec 32 := 0#32
  let v6 : BitVec 1 := Scalar.cmpi .ne v5 c0_i32_4
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S32768x5632 : Shape := ⟨2, ![32768, 5632]⟩
abbrev S32768x2816 : Shape := ⟨2, ![32768, 2816]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S32768x5632, .f32⟩
  | .hbm, ⟨6, _⟩ => ⟨S32768x2816, .f32⟩
  | .hbm, ⟨7, _⟩ => ⟨S32768x2816, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S32768x2816, .f32⟩
  | .hbm, ⟨12, _⟩ => ⟨S32768x2816, .f32⟩
  | .hbm, ⟨13, _⟩ => ⟨S_, .f32⟩
  | .hbm, ⟨14, _⟩ => ⟨S32768x2816, .f32⟩
  | .hbm, ⟨15, _⟩ => ⟨S32768x2816, .f32⟩
  | .hbm, ⟨16, _⟩ => ⟨S_, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S1x1024, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Proof.Words.lean ====
/- The control words of the kernel: what its loop bounds, row offsets and side conditions come to once the
   number of routed rows of a tile is known to be at most the tile's 2048 rows. -/
module

public import proofs.«01_k».proof.Proof.Gen.KernelIdeal

@[expose] public section

noncomputable section

namespace Cert.KernelIdeal.Hand

open Cert.KernelIdeal
open Idealize.ShloMosaic Idealize.ShloMosaic.TcCoe

/-- The number of whole blocks of 256 rows, as a natural number. -/
def nf (n : ℕ) : ℕ := (n + 127) / 256

theorem eq_ofNat (v : BitVec 32) : v = BitVec.ofNat 32 v.toNat := by simp

theorem of_le {P : BitVec 32 → Prop} (h : ∀ n : Fin 2049, P (BitVec.ofNat 32 n.val)) (v : BitVec 32) (hv : v.toNat ≤ 2048) : P v := by
  rw [eq_ofNat v]; exact h ⟨v.toNat, by omega⟩

theorem trips1_ofNat : ∀ n : Fin 2049, (k0_t1_loop (BitVec.ofNat 32 n.val)).trips = nf n.val ∧ (k0_t1_loop (BitVec.ofNat 32 n.val)).OK := by decide +kernel
theorem trips3_ofNat : ∀ n : Fin 2049, (k0_t3_loop (BitVec.ofNat 32 n.val)).trips = 0 ∧ (k0_t3_loop (BitVec.ofNat 32 n.val)).OK := by decide +kernel
theorem trips6_ofNat : ∀ n : Fin 2049, (k0_t6_loop (BitVec.ofNat 32 n.val)).trips = nf n.val ∧ (k0_t6_loop (BitVec.ofNat 32 n.val)).OK := by decide +kernel
theorem trips7_ofNat : ∀ n : Fin 2049, (k0_t7_loop (BitVec.ofNat 32 n.val)).trips = 0 ∧ (k0_t7_loop (BitVec.ofNat 32 n.val)).OK := by decide +kernel
theorem trips8_ofNat : ∀ n : Fin 2049, (k0_t8_loop (BitVec.ofNat 32 n.val)).trips = nf n.val ∧ (k0_t8_loop (BitVec.ofNat 32 n.val)).OK := by decide +kernel
theorem trips10_ofNat : ∀ n : Fin 2049, (k0_t10_loop (BitVec.ofNat 32 n.val)).trips = 0 ∧ (k0_t10_loop (BitVec.ofNat 32 n.val)).OK := by decide +kernel

/-- The first row of the tail block. -/
theorem tail_ofNat : ∀ n : Fin 2049, k0_off14 (BitVec.ofNat 32 n.val) 0 = 256 * nf n.val ∧ (k0_mult5 (BitVec.ofNat 32 n.val)).toNat = 256 * nf n.val := by decide +kernel
/-- There is a tail block exactly when rows are left over. -/
theorem cond5_ofNat : ∀ n : Fin 2049, (k0_cond5 (BitVec.ofNat 32 n.val) = 1#1) ↔ 256 * nf n.val < n.val := by decide +kernel

end Cert.KernelIdeal.Hand

end
-- ==== Proof.Checks.lean ====
/- The side conditions the kernel's body assumes of the counts it reads from its table: every one of them
   follows from the count of routed rows being at most 2048. -/
module

public import proofs.«01_k».proof.Proof.Words

@[expose] public section

noncomputable section

namespace Cert.KernelIdeal.Hand

open Cert.KernelIdeal
open Idealize.ShloMosaic Idealize.ShloMosaic.TcCoe

theorem nf_le {n : ℕ} (h : n ≤ 2048) : nf n ≤ 8 := by unfold nf; omega

theorem trips1 {v : BitVec 32} (hv : v.toNat ≤ 2048) : (k0_t1_loop v).trips = nf v.toNat := by
  have := of_le (P := fun v => (k0_t1_loop v).trips = nf v.toNat) (fun n => by
    rw [(trips1_ofNat n).1]; congr 1; simp; omega) v hv
  exact this
theorem trips6 {v : BitVec 32} (hv : v.toNat ≤ 2048) : (k0_t6_loop v).trips = nf v.toNat := by
  have := of_le (P := fun v => (k0_t6_loop v).trips = nf v.toNat) (fun n => by
    rw [(trips6_ofNat n).1]; congr 1; simp; omega) v hv
  exact this
theorem trips8 {v : BitVec 32} (hv : v.toNat ≤ 2048) : (k0_t8_loop v).trips = nf v.toNat := by
  have := of_le (P := fun v => (k0_t8_loop v).trips = nf v.toNat) (fun n => by
    rw [(trips8_ofNat n).1]; congr 1; simp; omega) v hv
  exact this
theorem trips3 {v : BitVec 32} (hv : v.toNat ≤ 2048) : (k0_t3_loop v).trips = 0 :=
  of_le (P := fun v => (k0_t3_loop v).trips = 0) (fun n => (trips3_ofNat n).1) v hv
theorem trips7 {v : BitVec 32} (hv : v.toNat ≤ 2048) : (k0_t7_loop v).trips = 0 :=
  of_le (P := fun v => (k0_t7_loop v).trips = 0) (fun n => (trips7_ofNat n).1) v hv
theorem trips10 {v : BitVec 32} (hv : v.toNat ≤ 2048) : (k0_t10_loop v).trips = 0 :=
  of_le (P := fun v => (k0_t10_loop v).trips = 0) (fun n => (trips10_ofNat n).1) v hv
theorem ok1 {v : BitVec 32} (hv : v.toNat ≤ 2048) : (k0_t1_loop v).OK := of_le (P := fun v => (k0_t1_loop v).OK) (fun n => (trips1_ofNat n).2) v hv
theorem ok3 {v : BitVec 32} (hv : v.toNat ≤ 2048) : (k0_t3_loop v).OK := of_le (P := fun v => (k0_t3_loop v).OK) (fun n => (trips3_ofNat n).2) v hv
theorem ok6 {v : BitVec 32} (hv : v.toNat ≤ 2048) : (k0_t6_loop v).OK := of_le (P := fun v => (k0_t6_loop v).OK) (fun n => (trips6_ofNat n).2) v hv
theorem ok7 {v : BitVec 32} (hv : v.toNat ≤ 2048) : (k0_t7_loop v).OK := of_le (P := fun v => (k0_t7_loop v).OK) (fun n => (trips7_ofNat n).2) v hv
theorem ok8 {v : BitVec 32} (hv : v.toNat ≤ 2048) : (k0_t8_loop v).OK := of_le (P := fun v => (k0_t8_loop v).OK) (fun n => (trips8_ofNat n).2) v hv
theorem ok10 {v : BitVec 32} (hv : v.toNat ≤ 2048) : (k0_t10_loop v).OK := of_le (P := fun v => (k0_t10_loop v).OK) (fun n => (trips10_ofNat n).2) v hv

/-- The tail's first row, and that it is inside when there is a tail. -/
theorem off14_eq {v : BitVec 32} (hv : v.toNat ≤ 2048) : k0_off14 v = ![256 * nf v.toNat, 0] := by
  have h := of_le (P := fun v => k0_off14 v 0 = 256 * nf v.toNat) (fun n => by
    rw [(tail_ofNat n).1]; congr 2; simp; omega) v hv
  funext a
  match a with
  | 0 => exact h
  | 1 => rfl

theorem mult5_eq {v : BitVec 32} (hv : v.toNat ≤ 2048) : (k0_mult5 v).toNat = 256 * nf v.toNat :=
  of_le (P := fun v => (k0_mult5 v).toNat = 256 * nf v.toNat) (fun n => by
    rw [(tail_ofNat n).2]; congr 2; simp; omega) v hv

theorem cond5_iff {v : BitVec 32} (hv : v.toNat ≤ 2048) : k0_cond5 v = 1#1 ↔ 256 * nf v.toNat < v.toNat :=
  of_le (P := fun v => k0_cond5 v = 1#1 ↔ 256 * nf v.toNat < v.toNat) (fun n => by
    rw [cond5_ofNat n]
    have : (BitVec.ofNat 32 n.val).toNat = n.val := by simp; omega
    rw [this]) v hv

/-- The first row of block `t`, as the kernel computes it. -/
theorem row_toNat : ∀ t : Fin 9, (Scalar.muli (Scf.iv 0#32 1#32 t.val) 256#32 : BitVec 32).toNat = 256 * t.val := by decide +kernel

theorem row_eq {t : ℕ} (ht : t < 9) : (Scalar.muli (Scf.iv 0#32 1#32 t) 256#32 : BitVec 32).toNat = 256 * t := row_toNat ⟨t, ht⟩

theorem off2_eq {v : BitVec 32} (hv : v.toNat ≤ 2048) (t : Fin (k0_t1_loop v).trips) : k0_off2 v t = ![256 * t.val, 0] := by
  have h1 := t.isLt
  have h2 := trips1 hv
  have h3 := nf_le hv
  have h : (k0_off2 v t) 0 = 256 * t.val := row_eq (by omega)
  funext a
  match a with
  | 0 => exact h
  | 1 => rfl
theorem off20_eq {v : BitVec 32} (hv : v.toNat ≤ 2048) (t : Fin (k0_t6_loop v).trips) : k0_off20 v t = ![256 * t.val, 0] := by
  have h1 := t.isLt
  have h2 := trips6 hv
  have h3 := nf_le hv
  have h : (k0_off20 v t) 0 = 256 * t.val := row_eq (by omega)
  funext a
  match a with
  | 0 => exact h
  | 1 => rfl
theorem off32_eq {v : BitVec 32} (hv : v.toNat ≤ 2048) (t : Fin (k0_t8_loop v).trips) : k0_off32 v t = ![256 * t.val, 0] := by
  have h1 := t.isLt
  have h2 := trips8 hv
  have h3 := nf_le hv
  have h : (k0_off32 v t) 0 = 256 * t.val := row_eq (by omega)
  funext a
  match a with
  | 0 => exact h
  | 1 => rfl

/-- The blocks of 256 rows lie inside the scratch. -/
theorem inb256 {n t : ℕ} (hn : n ≤ 2048) (ht : t < nf n) : ∀ a, (![256 * t, 0] : Fin 2 → ℕ) a + S256x1024.size a ≤ S2048x1024.size a := by
  have := nf_le hn
  intro a
  match a with
  | 0 => show 256 * t + 256 ≤ 2048; omega
  | 1 => show 0 + 1024 ≤ 1024; omega
/-- So does the tail. -/
theorem inb128 {n : ℕ} (hn : n ≤ 2048) (ht : 256 * nf n < n) : ∀ a, (![256 * nf n, 0] : Fin 2 → ℕ) a + S128x1024.size a ≤ S2048x1024.size a := by
  intro a
  match a with
  | 0 => show 256 * nf n + 128 ≤ 2048; unfold nf at *; omega
  | 1 => show 0 + 1024 ≤ 1024; omega

theorem off2_inb {v : BitVec 32} (hv : v.toNat ≤ 2048) (t : Fin (k0_t1_loop v).trips) : ∀ a, k0_off2 v t a + S256x1024.size a ≤ S2048x1024.size a := by
  rw [off2_eq hv t]; exact inb256 hv (by have h1 := t.isLt; have h2 := trips1 hv; omega)
theorem off20_inb {v : BitVec 32} (hv : v.toNat ≤ 2048) (t : Fin (k0_t6_loop v).trips) : ∀ a, k0_off20 v t a + S256x1024.size a ≤ S2048x1024.size a := by
  rw [off20_eq hv t]; exact inb256 hv (by have h1 := t.isLt; have h2 := trips6 hv; omega)
theorem off32_inb {v : BitVec 32} (hv : v.toNat ≤ 2048) (t : Fin (k0_t8_loop v).trips) : ∀ a, k0_off32 v t a + S256x1024.size a ≤ S2048x1024.size a := by
  rw [off32_eq hv t]; exact inb256 hv (by have h1 := t.isLt; have h2 := trips8 hv; omega)
theorem off14_inb {v : BitVec 32} (hv : v.toNat ≤ 2048) (h : k0_cond5 v = 1#1) : ∀ a, k0_off14 v a + S128x1024.size a ≤ S2048x1024.size a := by
  rw [off14_eq hv]; exact inb128 hv ((cond5_iff hv).1 h)

theorem packed {R : Fin 2 → ℕ} {size : Fin 2 → ℕ} (inb : ∀ a, R a + size a ≤ S2048x1024.size a) (h1 : 2 ∣ R 0) (h2 : 2 ∣ size 0) :
    (Rect.unit (s := S2048x1024) R size inb).PackedRows (EltTy.packing .bf16) :=
  .inr ⟨le_refl _, rfl, .inl ⟨h1, h2⟩⟩

theorem chk1_of_le (i : grid0.Coords) {v : BitVec 32} (hv : v.toNat ≤ 2048) : k0_chk1 i v := by
  have dv : ∀ t : Fin (k0_t1_loop v).trips, 256 ∣ (k0_mult1 v t).toNat := fun t => by
    have h1 := t.isLt
    have h2 := trips1 hv
    have h3 := nf_le hv
    have h : (k0_mult1 v t).toNat = 256 * t.val := row_eq (by omega)
    rw [h]; exact ⟨_, rfl⟩
  have dt : 256 ∣ (k0_mult5 v).toNat := by rw [mult5_eq hv]; exact ⟨_, rfl⟩
  have z3 : ∀ t : Fin (k0_t3_loop v).trips, False := fun t => by have h1 := t.isLt; have h2 := trips3 hv; omega
  have z7 : ∀ t : Fin (k0_t7_loop v).trips, False := fun t => by have h1 := t.isLt; have h2 := trips7 hv; omega
  have z10 : ∀ t : Fin (k0_t10_loop v).trips, False := fun t => by have h1 := t.isLt; have h2 := trips10 hv; omega
  refine ⟨fun _ => ok1 hv, fun t _ => dv t, fun t _ => off2_inb hv t, fun t _ hinb => packed hinb ?_ ⟨128, rfl⟩, fun _ => ok3 hv, fun t => (z3 t).elim,
    fun t => (z3 t).elim, fun t => (z3 t).elim, fun _ _ => dt, fun _ h => off14_inb hv h, fun _ h hinb => packed hinb ?_ ⟨64, rfl⟩, ok6 hv, fun t => dv t,
    fun t => off20_inb hv t, fun t _ => off20_inb hv t, fun t _ => off20_inb hv t, ok7 hv, fun t => (z7 t).elim, fun t => (z7 t).elim, fun t => (z7 t).elim,
    fun t => (z7 t).elim, fun _ => dt, fun h => off14_inb hv h, fun h _ => off14_inb hv h, fun h _ => off14_inb hv h, fun _ => ok8 hv, fun t _ => dv t,
    fun _ => ok10 hv, fun t => (z10 t).elim, fun _ _ => dt⟩
  · rw [off2_eq hv t]; exact ⟨128 * t.val, by show 256 * t.val = _; omega⟩
  · rw [off14_eq hv]; exact ⟨128 * nf v.toNat, by show 256 * nf v.toNat = _; omega⟩

theorem chk2_of_le (i : grid0.Coords) {v : BitVec 32} (hv : v.toNat ≤ 2048) (t : Fin (k0_t1_loop v).trips) (a b : BitVec 32) : k0_chk2 i v t a b :=
  ⟨fun _ _ => off2_inb hv t, fun _ _ hinb => packed hinb (by
    show 2 ∣ k0_off2 v t 0
    rw [off2_eq hv t]; exact ⟨128 * t.val, by show 256 * t.val = _; omega⟩) ⟨128, rfl⟩⟩

theorem chk4_of_le (i : grid0.Coords) {v : BitVec 32} (hv : v.toNat ≤ 2048) (a b : BitVec 32) : k0_chk4 i v a b :=
  ⟨fun _ h _ => off14_inb hv h, fun _ h _ hinb => packed hinb (by
    show 2 ∣ k0_off14 v 0
    rw [off14_eq hv]; exact ⟨128 * nf v.toNat, by show 256 * nf v.toNat = _; omega⟩) ⟨64, rfl⟩⟩

theorem chk5_of_le (i : grid0.Coords) {v : BitVec 32} (hv : v.toNat ≤ 2048) (t : Fin (k0_t8_loop v).trips) (a b : BitVec 32) : k0_chk5 i v t a b :=
  fun _ _ => off32_inb hv t

theorem chk7_of_le (i : grid0.Coords) {v : BitVec 32} (hv : v.toNat ≤ 2048) (a b : BitVec 32) : k0_chk7 i v a b :=
  fun _ h _ => off14_inb hv h

end Cert.KernelIdeal.Hand

end
-- ==== Proof.Trips.lean ====
/- One trip of each counted loop of the kernel's body, as a function of the arrays its buffers hold: the step
   functions, and that a trip runs and leaves the step's array. -/
module

public import proofs.«01_k».proof.Proof.Checks
public import proofs.«01_k».proof.Proof.Gen.KernelIdeal.Loops
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The word of the table at an offset of one word. -/
def tw (T : S640.Idx → BitVec 32) (off : Fin 1 → ℕ) (inb : ∀ a, off a + S1.size a ≤ S640.size a) : BitVec 32 :=
  T ((Rect.unit (s := S640) off S1.size inb).emb (Shape.Idx.first Nat.one_pos))

/-- One subtile's part of the gather into block `t`: rows of the subtile whose rank falls in the block are added in. -/
def gstep (i : grid0.Coords) (v5 : BitVec 32) (hv : v5.toNat ≤ 2048) (h2 : k0_cond2 i = 1#1) (t : Fin (k0_t1_loop v5).trips)
    (T : S640.Idx → BitVec 32) (X : S2048x1024.Idx → Elt F .bf16) (G : S8x2048.Idx → Elt F .f32) (R : S8x2048.Idx → BitVec 32)
    (k : Fin k0_t2_loop.trips) (xs : S2048x1024.Idx → Elt F .bf16) : S2048x1024.Idx → Elt F .bf16 :=
  if k0_cond3 v5 t (tw T (k0_off3 i k) (k0_off3_inb i k h2)) (tw T (k0_off4 i k) (k0_off4_inb i k h2)) = 1#1 then
    VecWindow.put xs (k0_off7 v5 t) S256x1024.size
      (k0_pay15 v5 t (VecWindow.window R (k0_off5 i k) S1x512.size (k0_off5_inb i k h2)) (VecWindow.window G (k0_off5 i k) S1x512.size (k0_off5_inb i k h2))
        (VecWindow.window X (k0_off6 k) S512x1024.size (k0_off6_inb i k h2)) (VecWindow.window xs (k0_off7 v5 t) S256x1024.size (off2_inb hv t)))
  else xs

/-- The same into the tail block. -/
def gstepT (i : grid0.Coords) (v5 : BitVec 32) (hv : v5.toNat ≤ 2048) (h2 : k0_cond2 i = 1#1) (h5 : k0_cond5 v5 = 1#1)
    (T : S640.Idx → BitVec 32) (X : S2048x1024.Idx → Elt F .bf16) (G : S8x2048.Idx → Elt F .f32) (R : S8x2048.Idx → BitVec 32)
    (k : Fin k0_t5_loop.trips) (xs : S2048x1024.Idx → Elt F .bf16) : S2048x1024.Idx → Elt F .bf16 :=
  if k0_cond6 v5 (tw T (k0_off15 i k) (k0_off15_inb i k h2)) (tw T (k0_off16 i k) (k0_off16_inb i k h2)) = 1#1 then
    VecWindow.put xs (k0_off19 v5) S128x1024.size
      (k0_pay19 v5 (VecWindow.window R (k0_off17 i k) S1x512.size (k0_off17_inb i k h2)) (VecWindow.window G (k0_off17 i k) S1x512.size (k0_off17_inb i k h2))
        (VecWindow.window X (k0_off18 k) S512x1024.size (k0_off18_inb i k h2)) (VecWindow.window xs (k0_off19 v5) S128x1024.size (off14_inb hv h5)))
  else xs

/-- A whole array read through its own window. -/
abbrev whole3 {a b d : ℕ} {α : Type} (w : (⟨3, ![a, b, d]⟩ : Shape).Idx → α) (inb : ∀ x, (![0, 0, 0] : Fin 3 → ℕ) x + (⟨3, ![a, b, d]⟩ : Shape).size x ≤ (⟨3, ![a, b, d]⟩ : Shape).size x) :=
  VecWindow.window (s := ⟨3, ![a, b, d]⟩) w ![0, 0, 0] (⟨3, ![a, b, d]⟩ : Shape).size inb

/-- One block's part of the expert's feed-forward: written at the first half of its columns, added at the second. -/
def fstep (i : grid0.Coords) (v5 : BitVec 32) (hv : v5.toNat ≤ 2048)
    (wa wu : S1x1024x1792.Idx → Elt F .bf16) (wo : S1x1792x1024.Idx → Elt F .bf16) (xs : S2048x1024.Idx → Elt F .bf16)
    (t : Fin (k0_t6_loop v5).trips) (acc : S2048x1024.Idx → Elt F .f32) : S2048x1024.Idx → Elt F .f32 :=
  let x := VecWindow.window xs (k0_off20 v5 t) S256x1024.size (off20_inb hv t)
  let a := whole3 wa inb_S1x1024x1792_S1x1024x1792_0_0_0
  let u := whole3 wu inb_S1x1024x1792_S1x1024x1792_0_0_0
  let o := whole3 wo inb_S1x1792x1024_S1x1792x1024_0_0_0
  let acc1 := if k0_cond7 i = 1#1 then VecWindow.put acc (k0_off21 v5 t) S256x1024.size (k0_pay2 x a u o) else acc
  if k0_cond8 i = 1#1 then VecWindow.put acc1 (k0_off22 v5 t) S256x1024.size (k0_pay3 x a u o (VecWindow.window acc1 (k0_off22 v5 t) S256x1024.size (off20_inb hv t))) else acc1

/-- The same of the tail block. -/
def fstepT (i : grid0.Coords) (v5 : BitVec 32) (hv : v5.toNat ≤ 2048)
    (wa wu : S1x1024x1792.Idx → Elt F .bf16) (wo : S1x1792x1024.Idx → Elt F .bf16) (xs : S2048x1024.Idx → Elt F .bf16)
    (h11 : k0_cond11 v5 = 1#1) (acc : S2048x1024.Idx → Elt F .f32) : S2048x1024.Idx → Elt F .f32 :=
  let x := VecWindow.window xs (k0_off26 v5) S128x1024.size (off14_inb hv h11)
  let a := whole3 wa inb_S1x1024x1792_S1x1024x1792_0_0_0
  let u := whole3 wu inb_S1x1024x1792_S1x1024x1792_0_0_0
  let o := whole3 wo inb_S1x1792x1024_S1x1792x1024_0_0_0
  let acc1 := if k0_cond12 i = 1#1 then VecWindow.put acc (k0_off27 v5) S128x1024.size (k0_pay8 x a u o) else acc
  if k0_cond13 i = 1#1 then VecWindow.put acc1 (k0_off28 v5) S128x1024.size (k0_pay9 x a u o (VecWindow.window acc1 (k0_off28 v5) S128x1024.size (off14_inb hv h11))) else acc1

/-- One subtile's part of the scatter out of block `t`: the gated rows are added at the subtile's own rows. -/
def sstep (i : grid0.Coords) (v5 : BitVec 32) (hv : v5.toNat ≤ 2048) (h14 : k0_cond14 i = 1#1) (t : Fin (k0_t8_loop v5).trips)
    (T : S640.Idx → BitVec 32) (G : S8x2048.Idx → Elt F .f32) (R : S8x2048.Idx → BitVec 32) (acc : S2048x1024.Idx → Elt F .f32)
    (k : Fin k0_t9_loop.trips) (y : S2048x1024.Idx → Elt F .f32) : S2048x1024.Idx → Elt F .f32 :=
  if k0_cond15 v5 t (tw T (k0_off29 i k) (k0_off29_inb i k h14)) (tw T (k0_off30 i k) (k0_off30_inb i k h14)) = 1#1 then
    VecWindow.put y (k0_off33 k) S512x1024.size
      (k0_pay10 v5 t (VecWindow.window R (k0_off31 i k) S1x512.size (k0_off31_inb i k h14)) (VecWindow.window G (k0_off31 i k) S1x512.size (k0_off31_inb i k h14))
        (VecWindow.window acc (k0_off32 v5 t) S256x1024.size (off32_inb hv t)) (VecWindow.window y (k0_off33 k) S512x1024.size (k0_off33_inb i k h14)))
  else y

/-- The same out of the tail block, whose first row the word `v23` names. -/
def sstepT (i : grid0.Coords) (v5 : BitVec 32) (hv : v5.toNat ≤ 2048) (v23 : BitVec 32) (h14 : k0_cond14 i = 1#1) (h17 : k0_cond17 v5 = 1#1)
    (T : S640.Idx → BitVec 32) (G : S8x2048.Idx → Elt F .f32) (R : S8x2048.Idx → BitVec 32) (acc : S2048x1024.Idx → Elt F .f32)
    (k : Fin k0_t12_loop.trips) (y : S2048x1024.Idx → Elt F .f32) : S2048x1024.Idx → Elt F .f32 :=
  if k0_cond18 v5 (tw T (k0_off39 i k) (k0_off39_inb i k h14)) (tw T (k0_off40 i k) (k0_off40_inb i k h14)) = 1#1 then
    VecWindow.put y (k0_off43 k) S512x1024.size
      (k0_pay12 v23 (VecWindow.window R (k0_off41 i k) S1x512.size (k0_off41_inb i k h14)) (VecWindow.window G (k0_off41 i k) S1x512.size (k0_off41_inb i k h14))
        (VecWindow.window acc (k0_off42 v5) S128x1024.size (off14_inb hv h17)) (VecWindow.window y (k0_off43 k) S512x1024.size (k0_off43_inb i k h14)))
  else y

variable [∀ e, Nonempty (Elt F e)]

local notation "𝕄" => MT nD τ sig Unit (Elt F) ℕ (UR sig nD τ) ℕ

variable (c : Dev nD) (i : grid0.Coords)
  (arg3 : Memref sig .tc .smem S640 .i32) (harg3 : arg3.IsWhole)
  (arg4 : Memref sig .tc .vmem S2048x1024 .bf16) (harg4 : arg4.IsWhole)
  (arg5 : Memref sig .tc .vmem S8x2048 .f32) (harg5 : arg5.IsWhole)
  (arg6 : Memref sig .tc .vmem S8x2048 .i32) (harg6 : arg6.IsWhole)
  (arg7 : Memref sig .tc .vmem S1x1024x1792 .bf16) (harg7 : arg7.IsWhole)
  (arg8 : Memref sig .tc .vmem S1x1024x1792 .bf16) (harg8 : arg8.IsWhole)
  (arg9 : Memref sig .tc .vmem S1x1792x1024 .bf16) (harg9 : arg9.IsWhole)
  (arg10 : Memref sig .tc .vmem S2048x1024 .f32) (harg10 : arg10.IsWhole)
  (arg11 : Memref sig .tc .vmem S2048x1024 .bf16) (harg11 : arg11.IsWhole)
  (arg12 : Memref sig .tc .vmem S2048x1024 .f32) (harg12 : arg12.IsWhole)

/-- A trip of the gather into a block of 256 rows. -/
theorem t2_trip (v5 : BitVec 32) (hv : v5.toNat ≤ 2048) (h2 : k0_cond2 i = 1#1) (t : Fin (k0_t1_loop v5).trips) (k : Fin k0_t2_loop.trips) (a : BitVec 32)
    (q : PosShare TreeShare) (T : S640.Idx → BitVec 32) (X : S2048x1024.Idx → Elt F .bf16) (G : S8x2048.Idx → Elt F .f32) (R : S8x2048.Idx → BitVec 32) (xs : S2048x1024.Idx → Elt F .bf16) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg11 fullShare xs) : sProp 𝕄)
      ⊢ wp frame (wpE defs₀ Variants.none (c : Thread nD τ) none) Set.univ (k0_t2_body (F := F) i arg3 harg3 arg4 harg4 arg5 harg5 arg6 harg6 arg7 harg7 arg8 harg8 arg9 harg9 arg10 harg10 arg11 harg11 arg12 harg12 v5 h2 t k a)
        (fun _ => iprop(owns (c : Thread nD τ) arg3 q T ∗ owns (c : Thread nD τ) arg4 fullShare X ∗ owns (c : Thread nD τ) arg5 fullShare G ∗ owns (c : Thread nD τ) arg6 fullShare R ∗ owns (c : Thread nD τ) arg11 fullShare (gstep i v5 hv h2 t T X G R k xs))) := by
  unfold k0_t2_body
  unfold owns
  iintro ⟨⟨%f3, %h3, H3⟩, ⟨%f4, %h4, H4⟩, ⟨%f5, %h5, H5⟩, ⟨%f6, %h6, H6⟩, ⟨%f11, %h11, H11⟩⟩
  subst h3 h4 h5 h6 h11
  sl_exec
  iapply (wp_assume Variants.none (c : Thread nD τ) none Set.univ (chk2_of_le i hv t _ _))
  split
  · rename_i hc
    sl_exec
    sl_step
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists f6; isplitr
      · ipureintro; rfl
      iexact H6
    iexists _; isplitr
    swap
    · iexact H11
    ipureintro
    exact (View.read_writes_cons_put _ _ _ _ [] rfl).trans (if_pos hc).symm
  · rename_i hc
    sl_exec
    sl_step
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists f6; isplitr
      · ipureintro; rfl
      iexact H6
    iexists _; isplitr
    swap
    · iexact H11
    ipureintro
    exact (if_neg hc).symm

/-- A trip of the gather into the tail block. -/
theorem t5_trip (v5 : BitVec 32) (hv : v5.toNat ≤ 2048) (h2 : k0_cond2 i = 1#1) (h5 : k0_cond5 v5 = 1#1) (k : Fin k0_t5_loop.trips) (a : Unit)
    (q : PosShare TreeShare) (T : S640.Idx → BitVec 32) (X : S2048x1024.Idx → Elt F .bf16) (G : S8x2048.Idx → Elt F .f32) (R : S8x2048.Idx → BitVec 32) (xs : S2048x1024.Idx → Elt F .bf16) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg11 fullShare xs) : sProp 𝕄)
      ⊢ wp frame (wpE defs₀ Variants.none (c : Thread nD τ) none) Set.univ (k0_t5_body (F := F) i arg3 harg3 arg4 harg4 arg5 harg5 arg6 harg6 arg7 harg7 arg8 harg8 arg9 harg9 arg10 harg10 arg11 harg11 arg12 harg12 v5 h2 h5 k a)
        (fun _ => iprop(owns (c : Thread nD τ) arg3 q T ∗ owns (c : Thread nD τ) arg4 fullShare X ∗ owns (c : Thread nD τ) arg5 fullShare G ∗ owns (c : Thread nD τ) arg6 fullShare R ∗ owns (c : Thread nD τ) arg11 fullShare (gstepT i v5 hv h2 h5 T X G R k xs))) := by
  unfold k0_t5_body
  unfold owns
  iintro ⟨⟨%f3, %h3, H3⟩, ⟨%f4, %h4, H4⟩, ⟨%f5, %h5, H5⟩, ⟨%f6, %h6, H6⟩, ⟨%f11, %h11, H11⟩⟩
  subst h3 h4 h5 h6 h11
  sl_exec
  iapply (wp_assume Variants.none (c : Thread nD τ) none Set.univ (chk4_of_le i hv _ _))
  split
  · rename_i hc
    sl_exec
    sl_step
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists f6; isplitr
      · ipureintro; rfl
      iexact H6
    iexists _; isplitr
    swap
    · iexact H11
    ipureintro
    exact (View.read_writes_cons_put _ _ _ _ [] rfl).trans (if_pos hc).symm
  · rename_i hc
    sl_exec
    sl_step
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists f6; isplitr
      · ipureintro; rfl
      iexact H6
    iexists _; isplitr
    swap
    · iexact H11
    ipureintro
    exact (if_neg hc).symm

/-- A trip of the scatter out of a block of 256 rows. -/
theorem t9_trip (v5 : BitVec 32) (hv : v5.toNat ≤ 2048) (h14 : k0_cond14 i = 1#1) (t : Fin (k0_t8_loop v5).trips) (k : Fin k0_t9_loop.trips) (a : BitVec 32)
    (q : PosShare TreeShare) (T : S640.Idx → BitVec 32) (G : S8x2048.Idx → Elt F .f32) (R : S8x2048.Idx → BitVec 32) (acc : S2048x1024.Idx → Elt F .f32) (y : S2048x1024.Idx → Elt F .f32) :
    (iprop(owns (c : Thread nD τ) arg3 q T ∗ owns (c : Thread nD τ) arg5 fullShare G ∗ owns (c : Thread nD τ) arg6 fullShare R ∗ owns (c : Thread nD τ) arg12 fullShare acc ∗ owns (c : Thread nD τ) arg10 fullShare y) : sProp 𝕄)
      ⊢ wp frame (wpE defs₀ Variants.none (c : Thread nD τ) none) Set.univ (k0_t9_body (F := F) i arg3 harg3 arg4 harg4 arg5 harg5 arg6 harg6 arg7 harg7 arg8 harg8 arg9 harg9 arg10 harg10 arg11 harg11 arg12 harg12 v5 h14 t k a)
        (fun _ => iprop(owns (c : Thread nD τ) arg3 q T ∗ owns (c : Thread nD τ) arg5 fullShare G ∗ owns (c : Thread nD τ) arg6 fullShare R ∗ owns (c : Thread nD τ) arg12 fullShare acc ∗ owns (c : Thread nD τ) arg10 fullShare (sstep i v5 hv h14 t T G R acc k y))) := by
  unfold k0_t9_body
  unfold owns
  iintro ⟨⟨%f3, %h3, H3⟩, ⟨%f5, %h5, H5⟩, ⟨%f6, %h6, H6⟩, ⟨%f12, %h12, H12⟩, ⟨%f10, %h10, H10⟩⟩
  subst h3 h5 h6 h12 h10
  sl_exec
  iapply (wp_assume Variants.none (c : Thread nD τ) none Set.univ (chk5_of_le i hv t _ _))
  split
  · rename_i hc
    sl_exec
    sl_step
    isplitl [H3]
    · iexists f3; isplitr
      · ipureintro; rfl
      iexact H3
    isplitl [H5]
    · iexists f5; isplitr
      · ipureintro; rfl
      iexact H5
    isplitl [H6]
    · iexists f6; isplitr
      · ipureintro; rfl
      iexact H6
    isplitl [H12]
    · iexists f12; isplitr
      · ipureintro; rfl
      iexact H12
    iexists _; isplitr
    swap
    · iexact H10
    ipureintro
    exact (View.read_writes_cons_put _ _ _ _ [] rfl).trans (if_pos hc).symm
  · rename_i hc
    sl_exec
    sl_step
    isplitl [H3]
    · iexists f3; isplitr
      · ipureintro; rfl
      iexact H3
    isplitl [H5]
    · iexists f5; isplitr
      · ipureintro; rfl
      iexact H5
    isplitl [H6]
    · iexists f6; isplitr
      · ipureintro; rfl
      iexact H6
    isplitl [H12]
    · iexists f12; isplitr
      · ipureintro; rfl
      iexact H12
    iexists _; isplitr
    swap
    · iexact H10
    ipureintro
    exact (if_neg hc).symm

/-- A trip of the scatter out of the tail block. -/
theorem t12_trip (v5 : BitVec 32) (hv : v5.toNat ≤ 2048) (v23 : BitVec 32) (h14 : k0_cond14 i = 1#1) (h17 : k0_cond17 v5 = 1#1) (k : Fin k0_t12_loop.trips) (a : Unit)
    (q : PosShare TreeShare) (T : S640.Idx → BitVec 32) (G : S8x2048.Idx → Elt F .f32) (R : S8x2048.Idx → BitVec 32) (acc : S2048x1024.Idx → Elt F .f32) (y : S2048x1024.Idx → Elt F .f32) :
    (iprop(owns (c : Thread nD τ) arg3 q T ∗ owns (c : Thread nD τ) arg5 fullShare G ∗ owns (c : Thread nD τ) arg6 fullShare R ∗ owns (c : Thread nD τ) arg12 fullShare acc ∗ owns (c : Thread nD τ) arg10 fullShare y) : sProp 𝕄)
      ⊢ wp frame (wpE defs₀ Variants.none (c : Thread nD τ) none) Set.univ (k0_t12_body (F := F) i arg3 harg3 arg4 harg4 arg5 harg5 arg6 harg6 arg7 harg7 arg8 harg8 arg9 harg9 arg10 harg10 arg11 harg11 arg12 harg12 v5 v23 h14 h17 k a)
        (fun _ => iprop(owns (c : Thread nD τ) arg3 q T ∗ owns (c : Thread nD τ) arg5 fullShare G ∗ owns (c : Thread nD τ) arg6 fullShare R ∗ owns (c : Thread nD τ) arg12 fullShare acc ∗ owns (c : Thread nD τ) arg10 fullShare (sstepT i v5 hv v23 h14 h17 T G R acc k y))) := by
  unfold k0_t12_body
  unfold owns
  iintro ⟨⟨%f3, %h3, H3⟩, ⟨%f5, %h5, H5⟩, ⟨%f6, %h6, H6⟩, ⟨%f12, %h12, H12⟩, ⟨%f10, %h10, H10⟩⟩
  subst h3 h5 h6 h12 h10
  sl_exec
  iapply (wp_assume Variants.none (c : Thread nD τ) none Set.univ (chk7_of_le i hv _ _))
  split
  · rename_i hc
    sl_exec
    sl_step
    isplitl [H3]
    · iexists f3; isplitr
      · ipureintro; rfl
      iexact H3
    isplitl [H5]
    · iexists f5; isplitr
      · ipureintro; rfl
      iexact H5
    isplitl [H6]
    · iexists f6; isplitr
      · ipureintro; rfl
      iexact H6
    isplitl [H12]
    · iexists f12; isplitr
      · ipureintro; rfl
      iexact H12
    iexists _; isplitr
    swap
    · iexact H10
    ipureintro
    exact (View.read_writes_cons_put _ _ _ _ [] rfl).trans (if_pos hc).symm
  · rename_i hc
    sl_exec
    sl_step
    isplitl [H3]
    · iexists f3; isplitr
      · ipureintro; rfl
      iexact H3
    isplitl [H5]
    · iexists f5; isplitr
      · ipureintro; rfl
      iexact H5
    isplitl [H6]
    · iexists f6; isplitr
      · ipureintro; rfl
      iexact H6
    isplitl [H12]
    · iexists f12; isplitr
      · ipureintro; rfl
      iexact H12
    iexists _; isplitr
    swap
    · iexact H10
    ipureintro
    exact (if_neg hc).symm

omit [FloatOps F] [∀ e, Nonempty (Elt F e)] in
/-- The two halves of the columns are told apart. -/
theorem not_both (i : grid0.Coords) (h7 : k0_cond7 i = 1#1) (h8 : k0_cond8 i = 1#1) : False := by
  have h : ∀ i : grid0.Coords, k0_cond7 i = 1#1 → k0_cond8 i = 1#1 → False := by decide +kernel
  exact h i h7 h8

/-- A trip of the feed-forward of a block of 256 rows. -/
theorem t6_trip (v5 : BitVec 32) (hv : v5.toNat ≤ 2048) (hw : k0_chk1 i v5) (k : Fin (k0_t6_loop v5).trips) (a : BitVec 32)
    (wa : S1x1024x1792.Idx → Elt F .bf16) (wu : S1x1024x1792.Idx → Elt F .bf16) (wo : S1x1792x1024.Idx → Elt F .bf16) (xs : S2048x1024.Idx → Elt F .bf16) (acc : S2048x1024.Idx → Elt F .f32) :
    (iprop(owns (c : Thread nD τ) arg7 fullShare wa ∗ owns (c : Thread nD τ) arg8 fullShare wu ∗ owns (c : Thread nD τ) arg9 fullShare wo ∗ owns (c : Thread nD τ) arg11 fullShare xs ∗ owns (c : Thread nD τ) arg12 fullShare acc) : sProp 𝕄)
      ⊢ wp frame (wpE defs₀ Variants.none (c : Thread nD τ) none) Set.univ (k0_t6_body (F := F) i arg3 harg3 arg4 harg4 arg5 harg5 arg6 harg6 arg7 harg7 arg8 harg8 arg9 harg9 arg10 harg10 arg11 harg11 arg12 harg12 v5 hw k a)
        (fun _ => iprop(owns (c : Thread nD τ) arg7 fullShare wa ∗ owns (c : Thread nD τ) arg8 fullShare wu ∗ owns (c : Thread nD τ) arg9 fullShare wo ∗ owns (c : Thread nD τ) arg11 fullShare xs ∗ owns (c : Thread nD τ) arg12 fullShare (fstep i v5 hv wa wu wo xs k acc))) := by
  unfold k0_t6_body
  unfold owns
  iintro ⟨⟨%f7, %h7, H7⟩, ⟨%f8, %h8, H8⟩, ⟨%f9, %h9, H9⟩, ⟨%f11, %h11, H11⟩, ⟨%f12, %h12, H12⟩⟩
  subst h7 h8 h9 h11 h12
  by_cases h7 : k0_cond7 i = 1#1
  · by_cases h8 : k0_cond8 i = 1#1
    · exfalso
      exact not_both i h7 h8
    · sl_exec
      sl_step
      isplitl [H7]
      · iexists f7; isplitr
        · ipureintro; rfl
        iexact H7
      isplitl [H8]
      · iexists f8; isplitr
        · ipureintro; rfl
        iexact H8
      isplitl [H9]
      · iexists f9; isplitr
        · ipureintro; rfl
        iexact H9
      isplitl [H11]
      · iexists f11; isplitr
        · ipureintro; rfl
        iexact H11
      iexists _; isplitr
      swap
      · iexact H12
      ipureintro
      unfold fstep; rw [if_neg h8]; exact (View.read_writes_cons_put _ _ _ _ [] rfl).trans (if_pos h7).symm
  · by_cases h8 : k0_cond8 i = 1#1
    · sl_exec
      sl_step
      isplitl [H7]
      · iexists f7; isplitr
        · ipureintro; rfl
        iexact H7
      isplitl [H8]
      · iexists f8; isplitr
        · ipureintro; rfl
        iexact H8
      isplitl [H9]
      · iexists f9; isplitr
        · ipureintro; rfl
        iexact H9
      isplitl [H11]
      · iexists f11; isplitr
        · ipureintro; rfl
        iexact H11
      iexists _; isplitr
      swap
      · iexact H12
      ipureintro
      unfold fstep; simp only [if_neg h7, if_pos h8]; exact View.read_writes_cons_put _ _ _ _ [] rfl
    · sl_exec
      sl_step
      isplitl [H7]
      · iexists f7; isplitr
        · ipureintro; rfl
        iexact H7
      isplitl [H8]
      · iexists f8; isplitr
        · ipureintro; rfl
        iexact H8
      isplitl [H9]
      · iexists f9; isplitr
        · ipureintro; rfl
        iexact H9
      isplitl [H11]
      · iexists f11; isplitr
        · ipureintro; rfl
        iexact H11
      iexists _; isplitr
      swap
      · iexact H12
      ipureintro
      unfold fstep; simp only [if_neg h7, if_neg h8]

end Cert.KernelIdeal.Hand

end
-- ==== Proof.Body.lean ====
/- The kernel's body at one grid point, as a function of the arrays its buffers hold. -/
module

public import proofs.«01_k».proof.Proof.Trips

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The first `k` of `n` steps, one after the other. -/
def itf {α : Type} (n : ℕ) (f : Fin n → α → α) (a : α) : ℕ → α
  | 0 => a
  | k + 1 => if h : k < n then f ⟨k, h⟩ (itf n f a k) else itf n f a k

theorem itf_zero {α : Type} (n : ℕ) (f : Fin n → α → α) (a : α) : itf n f a 0 = a := rfl
theorem itf_succ {α : Type} (n : ℕ) (f : Fin n → α → α) (a : α) (k : Fin n) : itf n f a (k.val + 1) = f k (itf n f a k.val) := by
  show (if h : k.val < n then f ⟨k.val, h⟩ (itf n f a k.val) else itf n f a k.val) = _
  rw [dif_pos k.isLt]

variable {F : FTy → Type} [FloatOps F]

/-- A block of 256 rows gathered: cleared, then the four subtiles added in. -/
def gblock (i : grid0.Coords) (v5 : BitVec 32) (hv : v5.toNat ≤ 2048) (h2 : k0_cond2 i = 1#1)
    (T : S640.Idx → BitVec 32) (X : S2048x1024.Idx → Elt F .bf16) (G : S8x2048.Idx → Elt F .f32) (R : S8x2048.Idx → BitVec 32)
    (t : Fin (k0_t1_loop v5).trips) (xs : S2048x1024.Idx → Elt F .bf16) : S2048x1024.Idx → Elt F .bf16 :=
  itf k0_t2_loop.trips (gstep i v5 hv h2 t T X G R) (VecWindow.put xs (k0_off2 v5 t) S256x1024.size (k0_pay14 (F := F))) k0_t2_loop.trips

/-- What the gather leaves in the scratch. -/
def gather (i : grid0.Coords) (v5 : BitVec 32) (hv : v5.toNat ≤ 2048)
    (T : S640.Idx → BitVec 32) (X : S2048x1024.Idx → Elt F .bf16) (G : S8x2048.Idx → Elt F .f32) (R : S8x2048.Idx → BitVec 32)
    (xs : S2048x1024.Idx → Elt F .bf16) : S2048x1024.Idx → Elt F .bf16 :=
  if h2 : k0_cond2 i = 1#1 then
    let xs1 := itf (k0_t1_loop v5).trips (gblock i v5 hv h2 T X G R) xs (k0_t1_loop v5).trips
    if h5 : k0_cond5 v5 = 1#1 then
      itf k0_t5_loop.trips (gstepT i v5 hv h2 h5 T X G R) (VecWindow.put xs1 (k0_off14 v5) S128x1024.size (k0_pay18 (F := F))) k0_t5_loop.trips
    else xs1
  else xs

/-- What the feed-forward leaves in the accumulator. -/
def ffn (i : grid0.Coords) (v5 : BitVec 32) (hv : v5.toNat ≤ 2048)
    (wa wu : S1x1024x1792.Idx → Elt F .bf16) (wo : S1x1792x1024.Idx → Elt F .bf16) (xs : S2048x1024.Idx → Elt F .bf16)
    (acc : S2048x1024.Idx → Elt F .f32) : S2048x1024.Idx → Elt F .f32 :=
  let acc1 := itf (k0_t6_loop v5).trips (fstep i v5 hv wa wu wo xs) acc (k0_t6_loop v5).trips
  if h11 : k0_cond11 v5 = 1#1 then fstepT i v5 hv wa wu wo xs h11 acc1 else acc1

/-- A block of 256 rows scattered. -/
def sblock (i : grid0.Coords) (v5 : BitVec 32) (hv : v5.toNat ≤ 2048) (h14 : k0_cond14 i = 1#1)
    (T : S640.Idx → BitVec 32) (G : S8x2048.Idx → Elt F .f32) (R : S8x2048.Idx → BitVec 32) (acc : S2048x1024.Idx → Elt F .f32)
    (t : Fin (k0_t8_loop v5).trips) (y : S2048x1024.Idx → Elt F .f32) : S2048x1024.Idx → Elt F .f32 :=
  itf k0_t9_loop.trips (sstep i v5 hv h14 t T G R acc) y k0_t9_loop.trips

/-- What the scatter leaves in the output block, `v23` the word for the number of whole blocks. -/
def scatter (i : grid0.Coords) (v5 : BitVec 32) (hv : v5.toNat ≤ 2048) (v23 : BitVec 32)
    (T : S640.Idx → BitVec 32) (G : S8x2048.Idx → Elt F .f32) (R : S8x2048.Idx → BitVec 32) (acc : S2048x1024.Idx → Elt F .f32)
    (y : S2048x1024.Idx → Elt F .f32) : S2048x1024.Idx → Elt F .f32 :=
  if h14 : k0_cond14 i = 1#1 then
    let y1 := itf (k0_t8_loop v5).trips (sblock i v5 hv h14 T G R acc) y (k0_t8_loop v5).trips
    if h17 : k0_cond17 v5 = 1#1 then itf k0_t12_loop.trips (sstepT i v5 hv v23 h14 h17 T G R acc) y1 k0_t12_loop.trips else y1
  else y

/-- The output block cleared at a tile's first point. -/
def yzero (i : grid0.Coords) (y : S2048x1024.Idx → Elt F .f32) : S2048x1024.Idx → Elt F .f32 :=
  if k0_cond1 i = 1#1 then VecWindow.put y ![0, 0] S2048x1024.size (k0_pay13 (F := F)) else y

variable [∀ e, Nonempty (Elt F e)]

local notation "𝕄" => MT nD τ sig Unit (Elt F) ℕ (UR sig nD τ) ℕ

variable (c : Dev nD) (i : grid0.Coords)
  (arg3 : Memref sig .tc .smem S640 .i32) (harg3 : arg3.IsWhole)
  (arg4 : Memref sig .tc .vmem S2048x1024 .bf16) (harg4 : arg4.IsWhole)
  (arg5 : Memref sig .tc .vmem S8x2048 .f32) (harg5 : arg5.IsWhole)
  (arg6 : Memref sig .tc .vmem S8x2048 .i32) (harg6 : arg6.IsWhole)
  (arg7 : Memref sig .tc .vmem S1x1024x1792 .bf16) (harg7 : arg7.IsWhole)
  (arg8 : Memref sig .tc .vmem S1x1024x1792 .bf16) (harg8 : arg8.IsWhole)
  (arg9 : Memref sig .tc .vmem S1x1792x1024 .bf16) (harg9 : arg9.IsWhole)
  (arg10 : Memref sig .tc .vmem S2048x1024 .f32) (harg10 : arg10.IsWhole)
  (arg11 : Memref sig .tc .vmem S2048x1024 .bf16) (harg11 : arg11.IsWhole)
  (arg12 : Memref sig .tc .vmem S2048x1024 .f32) (harg12 : arg12.IsWhole)

/-- The gather's loop over the subtiles of one block. -/
theorem t2_loop (v5 : BitVec 32) (hv : v5.toNat ≤ 2048) (h2 : k0_cond2 i = 1#1) (t : Fin (k0_t1_loop v5).trips) (hok : k0_t2_loop.OK)
    (q : PosShare TreeShare) (T : S640.Idx → BitVec 32) (X : S2048x1024.Idx → Elt F .bf16) (G : S8x2048.Idx → Elt F .f32) (R : S8x2048.Idx → BitVec 32) (xs : S2048x1024.Idx → Elt F .bf16) {β : Type} (init : BitVec 32) (kk : BitVec 32 → Prog (TpuEff nD τ sig (Elt F) Λ₀ .tc) β) (Q : β → sProp 𝕄) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg11 fullShare xs) : sProp 𝕄)
      ⊢ iprop((∀ a, (owns (c : Thread nD τ) arg3 q T ∗ owns (c : Thread nD τ) arg4 fullShare X ∗ owns (c : Thread nD τ) arg5 fullShare G ∗ owns (c : Thread nD τ) arg6 fullShare R ∗ owns (c : Thread nD τ) arg11 fullShare (itf k0_t2_loop.trips (gstep i v5 hv h2 t T X G R) xs k0_t2_loop.trips)) -∗ wp frame (wpE defs₀ Variants.none (c : Thread nD τ) none) Set.univ (kk a) Q) -∗
        wp frame (wpE defs₀ Variants.none (c : Thread nD τ) none) Set.univ (Scf.Loop.for k0_t2_loop hok init (k0_t2_body (F := F) i arg3 harg3 arg4 harg4 arg5 harg5 arg6 harg6 arg7 harg7 arg8 harg8 arg9 harg9 arg10 harg10 arg11 harg11 arg12 harg12 v5 h2 t) >>= kk) Q) :=
  Scf.wp_for_bind frame (wpE defs₀ Variants.none (c : Thread nD τ) none) Set.univ k0_t2_loop.lb k0_t2_loop.ub k0_t2_loop.st hok init (k0_t2_body (F := F) i arg3 harg3 arg4 harg4 arg5 harg5 arg6 harg6 arg7 harg7 arg8 harg8 arg9 harg9 arg10 harg10 arg11 harg11 arg12 harg12 v5 h2 t)
    (fun k _ => iprop(owns (c : Thread nD τ) arg3 q T ∗ owns (c : Thread nD τ) arg4 fullShare X ∗ owns (c : Thread nD τ) arg5 fullShare G ∗ owns (c : Thread nD τ) arg6 fullShare R ∗ owns (c : Thread nD τ) arg11 fullShare (itf k0_t2_loop.trips (gstep i v5 hv h2 t T X G R) xs k)))
    (fun k a => by rw [itf_succ]; exact t2_trip c i arg3 harg3 arg4 harg4 arg5 harg5 arg6 harg6 arg7 harg7 arg8 harg8 arg9 harg9 arg10 harg10 arg11 harg11 arg12 harg12 v5 hv h2 t k a q T X G R _)

/-- The gather's loop over the subtiles of the tail block. -/
theorem t5_loop (v5 : BitVec 32) (hv : v5.toNat ≤ 2048) (h2 : k0_cond2 i = 1#1) (h5 : k0_cond5 v5 = 1#1) (hok : k0_t5_loop.OK)
    (q : PosShare TreeShare) (T : S640.Idx → BitVec 32) (X : S2048x1024.Idx → Elt F .bf16) (G : S8x2048.Idx → Elt F .f32) (R : S8x2048.Idx → BitVec 32) (xs : S2048x1024.Idx → Elt F .bf16) {β : Type} (init : Unit) (kk : Unit → Prog (TpuEff nD τ sig (Elt F) Λ₀ .tc) β) (Q : β → sProp 𝕄) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg11 fullShare xs) : sProp 𝕄)
      ⊢ iprop((∀ a, (owns (c : Thread nD τ) arg3 q T ∗ owns (c : Thread nD τ) arg4 fullShare X ∗ owns (c : Thread nD τ) arg5 fullShare G ∗ owns (c : Thread nD τ) arg6 fullShare R ∗ owns (c : Thread nD τ) arg11 fullShare (itf k0_t5_loop.trips (gstepT i v5 hv h2 h5 T X G R) xs k0_t5_loop.trips)) -∗ wp frame (wpE defs₀ Variants.none (c : Thread nD τ) none) Set.univ (kk a) Q) -∗
        wp frame (wpE defs₀ Variants.none (c : Thread nD τ) none) Set.univ (Scf.Loop.for k0_t5_loop hok init (k0_t5_body (F := F) i arg3 harg3 arg4 harg4 arg5 harg5 arg6 harg6 arg7 harg7 arg8 harg8 arg9 harg9 arg10 harg10 arg11 harg11 arg12 harg12 v5 h2 h5) >>= kk) Q) :=
  Scf.wp_for_bind frame (wpE defs₀ Variants.none (c : Thread nD τ) none) Set.univ k0_t5_loop.lb k0_t5_loop.ub k0_t5_loop.st hok init (k0_t5_body (F := F) i arg3 harg3 arg4 harg4 arg5 harg5 arg6 harg6 arg7 harg7 arg8 harg8 arg9 harg9 arg10 harg10 arg11 harg11 arg12 harg12 v5 h2 h5)
    (fun k _ => iprop(owns (c : Thread nD τ) arg3 q T ∗ owns (c : Thread nD τ) arg4 fullShare X ∗ owns (c : Thread nD τ) arg5 fullShare G ∗ owns (c : Thread nD τ) arg6 fullShare R ∗ owns (c : Thread nD τ) arg11 fullShare (itf k0_t5_loop.trips (gstepT i v5 hv h2 h5 T X G R) xs k)))
    (fun k a => by rw [itf_succ]; exact t5_trip c i arg3 harg3 arg4 harg4 arg5 harg5 arg6 harg6 arg7 harg7 arg8 harg8 arg9 harg9 arg10 harg10 arg11 harg11 arg12 harg12 v5 hv h2 h5 k a q T X G R _)

/-- The scatter's loop over the subtiles of one block. -/
theorem t9_loop (v5 : BitVec 32) (hv : v5.toNat ≤ 2048) (h14 : k0_cond14 i = 1#1) (t : Fin (k0_t8_loop v5).trips) (hok : k0_t9_loop.OK)
    (q : PosShare TreeShare) (T : S640.Idx → BitVec 32) (G : S8x2048.Idx → Elt F .f32) (R : S8x2048.Idx → BitVec 32) (acc : S2048x1024.Idx → Elt F .f32) (y : S2048x1024.Idx → Elt F .f32) {β : Type} (init : BitVec 32) (kk : BitVec 32 → Prog (TpuEff nD τ sig (Elt F) Λ₀ .tc) β) (Q : β → sProp 𝕄) :
    (iprop(owns (c : Thread nD τ) arg3 q T ∗ owns (c : Thread nD τ) arg5 fullShare G ∗ owns (c : Thread nD τ) arg6 fullShare R ∗ owns (c : Thread nD τ) arg12 fullShare acc ∗ owns (c : Thread nD τ) arg10 fullShare y) : sProp 𝕄)
      ⊢ iprop((∀ a, (owns (c : Thread nD τ) arg3 q T ∗ owns (c : Thread nD τ) arg5 fullShare G ∗ owns (c : Thread nD τ) arg6 fullShare R ∗ owns (c : Thread nD τ) arg12 fullShare acc ∗ owns (c : Thread nD τ) arg10 fullShare (itf k0_t9_loop.trips (sstep i v5 hv h14 t T G R acc) y k0_t9_loop.trips)) -∗ wp frame (wpE defs₀ Variants.none (c : Thread nD τ) none) Set.univ (kk a) Q) -∗
        wp frame (wpE defs₀ Variants.none (c : Thread nD τ) none) Set.univ (Scf.Loop.for k0_t9_loop hok init (k0_t9_body (F := F) i arg3 harg3 arg4 harg4 arg5 harg5 arg6 harg6 arg7 harg7 arg8 harg8 arg9 harg9 arg10 harg10 arg11 harg11 arg12 harg12 v5 h14 t) >>= kk) Q) :=
  Scf.wp_for_bind frame (wpE defs₀ Variants.none (c : Thread nD τ) none) Set.univ k0_t9_loop.lb k0_t9_loop.ub k0_t9_loop.st hok init (k0_t9_body (F := F) i arg3 harg3 arg4 harg4 arg5 harg5 arg6 harg6 arg7 harg7 arg8 harg8 arg9 harg9 arg10 harg10 arg11 harg11 arg12 harg12 v5 h14 t)
    (fun k _ => iprop(owns (c : Thread nD τ) arg3 q T ∗ owns (c : Thread nD τ) arg5 fullShare G ∗ owns (c : Thread nD τ) arg6 fullShare R ∗ owns (c : Thread nD τ) arg12 fullShare acc ∗ owns (c : Thread nD τ) arg10 fullShare (itf k0_t9_loop.trips (sstep i v5 hv h14 t T G R acc) y k)))
    (fun k a => by rw [itf_succ]; exact t9_trip c i arg3 harg3 arg4 harg4 arg5 harg5 arg6 harg6 arg7 harg7 arg8 harg8 arg9 harg9 arg10 harg10 arg11 harg11 arg12 harg12 v5 hv h14 t k a q T G R acc _)

/-- The scatter's loop over the subtiles of the tail block. -/
theorem t12_loop (v5 : BitVec 32) (hv : v5.toNat ≤ 2048) (v23 : BitVec 32) (h14 : k0_cond14 i = 1#1) (h17 : k0_cond17 v5 = 1#1) (hok : k0_t12_loop.OK)
    (q : PosShare TreeShare) (T : S640.Idx → BitVec 32) (G : S8x2048.Idx → Elt F .f32) (R : S8x2048.Idx → BitVec 32) (acc : S2048x1024.Idx → Elt F .f32) (y : S2048x1024.Idx → Elt F .f32) {β : Type} (init : Unit) (kk : Unit → Prog (TpuEff nD τ sig (Elt F) Λ₀ .tc) β) (Q : β → sProp 𝕄) :
    (iprop(owns (c : Thread nD τ) arg3 q T ∗ owns (c : Thread nD τ) arg5 fullShare G ∗ owns (c : Thread nD τ) arg6 fullShare R ∗ owns (c : Thread nD τ) arg12 fullShare acc ∗ owns (c : Thread nD τ) arg10 fullShare y) : sProp 𝕄)
      ⊢ iprop((∀ a, (owns (c : Thread nD τ) arg3 q T ∗ owns (c : Thread nD τ) arg5 fullShare G ∗ owns (c : Thread nD τ) arg6 fullShare R ∗ owns (c : Thread nD τ) arg12 fullShare acc ∗ owns (c : Thread nD τ) arg10 fullShare (itf k0_t12_loop.trips (sstepT i v5 hv v23 h14 h17 T G R acc) y k0_t12_loop.trips)) -∗ wp frame (wpE defs₀ Variants.none (c : Thread nD τ) none) Set.univ (kk a) Q) -∗
        wp frame (wpE defs₀ Variants.none (c : Thread nD τ) none) Set.univ (Scf.Loop.for k0_t12_loop hok init (k0_t12_body (F := F) i arg3 harg3 arg4 harg4 arg5 harg5 arg6 harg6 arg7 harg7 arg8 harg8 arg9 harg9 arg10 harg10 arg11 harg11 arg12 harg12 v5 v23 h14 h17) >>= kk) Q) :=
  Scf.wp_for_bind frame (wpE defs₀ Variants.none (c : Thread nD τ) none) Set.univ k0_t12_loop.lb k0_t12_loop.ub k0_t12_loop.st hok init (k0_t12_body (F := F) i arg3 harg3 arg4 harg4 arg5 harg5 arg6 harg6 arg7 harg7 arg8 harg8 arg9 harg9 arg10 harg10 arg11 harg11 arg12 harg12 v5 v23 h14 h17)
    (fun k _ => iprop(owns (c : Thread nD τ) arg3 q T ∗ owns (c : Thread nD τ) arg5 fullShare G ∗ owns (c : Thread nD τ) arg6 fullShare R ∗ owns (c : Thread nD τ) arg12 fullShare acc ∗ owns (c : Thread nD τ) arg10 fullShare (itf k0_t12_loop.trips (sstepT i v5 hv v23 h14 h17 T G R acc) y k)))
    (fun k a => by rw [itf_succ]; exact t12_trip c i arg3 harg3 arg4 harg4 arg5 harg5 arg6 harg6 arg7 harg7 arg8 harg8 arg9 harg9 arg10 harg10 arg11 harg11 arg12 harg12 v5 hv v23 h14 h17 k a q T G R acc _)

/-- The feed-forward's loop over blocks. -/
theorem t6_loop (v5 : BitVec 32) (hv : v5.toNat ≤ 2048) (hw : k0_chk1 i v5) (hok : (k0_t6_loop v5).OK)
    (wa : S1x1024x1792.Idx → Elt F .bf16) (wu : S1x1024x1792.Idx → Elt F .bf16) (wo : S1x1792x1024.Idx → Elt F .bf16) (xs : S2048x1024.Idx → Elt F .bf16) (acc : S2048x1024.Idx → Elt F .f32) {β : Type} (init : BitVec 32) (kk : BitVec 32 → Prog (TpuEff nD τ sig (Elt F) Λ₀ .tc) β) (Q : β → sProp 𝕄) :
    (iprop(owns (c : Thread nD τ) arg7 fullShare wa ∗ owns (c : Thread nD τ) arg8 fullShare wu ∗ owns (c : Thread nD τ) arg9 fullShare wo ∗ owns (c : Thread nD τ) arg11 fullShare xs ∗ owns (c : Thread nD τ) arg12 fullShare acc) : sProp 𝕄)
      ⊢ iprop((∀ a, (owns (c : Thread nD τ) arg7 fullShare wa ∗ owns (c : Thread nD τ) arg8 fullShare wu ∗ owns (c : Thread nD τ) arg9 fullShare wo ∗ owns (c : Thread nD τ) arg11 fullShare xs ∗ owns (c : Thread nD τ) arg12 fullShare (itf (k0_t6_loop v5).trips (fstep i v5 hv wa wu wo xs) acc (k0_t6_loop v5).trips)) -∗ wp frame (wpE defs₀ Variants.none (c : Thread nD τ) none) Set.univ (kk a) Q) -∗
        wp frame (wpE defs₀ Variants.none (c : Thread nD τ) none) Set.univ (Scf.Loop.for (k0_t6_loop v5) hok init (k0_t6_body (F := F) i arg3 harg3 arg4 harg4 arg5 harg5 arg6 harg6 arg7 harg7 arg8 harg8 arg9 harg9 arg10 harg10 arg11 harg11 arg12 harg12 v5 hw) >>= kk) Q) :=
  Scf.wp_for_bind frame (wpE defs₀ Variants.none (c : Thread nD τ) none) Set.univ (k0_t6_loop v5).lb (k0_t6_loop v5).ub (k0_t6_loop v5).st hok init (k0_t6_body (F := F) i arg3 harg3 arg4 harg4 arg5 harg5 arg6 harg6 arg7 harg7 arg8 harg8 arg9 harg9 arg10 harg10 arg11 harg11 arg12 harg12 v5 hw)
    (fun k _ => iprop(owns (c : Thread nD τ) arg7 fullShare wa ∗ owns (c : Thread nD τ) arg8 fullShare wu ∗ owns (c : Thread nD τ) arg9 fullShare wo ∗ owns (c : Thread nD τ) arg11 fullShare xs ∗ owns (c : Thread nD τ) arg12 fullShare (itf (k0_t6_loop v5).trips (fstep i v5 hv wa wu wo xs) acc k)))
    (fun k a => by rw [itf_succ]; exact t6_trip c i arg3 harg3 arg4 harg4 arg5 harg5 arg6 harg6 arg7 harg7 arg8 harg8 arg9 harg9 arg10 harg10 arg11 harg11 arg12 harg12 v5 hv hw k a wa wu wo xs _)

 /-- A memref opened: its buffer at contents that read the array. -/
theorem own_elim {sp : Space} {sh : Shape} {e : EltTy} (M : Memref sig .tc sp sh e) (q : PosShare TreeShare) (X : sh.Idx → Elt F e) :
    (owns (c : Thread nD τ) M q X : sProp 𝕄) ⊢ iprop(∃ f, ⌜M.view.read (Elt F) f = X⌝ ∗ M.view.loc (c : Thread nD τ) ↦[M.view.set]{q} f) := by
  unfold owns
  exact .rfl

/-- A memref closed again. -/
theorem own_intro {sp : Space} {sh : Shape} {e : EltTy} (M : Memref sig .tc sp sh e) (q : PosShare TreeShare) (X : sh.Idx → Elt F e) (f : M.view.ty.Contents (Elt F))
    (h : M.view.read (Elt F) f = X) :
    (iprop(M.view.loc (c : Thread nD τ) ↦[M.view.set]{q} f) : sProp 𝕄) ⊢ owns (c : Thread nD τ) M q X := by
  unfold owns
  iintro H
  iexists f
  isplitr
  · ipureintro; exact h
  iexact H

/-- A trip of the gather's loop over blocks. -/
theorem t1_trip (v5 : BitVec 32) (hv : v5.toNat ≤ 2048) (hw : k0_chk1 i v5) (h2 : k0_cond2 i = 1#1) (k : Fin (k0_t1_loop v5).trips) (a : BitVec 32)
    (q : PosShare TreeShare) (T : S640.Idx → BitVec 32) (X : S2048x1024.Idx → Elt F .bf16) (G : S8x2048.Idx → Elt F .f32) (R : S8x2048.Idx → BitVec 32) (xs : S2048x1024.Idx → Elt F .bf16) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg11 fullShare xs) : sProp 𝕄)
      ⊢ wp frame (wpE defs₀ Variants.none (c : Thread nD τ) none) Set.univ (k0_t1_body (F := F) i arg3 harg3 arg4 harg4 arg5 harg5 arg6 harg6 arg7 harg7 arg8 harg8 arg9 harg9 arg10 harg10 arg11 harg11 arg12 harg12 v5 hw h2 k a)
        (fun _ => iprop(owns (c : Thread nD τ) arg3 q T ∗ owns (c : Thread nD τ) arg4 fullShare X ∗ owns (c : Thread nD τ) arg5 fullShare G ∗ owns (c : Thread nD τ) arg6 fullShare R ∗ owns (c : Thread nD τ) arg11 fullShare (gblock i v5 hv h2 T X G R k xs))) := by
  unfold k0_t1_body
  iintro ⟨H3, H4, H5, H6, H11⟩
  ihave H := (own_elim c arg11 _ _) $$ H11
  icases H with ⟨%f11, %h11, H11⟩
  sl_exec
  iapply (t2_loop c i arg3 harg3 arg4 harg4 arg5 harg5 arg6 harg6 arg7 harg7 arg8 harg8 arg9 harg9 arg10 harg10 arg11 harg11 arg12 harg12 v5 hv h2 k _ q T X G R (VecWindow.put xs (k0_off2 v5 k) S256x1024.size (k0_pay14 (F := F))) 0#32 _ _) $$ [H3 H4 H5 H6 H11]
  · isplitl [H3]; · iexact H3
    isplitl [H4]; · iexact H4
    isplitl [H5]; · iexact H5
    isplitl [H6]; · iexact H6
    unfold owns; iexists _; isplitr; swap
    · iexact H11
    ipureintro; rw [← h11]; exact View.read_writes_cons_put _ _ _ _ [] rfl
  iintro %a ⟨H3, H4, H5, H6, H11⟩
  sl_step
  isplitl [H3]; · iexact H3
  isplitl [H4]; · iexact H4
  isplitl [H5]; · iexact H5
  isplitl [H6]; · iexact H6
  iexact H11

/-- A trip of the scatter's loop over blocks. -/
theorem t8_trip (v5 : BitVec 32) (hv : v5.toNat ≤ 2048) (hw : k0_chk1 i v5) (h14 : k0_cond14 i = 1#1) (k : Fin (k0_t8_loop v5).trips) (a : BitVec 32)
    (q : PosShare TreeShare) (T : S640.Idx → BitVec 32) (G : S8x2048.Idx → Elt F .f32) (R : S8x2048.Idx → BitVec 32) (acc : S2048x1024.Idx → Elt F .f32) (y : S2048x1024.Idx → Elt F .f32) :
    (iprop(owns (c : Thread nD τ) arg3 q T ∗ owns (c : Thread nD τ) arg5 fullShare G ∗ owns (c : Thread nD τ) arg6 fullShare R ∗ owns (c : Thread nD τ) arg12 fullShare acc ∗ owns (c : Thread nD τ) arg10 fullShare y) : sProp 𝕄)
      ⊢ wp frame (wpE defs₀ Variants.none (c : Thread nD τ) none) Set.univ (k0_t8_body (F := F) i arg3 harg3 arg4 harg4 arg5 harg5 arg6 harg6 arg7 harg7 arg8 harg8 arg9 harg9 arg10 harg10 arg11 harg11 arg12 harg12 v5 hw h14 k a)
        (fun _ => iprop(owns (c : Thread nD τ) arg3 q T ∗ owns (c : Thread nD τ) arg5 fullShare G ∗ owns (c : Thread nD τ) arg6 fullShare R ∗ owns (c : Thread nD τ) arg12 fullShare acc ∗ owns (c : Thread nD τ) arg10 fullShare (sblock i v5 hv h14 T G R acc k y))) := by
  unfold k0_t8_body
  iintro ⟨H3, H5, H6, H12, H10⟩
  sl_exec
  iapply (t9_loop c i arg3 harg3 arg4 harg4 arg5 harg5 arg6 harg6 arg7 harg7 arg8 harg8 arg9 harg9 arg10 harg10 arg11 harg11 arg12 harg12 v5 hv h14 k _ q T G R acc y 0#32 _ _) $$ [H3 H5 H6 H12 H10]
  · isplitl [H3]; · iexact H3
    isplitl [H5]; · iexact H5
    isplitl [H6]; · iexact H6
    isplitl [H12]; · iexact H12
    iexact H10
  iintro %a ⟨H3, H5, H6, H12, H10⟩
  sl_step
  isplitl [H3]; · iexact H3
  isplitl [H5]; · iexact H5
  isplitl [H6]; · iexact H6
  isplitl [H12]; · iexact H12
  iexact H10

/-- The gather's loop over blocks. -/
theorem t1_loop (v5 : BitVec 32) (hv : v5.toNat ≤ 2048) (hw : k0_chk1 i v5) (h2 : k0_cond2 i = 1#1) (hok : (k0_t1_loop v5).OK)
    (q : PosShare TreeShare) (T : S640.Idx → BitVec 32) (X : S2048x1024.Idx → Elt F .bf16) (G : S8x2048.Idx → Elt F .f32) (R : S8x2048.Idx → BitVec 32) (xs : S2048x1024.Idx → Elt F .bf16) {β : Type} (init : BitVec 32) (kk : BitVec 32 → Prog (TpuEff nD τ sig (Elt F) Λ₀ .tc) β) (Q : β → sProp 𝕄) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg11 fullShare xs) : sProp 𝕄)
      ⊢ iprop((∀ a, (owns (c : Thread nD τ) arg3 q T ∗ owns (c : Thread nD τ) arg4 fullShare X ∗ owns (c : Thread nD τ) arg5 fullShare G ∗ owns (c : Thread nD τ) arg6 fullShare R ∗ owns (c : Thread nD τ) arg11 fullShare (itf (k0_t1_loop v5).trips (gblock i v5 hv h2 T X G R) xs (k0_t1_loop v5).trips)) -∗ wp frame (wpE defs₀ Variants.none (c : Thread nD τ) none) Set.univ (kk a) Q) -∗
        wp frame (wpE defs₀ Variants.none (c : Thread nD τ) none) Set.univ (Scf.Loop.for (k0_t1_loop v5) hok init (k0_t1_body (F := F) i arg3 harg3 arg4 harg4 arg5 harg5 arg6 harg6 arg7 harg7 arg8 harg8 arg9 harg9 arg10 harg10 arg11 harg11 arg12 harg12 v5 hw h2) >>= kk) Q) :=
  Scf.wp_for_bind frame (wpE defs₀ Variants.none (c : Thread nD τ) none) Set.univ (k0_t1_loop v5).lb (k0_t1_loop v5).ub (k0_t1_loop v5).st hok init (k0_t1_body (F := F) i arg3 harg3 arg4 harg4 arg5 harg5 arg6 harg6 arg7 harg7 arg8 harg8 arg9 harg9 arg10 harg10 arg11 harg11 arg12 harg12 v5 hw h2)
    (fun k _ => iprop(owns (c : Thread nD τ) arg3 q T ∗ owns (c : Thread nD τ) arg4 fullShare X ∗ owns (c : Thread nD τ) arg5 fullShare G ∗ owns (c : Thread nD τ) arg6 fullShare R ∗ owns (c : Thread nD τ) arg11 fullShare (itf (k0_t1_loop v5).trips (gblock i v5 hv h2 T X G R) xs k)))
    (fun k a => by rw [itf_succ]; exact t1_trip c i arg3 harg3 arg4 harg4 arg5 harg5 arg6 harg6 arg7 harg7 arg8 harg8 arg9 harg9 arg10 harg10 arg11 harg11 arg12 harg12 v5 hv hw h2 k a q T X G R _)

/-- The scatter's loop over blocks. -/
theorem t8_loop (v5 : BitVec 32) (hv : v5.toNat ≤ 2048) (hw : k0_chk1 i v5) (h14 : k0_cond14 i = 1#1) (hok : (k0_t8_loop v5).OK)
    (q : PosShare TreeShare) (T : S640.Idx → BitVec 32) (G : S8x2048.Idx → Elt F .f32) (R : S8x2048.Idx → BitVec 32) (acc : S2048x1024.Idx → Elt F .f32) (y : S2048x1024.Idx → Elt F .f32) {β : Type} (init : BitVec 32) (kk : BitVec 32 → Prog (TpuEff nD τ sig (Elt F) Λ₀ .tc) β) (Q : β → sProp 𝕄) :
    (iprop(owns (c : Thread nD τ) arg3 q T ∗ owns (c : Thread nD τ) arg5 fullShare G ∗ owns (c : Thread nD τ) arg6 fullShare R ∗ owns (c : Thread nD τ) arg12 fullShare acc ∗ owns (c : Thread nD τ) arg10 fullShare y) : sProp 𝕄)
      ⊢ iprop((∀ a, (owns (c : Thread nD τ) arg3 q T ∗ owns (c : Thread nD τ) arg5 fullShare G ∗ owns (c : Thread nD τ) arg6 fullShare R ∗ owns (c : Thread nD τ) arg12 fullShare acc ∗ owns (c : Thread nD τ) arg10 fullShare (itf (k0_t8_loop v5).trips (sblock i v5 hv h14 T G R acc) y (k0_t8_loop v5).trips)) -∗ wp frame (wpE defs₀ Variants.none (c : Thread nD τ) none) Set.univ (kk a) Q) -∗
        wp frame (wpE defs₀ Variants.none (c : Thread nD τ) none) Set.univ (Scf.Loop.for (k0_t8_loop v5) hok init (k0_t8_body (F := F) i arg3 harg3 arg4 harg4 arg5 harg5 arg6 harg6 arg7 harg7 arg8 harg8 arg9 harg9 arg10 harg10 arg11 harg11 arg12 harg12 v5 hw h14) >>= kk) Q) :=
  Scf.wp_for_bind frame (wpE defs₀ Variants.none (c : Thread nD τ) none) Set.univ (k0_t8_loop v5).lb (k0_t8_loop v5).ub (k0_t8_loop v5).st hok init (k0_t8_body (F := F) i arg3 harg3 arg4 harg4 arg5 harg5 arg6 harg6 arg7 harg7 arg8 harg8 arg9 harg9 arg10 harg10 arg11 harg11 arg12 harg12 v5 hw h14)
    (fun k _ => iprop(owns (c : Thread nD τ) arg3 q T ∗ owns (c : Thread nD τ) arg5 fullShare G ∗ owns (c : Thread nD τ) arg6 fullShare R ∗ owns (c : Thread nD τ) arg12 fullShare acc ∗ owns (c : Thread nD τ) arg10 fullShare (itf (k0_t8_loop v5).trips (sblock i v5 hv h14 T G R acc) y k)))
    (fun k a => by rw [itf_succ]; exact t8_trip c i arg3 harg3 arg4 harg4 arg5 harg5 arg6 harg6 arg7 harg7 arg8 harg8 arg9 harg9 arg10 harg10 arg11 harg11 arg12 harg12 v5 hv hw h14 k a q T G R acc _)

/-- A loop of no trips. -/
theorem no_loop (l : Scf.Loop 32) (hok : l.OK) (h : l.trips = 0) (init : BitVec 32) (body : Fin l.trips → BitVec 32 → Prog (TpuEff nD τ sig (Elt F) Λ₀ .tc) (BitVec 32))
    {β : Type} (kk : BitVec 32 → Prog (TpuEff nD τ sig (Elt F) Λ₀ .tc) β) (Q : β → sProp 𝕄) :
    (iprop(∀ a, wp frame (wpE defs₀ Variants.none (c : Thread nD τ) none) Set.univ (kk a) Q) : sProp 𝕄) ⊢ wp frame (wpE defs₀ Variants.none (c : Thread nD τ) none) Set.univ (Scf.Loop.for l hok init body >>= kk) Q := by
  iintro H
  iapply (Scf.wp_for_bind frame (wpE defs₀ Variants.none (c : Thread nD τ) none) Set.univ l.lb l.ub l.st hok init body (fun _ _ => iprop(⌜True⌝))
    (fun k => absurd k.isLt (by have e : Scf.trips l.lb l.ub l.st = 0 := h; omega))) $$ []
  · ipureintro; trivial
  iintro %a _
  iapply H

/-- The one word of the table a load names. -/
theorem smem_word (q : PosShare TreeShare) (T : S640.Idx → BitVec 32) (off : Fin 1 → ℕ) (inb : ∀ a, off a + S1.size a ≤ S640.size a)
    {β : Type} (kk : BitVec 32 → Prog (TpuEff nD τ sig (Elt F) Λ₀ .tc) β) (Q : β → sProp 𝕄) :
    (owns (c : Thread nD τ) arg3 q T : sProp 𝕄)
      ⊢ iprop((owns (c : Thread nD τ) arg3 q T -∗ wp frame (wpE defs₀ Variants.none (c : Thread nD τ) none) Set.univ (kk (tw T off inb)) Q) -∗
        wp frame (wpE defs₀ Variants.none (c : Thread nD τ) none) Set.univ (smemLoad arg3 (Rect.unit (s := S640) off S1.size inb) numel1_S1 rfl >>= kk) Q) := by
  iintro H3 HK
  ihave H := (own_elim c arg3 _ _) $$ H3
  icases H with ⟨%f3, %h3, H3⟩
  subst h3
  sl_exec
  iapply HK
  iapply (own_intro c arg3 _ _ f3 rfl)
  iexact H3

end Cert.KernelIdeal.Hand

end
-- ==== Proof.Run.lean ====
/- The kernel's body runs at any grid point: what it leaves in its buffers. -/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The word for the number of whole blocks of 256 rows, as the kernel computes it. -/
def nfw (v5 : BitVec 32) : BitVec 32 :=
  let v6 : BitVec 32 := Scalar.addi v5 127#32
  let v7 : BitVec 32 := Scalar.divsi v6 256#32
  let v12 : BitVec 32 := Scalar.subi (Scalar.extui (Scalar.cmpi .sgt v6 0#32)) (Scalar.extui (Scalar.cmpi .slt v6 0#32))
  let v17 : BitVec 32 := Scalar.subi (Scalar.extui (Scalar.cmpi .sgt 256#32 0#32)) (Scalar.extui (Scalar.cmpi .slt 256#32 0#32))
  Scalar.select (Scalar.andi (Scalar.cmpi .ne v12 v17) (Scalar.cmpi .ne (Scalar.remsi v6 256#32) 0#32)) (Scalar.subi v7 1#32) v7

variable {F : FTy → Type} [FloatOps F] [∀ e, Nonempty (Elt F e)]

local notation "𝕄" => MT nD τ sig Unit (Elt F) ℕ (UR sig nD τ) ℕ

variable (c : Dev nD) (i : grid0.Coords)
  (arg3 : Memref sig .tc .smem S640 .i32) (harg3 : arg3.IsWhole)
  (arg4 : Memref sig .tc .vmem S2048x1024 .bf16) (harg4 : arg4.IsWhole)
  (arg5 : Memref sig .tc .vmem S8x2048 .f32) (harg5 : arg5.IsWhole)
  (arg6 : Memref sig .tc .vmem S8x2048 .i32) (harg6 : arg6.IsWhole)
  (arg7 : Memref sig .tc .vmem S1x1024x1792 .bf16) (harg7 : arg7.IsWhole)
  (arg8 : Memref sig .tc .vmem S1x1024x1792 .bf16) (harg8 : arg8.IsWhole)
  (arg9 : Memref sig .tc .vmem S1x1792x1024 .bf16) (harg9 : arg9.IsWhole)
  (arg10 : Memref sig .tc .vmem S2048x1024 .f32) (harg10 : arg10.IsWhole)
  (arg11 : Memref sig .tc .vmem S2048x1024 .bf16) (harg11 : arg11.IsWhole)
  (arg12 : Memref sig .tc .vmem S2048x1024 .f32) (harg12 : arg12.IsWhole)

theorem conds : ∀ i : grid0.Coords, (k0_cond1 i = 1#1 → k0_cond2 i = 1#1) ∧ (k0_cond2 i = 1#1 → ¬ k0_cond14 i = 1#1 ∧ k0_cond12 i = 1#1 ∧ ¬ k0_cond13 i = 1#1) ∧
    (¬ k0_cond2 i = 1#1 → k0_cond14 i = 1#1 ∧ ¬ k0_cond12 i = 1#1 ∧ k0_cond13 i = 1#1) := by decide +kernel

/-- A put over the whole output block leaves nothing of what was there. -/
theorem put_whole (a b : S2048x1024.Idx → Elt F .f32) (w : S2048x1024.Idx → Elt F .f32) :
    VecWindow.put a ![0, 0] S2048x1024.size w = VecWindow.put b ![0, 0] S2048x1024.size w := by
  funext j
  have h : ∀ d, (![0, 0] : Fin 2 → ℕ) d ≤ (j d).val ∧ (j d).val < (![0, 0] : Fin 2 → ℕ) d + S2048x1024.size d := fun d => by
    have := (j d).isLt
    fin_cases d <;> exact ⟨Nat.zero_le _, by simpa using this⟩
  have ea : VecWindow.put a ![0, 0] S2048x1024.size w j = w (Rect.unitLocal (s := S2048x1024) (off := ![0, 0]) (size := S2048x1024.size) j h) := dif_pos h
  exact ea.trans (dif_pos h : VecWindow.put b ![0, 0] S2048x1024.size w j = _).symm

/-- A finished program followed by another is that other program. -/
theorem ret_bind' {E : Type → Type} {α β : Type} (a : α) (k : α → Prog E β) : (Prog.ret a).bind k = k a := rfl

/-- The first part of the body at a tile's first point, with a tail block. -/
theorem part1_a (q : PosShare TreeShare) (T : S640.Idx → BitVec 32) (X : S2048x1024.Idx → Elt F .bf16) (G : S8x2048.Idx → Elt F .f32) (R : S8x2048.Idx → BitVec 32) (y : S2048x1024.Idx → Elt F .f32) (xs : S2048x1024.Idx → Elt F .bf16)
    (v5 : BitVec 32) (e5 : (tw T (k0_off1 i) (k0_off1_inb i)) = v5) (hv : v5.toNat ≤ 2048) (hw : k0_chk1 i v5)
    (h1 : k0_cond1 i = 1#1) (h2 : k0_cond2 i = 1#1) (h5 : k0_cond5 v5 = 1#1)
    (Q : _ → sProp 𝕄) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg10 fullShare y ∗ owns (c : Thread nD τ) arg11 fullShare xs) : sProp 𝕄)
      ⊢ iprop((∀ r, ⌜r = ⟨BitVec.ofNat 32 (i 1).val, BitVec.ofNat 32 (i 2).val, Scalar.muli (Scalar.addi (Scalar.muli (BitVec.ofNat 32 (i 0).val) 8#32) (BitVec.ofNat 32 (i 1).val)) 5#32, v5, hw, nfw v5, 0#32, 0#32, 1#32, Scalar.divsi (Scalar.subi (nfw v5) 0#32) 1#32⟩⌝ -∗ (owns (c : Thread nD τ) arg3 q T ∗ owns (c : Thread nD τ) arg4 fullShare X ∗ owns (c : Thread nD τ) arg5 fullShare G ∗ owns (c : Thread nD τ) arg6 fullShare R ∗ owns (c : Thread nD τ) arg10 fullShare (yzero i y) ∗ owns (c : Thread nD τ) arg11 fullShare (gather i v5 hv T X G R xs)) -∗ Q r) -∗
        wp frame (wpE defs₀ Variants.none (c : Thread nD τ) none) Set.univ (k0_part1 (F := F) i arg3 harg3 arg4 harg4 arg5 harg5 arg6 harg6 arg7 harg7 arg8 harg8 arg9 harg9 arg10 harg10 arg11 harg11 arg12 harg12) Q) := by
  simp only [k0_part1_eq_skeleton]
  unfold k0_part1_skel
  iintro ⟨H3, H4, H5, H6, H10, H11⟩ HQ
  iapply (smem_word c arg3 q T (k0_off1 i) (k0_off1_inb i) _ _) $$ [H3]
  · iexact H3
  iintro H3
  rw [e5]
  iapply (wp_assume Variants.none (c : Thread nD τ) none Set.univ hw)
  rw [ret_bind']
  ihave H := (own_elim c arg10 _ _) $$ H10
  icases H with ⟨%f10, %h10, H10⟩
  sl_exec
  iapply (t1_loop c i arg3 harg3 arg4 harg4 arg5 harg5 arg6 harg6 arg7 harg7 arg8 harg8 arg9 harg9 arg10 harg10 arg11 harg11 arg12 harg12 v5 hv hw h2 _ q T X G R xs _ _ _) $$ [H3 H4 H5 H6 H11]
  · isplitl [H3]
    · iexact H3
    isplitl [H4]
    · iexact H4
    isplitl [H5]
    · iexact H5
    isplitl [H6]
    · iexact H6
    iexact H11
  iintro %a1 ⟨H3, H4, H5, H6, H11⟩
  sl_exec
  iapply (no_loop c _ _ (trips3 hv) _ _ _ _)
  iintro %a2
  ihave H := (own_elim c arg11 _ _) $$ H11
  icases H with ⟨%f11, %h11, H11⟩
  sl_exec
  iapply (t5_loop c i arg3 harg3 arg4 harg4 arg5 harg5 arg6 harg6 arg7 harg7 arg8 harg8 arg9 harg9 arg10 harg10 arg11 harg11 arg12 harg12 v5 hv h2 h5 _ q T X G R (VecWindow.put (itf (k0_t1_loop v5).trips (gblock i v5 hv h2 T X G R) xs (k0_t1_loop v5).trips) (k0_off14 v5) S128x1024.size (k0_pay18 (F := F))) _ _ _) $$ [H3 H4 H5 H6 H11]
  · isplitl [H3]
    · iexact H3
    isplitl [H4]
    · iexact H4
    isplitl [H5]
    · iexact H5
    isplitl [H6]
    · iexact H6
    unfold owns; iexists _; isplitr; swap
    · iexact H11
    ipureintro; rw [← h11]; exact View.read_writes_cons_put _ _ _ _ [] rfl
  iintro %a3 ⟨H3, H4, H5, H6, H11⟩
  sl_exec
  sl_step
  iapply HQ $$ []
  · ipureintro; rfl
  isplitl [H3]
  · iexact H3
  isplitl [H4]
  · iexact H4
  isplitl [H5]
  · iexact H5
  isplitl [H6]
  · iexact H6
  isplitl [H10]
  · unfold owns; iexists _; isplitr; swap
    · iexact H10
    ipureintro
    have e : yzero i y = VecWindow.put y ![0, 0] S2048x1024.size (k0_pay13 (F := F)) := if_pos h1
    rw [e]; exact (View.read_writes_cons_put _ _ _ _ [] rfl).trans (put_whole _ _ _)
  have e : gather i v5 hv T X G R xs = itf k0_t5_loop.trips (gstepT i v5 hv h2 h5 T X G R) (VecWindow.put (itf (k0_t1_loop v5).trips (gblock i v5 hv h2 T X G R) xs (k0_t1_loop v5).trips) (k0_off14 v5) S128x1024.size (k0_pay18 (F := F))) k0_t5_loop.trips := (dif_pos h2).trans (dif_pos h5)
  rw [e]; iexact H11

/-- The first part of the body at a tile's first point, without a tail block. -/
theorem part1_b (q : PosShare TreeShare) (T : S640.Idx → BitVec 32) (X : S2048x1024.Idx → Elt F .bf16) (G : S8x2048.Idx → Elt F .f32) (R : S8x2048.Idx → BitVec 32) (y : S2048x1024.Idx → Elt F .f32) (xs : S2048x1024.Idx → Elt F .bf16)
    (v5 : BitVec 32) (e5 : (tw T (k0_off1 i) (k0_off1_inb i)) = v5) (hv : v5.toNat ≤ 2048) (hw : k0_chk1 i v5)
    (h1 : k0_cond1 i = 1#1) (h2 : k0_cond2 i = 1#1) (h5 : ¬ k0_cond5 v5 = 1#1)
    (Q : _ → sProp 𝕄) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg10 fullShare y ∗ owns (c : Thread nD τ) arg11 fullShare xs) : sProp 𝕄)
      ⊢ iprop((∀ r, ⌜r = ⟨BitVec.ofNat 32 (i 1).val, BitVec.ofNat 32 (i 2).val, Scalar.muli (Scalar.addi (Scalar.muli (BitVec.ofNat 32 (i 0).val) 8#32) (BitVec.ofNat 32 (i 1).val)) 5#32, v5, hw, nfw v5, 0#32, 0#32, 1#32, Scalar.divsi (Scalar.subi (nfw v5) 0#32) 1#32⟩⌝ -∗ (owns (c : Thread nD τ) arg3 q T ∗ owns (c : Thread nD τ) arg4 fullShare X ∗ owns (c : Thread nD τ) arg5 fullShare G ∗ owns (c : Thread nD τ) arg6 fullShare R ∗ owns (c : Thread nD τ) arg10 fullShare (yzero i y) ∗ owns (c : Thread nD τ) arg11 fullShare (gather i v5 hv T X G R xs)) -∗ Q r) -∗
        wp frame (wpE defs₀ Variants.none (c : Thread nD τ) none) Set.univ (k0_part1 (F := F) i arg3 harg3 arg4 harg4 arg5 harg5 arg6 harg6 arg7 harg7 arg8 harg8 arg9 harg9 arg10 harg10 arg11 harg11 arg12 harg12) Q) := by
  simp only [k0_part1_eq_skeleton]
  unfold k0_part1_skel
  iintro ⟨H3, H4, H5, H6, H10, H11⟩ HQ
  iapply (smem_word c arg3 q T (k0_off1 i) (k0_off1_inb i) _ _) $$ [H3]
  · iexact H3
  iintro H3
  rw [e5]
  iapply (wp_assume Variants.none (c : Thread nD τ) none Set.univ hw)
  rw [ret_bind']
  ihave H := (own_elim c arg10 _ _) $$ H10
  icases H with ⟨%f10, %h10, H10⟩
  sl_exec
  iapply (t1_loop c i arg3 harg3 arg4 harg4 arg5 harg5 arg6 harg6 arg7 harg7 arg8 harg8 arg9 harg9 arg10 harg10 arg11 harg11 arg12 harg12 v5 hv hw h2 _ q T X G R xs _ _ _) $$ [H3 H4 H5 H6 H11]
  · isplitl [H3]
    · iexact H3
    isplitl [H4]
    · iexact H4
    isplitl [H5]
    · iexact H5
    isplitl [H6]
    · iexact H6
    iexact H11
  iintro %a1 ⟨H3, H4, H5, H6, H11⟩
  sl_exec
  iapply (no_loop c _ _ (trips3 hv) _ _ _ _)
  iintro %a2
  sl_exec
  sl_step
  iapply HQ $$ []
  · ipureintro; rfl
  isplitl [H3]
  · iexact H3
  isplitl [H4]
  · iexact H4
  isplitl [H5]
  · iexact H5
  isplitl [H6]
  · iexact H6
  isplitl [H10]
  · unfold owns; iexists _; isplitr; swap
    · iexact H10
    ipureintro
    have e : yzero i y = VecWindow.put y ![0, 0] S2048x1024.size (k0_pay13 (F := F)) := if_pos h1
    rw [e]; exact (View.read_writes_cons_put _ _ _ _ [] rfl).trans (put_whole _ _ _)
  have e : gather i v5 hv T X G R xs = itf (k0_t1_loop v5).trips (gblock i v5 hv h2 T X G R) xs (k0_t1_loop v5).trips := (dif_pos h2).trans (dif_neg h5)
  rw [e]; iexact H11

/-- The first part of the body at a later first half, with a tail block. -/
theorem part1_c (q : PosShare TreeShare) (T : S640.Idx → BitVec 32) (X : S2048x1024.Idx → Elt F .bf16) (G : S8x2048.Idx → Elt F .f32) (R : S8x2048.Idx → BitVec 32) (y : S2048x1024.Idx → Elt F .f32) (xs : S2048x1024.Idx → Elt F .bf16)
    (v5 : BitVec 32) (e5 : (tw T (k0_off1 i) (k0_off1_inb i)) = v5) (hv : v5.toNat ≤ 2048) (hw : k0_chk1 i v5)
    (h1 : ¬ k0_cond1 i = 1#1) (h2 : k0_cond2 i = 1#1) (h5 : k0_cond5 v5 = 1#1)
    (Q : _ → sProp 𝕄) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg10 fullShare y ∗ owns (c : Thread nD τ) arg11 fullShare xs) : sProp 𝕄)
      ⊢ iprop((∀ r, ⌜r = ⟨BitVec.ofNat 32 (i 1).val, BitVec.ofNat 32 (i 2).val, Scalar.muli (Scalar.addi (Scalar.muli (BitVec.ofNat 32 (i 0).val) 8#32) (BitVec.ofNat 32 (i 1).val)) 5#32, v5, hw, nfw v5, 0#32, 0#32, 1#32, Scalar.divsi (Scalar.subi (nfw v5) 0#32) 1#32⟩⌝ -∗ (owns (c : Thread nD τ) arg3 q T ∗ owns (c : Thread nD τ) arg4 fullShare X ∗ owns (c : Thread nD τ) arg5 fullShare G ∗ owns (c : Thread nD τ) arg6 fullShare R ∗ owns (c : Thread nD τ) arg10 fullShare (yzero i y) ∗ owns (c : Thread nD τ) arg11 fullShare (gather i v5 hv T X G R xs)) -∗ Q r) -∗
        wp frame (wpE defs₀ Variants.none (c : Thread nD τ) none) Set.univ (k0_part1 (F := F) i arg3 harg3 arg4 harg4 arg5 harg5 arg6 harg6 arg7 harg7 arg8 harg8 arg9 harg9 arg10 harg10 arg11 harg11 arg12 harg12) Q) := by
  simp only [k0_part1_eq_skeleton]
  unfold k0_part1_skel
  iintro ⟨H3, H4, H5, H6, H10, H11⟩ HQ
  iapply (smem_word c arg3 q T (k0_off1 i) (k0_off1_inb i) _ _) $$ [H3]
  · iexact H3
  iintro H3
  rw [e5]
  iapply (wp_assume Variants.none (c : Thread nD τ) none Set.univ hw)
  rw [ret_bind']
  sl_exec
  iapply (t1_loop c i arg3 harg3 arg4 harg4 arg5 harg5 arg6 harg6 arg7 harg7 arg8 harg8 arg9 harg9 arg10 harg10 arg11 harg11 arg12 harg12 v5 hv hw h2 _ q T X G R xs _ _ _) $$ [H3 H4 H5 H6 H11]
  · isplitl [H3]
    · iexact H3
    isplitl [H4]
    · iexact H4
    isplitl [H5]
    · iexact H5
    isplitl [H6]
    · iexact H6
    iexact H11
  iintro %a1 ⟨H3, H4, H5, H6, H11⟩
  sl_exec
  iapply (no_loop c _ _ (trips3 hv) _ _ _ _)
  iintro %a2
  ihave H := (own_elim c arg11 _ _) $$ H11
  icases H with ⟨%f11, %h11, H11⟩
  sl_exec
  iapply (t5_loop c i arg3 harg3 arg4 harg4 arg5 harg5 arg6 harg6 arg7 harg7 arg8 harg8 arg9 harg9 arg10 harg10 arg11 harg11 arg12 harg12 v5 hv h2 h5 _ q T X G R (VecWindow.put (itf (k0_t1_loop v5).trips (gblock i v5 hv h2 T X G R) xs (k0_t1_loop v5).trips) (k0_off14 v5) S128x1024.size (k0_pay18 (F := F))) _ _ _) $$ [H3 H4 H5 H6 H11]
  · isplitl [H3]
    · iexact H3
    isplitl [H4]
    · iexact H4
    isplitl [H5]
    · iexact H5
    isplitl [H6]
    · iexact H6
    unfold owns; iexists _; isplitr; swap
    · iexact H11
    ipureintro; rw [← h11]; exact View.read_writes_cons_put _ _ _ _ [] rfl
  iintro %a3 ⟨H3, H4, H5, H6, H11⟩
  sl_exec
  sl_step
  iapply HQ $$ []
  · ipureintro; rfl
  isplitl [H3]
  · iexact H3
  isplitl [H4]
  · iexact H4
  isplitl [H5]
  · iexact H5
  isplitl [H6]
  · iexact H6
  isplitl [H10]
  · have e : yzero i y = y := if_neg h1
    rw [e]; iexact H10
  have e : gather i v5 hv T X G R xs = itf k0_t5_loop.trips (gstepT i v5 hv h2 h5 T X G R) (VecWindow.put (itf (k0_t1_loop v5).trips (gblock i v5 hv h2 T X G R) xs (k0_t1_loop v5).trips) (k0_off14 v5) S128x1024.size (k0_pay18 (F := F))) k0_t5_loop.trips := (dif_pos h2).trans (dif_pos h5)
  rw [e]; iexact H11

/-- The first part of the body at a later first half, without a tail block. -/
theorem part1_d (q : PosShare TreeShare) (T : S640.Idx → BitVec 32) (X : S2048x1024.Idx → Elt F .bf16) (G : S8x2048.Idx → Elt F .f32) (R : S8x2048.Idx → BitVec 32) (y : S2048x1024.Idx → Elt F .f32) (xs : S2048x1024.Idx → Elt F .bf16)
    (v5 : BitVec 32) (e5 : (tw T (k0_off1 i) (k0_off1_inb i)) = v5) (hv : v5.toNat ≤ 2048) (hw : k0_chk1 i v5)
    (h1 : ¬ k0_cond1 i = 1#1) (h2 : k0_cond2 i = 1#1) (h5 : ¬ k0_cond5 v5 = 1#1)
    (Q : _ → sProp 𝕄) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg10 fullShare y ∗ owns (c : Thread nD τ) arg11 fullShare xs) : sProp 𝕄)
      ⊢ iprop((∀ r, ⌜r = ⟨BitVec.ofNat 32 (i 1).val, BitVec.ofNat 32 (i 2).val, Scalar.muli (Scalar.addi (Scalar.muli (BitVec.ofNat 32 (i 0).val) 8#32) (BitVec.ofNat 32 (i 1).val)) 5#32, v5, hw, nfw v5, 0#32, 0#32, 1#32, Scalar.divsi (Scalar.subi (nfw v5) 0#32) 1#32⟩⌝ -∗ (owns (c : Thread nD τ) arg3 q T ∗ owns (c : Thread nD τ) arg4 fullShare X ∗ owns (c : Thread nD τ) arg5 fullShare G ∗ owns (c : Thread nD τ) arg6 fullShare R ∗ owns (c : Thread nD τ) arg10 fullShare (yzero i y) ∗ owns (c : Thread nD τ) arg11 fullShare (gather i v5 hv T X G R xs)) -∗ Q r) -∗
        wp frame (wpE defs₀ Variants.none (c : Thread nD τ) none) Set.univ (k0_part1 (F := F) i arg3 harg3 arg4 harg4 arg5 harg5 arg6 harg6 arg7 harg7 arg8 harg8 arg9 harg9 arg10 harg10 arg11 harg11 arg12 harg12) Q) := by
  simp only [k0_part1_eq_skeleton]
  unfold k0_part1_skel
  iintro ⟨H3, H4, H5, H6, H10, H11⟩ HQ
  iapply (smem_word c arg3 q T (k0_off1 i) (k0_off1_inb i) _ _) $$ [H3]
  · iexact H3
  iintro H3
  rw [e5]
  iapply (wp_assume Variants.none (c : Thread nD τ) none Set.univ hw)
  rw [ret_bind']
  sl_exec
  iapply (t1_loop c i arg3 harg3 arg4 harg4 arg5 harg5 arg6 harg6 arg7 harg7 arg8 harg8 arg9 harg9 arg10 harg10 arg11 harg11 arg12 harg12 v5 hv hw h2 _ q T X G R xs _ _ _) $$ [H3 H4 H5 H6 H11]
  · isplitl [H3]
    · iexact H3
    isplitl [H4]
    · iexact H4
    isplitl [H5]
    · iexact H5
    isplitl [H6]
    · iexact H6
    iexact H11
  iintro %a1 ⟨H3, H4, H5, H6, H11⟩
  sl_exec
  iapply (no_loop c _ _ (trips3 hv) _ _ _ _)
  iintro %a2
  sl_exec
  sl_step
  iapply HQ $$ []
  · ipureintro; rfl
  isplitl [H3]
  · iexact H3
  isplitl [H4]
  · iexact H4
  isplitl [H5]
  · iexact H5
  isplitl [H6]
  · iexact H6
  isplitl [H10]
  · have e : yzero i y = y := if_neg h1
    rw [e]; iexact H10
  have e : gather i v5 hv T X G R xs = itf (k0_t1_loop v5).trips (gblock i v5 hv h2 T X G R) xs (k0_t1_loop v5).trips := (dif_pos h2).trans (dif_neg h5)
  rw [e]; iexact H11

/-- The first part of the body at a second half: nothing is written. -/
theorem part1_e (q : PosShare TreeShare) (T : S640.Idx → BitVec 32) (X : S2048x1024.Idx → Elt F .bf16) (G : S8x2048.Idx → Elt F .f32) (R : S8x2048.Idx → BitVec 32) (y : S2048x1024.Idx → Elt F .f32) (xs : S2048x1024.Idx → Elt F .bf16)
    (v5 : BitVec 32) (e5 : (tw T (k0_off1 i) (k0_off1_inb i)) = v5) (hv : v5.toNat ≤ 2048) (hw : k0_chk1 i v5)
    (h1 : ¬ k0_cond1 i = 1#1) (h2 : ¬ k0_cond2 i = 1#1)
    (Q : _ → sProp 𝕄) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg10 fullShare y ∗ owns (c : Thread nD τ) arg11 fullShare xs) : sProp 𝕄)
      ⊢ iprop((∀ r, ⌜r = ⟨BitVec.ofNat 32 (i 1).val, BitVec.ofNat 32 (i 2).val, Scalar.muli (Scalar.addi (Scalar.muli (BitVec.ofNat 32 (i 0).val) 8#32) (BitVec.ofNat 32 (i 1).val)) 5#32, v5, hw, nfw v5, 0#32, 0#32, 1#32, Scalar.divsi (Scalar.subi (nfw v5) 0#32) 1#32⟩⌝ -∗ (owns (c : Thread nD τ) arg3 q T ∗ owns (c : Thread nD τ) arg4 fullShare X ∗ owns (c : Thread nD τ) arg5 fullShare G ∗ owns (c : Thread nD τ) arg6 fullShare R ∗ owns (c : Thread nD τ) arg10 fullShare (yzero i y) ∗ owns (c : Thread nD τ) arg11 fullShare (gather i v5 hv T X G R xs)) -∗ Q r) -∗
        wp frame (wpE defs₀ Variants.none (c : Thread nD τ) none) Set.univ (k0_part1 (F := F) i arg3 harg3 arg4 harg4 arg5 harg5 arg6 harg6 arg7 harg7 arg8 harg8 arg9 harg9 arg10 harg10 arg11 harg11 arg12 harg12) Q) := by
  simp only [k0_part1_eq_skeleton]
  unfold k0_part1_skel
  iintro ⟨H3, H4, H5, H6, H10, H11⟩ HQ
  iapply (smem_word c arg3 q T (k0_off1 i) (k0_off1_inb i) _ _) $$ [H3]
  · iexact H3
  iintro H3
  rw [e5]
  iapply (wp_assume Variants.none (c : Thread nD τ) none Set.univ hw)
  rw [ret_bind']
  sl_exec
  sl_step
  iapply HQ $$ []
  · ipureintro; rfl
  isplitl [H3]
  · iexact H3
  isplitl [H4]
  · iexact H4
  isplitl [H5]
  · iexact H5
  isplitl [H6]
  · iexact H6
  isplitl [H10]
  · have e : yzero i y = y := if_neg h1
    rw [e]; iexact H10
  rw [show gather i v5 hv T X G R xs = xs from dif_neg h2]; iexact H11

/-- The first part of the body at any point: the output block cleared and the expert's rows gathered, each where its turn is. -/
theorem part1_run (q : PosShare TreeShare) (T : S640.Idx → BitVec 32) (X : S2048x1024.Idx → Elt F .bf16) (G : S8x2048.Idx → Elt F .f32) (R : S8x2048.Idx → BitVec 32) (y : S2048x1024.Idx → Elt F .f32) (xs : S2048x1024.Idx → Elt F .bf16)
    (v5 : BitVec 32) (e5 : (tw T (k0_off1 i) (k0_off1_inb i)) = v5) (hv : v5.toNat ≤ 2048) (hw : k0_chk1 i v5) (Q : _ → sProp 𝕄) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg10 fullShare y ∗ owns (c : Thread nD τ) arg11 fullShare xs) : sProp 𝕄)
      ⊢ iprop((∀ r, ⌜r = ⟨BitVec.ofNat 32 (i 1).val, BitVec.ofNat 32 (i 2).val, Scalar.muli (Scalar.addi (Scalar.muli (BitVec.ofNat 32 (i 0).val) 8#32) (BitVec.ofNat 32 (i 1).val)) 5#32, v5, hw, nfw v5, 0#32, 0#32, 1#32, Scalar.divsi (Scalar.subi (nfw v5) 0#32) 1#32⟩⌝ -∗ (owns (c : Thread nD τ) arg3 q T ∗ owns (c : Thread nD τ) arg4 fullShare X ∗ owns (c : Thread nD τ) arg5 fullShare G ∗ owns (c : Thread nD τ) arg6 fullShare R ∗ owns (c : Thread nD τ) arg10 fullShare (yzero i y) ∗ owns (c : Thread nD τ) arg11 fullShare (gather i v5 hv T X G R xs)) -∗ Q r) -∗
        wp frame (wpE defs₀ Variants.none (c : Thread nD τ) none) Set.univ (k0_part1 (F := F) i arg3 harg3 arg4 harg4 arg5 harg5 arg6 harg6 arg7 harg7 arg8 harg8 arg9 harg9 arg10 harg10 arg11 harg11 arg12 harg12) Q) := by
  by_cases h2 : k0_cond2 i = 1#1
  · by_cases h1 : k0_cond1 i = 1#1 <;> by_cases h5 : k0_cond5 v5 = 1#1
    · exact part1_a c i arg3 harg3 arg4 harg4 arg5 harg5 arg6 harg6 arg7 harg7 arg8 harg8 arg9 harg9 arg10 harg10 arg11 harg11 arg12 harg12 q T X G R y xs v5 e5 hv hw h1 h2 h5 Q
    · exact part1_b c i arg3 harg3 arg4 harg4 arg5 harg5 arg6 harg6 arg7 harg7 arg8 harg8 arg9 harg9 arg10 harg10 arg11 harg11 arg12 harg12 q T X G R y xs v5 e5 hv hw h1 h2 h5 Q
    · exact part1_c c i arg3 harg3 arg4 harg4 arg5 harg5 arg6 harg6 arg7 harg7 arg8 harg8 arg9 harg9 arg10 harg10 arg11 harg11 arg12 harg12 q T X G R y xs v5 e5 hv hw h1 h2 h5 Q
    · exact part1_d c i arg3 harg3 arg4 harg4 arg5 harg5 arg6 harg6 arg7 harg7 arg8 harg8 arg9 harg9 arg10 harg10 arg11 harg11 arg12 harg12 q T X G R y xs v5 e5 hv hw h1 h2 h5 Q
  · exact part1_e c i arg3 harg3 arg4 harg4 arg5 harg5 arg6 harg6 arg7 harg7 arg8 harg8 arg9 harg9 arg10 harg10 arg11 harg11 arg12 harg12 q T X G R y xs v5 e5 hv hw (fun h1 => h2 ((conds i).1 h1)) h2 Q

/-- The body at a first half, with a tail block. -/
theorem run_a (q : PosShare TreeShare) (T : S640.Idx → BitVec 32) (X : S2048x1024.Idx → Elt F .bf16) (G : S8x2048.Idx → Elt F .f32) (R : S8x2048.Idx → BitVec 32) (wa : S1x1024x1792.Idx → Elt F .bf16) (wu : S1x1024x1792.Idx → Elt F .bf16) (wo : S1x1792x1024.Idx → Elt F .bf16) (y : S2048x1024.Idx → Elt F .f32) (xs : S2048x1024.Idx → Elt F .bf16) (acc : S2048x1024.Idx → Elt F .f32)
    (v5 : BitVec 32) (e5 : (tw T (k0_off1 i) (k0_off1_inb i)) = v5) (hv : v5.toNat ≤ 2048)
    (h2 : k0_cond2 i = 1#1) (h5 : k0_cond5 v5 = 1#1) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg7 fullShare wa ∗ owns (c : Thread nD τ) arg8 fullShare wu ∗ owns (c : Thread nD τ) arg9 fullShare wo ∗ owns (c : Thread nD τ) arg10 fullShare y ∗ owns (c : Thread nD τ) arg11 fullShare xs ∗ owns (c : Thread nD τ) arg12 fullShare acc) : sProp 𝕄)
      ⊢ wp frame (wpE defs₀ Variants.none (c : Thread nD τ) none) Set.univ (cc0_moe_routed (F := F) i arg3 harg3 arg4 harg4 arg5 harg5 arg6 harg6 arg7 harg7 arg8 harg8 arg9 harg9 arg10 harg10 arg11 harg11 arg12 harg12) (fun _ =>
          iprop(owns (c : Thread nD τ) arg3 q T ∗ owns (c : Thread nD τ) arg4 fullShare X ∗ owns (c : Thread nD τ) arg5 fullShare G ∗ owns (c : Thread nD τ) arg6 fullShare R ∗ owns (c : Thread nD τ) arg7 fullShare wa ∗ owns (c : Thread nD τ) arg8 fullShare wu ∗ owns (c : Thread nD τ) arg9 fullShare wo ∗ owns (c : Thread nD τ) arg10 fullShare (scatter i v5 hv (nfw v5) T G R (ffn i v5 hv wa wu wo (gather i v5 hv T X G R xs) acc) (yzero i y)) ∗ owns (c : Thread nD τ) arg11 fullShare (gather i v5 hv T X G R xs) ∗ owns (c : Thread nD τ) arg12 fullShare (ffn i v5 hv wa wu wo (gather i v5 hv T X G R xs) acc))) := by
  have hw : k0_chk1 i v5 := chk1_of_le i hv
  have h11 : k0_cond11 v5 = 1#1 := h5
  have h17 : k0_cond17 v5 = 1#1 := h5
  obtain ⟨h14, h12, h13⟩ := (conds i).2.1 h2
  simp only [cc0_moe_routed_eq_skeleton]
  unfold cc0_moe_routed_skel
  iintro ⟨H3, H4, H5, H6, H7, H8, H9, H10, H11, H12⟩
  rw [wp_bind]
  iapply (part1_run c i arg3 harg3 arg4 harg4 arg5 harg5 arg6 harg6 arg7 harg7 arg8 harg8 arg9 harg9 arg10 harg10 arg11 harg11 arg12 harg12 q T X G R y xs v5 e5 hv hw _) $$ [H3 H4 H5 H6 H10 H11]
  · isplitl [H3]
    · iexact H3
    isplitl [H4]
    · iexact H4
    isplitl [H5]
    · iexact H5
    isplitl [H6]
    · iexact H6
    isplitl [H10]
    · iexact H10
    iexact H11
  iintro %r %hr ⟨H3, H4, H5, H6, H10, H11⟩
  subst hr
  generalize hg : gather i v5 hv T X G R xs = g
  generalize hy : yzero i y = y0
  generalize hn : nfw v5 = v23
  iapply (t6_loop c i arg3 harg3 arg4 harg4 arg5 harg5 arg6 harg6 arg7 harg7 arg8 harg8 arg9 harg9 arg10 harg10 arg11 harg11 arg12 harg12 v5 hv hw _ wa wu wo g acc _ _ _) $$ [H7 H8 H9 H11 H12]
  · isplitl [H7]
    · iexact H7
    isplitl [H8]
    · iexact H8
    isplitl [H9]
    · iexact H9
    isplitl [H11]
    · iexact H11
    iexact H12
  iintro %a1 ⟨H7, H8, H9, H11, H12⟩
  iapply (no_loop c _ _ (trips7 hv) _ _ _ _)
  iintro %a2
  ihave H := (own_elim c arg7 _ _) $$ H7
  icases H with ⟨%f7, %h7, H7⟩
  ihave H := (own_elim c arg8 _ _) $$ H8
  icases H with ⟨%f8, %h8, H8⟩
  ihave H := (own_elim c arg9 _ _) $$ H9
  icases H with ⟨%f9, %h9, H9⟩
  ihave H := (own_elim c arg11 _ _) $$ H11
  icases H with ⟨%f11, %h11', H11⟩
  ihave H := (own_elim c arg12 _ _) $$ H12
  icases H with ⟨%f12, %h12', H12⟩
  sl_exec
  ihave H12 : (owns (c : Thread nD τ) arg12 fullShare (ffn i v5 hv wa wu wo g acc)) $$ [H12]
  · unfold owns; iexists _; isplitr; swap
    · iexact H12
    ipureintro
    have e : ffn i v5 hv wa wu wo g acc = fstepT i v5 hv wa wu wo g h11 (itf (k0_t6_loop v5).trips (fstep i v5 hv wa wu wo g) acc (k0_t6_loop v5).trips) := dif_pos h11
    rw [e]
    unfold fstepT
    simp only [if_pos h12, if_neg h13]
    revert h12'
    generalize itf (k0_t6_loop v5).trips (fstep i v5 hv wa wu wo g) acc (k0_t6_loop v5).trips = A
    intro h12'
    subst h12' h11' h7 h8 h9
    exact View.read_writes_cons_put _ _ _ _ [] rfl
  ihave H7 := (own_intro c arg7 _ _ f7 h7) $$ H7
  ihave H8 := (own_intro c arg8 _ _ f8 h8) $$ H8
  ihave H9 := (own_intro c arg9 _ _ f9 h9) $$ H9
  ihave H11 := (own_intro c arg11 _ _ f11 h11') $$ H11
  sl_step
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · rw [show scatter i v5 hv v23 T G R (ffn i v5 hv wa wu wo g acc) y0 = y0 from dif_neg h14]; iexact H10
  isplitl [H11]
  · iexact H11
  iexact H12

/-- The body at a first half, without a tail block. -/
theorem run_b (q : PosShare TreeShare) (T : S640.Idx → BitVec 32) (X : S2048x1024.Idx → Elt F .bf16) (G : S8x2048.Idx → Elt F .f32) (R : S8x2048.Idx → BitVec 32) (wa : S1x1024x1792.Idx → Elt F .bf16) (wu : S1x1024x1792.Idx → Elt F .bf16) (wo : S1x1792x1024.Idx → Elt F .bf16) (y : S2048x1024.Idx → Elt F .f32) (xs : S2048x1024.Idx → Elt F .bf16) (acc : S2048x1024.Idx → Elt F .f32)
    (v5 : BitVec 32) (e5 : (tw T (k0_off1 i) (k0_off1_inb i)) = v5) (hv : v5.toNat ≤ 2048)
    (h2 : k0_cond2 i = 1#1) (h5 : ¬ k0_cond5 v5 = 1#1) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg7 fullShare wa ∗ owns (c : Thread nD τ) arg8 fullShare wu ∗ owns (c : Thread nD τ) arg9 fullShare wo ∗ owns (c : Thread nD τ) arg10 fullShare y ∗ owns (c : Thread nD τ) arg11 fullShare xs ∗ owns (c : Thread nD τ) arg12 fullShare acc) : sProp 𝕄)
      ⊢ wp frame (wpE defs₀ Variants.none (c : Thread nD τ) none) Set.univ (cc0_moe_routed (F := F) i arg3 harg3 arg4 harg4 arg5 harg5 arg6 harg6 arg7 harg7 arg8 harg8 arg9 harg9 arg10 harg10 arg11 harg11 arg12 harg12) (fun _ =>
          iprop(owns (c : Thread nD τ) arg3 q T ∗ owns (c : Thread nD τ) arg4 fullShare X ∗ owns (c : Thread nD τ) arg5 fullShare G ∗ owns (c : Thread nD τ) arg6 fullShare R ∗ owns (c : Thread nD τ) arg7 fullShare wa ∗ owns (c : Thread nD τ) arg8 fullShare wu ∗ owns (c : Thread nD τ) arg9 fullShare wo ∗ owns (c : Thread nD τ) arg10 fullShare (scatter i v5 hv (nfw v5) T G R (ffn i v5 hv wa wu wo (gather i v5 hv T X G R xs) acc) (yzero i y)) ∗ owns (c : Thread nD τ) arg11 fullShare (gather i v5 hv T X G R xs) ∗ owns (c : Thread nD τ) arg12 fullShare (ffn i v5 hv wa wu wo (gather i v5 hv T X G R xs) acc))) := by
  have hw : k0_chk1 i v5 := chk1_of_le i hv
  have h11 : ¬ k0_cond11 v5 = 1#1 := h5
  have h17 : ¬ k0_cond17 v5 = 1#1 := h5
  obtain ⟨h14, h12, h13⟩ := (conds i).2.1 h2
  simp only [cc0_moe_routed_eq_skeleton]
  unfold cc0_moe_routed_skel
  iintro ⟨H3, H4, H5, H6, H7, H8, H9, H10, H11, H12⟩
  rw [wp_bind]
  iapply (part1_run c i arg3 harg3 arg4 harg4 arg5 harg5 arg6 harg6 arg7 harg7 arg8 harg8 arg9 harg9 arg10 harg10 arg11 harg11 arg12 harg12 q T X G R y xs v5 e5 hv hw _) $$ [H3 H4 H5 H6 H10 H11]
  · isplitl [H3]
    · iexact H3
    isplitl [H4]
    · iexact H4
    isplitl [H5]
    · iexact H5
    isplitl [H6]
    · iexact H6
    isplitl [H10]
    · iexact H10
    iexact H11
  iintro %r %hr ⟨H3, H4, H5, H6, H10, H11⟩
  subst hr
  generalize hg : gather i v5 hv T X G R xs = g
  generalize hy : yzero i y = y0
  generalize hn : nfw v5 = v23
  iapply (t6_loop c i arg3 harg3 arg4 harg4 arg5 harg5 arg6 harg6 arg7 harg7 arg8 harg8 arg9 harg9 arg10 harg10 arg11 harg11 arg12 harg12 v5 hv hw _ wa wu wo g acc _ _ _) $$ [H7 H8 H9 H11 H12]
  · isplitl [H7]
    · iexact H7
    isplitl [H8]
    · iexact H8
    isplitl [H9]
    · iexact H9
    isplitl [H11]
    · iexact H11
    iexact H12
  iintro %a1 ⟨H7, H8, H9, H11, H12⟩
  iapply (no_loop c _ _ (trips7 hv) _ _ _ _)
  iintro %a2
  sl_exec
  have e12 : ffn i v5 hv wa wu wo g acc = (itf (k0_t6_loop v5).trips (fstep i v5 hv wa wu wo g) acc (k0_t6_loop v5).trips) := dif_neg h11
  rw [← e12]
  sl_step
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · rw [show scatter i v5 hv v23 T G R (ffn i v5 hv wa wu wo g acc) y0 = y0 from dif_neg h14]; iexact H10
  isplitl [H11]
  · iexact H11
  iexact H12

/-- The body at a second half, with a tail block. -/
theorem run_c (q : PosShare TreeShare) (T : S640.Idx → BitVec 32) (X : S2048x1024.Idx → Elt F .bf16) (G : S8x2048.Idx → Elt F .f32) (R : S8x2048.Idx → BitVec 32) (wa : S1x1024x1792.Idx → Elt F .bf16) (wu : S1x1024x1792.Idx → Elt F .bf16) (wo : S1x1792x1024.Idx → Elt F .bf16) (y : S2048x1024.Idx → Elt F .f32) (xs : S2048x1024.Idx → Elt F .bf16) (acc : S2048x1024.Idx → Elt F .f32)
    (v5 : BitVec 32) (e5 : (tw T (k0_off1 i) (k0_off1_inb i)) = v5) (hv : v5.toNat ≤ 2048)
    (h2 : ¬ k0_cond2 i = 1#1) (h5 : k0_cond5 v5 = 1#1) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg7 fullShare wa ∗ owns (c : Thread nD τ) arg8 fullShare wu ∗ owns (c : Thread nD τ) arg9 fullShare wo ∗ owns (c : Thread nD τ) arg10 fullShare y ∗ owns (c : Thread nD τ) arg11 fullShare xs ∗ owns (c : Thread nD τ) arg12 fullShare acc) : sProp 𝕄)
      ⊢ wp frame (wpE defs₀ Variants.none (c : Thread nD τ) none) Set.univ (cc0_moe_routed (F := F) i arg3 harg3 arg4 harg4 arg5 harg5 arg6 harg6 arg7 harg7 arg8 harg8 arg9 harg9 arg10 harg10 arg11 harg11 arg12 harg12) (fun _ =>
          iprop(owns (c : Thread nD τ) arg3 q T ∗ owns (c : Thread nD τ) arg4 fullShare X ∗ owns (c : Thread nD τ) arg5 fullShare G ∗ owns (c : Thread nD τ) arg6 fullShare R ∗ owns (c : Thread nD τ) arg7 fullShare wa ∗ owns (c : Thread nD τ) arg8 fullShare wu ∗ owns (c : Thread nD τ) arg9 fullShare wo ∗ owns (c : Thread nD τ) arg10 fullShare (scatter i v5 hv (nfw v5) T G R (ffn i v5 hv wa wu wo (gather i v5 hv T X G R xs) acc) (yzero i y)) ∗ owns (c : Thread nD τ) arg11 fullShare (gather i v5 hv T X G R xs) ∗ owns (c : Thread nD τ) arg12 fullShare (ffn i v5 hv wa wu wo (gather i v5 hv T X G R xs) acc))) := by
  have hw : k0_chk1 i v5 := chk1_of_le i hv
  have h11 : k0_cond11 v5 = 1#1 := h5
  have h17 : k0_cond17 v5 = 1#1 := h5
  obtain ⟨h14, h12, h13⟩ := (conds i).2.2 h2
  simp only [cc0_moe_routed_eq_skeleton]
  unfold cc0_moe_routed_skel
  iintro ⟨H3, H4, H5, H6, H7, H8, H9, H10, H11, H12⟩
  rw [wp_bind]
  iapply (part1_run c i arg3 harg3 arg4 harg4 arg5 harg5 arg6 harg6 arg7 harg7 arg8 harg8 arg9 harg9 arg10 harg10 arg11 harg11 arg12 harg12 q T X G R y xs v5 e5 hv hw _) $$ [H3 H4 H5 H6 H10 H11]
  · isplitl [H3]
    · iexact H3
    isplitl [H4]
    · iexact H4
    isplitl [H5]
    · iexact H5
    isplitl [H6]
    · iexact H6
    isplitl [H10]
    · iexact H10
    iexact H11
  iintro %r %hr ⟨H3, H4, H5, H6, H10, H11⟩
  subst hr
  generalize hg : gather i v5 hv T X G R xs = g
  generalize hy : yzero i y = y0
  generalize hn : nfw v5 = v23
  iapply (t6_loop c i arg3 harg3 arg4 harg4 arg5 harg5 arg6 harg6 arg7 harg7 arg8 harg8 arg9 harg9 arg10 harg10 arg11 harg11 arg12 harg12 v5 hv hw _ wa wu wo g acc _ _ _) $$ [H7 H8 H9 H11 H12]
  · isplitl [H7]
    · iexact H7
    isplitl [H8]
    · iexact H8
    isplitl [H9]
    · iexact H9
    isplitl [H11]
    · iexact H11
    iexact H12
  iintro %a1 ⟨H7, H8, H9, H11, H12⟩
  iapply (no_loop c _ _ (trips7 hv) _ _ _ _)
  iintro %a2
  ihave H := (own_elim c arg7 _ _) $$ H7
  icases H with ⟨%f7, %h7, H7⟩
  ihave H := (own_elim c arg8 _ _) $$ H8
  icases H with ⟨%f8, %h8, H8⟩
  ihave H := (own_elim c arg9 _ _) $$ H9
  icases H with ⟨%f9, %h9, H9⟩
  ihave H := (own_elim c arg11 _ _) $$ H11
  icases H with ⟨%f11, %h11', H11⟩
  ihave H := (own_elim c arg12 _ _) $$ H12
  icases H with ⟨%f12, %h12', H12⟩
  sl_exec
  ihave H12 : (owns (c : Thread nD τ) arg12 fullShare (ffn i v5 hv wa wu wo g acc)) $$ [H12]
  · unfold owns; iexists _; isplitr; swap
    · iexact H12
    ipureintro
    have e : ffn i v5 hv wa wu wo g acc = fstepT i v5 hv wa wu wo g h11 (itf (k0_t6_loop v5).trips (fstep i v5 hv wa wu wo g) acc (k0_t6_loop v5).trips) := dif_pos h11
    rw [e]
    unfold fstepT
    simp only [if_neg h12, if_pos h13]
    revert h12'
    generalize itf (k0_t6_loop v5).trips (fstep i v5 hv wa wu wo g) acc (k0_t6_loop v5).trips = A
    intro h12'
    subst h12' h11' h7 h8 h9
    exact View.read_writes_cons_put _ _ _ _ [] rfl
  ihave H7 := (own_intro c arg7 _ _ f7 h7) $$ H7
  ihave H8 := (own_intro c arg8 _ _ f8 h8) $$ H8
  ihave H9 := (own_intro c arg9 _ _ f9 h9) $$ H9
  ihave H11 := (own_intro c arg11 _ _ f11 h11') $$ H11
  iapply (t8_loop c i arg3 harg3 arg4 harg4 arg5 harg5 arg6 harg6 arg7 harg7 arg8 harg8 arg9 harg9 arg10 harg10 arg11 harg11 arg12 harg12 v5 hv hw h14 _ q T G R (ffn i v5 hv wa wu wo g acc) y0 _ _ _) $$ [H3 H5 H6 H12 H10]
  · isplitl [H3]
    · iexact H3
    isplitl [H5]
    · iexact H5
    isplitl [H6]
    · iexact H6
    isplitl [H12]
    · iexact H12
    iexact H10
  iintro %a3 ⟨H3, H5, H6, H12, H10⟩
  sl_exec
  iapply (no_loop c _ _ (trips10 hv) _ _ _ _)
  iintro %a4
  sl_exec
  iapply (t12_loop c i arg3 harg3 arg4 harg4 arg5 harg5 arg6 harg6 arg7 harg7 arg8 harg8 arg9 harg9 arg10 harg10 arg11 harg11 arg12 harg12 v5 hv v23 h14 h17 _ q T G R (ffn i v5 hv wa wu wo g acc) (itf (k0_t8_loop v5).trips (sblock i v5 hv h14 T G R (ffn i v5 hv wa wu wo g acc)) y0 (k0_t8_loop v5).trips) _ _ _) $$ [H3 H5 H6 H12 H10]
  · isplitl [H3]
    · iexact H3
    isplitl [H5]
    · iexact H5
    isplitl [H6]
    · iexact H6
    isplitl [H12]
    · iexact H12
    iexact H10
  iintro %a5 ⟨H3, H5, H6, H12, H10⟩
  sl_exec
  sl_step
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · have e : scatter i v5 hv v23 T G R (ffn i v5 hv wa wu wo g acc) y0 = itf k0_t12_loop.trips (sstepT i v5 hv v23 h14 h17 T G R (ffn i v5 hv wa wu wo g acc)) (itf (k0_t8_loop v5).trips (sblock i v5 hv h14 T G R (ffn i v5 hv wa wu wo g acc)) y0 (k0_t8_loop v5).trips) k0_t12_loop.trips := (dif_pos h14).trans (dif_pos h17)
    rw [e]; iexact H10
  isplitl [H11]
  · iexact H11
  iexact H12

/-- The body at a second half, without a tail block. -/
theorem run_d (q : PosShare TreeShare) (T : S640.Idx → BitVec 32) (X : S2048x1024.Idx → Elt F .bf16) (G : S8x2048.Idx → Elt F .f32) (R : S8x2048.Idx → BitVec 32) (wa : S1x1024x1792.Idx → Elt F .bf16) (wu : S1x1024x1792.Idx → Elt F .bf16) (wo : S1x1792x1024.Idx → Elt F .bf16) (y : S2048x1024.Idx → Elt F .f32) (xs : S2048x1024.Idx → Elt F .bf16) (acc : S2048x1024.Idx → Elt F .f32)
    (v5 : BitVec 32) (e5 : (tw T (k0_off1 i) (k0_off1_inb i)) = v5) (hv : v5.toNat ≤ 2048)
    (h2 : ¬ k0_cond2 i = 1#1) (h5 : ¬ k0_cond5 v5 = 1#1) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg7 fullShare wa ∗ owns (c : Thread nD τ) arg8 fullShare wu ∗ owns (c : Thread nD τ) arg9 fullShare wo ∗ owns (c : Thread nD τ) arg10 fullShare y ∗ owns (c : Thread nD τ) arg11 fullShare xs ∗ owns (c : Thread nD τ) arg12 fullShare acc) : sProp 𝕄)
      ⊢ wp frame (wpE defs₀ Variants.none (c : Thread nD τ) none) Set.univ (cc0_moe_routed (F := F) i arg3 harg3 arg4 harg4 arg5 harg5 arg6 harg6 arg7 harg7 arg8 harg8 arg9 harg9 arg10 harg10 arg11 harg11 arg12 harg12) (fun _ =>
          iprop(owns (c : Thread nD τ) arg3 q T ∗ owns (c : Thread nD τ) arg4 fullShare X ∗ owns (c : Thread nD τ) arg5 fullShare G ∗ owns (c : Thread nD τ) arg6 fullShare R ∗ owns (c : Thread nD τ) arg7 fullShare wa ∗ owns (c : Thread nD τ) arg8 fullShare wu ∗ owns (c : Thread nD τ) arg9 fullShare wo ∗ owns (c : Thread nD τ) arg10 fullShare (scatter i v5 hv (nfw v5) T G R (ffn i v5 hv wa wu wo (gather i v5 hv T X G R xs) acc) (yzero i y)) ∗ owns (c : Thread nD τ) arg11 fullShare (gather i v5 hv T X G R xs) ∗ owns (c : Thread nD τ) arg12 fullShare (ffn i v5 hv wa wu wo (gather i v5 hv T X G R xs) acc))) := by
  have hw : k0_chk1 i v5 := chk1_of_le i hv
  have h11 : ¬ k0_cond11 v5 = 1#1 := h5
  have h17 : ¬ k0_cond17 v5 = 1#1 := h5
  obtain ⟨h14, h12, h13⟩ := (conds i).2.2 h2
  simp only [cc0_moe_routed_eq_skeleton]
  unfold cc0_moe_routed_skel
  iintro ⟨H3, H4, H5, H6, H7, H8, H9, H10, H11, H12⟩
  rw [wp_bind]
  iapply (part1_run c i arg3 harg3 arg4 harg4 arg5 harg5 arg6 harg6 arg7 harg7 arg8 harg8 arg9 harg9 arg10 harg10 arg11 harg11 arg12 harg12 q T X G R y xs v5 e5 hv hw _) $$ [H3 H4 H5 H6 H10 H11]
  · isplitl [H3]
    · iexact H3
    isplitl [H4]
    · iexact H4
    isplitl [H5]
    · iexact H5
    isplitl [H6]
    · iexact H6
    isplitl [H10]
    · iexact H10
    iexact H11
  iintro %r %hr ⟨H3, H4, H5, H6, H10, H11⟩
  subst hr
  generalize hg : gather i v5 hv T X G R xs = g
  generalize hy : yzero i y = y0
  generalize hn : nfw v5 = v23
  iapply (t6_loop c i arg3 harg3 arg4 harg4 arg5 harg5 arg6 harg6 arg7 harg7 arg8 harg8 arg9 harg9 arg10 harg10 arg11 harg11 arg12 harg12 v5 hv hw _ wa wu wo g acc _ _ _) $$ [H7 H8 H9 H11 H12]
  · isplitl [H7]
    · iexact H7
    isplitl [H8]
    · iexact H8
    isplitl [H9]
    · iexact H9
    isplitl [H11]
    · iexact H11
    iexact H12
  iintro %a1 ⟨H7, H8, H9, H11, H12⟩
  iapply (no_loop c _ _ (trips7 hv) _ _ _ _)
  iintro %a2
  sl_exec
  have e12 : ffn i v5 hv wa wu wo g acc = (itf (k0_t6_loop v5).trips (fstep i v5 hv wa wu wo g) acc (k0_t6_loop v5).trips) := dif_neg h11
  rw [← e12]
  iapply (t8_loop c i arg3 harg3 arg4 harg4 arg5 harg5 arg6 harg6 arg7 harg7 arg8 harg8 arg9 harg9 arg10 harg10 arg11 harg11 arg12 harg12 v5 hv hw h14 _ q T G R (ffn i v5 hv wa wu wo g acc) y0 _ _ _) $$ [H3 H5 H6 H12 H10]
  · isplitl [H3]
    · iexact H3
    isplitl [H5]
    · iexact H5
    isplitl [H6]
    · iexact H6
    isplitl [H12]
    · iexact H12
    iexact H10
  iintro %a3 ⟨H3, H5, H6, H12, H10⟩
  sl_exec
  iapply (no_loop c _ _ (trips10 hv) _ _ _ _)
  iintro %a4
  sl_exec
  sl_step
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · have e : scatter i v5 hv v23 T G R (ffn i v5 hv wa wu wo g acc) y0 = (itf (k0_t8_loop v5).trips (sblock i v5 hv h14 T G R (ffn i v5 hv wa wu wo g acc)) y0 (k0_t8_loop v5).trips) := (dif_pos h14).trans (dif_neg h17)
    rw [e]; iexact H10
  isplitl [H11]
  · iexact H11
  iexact H12

/-- The body at any point. -/
theorem body_run (q : PosShare TreeShare) (T : S640.Idx → BitVec 32) (X : S2048x1024.Idx → Elt F .bf16) (G : S8x2048.Idx → Elt F .f32) (R : S8x2048.Idx → BitVec 32) (wa : S1x1024x1792.Idx → Elt F .bf16) (wu : S1x1024x1792.Idx → Elt F .bf16) (wo : S1x1792x1024.Idx → Elt F .bf16) (y : S2048x1024.Idx → Elt F .f32) (xs : S2048x1024.Idx → Elt F .bf16) (acc : S2048x1024.Idx → Elt F .f32)
    (v5 : BitVec 32) (e5 : (tw T (k0_off1 i) (k0_off1_inb i)) = v5) (hv : v5.toNat ≤ 2048) :
    (iprop(owns (c : Thread nD τ) arg3 q T ∗ owns (c : Thread nD τ) arg4 fullShare X ∗ owns (c : Thread nD τ) arg5 fullShare G ∗ owns (c : Thread nD τ) arg6 fullShare R ∗ owns (c : Thread nD τ) arg7 fullShare wa ∗ owns (c : Thread nD τ) arg8 fullShare wu ∗ owns (c : Thread nD τ) arg9 fullShare wo ∗ owns (c : Thread nD τ) arg10 fullShare y ∗ owns (c : Thread nD τ) arg11 fullShare xs ∗ owns (c : Thread nD τ) arg12 fullShare acc) : sProp 𝕄)
      ⊢ wp frame (wpE defs₀ Variants.none (c : Thread nD τ) none) Set.univ (cc0_moe_routed (F := F) i arg3 harg3 arg4 harg4 arg5 harg5 arg6 harg6 arg7 harg7 arg8 harg8 arg9 harg9 arg10 harg10 arg11 harg11 arg12 harg12) (fun _ =>
          iprop(owns (c : Thread nD τ) arg3 q T ∗ owns (c : Thread nD τ) arg4 fullShare X ∗ owns (c : Thread nD τ) arg5 fullShare G ∗ owns (c : Thread nD τ) arg6 fullShare R ∗ owns (c : Thread nD τ) arg7 fullShare wa ∗ owns (c : Thread nD τ) arg8 fullShare wu ∗ owns (c : Thread nD τ) arg9 fullShare wo ∗ owns (c : Thread nD τ) arg10 fullShare (scatter i v5 hv (nfw v5) T G R (ffn i v5 hv wa wu wo (gather i v5 hv T X G R xs) acc) (yzero i y)) ∗ owns (c : Thread nD τ) arg11 fullShare (gather i v5 hv T X G R xs) ∗ owns (c : Thread nD τ) arg12 fullShare (ffn i v5 hv wa wu wo (gather i v5 hv T X G R xs) acc))) := by
  by_cases h2 : k0_cond2 i = 1#1 <;> by_cases h5 : k0_cond5 v5 = 1#1
  · exact run_a c i arg3 harg3 arg4 harg4 arg5 harg5 arg6 harg6 arg7 harg7 arg8 harg8 arg9 harg9 arg10 harg10 arg11 harg11 arg12 harg12 q T X G R wa wu wo y xs acc v5 e5 hv h2 h5
  · exact run_b c i arg3 harg3 arg4 harg4 arg5 harg5 arg6 harg6 arg7 harg7 arg8 harg8 arg9 harg9 arg10 harg10 arg11 harg11 arg12 harg12 q T X G R wa wu wo y xs acc v5 e5 hv h2 h5
  · exact run_c c i arg3 harg3 arg4 harg4 arg5 harg5 arg6 harg6 arg7 harg7 arg8 harg8 arg9 harg9 arg10 harg10 arg11 harg11 arg12 harg12 q T X G R wa wu wo y xs acc v5 e5 hv h2 h5
  · exact run_d c i arg3 harg3 arg4 harg4 arg5 harg5 arg6 harg6 arg7 harg7 arg8 harg8 arg9 harg9 arg10 harg10 arg11 harg11 arg12 harg12 q T X G R wa wu wo y xs acc v5 e5 hv h2 h5

end Cert.KernelIdeal.Hand

end
-- ==== Proof.Launch.lean ====
/- The launch: the run of the whole program, with the invariant that says what the two scratch buffers and the output hold. -/
module

public import proofs.«01_k».proof.Proof.Run
public import proofs.«01_k».proof.Proof.Gen.KernelIdeal.Launch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The host's lines before the call, stretch by stretch. -/
def ops : List (List (HloOp τ sig (Elt F))) := [hostOps0, hostOps0_1, hostOps0_2, hostOps0_3, hostOps0_4]

/-- What each buffer holds when the call begins. -/
def V (c : Dev nD) (b : Ref sig .tc) : Buf (Elt F) ((c.tc : Thread nD τ).loc b) :=
  StableHlo.after ops.flatten (fun b => m (c, b)) b

/-- The table of running counts the call reads from scalar memory. -/
def tab (c : Dev nD) : S640.Idx → BitVec 32 := V m c main_v14

/-- The table as the call's prefetched contents. -/
def adm : (p : Fin 1) → (pcfgs (F := F) p).Adm := fun | 0 => ⟨fun | 0 => V m 0 main_v14, trivial⟩

/-- The call's pipeline at these contents. -/
abbrev cfgA : Cfg sig Λ₀ := pin pcfgs (adm m) 0

/-- The number of tokens the table gives for a grid point. -/
def cnt (c : Dev nD) (i : grid0.Coords) : BitVec 32 := tw (tab m c) (k0_off1 i) (k0_off1_inb i)

/-- The block of an input that a grid point sees. -/
def iblk (c : Dev nD) (w : Fin (cfgA m).W) (t : Fin (cfgA m).N) : ((cfgA m).win w).block.Idx → Elt F ((cfgA m).win w).elt :=
  ((cfgA m).win w).fill ((cfgA m).grid.coords t) (fun _ => Classical.arbitrary _)
    ((((cfgA m).win w).blk t).view.read (Elt F) (V m c (arrRef (cfgA m).spec w)))

variable (hT : ∀ (c : Dev nD) (i : grid0.Coords), (cnt m c i).toNat ≤ 2048)

/-- The gathered rows after a grid point, from the rows before. -/
def xsOf (c : Dev nD) (t : Fin (cfgA m).N) (xs : S2048x1024.Idx → Elt F .bf16) : S2048x1024.Idx → Elt F .bf16 :=
  gather (grid0.coords t) (cnt m c (grid0.coords t)) (hT c _) (tab m c) (iblk m c 0 t) (iblk m c 1 t) (iblk m c 2 t) xs

/-- The accumulated rows after a grid point. -/
def accOf (c : Dev nD) (t : Fin (cfgA m).N) (xs : S2048x1024.Idx → Elt F .bf16) (acc : S2048x1024.Idx → Elt F .f32) : S2048x1024.Idx → Elt F .f32 :=
  ffn (grid0.coords t) (cnt m c (grid0.coords t)) (hT c _) (iblk m c 3 t) (iblk m c 4 t) (iblk m c 5 t) xs acc

/-- The output block after a grid point, from the accumulated rows and the block before. -/
def yOf (c : Dev nD) (t : Fin (cfgA m).N) (acc y : S2048x1024.Idx → Elt F .f32) : S2048x1024.Idx → Elt F .f32 :=
  scatter (grid0.coords t) (cnt m c (grid0.coords t)) (hT c _) (nfw (cnt m c (grid0.coords t))) (tab m c) (iblk m c 1 t) (iblk m c 2 t)
    acc (yzero (grid0.coords t) y)

/-- What the two scratch buffers may hold before point `n`. -/
def Reach (c : Dev nD) : ℕ → (S2048x1024.Idx → Elt F .bf16) → (S2048x1024.Idx → Elt F .f32) → Prop
  | 0 => fun _ _ => True
  | n + 1 => fun xs acc => ∃ (h : n < (cfgA m).N) (xs0 : S2048x1024.Idx → Elt F .bf16) (acc0 : S2048x1024.Idx → Elt F .f32),
      Reach c n xs0 acc0 ∧ xs = xsOf m hT c ⟨n, h⟩ xs0 ∧ acc = accOf m hT c ⟨n, h⟩ (xsOf m hT c ⟨n, h⟩ xs0) acc0

/-- The invariant before point `n`. -/
def Inv (c : Dev nD) (n : ℕ) : sProp 𝕄 :=
  iprop(∃ (xs : S2048x1024.Idx → Elt F .bf16) (acc : S2048x1024.Idx → Elt F .f32), ⌜Reach m hT c n xs acc⌝
    ∗ owns (c : Thread nD τ) (Memref.whole cc0_scratch0) fullShare xs ∗ owns (c : Thread nD τ) (Memref.whole cc0_scratch1) fullShare acc
    ∗ owns (c : Thread nD τ) (Memref.whole main_v14) fullShare.right (tab m c) ∗ (∃ r, prngReg c r))

/-- What the body does to a window's block: the inputs stay, the output takes the scattered rows. -/
def aft (c : Dev nD) (w : Fin (cfgA m).W) (t : Fin (cfgA m).N) :
    (((cfgA m).win w).block.Idx → Elt F ((cfgA m).win w).elt) → (((cfgA m).win w).block.Idx → Elt F ((cfgA m).win w).elt) → Prop :=
  match w with
  | 0 => fun Y X => X = Y
  | 1 => fun Y X => X = Y
  | 2 => fun Y X => X = Y
  | 3 => fun Y X => X = Y
  | 4 => fun Y X => X = Y
  | 5 => fun Y X => X = Y
  | 6 => fun Y X => ∃ xs acc, Reach m hT c (t.val + 1) xs acc ∧ X = yOf m hT c t acc Y

/-- The data of the call's run. -/
def rdat (c : Dev nD) : RDat τ (Elt F) Unit ℕ (UR sig nD τ) ℕ (cfgA m) c where
  A w := V m c (arrRef (cfgA m).spec w)
  after w t := aft m hT c w t
  Φ n := Inv m hT c n.val
  q w := shareOf (cfgA m).spec w
  owed _ := 0

/-- The body's arguments at a point. -/
abbrev ms0 (t : Fin (cfgA m).N) (w : Fin 7) := (spec0 w).stage ((cfgA m).slots t w)

/-- The body at a point. -/
def bodyAt (t : Fin (cfgA m).N) :=
  cc0_moe_routed (F := F) (grid0.coords t) (Memref.whole main_v14) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (Memref.whole cc0_scratch0) (Memref.isWhole_whole _) (Memref.whole cc0_scratch1) (Memref.isWhole_whole _)

/-- The body table's row at a point is the body. -/
theorem row (t : Fin (cfgA m).N) : defs₀ (F := F) .tc (cfgA m).body ((cfgA m).bodyArgs t ((cfgA m).slots t)) = bodyAt m t := by
  unfold defs₀; rw [Defs.onTc_tc]; rfl

/-- An input's buffer holds its block at every point. -/
theorem finds_in (c : Dev nD) (w : Fin (cfgA m).W) (hw : ((cfgA m).win w).isOut = false)
    (hk : ∀ t Y X, aft m hT c w t Y X → X = Y) (hclip : ∀ i a, ((cfgA m).win w).clip i a = none)
    (t : Fin (cfgA m).N) (Y : ((cfgA m).win w).block.Idx → Elt F ((cfgA m).win w).elt)
    (h : (rdat m hT c).Finds w t Y) : Y = iblk m c w t := by
  obtain ⟨d, rfl⟩ := (rdat m hT c).finds_in_eq_fetched w hw (fun t t' _ => by funext a; exact (hclip _ a).trans (hclip _ a).symm) hk t Y h
  exact fill_of_clip_none (cfg := cfgA m) w _ (hclip _) _ _ _

/-- The body's triple at a point. -/
theorem sound_body (c : Dev nD) (t : Fin (cfgA m).N) (Y6 : S2048x1024.Idx → Elt F .f32) :
    (iprop(Inv m hT c t.val ∗ (rdat m hT c).owesAt () t.castSucc
      ∗ owns (c : Thread nD τ) (spec0_0.stage ((cfgA m).slots t 0)) fullShare (iblk m c 0 t)
      ∗ owns (c : Thread nD τ) (spec0_1.stage ((cfgA m).slots t 1)) fullShare (iblk m c 1 t)
      ∗ owns (c : Thread nD τ) (spec0_2.stage ((cfgA m).slots t 2)) fullShare (iblk m c 2 t)
      ∗ owns (c : Thread nD τ) (spec0_3.stage ((cfgA m).slots t 3)) fullShare (iblk m c 3 t)
      ∗ owns (c : Thread nD τ) (spec0_4.stage ((cfgA m).slots t 4)) fullShare (iblk m c 4 t)
      ∗ owns (c : Thread nD τ) (spec0_5.stage ((cfgA m).slots t 5)) fullShare (iblk m c 5 t)
      ∗ owns (c : Thread nD τ) (spec0_6.stage ((cfgA m).slots t 6)) fullShare Y6) : sProp 𝕄)
    ⊢ wp frame (wpE (defs₀ (F := F)) Variants.none (c : Thread nD τ) none) Set.univ (bodyAt m t) (fun _ =>
      iprop(Inv m hT c (t.val + 1) ∗ (rdat m hT c).owesAt () t.castSucc
      ∗ (∃ X, ⌜X = iblk m c 0 t⌝ ∗ owns (c : Thread nD τ) (spec0_0.stage ((cfgA m).slots t 0)) fullShare X)
      ∗ (∃ X, ⌜X = iblk m c 1 t⌝ ∗ owns (c : Thread nD τ) (spec0_1.stage ((cfgA m).slots t 1)) fullShare X)
      ∗ (∃ X, ⌜X = iblk m c 2 t⌝ ∗ owns (c : Thread nD τ) (spec0_2.stage ((cfgA m).slots t 2)) fullShare X)
      ∗ (∃ X, ⌜X = iblk m c 3 t⌝ ∗ owns (c : Thread nD τ) (spec0_3.stage ((cfgA m).slots t 3)) fullShare X)
      ∗ (∃ X, ⌜X = iblk m c 4 t⌝ ∗ owns (c : Thread nD τ) (spec0_4.stage ((cfgA m).slots t 4)) fullShare X)
      ∗ (∃ X, ⌜X = iblk m c 5 t⌝ ∗ owns (c : Thread nD τ) (spec0_5.stage ((cfgA m).slots t 5)) fullShare X)
      ∗ (∃ X : S2048x1024.Idx → Elt F .f32, ⌜∃ xs acc, Reach m hT c (t.val + 1) xs acc ∧ X = yOf m hT c t acc Y6⌝ ∗ owns (c : Thread nD τ) (spec0_6.stage ((cfgA m).slots t 6)) fullShare X))) := by
  unfold bodyAt Inv
  iintro ⟨⟨%xs, %acc, %hR, Hxs, Hacc, Htab, Hg⟩, HO, H0, H1, H2, H3, H4, H5, H6⟩
  have hR' : Reach m hT c (t.val + 1) (xsOf m hT c t xs) (accOf m hT c t (xsOf m hT c t xs) acc) := ⟨t.isLt, xs, acc, hR, rfl, rfl⟩
  iapply wp_wand $$ [Hxs Hacc Htab H0 H1 H2 H3 H4 H5 H6]
  · iapply (body_run c (grid0.coords t) _ _ _ _ _ _ _ _ _ _ _ _ _ _ _ _ _ _ _ _ fullShare.right (tab m c) (iblk m c 0 t) (iblk m c 1 t) (iblk m c 2 t) (iblk m c 3 t) (iblk m c 4 t) (iblk m c 5 t) Y6 xs acc (cnt m c (grid0.coords t)) rfl (hT c _))
    isplitl [Htab]; · iexact Htab
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hxs]; · iexact Hxs
    iexact Hacc
  iintro %_ ⟨Htab, H0, H1, H2, H3, H4, H5, H6, Hxs, Hacc⟩
  isplitl [Hxs Hacc Htab Hg]
  · iexists _, _
    isplitr; swap
    · isplitl [Hxs]; · iexact Hxs
      isplitl [Hacc]; · iexact Hacc
      isplitl [Htab]; · iexact Htab
      iexact Hg
    · ipureintro; exact hR'
  isplitl [HO]; · iexact HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  · iexists _; isplitr; swap; · iexact H6
    ipureintro; exact ⟨_, _, hR', rfl⟩

theorem found0 (c : Dev nD) (t : Fin (cfgA m).N) (Y : ((cfgA m).win 0).block.Idx → Elt F ((cfgA m).win 0).elt) (h : (rdat m hT c).Finds 0 t Y) : Y = iblk m c 0 t :=
  finds_in m hT c 0 rfl (fun _ _ _ h => h) (fun _ _ => rfl) t Y h
theorem found1 (c : Dev nD) (t : Fin (cfgA m).N) (Y : ((cfgA m).win 1).block.Idx → Elt F ((cfgA m).win 1).elt) (h : (rdat m hT c).Finds 1 t Y) : Y = iblk m c 1 t :=
  finds_in m hT c 1 rfl (fun _ _ _ h => h) (fun _ _ => rfl) t Y h
theorem found2 (c : Dev nD) (t : Fin (cfgA m).N) (Y : ((cfgA m).win 2).block.Idx → Elt F ((cfgA m).win 2).elt) (h : (rdat m hT c).Finds 2 t Y) : Y = iblk m c 2 t :=
  finds_in m hT c 2 rfl (fun _ _ _ h => h) (fun _ _ => rfl) t Y h
theorem found3 (c : Dev nD) (t : Fin (cfgA m).N) (Y : ((cfgA m).win 3).block.Idx → Elt F ((cfgA m).win 3).elt) (h : (rdat m hT c).Finds 3 t Y) : Y = iblk m c 3 t :=
  finds_in m hT c 3 rfl (fun _ _ _ h => h) (fun _ _ => rfl) t Y h
theorem found4 (c : Dev nD) (t : Fin (cfgA m).N) (Y : ((cfgA m).win 4).block.Idx → Elt F ((cfgA m).win 4).elt) (h : (rdat m hT c).Finds 4 t Y) : Y = iblk m c 4 t :=
  finds_in m hT c 4 rfl (fun _ _ _ h => h) (fun _ _ => rfl) t Y h
theorem found5 (c : Dev nD) (t : Fin (cfgA m).N) (Y : ((cfgA m).win 5).block.Idx → Elt F ((cfgA m).win 5).elt) (h : (rdat m hT c).Finds 5 t Y) : Y = iblk m c 5 t :=
  finds_in m hT c 5 rfl (fun _ _ _ h => h) (fun _ _ => rfl) t Y h

theorem phi_eq (c : Dev nD) (n : Fin ((cfgA m).N + 1)) : (rdat m hT c).Φ n = Inv m hT c n.val := by unfold rdat; rfl
theorem phi_castSucc (c : Dev nD) (t : Fin (cfgA m).N) : (rdat m hT c).Φ t.castSucc = Inv m hT c t.val := by rw [phi_eq]; exact congrArg _ (Fin.val_castSucc _)
theorem phi_succ (c : Dev nD) (t : Fin (cfgA m).N) : (rdat m hT c).Φ t.succ = Inv m hT c (t.val + 1) := by rw [phi_eq]; exact congrArg _ (Fin.val_succ _)
theorem owes_succ (c : Dev nD) (t : Fin (cfgA m).N) : (rdat m hT c).owesAt () t.succ = (rdat m hT c).owesAt () t.castSucc := rfl

/-- The library's body obligation. -/
theorem body_obligation (c : Dev nD) : (rdat m hT c).BodyObligation (defs₀ (F := F)) Variants.none () Set.univ := by
  intro t Y hY
  have e0 := found0 m hT c t _ (hY 0)
  have e1 := found1 m hT c t _ (hY 1)
  have e2 := found2 m hT c t _ (hY 2)
  have e3 := found3 m hT c t _ (hY 3)
  have e4 := found4 m hT c t _ (hY 4)
  have e5 := found5 m hT c t _ (hY 5)
  rw [phi_castSucc, phi_succ,
    bigSep_W0, bigSep_W0, owes_succ, row, e0, e1, e2, e3, e4, e5]
  refine triple_restated (sound_body m hT c t (Y 6)) rfl ?_ ?_
  · iintro ⟨H, HO, H0, H1, H2, H3, H4, H5, H6⟩
    isplitl [H]; · iexact H
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6
  · intro _
    iintro ⟨H, HO, H0, H1, H2, H3, H4, H5, H6⟩
    isplitl [H]; · iexact H
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6

/-- A core's table is the one prefetched. -/
theorem pref_eq (c : Dev nD) : (prefHeld (Ix := Unit) (Name := ℕ) (U := UR sig nD τ) (Lvl := ℕ) pre0 c (fun _ => fullShare.right) (adm m 0).1 : sProp 𝕄)
    = owns (c : Thread nD τ) (Memref.whole main_v14) fullShare.right (tab m c) := by
  obtain rfl : c = 0 := Subsingleton.elim _ _
  unfold prefHeld
  rw [BI.bigSep_eq_bigSepL_of_eq [0] (by decide) (by decide), owns_whole]; rfl

theorem phi_in (c : Dev nD) : iprop(ΦA (cfgA m).spec c ∗ ΦT pre0 (adm m 0).1 c) ⊢ (Inv m hT c 0 : sProp 𝕄) := by
  unfold ΦA ΦT
  rw [pref_eq, show (cfgA m).spec = spec0 from rfl, scopedRest0_eq]
  unfold Inv
  simp only [owns_whole]
  iintro ⟨⟨⟨⟨%xs, Hxs⟩, %acc, Hacc⟩, Hg⟩, Ht⟩
  iexists xs, acc
  isplitr; swap
  · isplitl [Hxs]; · iexact Hxs
    isplitl [Hacc]; · iexact Hacc
    isplitl [Ht]; · iexact Ht
    iexact Hg
  · ipureintro; trivial

theorem phi_out (c : Dev nD) (n : ℕ) : (Inv m hT c n : sProp 𝕄) ⊢ ΦA (cfgA m).spec c := by
  unfold ΦA
  rw [show (cfgA m).spec = spec0 from rfl, scopedRest0_eq]
  unfold Inv
  simp only [owns_whole]
  iintro ⟨%xs, %acc, -, Hxs, Hacc, Ht, Hg⟩
  isplitl [Hxs Hacc]
  · isplitl [Hxs]; · iexists _; iexact Hxs
    iexists _; iexact Hacc
  iexact Hg

set_option backward.isDefEq.respectTransparency.types false in
/-- The run of the program: it ends, the buffers it does not write keep what they held, and the output holds what the grid points left in it. -/
theorem run_main :
    θ_run defs (onTc (τ := τ) (main (F := F))) (s₀ m ρ)
      (fun r => RDat.FramePost (cfgA m) (rdat m hT) (V m) r ∧ r.2.sem = fun _ => 0) :=
  RDat.θ_run_frameP_track_shared (Q' := _) pcfgs (adm m) (0 : Fin 1) launch₀0 defs₀ Variants.none (rdat m hT) m ρ main
    (hbody := body_obligation m hT) (hq := fun _ _ _ => rfl) (howed := fun _ _ => rfl) (V := V m)
    (hmain := hmainP_prefixes pcfgs 0 defs₀ Variants.none m main ops
      ⟨hostOps0_sub, hostOps0_1_sub, hostOps0_2_sub, hostOps0_3_sub, hostOps0_4_sub⟩
      (by repeat' constructor) main_chain)
    (hA := fun _ _ => rfl)
    (hpf := fun c k => by
      obtain rfl : c = 0 := Subsingleton.elim _ _
      match k with
      | 0 => rfl)
    (hin := phi_in m hT) (hout := fun c => phi_out m hT c _)

end Cert.KernelIdeal.Hand

end
-- ==== Proof.Host.lean ====
/- The host's lines before the call: what the buffers that the call reads hold, as one term over the arguments. -/
module

public import proofs.«01_k».proof.Proof.Launch
import Idealize.ShloMosaic.Lib.Pointwise
import Idealize.ShloMosaic.Lib.StableHlo.ReadAt

@[expose] public section
noncomputable section
namespace Cert.KernelIdeal.Hand
open Cert.KernelIdeal Cert.KernelIdeal.Gen
open Idealize.ShloMosaic Idealize.ShloMosaic.TcCoe Idealize.ShloMosaic.Tactic
open Idealize.ShloMosaic.Pipeline

variable {F : FTy → Type} [FloatOps F]

section Stages
variable (W : Valuation τ sig (Elt F))

theorem s4_v14 : StableHlo.after hostOps0_4 W (Proc.devRef .tc main_v14) = (fun i => shapeCast S640 (transpose S16x8x5 [1, 0, 2] (concatenate S8x16x5 2 [⟨S8x16x1, W (Proc.devRef .tc main_v10)⟩, ⟨S8x16x4, W (Proc.devRef .tc main_v11)⟩] concatenates_S8x16x1_S8x16x4_S8x16x5_d2) transposes_S8x16x5_S16x8x5_1_0_2) shapeCasts_S16x8x5_S640 i) := by
  after_reads_simp
  rfl
theorem s4_v15 : StableHlo.after hostOps0_4 W (Proc.devRef .tc main_v15) = truncf .bf16 (W (Proc.devRef .tc main_arg2)) bitsLt_bf16_f32 := by
  after_reads_simp
theorem s4_v16 : StableHlo.after hostOps0_4 W (Proc.devRef .tc main_v16) = truncf .bf16 (W (Proc.devRef .tc main_arg3)) bitsLt_bf16_f32 := by
  after_reads_simp
theorem s3_v11 : StableHlo.after hostOps0_3 W (Proc.devRef .tc main_v11) = Host.reduceWindow IntOp.addi ![1, 1, 4] ![1, 1, 1] ![0, 0, 3] ![0, 0, 0] (W (Proc.devRef .tc main_v9)) (broadcastInDim S_ ![] bcast_S_S_ (constantI S_ 32 0#32)) reduceWindows_S8x16x4_S8x16x4_w1s1p0_0_w1s1p0_0_w4s1p3_0 h_S_ := by
  after_reads_simp
  simp -implicitDefEqProofs only [StableHlo.TRef.toBuf, StableHlo.TRef.ofBuf, cast_cast, cast_eq]
theorem s2_v7 : StableHlo.after hostOps0_2 W (Proc.devRef .tc main_v7) = shapeCast S8x32768 (subi (W (Proc.devRef .tc main_v5)) (W (Proc.devRef .tc main_v4))) shapeCasts_S8x16x2048_S8x32768 := by
  after_reads_simp
  rfl
theorem s2_v9 : StableHlo.after hostOps0_2 W (Proc.devRef .tc main_v9) = Host.reduce IntOp.addi (shapeCast S8x16x4x512 (W (Proc.devRef .tc main_v4)) shapeCasts_S8x16x2048_S8x16x4x512) (constantI S_ 32 0#32) reducesTo_S8x16x4x512_S8x16x4_d3 h_S_ := by
  after_reads_simp
  rfl
theorem s2_v10 : StableHlo.after hostOps0_2 W (Proc.devRef .tc main_v10) = broadcastInDim S8x16x1 ![] bcast_S_S8x16x1 (constantI S_ 32 0#32) := by
  after_reads_simp
theorem s1_v5 : StableHlo.after hostOps0_1 W (Proc.devRef .tc main_v5) = Host.reduceWindow IntOp.addi ![1, 1, 2048] ![1, 1, 1] ![0, 0, 2047] ![0, 0, 0] (W (Proc.devRef .tc main_v4)) (broadcastInDim S_ ![] bcast_S_S_ (constantI S_ 32 0#32)) reduceWindows_S8x16x2048_S8x16x2048_w1s1p0_0_w1s1p0_0_w2048s1p2047_0 h_S_ := by
  after_reads_simp
  simp -implicitDefEqProofs only [StableHlo.TRef.toBuf, StableHlo.TRef.ofBuf, cast_cast, cast_eq]
theorem s0_v4 : StableHlo.after hostOps0 W (Proc.devRef .tc main_v4) = shapeCast S8x16x2048 (extui 32 (cmpf .ogt (W (Proc.devRef .tc main_arg1)) (broadcastInDim S8x32768 ![] bcast_S_S8x32768 (constant S_ .f32 0x00000000#32))) natLt_1_32) shapeCasts_S8x32768_S8x16x2048 := by
  after_reads_simp
  rfl
theorem s0_v0 : StableHlo.after hostOps0 W (Proc.devRef .tc main_v0) = truncf .bf16 (W (Proc.devRef .tc main_arg0)) bitsLt_bf16_f32 := by
  after_reads_simp
theorem s1_v4 : StableHlo.after hostOps0_1 W (Proc.devRef .tc main_v4) = W (Proc.devRef .tc main_v4) := by after_reads_simp
theorem s4_v7 : StableHlo.after hostOps0_4 W (Proc.devRef .tc main_v7) = W (Proc.devRef .tc main_v7) := by after_reads_simp
theorem s3_v7 : StableHlo.after hostOps0_3 W (Proc.devRef .tc main_v7) = W (Proc.devRef .tc main_v7) := by after_reads_simp
theorem s3_v10 : StableHlo.after hostOps0_3 W (Proc.devRef .tc main_v10) = W (Proc.devRef .tc main_v10) := by after_reads_simp
end Stages
end Cert.KernelIdeal.Hand
end
-- ==== Proof.Table.lean ====
/- The running counts that the host hands to the call: the rank of every token among the tokens of its tile that an expert takes,
   and the number of such tokens before each subtile. -/
module

public import proofs.«01_k».proof.Proof.Host
public import Idealize.ShloMosaic.Lib.Pointwise.Index
import Idealize.ShloMosaic.Lib.Pointwise
import Idealize.ShloMosaic.Lib.StableHlo.ReadAt

@[expose] public section
noncomputable section
namespace Cert.KernelIdeal.Hand
open Cert.KernelIdeal Cert.KernelIdeal.Gen
open Idealize.ShloMosaic Idealize.ShloMosaic.TcCoe Idealize.ShloMosaic.Tactic
open Idealize.ShloMosaic.Pipeline

/-- A wrapping sum of words that hold naturals holds the sum of the naturals. -/
theorem fold_words [Std.Commutative (IntOp.addi (w := 32))] [Std.Associative (IntOp.addi (w := 32))] {ι : Type} (s : Finset ι) (g : ι → BitVec 32) (f : ι → ℕ) (h : ∀ i, g i = BitVec.ofNat 32 (f i)) :
    Finset.fold IntOp.addi (0#32) g s = BitVec.ofNat 32 (∑ i ∈ s, f i) := by
  classical
  induction s using Finset.induction_on with
  | empty => rfl
  | insert a s ha ih => rw [Finset.fold_insert ha, ih, Finset.sum_insert ha, h a, BitVec.ofNat_add]; rfl

/-- A left fold of word additions over words that hold naturals. -/
theorem foldl_words {ι : Type} (l : List ι) (g : ι → BitVec 32) (f : ι → ℕ) (h : ∀ a ∈ l, g a = BitVec.ofNat 32 (f a)) (z : ℕ) :
    l.foldl (fun r a => IntOp.addi r (g a)) (BitVec.ofNat 32 z) = BitVec.ofNat 32 (z + (l.map f).sum) := by
  induction l generalizing z with
  | nil => simp
  | cons a l ih =>
    rw [List.foldl_cons, h a List.mem_cons_self]
    show l.foldl _ (BitVec.ofNat 32 z + BitVec.ofNat 32 (f a)) = _
    rw [← BitVec.ofNat_add, ih (fun b hb => h b (List.mem_cons_of_mem _ hb)), List.map_cons, List.sum_cons, Nat.add_assoc]

/-- A window of `[1, 1, N]` has `N` positions, the position `n` being its entry `(0, 0, n)`. -/
theorem numel_window (N : ℕ) : (⟨3, ![1, 1, N]⟩ : Shape).numel = N := by
  show ∏ a : Fin 3, (![1, 1, N] : Fin 3 → Nat) a = N
  rw [Fin.prod_univ_three]
  show 1 * 1 * N = N
  omega

theorem window_pos {N : ℕ} (n : Fin (⟨3, ![1, 1, N]⟩ : Shape).numel) :
    (⟨3, ![1, 1, N]⟩ : Shape).rowMajor.symm n = ix3 (0 : Fin 1) (0 : Fin 1) (n.cast (numel_window N)) :=
  ((⟨3, ![1, 1, N]⟩ : Shape).rowMajor.symm_apply_eq).2 (Fin.ext (by
    rw [Shape.rowMajor_val_three]
    show n.val = (0 * 1 + 0) * N + n.val
    omega))

/-- The sum over the window that ends at `j` is the sum of the entries up to `j`. -/
theorem window_sum (f : ℕ → ℕ) (M j : ℕ) (hj : j ≤ M) :
    (∑ w ∈ Finset.range (M + 1), if M ≤ j + w then f (j + w - M) else 0) = ∑ i ∈ Finset.range (j + 1), f i := by
  obtain ⟨d, rfl⟩ : ∃ d, M = j + d := ⟨M - j, by omega⟩
  rw [show j + d + 1 = d + (j + 1) by omega, Finset.sum_range_add]
  rw [Finset.sum_eq_zero (fun w hw => if_neg (by have := Finset.mem_range.1 hw; omega)), zero_add]
  refine Finset.sum_congr rfl fun i _ => ?_
  rw [if_pos (by omega), show j + (d + i) - (j + d) = i by omega]

/-- A running sum along the last axis of a box, read at an entry. -/
theorem running_sum {A B N M : ℕ} (hN : M + 1 = N) (x : (⟨3, ![A, B, N]⟩ : Shape).Idx → BitVec 32) (a : Fin A) (b : Fin B)
    (f : ℕ → ℕ) (hx : ∀ k : Fin N, x (ix3 a b k) = BitVec.ofNat 32 (f k.val)) {u : Shape} (init : u.Idx → BitVec 32) (hi : ∀ i, init i = 0#32)
    (h : (⟨3, ![A, B, N]⟩ : Shape).ReduceWindows (![1, 1, N] : Fin 3 → Nat) ![1, 1, 1] ![0, 0, M] ![0, 0, 0] ⟨3, ![A, B, N]⟩) (hu : 0 < u.numel) (j : Fin N) :
    Host.reduceWindow IntOp.addi ![1, 1, N] ![1, 1, 1] ![0, 0, M] ![0, 0, 0] x init h hu (ix3 a b j)
      = BitVec.ofNat 32 (∑ i ∈ Finset.range (j.val + 1), f i) := by
  subst hN
  have hj := j.isLt
  have ha := a.isLt
  have hb := b.isLt
  unfold Host.reduceWindow
  rw [hi]
  refine (foldl_words _ _ (fun n => if M ≤ j.val + n.val then f (j.val + n.val - M) else 0) (fun n _ => ?_) 0).trans ?_
  · have hn : n.val < M + 1 := (n.cast (numel_window _)).isLt
    have w0 : ((⟨3, ![1, 1, M + 1]⟩ : Shape).rowMajor.symm n 0).val = 0 := by rw [window_pos]; rfl
    have w1 : ((⟨3, ![1, 1, M + 1]⟩ : Shape).rowMajor.symm n 1).val = 0 := by rw [window_pos]; rfl
    have w2 : ((⟨3, ![1, 1, M + 1]⟩ : Shape).rowMajor.symm n 2).val = n.val := by rw [window_pos]; rfl
    dsimp only
    split
    · next hin =>
      have h2 := hin 2
      change M ≤ j.val * 1 + ((⟨3, ![1, 1, M + 1]⟩ : Shape).rowMajor.symm n 2).val
        ∧ j.val * 1 + ((⟨3, ![1, 1, M + 1]⟩ : Shape).rowMajor.symm n 2).val - M < M + 1 at h2
      rw [w2] at h2
      rw [if_pos (by omega)]
      refine (congrArg x (funext fun q => Fin.ext ?_)).trans (hx ⟨j.val + n.val - M, by omega⟩)
      match q with
      | ⟨0, _⟩ =>
        show a.val * 1 + ((⟨3, ![1, 1, M + 1]⟩ : Shape).rowMajor.symm n 0).val - 0 = a.val
        rw [w0]; omega
      | ⟨1, _⟩ =>
        show b.val * 1 + ((⟨3, ![1, 1, M + 1]⟩ : Shape).rowMajor.symm n 1).val - 0 = b.val
        rw [w1]; omega
      | ⟨2, _⟩ =>
        show j.val * 1 + ((⟨3, ![1, 1, M + 1]⟩ : Shape).rowMajor.symm n 2).val - M = j.val + n.val - M
        rw [w2]; omega
    · next hin =>
      rw [if_neg fun hle => hin fun q => by
        match q with
        | ⟨0, _⟩ =>
          show 0 ≤ a.val * 1 + ((⟨3, ![1, 1, M + 1]⟩ : Shape).rowMajor.symm n 0).val ∧ a.val * 1 + ((⟨3, ![1, 1, M + 1]⟩ : Shape).rowMajor.symm n 0).val - 0 < A
          rw [w0]; omega
        | ⟨1, _⟩ =>
          show 0 ≤ b.val * 1 + ((⟨3, ![1, 1, M + 1]⟩ : Shape).rowMajor.symm n 1).val ∧ b.val * 1 + ((⟨3, ![1, 1, M + 1]⟩ : Shape).rowMajor.symm n 1).val - 0 < B
          rw [w1]; omega
        | ⟨2, _⟩ =>
          show M ≤ j.val * 1 + ((⟨3, ![1, 1, M + 1]⟩ : Shape).rowMajor.symm n 2).val ∧ j.val * 1 + ((⟨3, ![1, 1, M + 1]⟩ : Shape).rowMajor.symm n 2).val - M < M + 1
          rw [w2]; omega]
  · rw [Nat.zero_add]
    refine congrArg (BitVec.ofNat 32) (Eq.trans ?_ (window_sum f M j.val (by omega)))
    rw [← Fin.sum_univ_def, Fin.sum_univ_eq_sum_range (fun w => if M ≤ j.val + w then f (j.val + w - M) else 0), numel_window]

variable {F : FTy → Type} [FloatOps F] [∀ e, Nonempty (Elt F e)]
variable (m : (ℓ : Loc nD τ sig) → Buf (Elt F) ℓ)

/-- The gates. -/
def gate (c : Dev nD) : S8x32768.Idx → F .f32 := m (c, Proc.devRef .tc main_arg1)

/-- One where expert `e` takes token `n` (its gate is positive), else zero. -/
def bn (c : Dev nD) (e : Fin 8) (n : ℕ) : ℕ :=
  if h : n < 32768 then (FloatOps.cmpf .ogt (gate m c (ix2 e ⟨n, h⟩)) (FloatOps.ofBits .f32 0x00000000#32)).toNat else 0

/-- The number of the first `k` tokens of tile `i` that expert `e` takes. -/
def cum (c : Dev nD) (e : Fin 8) (i k : ℕ) : ℕ := ∑ j ∈ Finset.range k, bn m c e (2048 * i + j)

theorem bn_le (c : Dev nD) (e : Fin 8) (n : ℕ) : bn m c e n ≤ 1 := by
  unfold bn
  split
  · exact Nat.lt_succ_iff.1 (BitVec.isLt _)
  · exact Nat.zero_le _

theorem cum_le (c : Dev nD) (e : Fin 8) (i k : ℕ) : cum m c e i k ≤ k := by
  unfold cum
  refine (Finset.sum_le_card_nsmul _ _ 1 fun j _ => bn_le m c e _).trans ?_
  simp

theorem cum_succ (c : Dev nD) (e : Fin 8) (i k : ℕ) : cum m c e i (k + 1) = cum m c e i k + bn m c e (2048 * i + k) := Finset.sum_range_succ _ _

theorem cum_add (c : Dev nD) (e : Fin 8) (i k l : ℕ) : cum m c e i (k + l) = cum m c e i k + ∑ j ∈ Finset.range l, bn m c e (2048 * i + (k + j)) :=
  Finset.sum_range_add _ _ _

/-- The contents of the buffers before the host's first line. -/
abbrev W0 (c : Dev nD) : Valuation τ sig (Elt F) := fun b => m (c, b)

theorem V_eq (c : Dev nD) (b : Ref sig .tc) : V m c b
    = StableHlo.after hostOps0_4 (StableHlo.after hostOps0_3 (StableHlo.after hostOps0_2 (StableHlo.after hostOps0_1 (StableHlo.after hostOps0 (W0 m c))))) (Proc.devRef .tc b) := by
  rfl

/-- The takings as words, tile by tile. -/
theorem v4_at (c : Dev nD) (e : Fin 8) (i : Fin 16) (n : Fin 2048) :
    (StableHlo.after hostOps0 (W0 m c) (Proc.devRef .tc main_v4) : S8x16x2048.Idx → BitVec 32) (ix3 e i n) = BitVec.ofNat 32 (bn m c e (2048 * i.val + n.val)) := by
  rw [s0_v4]
  pointwise
  unfold bn
  have hi := i.isLt
  have hn := n.isLt
  rw [dif_pos (by omega), BitVec.ofNat_toNat]
  refine congrArg (fun k => BitVec.setWidth 32 (FloatOps.cmpf CmpFPredicate.ogt (gate m c (ix2 e k)) (FloatOps.ofBits FTy.f32 0#32))) (Fin.ext ?_)
  show i.val * 2048 + n.val = 2048 * i.val + n.val
  omega

theorem v5_at (c : Dev nD) (e : Fin 8) (i : Fin 16) (n : Fin 2048) :
    (StableHlo.after hostOps0_1 (StableHlo.after hostOps0 (W0 m c)) (Proc.devRef .tc main_v5) : S8x16x2048.Idx → BitVec 32) (ix3 e i n) = BitVec.ofNat 32 (cum m c e i.val (n.val + 1)) := by
  rw [s1_v5]
  exact running_sum (N := 2048) rfl _ e i (fun n => bn m c e (2048 * i.val + n)) (fun k => v4_at m c e i k) _ (fun _ => rfl) _ _ n

/-- A token's rank: the number of the tokens before it in its tile that the expert takes. -/
theorem rank_at (c : Dev nD) (e : Fin 8) (i : Fin 16) (n : Fin 2048) (h : 2048 * i.val + n.val < 32768) :
    (V m c main_v7 : S8x32768.Idx → BitVec 32) (ix2 e ⟨2048 * i.val + n.val, h⟩) = BitVec.ofNat 32 (cum m c e i.val n.val) := by
  have hi := i.isLt
  have hn := n.isLt
  rw [V_eq, s4_v7, s3_v7, s2_v7]
  pointwise
  have e1 := v5_at m c e i n
  have e2 := v4_at m c e i n
  rw [s1_v4]
  refine (congrArg₂ IntOp.subi e1 e2).trans ?_
  rw [cum_succ, BitVec.ofNat_add]
  exact BitVec.add_sub_cancel _ _

theorem v9_at (c : Dev nD) (e : Fin 8) (i : Fin 16) (k : Fin 4) :
    (StableHlo.after hostOps0_2 (StableHlo.after hostOps0_1 (StableHlo.after hostOps0 (W0 m c))) (Proc.devRef .tc main_v9) : S8x16x4.Idx → BitVec 32) (ix3 e i k)
      = BitVec.ofNat 32 (∑ j ∈ Finset.range 512, bn m c e (2048 * i.val + (512 * k.val + j))) := by
  rw [s2_v9, s1_v4]
  pointwise
  have hk := k.isLt
  refine (fold_words _ _ (fun j : Fin 512 => bn m c e (2048 * i.val + (512 * k.val + j.val))) fun j => ?_).trans ?_
  · refine (v4_at m c e i _).trans ?_
    have e1 : k.val * 512 + j.val = 512 * k.val + j.val := by omega
    exact congrArg (fun q => BitVec.ofNat 32 (bn m c e (2048 * i.val + q))) e1
  · rw [Finset.sum_range]

theorem v11_at (c : Dev nD) (e : Fin 8) (i : Fin 16) (k : Fin 4) :
    (StableHlo.after hostOps0_3 (StableHlo.after hostOps0_2 (StableHlo.after hostOps0_1 (StableHlo.after hostOps0 (W0 m c)))) (Proc.devRef .tc main_v11) : S8x16x4.Idx → BitVec 32) (ix3 e i k)
      = BitVec.ofNat 32 (cum m c e i.val (512 * (k.val + 1))) := by
  rw [s3_v11]
  have e1 := running_sum (N := 4) rfl (StableHlo.after hostOps0_2 (StableHlo.after hostOps0_1 (StableHlo.after hostOps0 (W0 m c))) (Proc.devRef .tc main_v9)) e i (fun k => ∑ j ∈ Finset.range 512, bn m c e (2048 * i.val + (512 * k + j))) (v9_at m c e i) (broadcastInDim S_ ![] bcast_S_S_ (constantI S_ 32 0#32)) (fun _ => rfl) reduceWindows_S8x16x4_S8x16x4_w1s1p0_0_w1s1p0_0_w4s1p3_0 h_S_ k
  refine Eq.trans e1 ?_
  refine congrArg (BitVec.ofNat 32) ?_
  generalize k.val + 1 = K
  induction K with
  | zero => unfold cum; rw [Nat.mul_zero, Finset.range_zero, Finset.sum_empty, Finset.sum_empty]
  | succ K ih => rw [Finset.sum_range_succ, ih, Nat.mul_add, Nat.mul_one, cum_add]

/-- The table: before subtile `k` of tile `i`, the number of the tile's tokens so far that expert `e` takes. -/
theorem tab_at (c : Dev nD) (e : Fin 8) (i : Fin 16) (k : Fin 5) (h : 40 * i.val + 5 * e.val + k.val < 640) :
    tab m c (ix1 ⟨40 * i.val + 5 * e.val + k.val, h⟩) = BitVec.ofNat 32 (cum m c e i.val (512 * k.val)) := by
  have hi := i.isLt
  have hk := k.isLt
  have he := e.isLt
  unfold tab
  rw [V_eq, s4_v14, s3_v10, s2_v10]
  pointwise
  by_cases h1 : k.val < 1
  · rw [dif_pos h1, show 512 * k.val = 0 by omega]
    unfold cum
    rw [Finset.range_zero, Finset.sum_empty]
  · rw [dif_neg h1]
    refine (v11_at m c e i ⟨k.val - 1, by omega⟩).trans ?_
    show BitVec.ofNat 32 (cum m c e i.val (512 * (k.val - 1 + 1))) = _
    rw [show k.val - 1 + 1 = k.val by omega]

/-- A word of the table, at an offset. -/
theorem tab_word (c : Dev nD) (e : Fin 8) (i : Fin 16) (k : Fin 5) (off : Fin 1 → ℕ) (inb : ∀ a, off a + S1.size a ≤ S640.size a)
    (ho : off = ![40 * i.val + 5 * e.val + k.val]) : tw (tab m c) off inb = BitVec.ofNat 32 (cum m c e i.val (512 * k.val)) := by
  subst ho
  have hi := i.isLt
  have hk := k.isLt
  have he := e.isLt
  refine Eq.trans ?_ (tab_at m c e i k (by omega))
  unfold tw
  refine congrArg (tab m c) (funext fun a => Fin.ext ?_)
  match a with
  | ⟨0, _⟩ =>
    have hz : (Shape.Idx.first (s := S1) Nat.one_pos 0).val = 0 := Nat.lt_one_iff.1 (Shape.Idx.first (s := S1) Nat.one_pos 0).isLt
    show 40 * i.val + 5 * e.val + k.val + 1 * (Shape.Idx.first (s := S1) Nat.one_pos 0).val = 40 * i.val + 5 * e.val + k.val
    rw [hz, Nat.mul_zero, Nat.add_zero]

/-- The number of tokens of its tile that the expert at a grid point takes. -/
theorem cnt_eq (c : Dev nD) (i : grid0.Coords) : cnt m c i = BitVec.ofNat 32 (cum m c (i 1) (i 0).val 2048) := by
  unfold cnt
  exact tab_word m c (i 1) (i 0) 4 _ _ (k0_off1_eq i)

theorem cnt_le (c : Dev nD) (i : grid0.Coords) : (cnt m c i).toNat ≤ 2048 := by
  have h := cum_le m c (i 1) (i 0).val 2048
  rw [cnt_eq, BitVec.toNat_ofNat, Nat.mod_eq_of_lt (by omega)]
  exact h

end Cert.KernelIdeal.Hand
end
-- ==== Proof.Frames.lean ====
/- The arguments end as they began, and every counter at zero: the frame of each of the three programs. -/
module

public import proofs.«01_k».proof.Proof.Table
public import proofs.«01_k».proof.Defs
public import proofs.«01_k».proof.Proof.Gen.Kernel
public import proofs.«01_k».proof.Proof.Gen.ReferenceIdeal
public import proofs.«01_k».proof.Proof.Gen.ReferenceIdeal.Run
import Idealize.ShloMosaic.Lib.Pointwise
import Idealize.ShloMosaic.Lib.StableHlo.ReadAt

@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.Sem
open Idealize.ShloMosaic.Pipeline

section
variable {F : FTy → Type} [FloatOps F]
variable (W : Valuation τ sig (Elt F))

theorem s4_arg0 : StableHlo.after hostOps0_4 W (Proc.devRef .tc main_arg0) = W (Proc.devRef .tc main_arg0) := by after_reads_simp
theorem s3_arg0 : StableHlo.after hostOps0_3 W (Proc.devRef .tc main_arg0) = W (Proc.devRef .tc main_arg0) := by after_reads_simp
theorem s2_arg0 : StableHlo.after hostOps0_2 W (Proc.devRef .tc main_arg0) = W (Proc.devRef .tc main_arg0) := by after_reads_simp
theorem s1_arg0 : StableHlo.after hostOps0_1 W (Proc.devRef .tc main_arg0) = W (Proc.devRef .tc main_arg0) := by after_reads_simp
theorem s0_arg0 : StableHlo.after hostOps0 W (Proc.devRef .tc main_arg0) = W (Proc.devRef .tc main_arg0) := by after_reads_simp
theorem s4_arg1 : StableHlo.after hostOps0_4 W (Proc.devRef .tc main_arg1) = W (Proc.devRef .tc main_arg1) := by after_reads_simp
theorem s3_arg1 : StableHlo.after hostOps0_3 W (Proc.devRef .tc main_arg1) = W (Proc.devRef .tc main_arg1) := by after_reads_simp
theorem s2_arg1 : StableHlo.after hostOps0_2 W (Proc.devRef .tc main_arg1) = W (Proc.devRef .tc main_arg1) := by after_reads_simp
theorem s1_arg1 : StableHlo.after hostOps0_1 W (Proc.devRef .tc main_arg1) = W (Proc.devRef .tc main_arg1) := by after_reads_simp
theorem s0_arg1 : StableHlo.after hostOps0 W (Proc.devRef .tc main_arg1) = W (Proc.devRef .tc main_arg1) := by after_reads_simp
theorem s4_arg2 : StableHlo.after hostOps0_4 W (Proc.devRef .tc main_arg2) = W (Proc.devRef .tc main_arg2) := by after_reads_simp
theorem s3_arg2 : StableHlo.after hostOps0_3 W (Proc.devRef .tc main_arg2) = W (Proc.devRef .tc main_arg2) := by after_reads_simp
theorem s2_arg2 : StableHlo.after hostOps0_2 W (Proc.devRef .tc main_arg2) = W (Proc.devRef .tc main_arg2) := by after_reads_simp
theorem s1_arg2 : StableHlo.after hostOps0_1 W (Proc.devRef .tc main_arg2) = W (Proc.devRef .tc main_arg2) := by after_reads_simp
theorem s0_arg2 : StableHlo.after hostOps0 W (Proc.devRef .tc main_arg2) = W (Proc.devRef .tc main_arg2) := by after_reads_simp
theorem s4_arg3 : StableHlo.after hostOps0_4 W (Proc.devRef .tc main_arg3) = W (Proc.devRef .tc main_arg3) := by after_reads_simp
theorem s3_arg3 : StableHlo.after hostOps0_3 W (Proc.devRef .tc main_arg3) = W (Proc.devRef .tc main_arg3) := by after_reads_simp
theorem s2_arg3 : StableHlo.after hostOps0_2 W (Proc.devRef .tc main_arg3) = W (Proc.devRef .tc main_arg3) := by after_reads_simp
theorem s1_arg3 : StableHlo.after hostOps0_1 W (Proc.devRef .tc main_arg3) = W (Proc.devRef .tc main_arg3) := by after_reads_simp
theorem s0_arg3 : StableHlo.after hostOps0 W (Proc.devRef .tc main_arg3) = W (Proc.devRef .tc main_arg3) := by after_reads_simp
theorem s4_v0 : StableHlo.after hostOps0_4 W (Proc.devRef .tc main_v0) = W (Proc.devRef .tc main_v0) := by after_reads_simp
theorem s3_v0 : StableHlo.after hostOps0_3 W (Proc.devRef .tc main_v0) = W (Proc.devRef .tc main_v0) := by after_reads_simp
theorem s2_v0 : StableHlo.after hostOps0_2 W (Proc.devRef .tc main_v0) = W (Proc.devRef .tc main_v0) := by after_reads_simp
theorem s1_v0 : StableHlo.after hostOps0_1 W (Proc.devRef .tc main_v0) = W (Proc.devRef .tc main_v0) := by after_reads_simp
end

variable {F : FTy → Type} [FloatOps F] [∀ e, Nonempty (Elt F e)]
variable (m : (ℓ : Loc nD τ sig) → Buf (Elt F) ℓ) (ρ : Dev nD → PrngReg)

/-- The host's lines write no argument. -/
theorem V_arg0 (c : Dev nD) : V m c main_arg0 = m (c, Proc.devRef .tc main_arg0) := by rw [V_eq, s4_arg0, s3_arg0, s2_arg0, s1_arg0, s0_arg0]
theorem V_arg1 (c : Dev nD) : V m c main_arg1 = m (c, Proc.devRef .tc main_arg1) := by rw [V_eq, s4_arg1, s3_arg1, s2_arg1, s1_arg1, s0_arg1]
theorem V_arg2 (c : Dev nD) : V m c main_arg2 = m (c, Proc.devRef .tc main_arg2) := by rw [V_eq, s4_arg2, s3_arg2, s2_arg2, s1_arg2, s0_arg2]
theorem V_arg3 (c : Dev nD) : V m c main_arg3 = m (c, Proc.devRef .tc main_arg3) := by rw [V_eq, s4_arg3, s3_arg3, s2_arg3, s1_arg3, s0_arg3]

/-- The tokens and the weights as the call reads them: the arguments at half the width. -/
theorem V_v0 (c : Dev nD) : V m c main_v0 = truncf .bf16 (m (c, Proc.devRef .tc main_arg0)) bitsLt_bf16_f32 := by
  rw [V_eq, s4_v0, s3_v0, s2_v0, s1_v0, s0_v0]
theorem V_v15 (c : Dev nD) : V m c main_v15 = truncf .bf16 (m (c, Proc.devRef .tc main_arg2)) bitsLt_bf16_f32 := by
  rw [V_eq, s4_v15, s3_arg2, s2_arg2, s1_arg2, s0_arg2]
theorem V_v16 (c : Dev nD) : V m c main_v16 = truncf .bf16 (m (c, Proc.devRef .tc main_arg3)) bitsLt_bf16_f32 := by
  rw [V_eq, s4_v16, s3_arg3, s2_arg3, s1_arg3, s0_arg3]

/-- What the run leaves, of the arguments. -/
theorem post_args (r : PUnit × MemSt nD τ sig (Elt F)) (h : RDat.FramePost (cfgA m) (rdat m (cnt_le m)) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine ⟨((h c).2 main_arg0 (Pipeline.mem_restRefs_of (win := spec0) main_arg0 (by decide) (by decide))).trans (V_arg0 m c), ?_,
    ((h c).2 main_arg2 (Pipeline.mem_restRefs_of (win := spec0) main_arg2 (by decide) (by decide))).trans (V_arg2 m c),
    ((h c).2 main_arg3 (Pipeline.mem_restRefs_of (win := spec0) main_arg3 (by decide) (by decide))).trans (V_arg3 m c)⟩
  have h1 := (h c).1 1
  rw [(rdat m (cnt_le m) c).ArrAt_in 1 rfl] at h1
  exact Eq.trans h1 (V_arg1 m c)

/-- The frame of the program, over any float values. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨post_args m r h.1, h.2⟩) (run_main m ρ (cnt_le m))

theorem frame_ideal : Cert.quiescent_KernelIdeal (hKernelIdeal := Cert.KernelIdeal.Gen.facts) :=
  fun m g _ => frame_run m g

/-- A program without counters has them all at zero. -/
theorem frame_reference : Cert.quiescent_ReferenceIdeal (hReferenceIdeal := Cert.ReferenceIdeal.Gen.facts) :=
  fun m g _ => (θ_run Cert.ReferenceIdeal.defs _ _).mono (fun r h => ⟨fun c => (h c).2, sem_eq_zero_of_no_sems rfl r.2⟩)
    (Cert.ReferenceIdeal.Value.run (F := Ideal) m g)

end Cert.KernelIdeal.Hand
end
-- ==== Proof.FrameK.lean ====
/- The frame of the kernel over words: the run of its idealization, which has the same text, at the words. -/
module

public import proofs.«01_k».proof.Proof.Frames

@[expose] public section
set_option maxHeartbeats 4000000
noncomputable section
namespace Cert.KernelIdeal.Hand
open Idealize.ShloMosaic Idealize.ShloMosaic.TcCoe Idealize.ShloMosaic.Tactic
open Idealize.SL Idealize.SL.Sem

/-- The two programs' bodies have the same text. -/
theorem same_part1 : @Cert.Kernel.k0_part1 Bits _ _ = @Cert.KernelIdeal.k0_part1 Bits _ _ := rfl

theorem same_body : @Cert.Kernel.cc0_moe_routed Bits _ _ = @Cert.KernelIdeal.cc0_moe_routed Bits _ _ := rfl

/-- So have their tables of bodies. -/
theorem same_defs₀ : Cert.Kernel.defs₀ (F := Bits) = Cert.KernelIdeal.defs₀ (F := Bits) := by
  unfold Cert.Kernel.defs₀ Cert.KernelIdeal.defs₀
  refine congrArg Defs.onTc (funext fun l => ?_)
  match l with
  | ⟨0, _⟩ =>
    refine funext fun a => ?_
    obtain ⟨t, s⟩ := a
    dsimp only
    rw [same_body]
    rfl
  | ⟨_ + 1, h⟩ => exact absurd h (Nat.not_lt.2 (Nat.le_add_left _ _))

theorem same_defs : Cert.Kernel.defs (F := Bits) = Cert.KernelIdeal.defs (F := Bits) := by
  unfold Cert.Kernel.defs Cert.KernelIdeal.defs
  rw [same_defs₀]
  rfl

set_option backward.isDefEq.respectTransparency.types false in
/-- And the programs themselves. -/
theorem same_main : Cert.Kernel.main (F := Bits) = Cert.KernelIdeal.main (F := Bits) := rfl

theorem frame_kernel : Cert.quiescent_Kernel (hKernel := Cert.Kernel.Gen.facts) := by
  intro m ρ _
  rw [same_defs, same_main]
  exact (θ_run Cert.KernelIdeal.defs _ _).mono (fun _ h => h) (frame_run (F := Bits) m ρ)

end Cert.KernelIdeal.Hand
end
-- ==== Proof.Scalars.lean ====
/- Scalar facts of the gather and the scatter: when a subtile is skipped, when a token's rank hits a row, and reads through the
   windows of a matrix. -/
module

public import proofs.«01_k».proof.Proof.Table
public import Idealize.ShloMosaic.Lib.Pointwise.Index
public import Mathlib.Data.EReal.Basic
import Idealize.ShloMosaic.Lib.Pointwise
import Idealize.ShloMosaic.Lib.Affine

@[expose] public section
noncomputable section
namespace Cert.KernelIdeal.Hand
open Cert.KernelIdeal Cert.KernelIdeal.Gen
open Idealize.ShloMosaic Idealize.ShloMosaic.TcCoe Idealize.ShloMosaic.Tactic

/-- The test that a subtile has rows in the block of `s` rows from `o` on. -/
def guard (o s a b : BitVec 32) : BitVec 1 :=
  Scalar.cmpi .ne (Scalar.extui (Scalar.andi (Scalar.cmpi .slt a (Scalar.addi o s)) (Scalar.cmpi .sgt b o))) 0#32

theorem toInt_small {x : BitVec 32} (h : x.toNat < 2 ^ 31) : x.toInt = x.toNat :=
  BitVec.toInt_eq_toNat_of_lt (by omega)

theorem guard_holds {o s a b : BitVec 32} (ho : o.toNat < 2 ^ 20) (hs : s.toNat < 2 ^ 20) (ha : a.toNat < 2 ^ 20) (hb : b.toNat < 2 ^ 20)
    (h1 : a.toNat < o.toNat + s.toNat) (h2 : o.toNat < b.toNat) : guard o s a b = 1#1 := by
  have hos : (o + s).toNat = o.toNat + s.toNat := by rw [BitVec.toNat_add]; exact Nat.mod_eq_of_lt (by omega)
  have e1 : Scalar.cmpi .slt a (Scalar.addi o s) = 1#1 := by
    refine (IntOp.cmpi_slt).2 ?_
    show a.toInt < (o + s).toInt
    rw [toInt_small (by omega), toInt_small (by omega)]
    omega
  have e2 : Scalar.cmpi .sgt b o = 1#1 := by
    refine (IntOp.cmpi_sgt).2 ?_
    rw [toInt_small (by omega), toInt_small (by omega)]
    omega
  unfold guard
  rw [e1, e2]
  decide

theorem muli_iv {t : ℕ} (ht : t < 8) : (Scalar.muli (Scf.iv 0#32 1#32 t) 256#32).toNat = 256 * t := by
  have h : ∀ t : Fin 8, (Scalar.muli (Scf.iv 0#32 1#32 t.val) 256#32).toNat = 256 * t.val := by decide +kernel
  exact h ⟨t, ht⟩

theorem cond3_eq (v5 : BitVec 32) (t : Fin (k0_t1_loop v5).trips) (a b : BitVec 32) :
    k0_cond3 v5 t a b = guard (Scalar.muli (Scf.iv 0#32 1#32 t.val) 256#32) 256#32 a b := rfl
theorem cond15_eq (v5 : BitVec 32) (t : Fin (k0_t8_loop v5).trips) (a b : BitVec 32) :
    k0_cond15 v5 t a b = guard (Scalar.muli (Scf.iv 0#32 1#32 t.val) 256#32) 256#32 a b := rfl
theorem cond6_eq (v5 a b : BitVec 32) : k0_cond6 v5 a b = guard (k0_mult5 v5) 128#32 a b := rfl
theorem cond18_eq (v5 a b : BitVec 32) : k0_cond18 v5 a b = guard (k0_mult5 v5) 128#32 a b := rfl
theorem nfw_mul (v5 : BitVec 32) : Scalar.muli (nfw v5) 256#32 = k0_mult5 v5 := rfl

/-- A row's word against a token's rank. -/
theorem hit_iff {o : BitVec 32} {r a : ℕ} (ho : o.toNat < 2 ^ 20) (hr : r < 2 ^ 20) (ha : a < 2 ^ 20) :
    BitVec.ofNat 32 a = IntOp.addi o (BitVec.ofNat 32 r) ↔ a = o.toNat + r := by
  rw [← BitVec.toNat_inj]
  show (BitVec.ofNat 32 a).toNat = (o + BitVec.ofNat 32 r).toNat ↔ _
  rw [BitVec.toNat_add, BitVec.toNat_ofNat, BitVec.toNat_ofNat, Nat.mod_eq_of_lt (by omega : a < 2 ^ 32), Nat.mod_eq_of_lt (by omega : r < 2 ^ 32), Nat.mod_eq_of_lt (by omega)]

open Classical in
/-- The masked value: taken where the rank hits the row and the gate is positive. -/
theorem select_hit {A B : BitVec 32} {g z : EReal} :
    Scalar.select (IntOp.andi (IntOp.cmpi .eq A B) (BitVec.ofBool (decide (0 < g)))) z (0 : EReal) = if A = B ∧ 0 < g then z else 0 := by
  by_cases h1 : A = B
  · by_cases h2 : 0 < g
    · subst h1; rw [if_pos ⟨rfl, h2⟩, decide_eq_true h2]; simp [IntOp.cmpi, IntOp.andi, Scalar.select]
    · rw [if_neg (fun h => h2 h.2), decide_eq_false h2]; simp [IntOp.cmpi, IntOp.andi, Scalar.select]
  · have h0 : IntOp.cmpi .eq A B = 0#1 := by
      show BitVec.ofBool (A == B) = 0#1
      rw [beq_eq_false_iff_ne.2 h1]; rfl
    rw [if_neg (fun h => h1 h.1), h0]
    show (if (0#1 &&& BitVec.ofBool (decide (0 < g))) = 1#1 then z else 0) = 0
    rw [BitVec.zero_and, if_neg (by decide)]

section Windows
variable {α : Type} {A B a b : ℕ}

/-- A window of a matrix, at an entry. -/
theorem window_at (x : (⟨2, ![A, B]⟩ : Shape).Idx → α) {off : Fin 2 → ℕ} {o p : ℕ} (ho : off = ![o, p])
    (inb : ∀ q, off q + (⟨2, ![a, b]⟩ : Shape).size q ≤ (⟨2, ![A, B]⟩ : Shape).size q) (r : Fin a) (d : Fin b) (hr : o + r.val < A) (hd : p + d.val < B) :
    VecWindow.window (s := ⟨2, ![A, B]⟩) x off (⟨2, ![a, b]⟩ : Shape).size inb (ix2 r d) = x (ix2 ⟨o + r.val, hr⟩ ⟨p + d.val, hd⟩) := by
  subst ho
  refine congrArg x (funext fun q => Fin.ext ?_)
  match q with
  | ⟨0, _⟩ => show o + 1 * r.val = o + r.val; omega
  | ⟨1, _⟩ => show p + 1 * d.val = p + d.val; omega

/-- A matrix with a band of rows replaced, at an entry of the band. -/
theorem put_in (x : (⟨2, ![A, B]⟩ : Shape).Idx → α) {off : Fin 2 → ℕ} {o : ℕ} (ho : off = ![o, 0])
    (w : (⟨2, ![a, B]⟩ : Shape).Idx → α) (r : Fin A) (d : Fin B) (h1 : o ≤ r.val) (h2 : r.val < o + a) :
    VecWindow.put (s := ⟨2, ![A, B]⟩) x off (⟨2, ![a, B]⟩ : Shape).size w (ix2 r d) = w (ix2 ⟨r.val - o, by omega⟩ d) := by
  subst ho
  have hd := d.isLt
  unfold VecWindow.put
  have h : ∀ q : Fin 2, (![o, 0] : Fin 2 → ℕ) q ≤ ((ix2 r d : (⟨2, ![A, B]⟩ : Shape).Idx) q).val
      ∧ ((ix2 r d : (⟨2, ![A, B]⟩ : Shape).Idx) q).val < (![o, 0] : Fin 2 → ℕ) q + (⟨2, ![a, B]⟩ : Shape).size q := fun q => by
    match q with
    | ⟨0, _⟩ => exact ⟨h1, h2⟩
    | ⟨1, _⟩ => exact ⟨Nat.zero_le _, by show d.val < 0 + B; omega⟩
  rw [dif_pos h]
  refine congrArg w (funext fun q => Fin.ext ?_)
  match q with
  | ⟨0, _⟩ => rfl
  | ⟨1, _⟩ => rfl

/-- A matrix with a band of rows replaced, at an entry outside the band. -/
theorem put_out (x : (⟨2, ![A, B]⟩ : Shape).Idx → α) {off : Fin 2 → ℕ} {o : ℕ} (ho : off = ![o, 0])
    (w : (⟨2, ![a, B]⟩ : Shape).Idx → α) (r : Fin A) (d : Fin B) (h1 : r.val < o ∨ o + a ≤ r.val) :
    VecWindow.put (s := ⟨2, ![A, B]⟩) x off (⟨2, ![a, B]⟩ : Shape).size w (ix2 r d) = x (ix2 r d) := by
  subst ho
  unfold VecWindow.put
  refine dif_neg fun h => ?_
  have h0 := h 0
  change o ≤ r.val ∧ r.val < o + a at h0
  omega

end Windows

/-- The first `k` of `n` steps keep what every step keeps. -/
theorem itf_inv {β : Type} (n : ℕ) (f : Fin n → β → β) (a : β) (P : ℕ → β → Prop) (h0 : P 0 a) (hs : ∀ (k : Fin n) b, P k.val b → P (k.val + 1) (f k b))
    (k : ℕ) (hk : k ≤ n) : P k (itf n f a k) := by
  induction k with
  | zero => exact h0
  | succ k ih => exact (itf_succ n f a ⟨k, by omega⟩) ▸ hs ⟨k, by omega⟩ _ (ih (by omega))

end Cert.KernelIdeal.Hand
end
-- ==== Proof.Pay.lean ====
/- The kernel's block computations at an entry, on the extended reals: the gather's and the scatter's selected sums, and the gated
   feed-forward of a row. -/
module

public import proofs.«01_k».proof.Proof.Scalars
public import proofs.«01_k».proof.Proof.Trips
public import Idealize.ShloMosaic.PureOps.Ideal
import Idealize.ShloMosaic.Lib.Pointwise

@[expose] public section
noncomputable section
namespace Cert.KernelIdeal.Hand
open Cert.KernelIdeal Cert.KernelIdeal.Gen
open Idealize.ShloMosaic Idealize.ShloMosaic.TcCoe Idealize.ShloMosaic.Tactic

/-- One where the rank `R` is the word of row `r` counted from `o` and the gate `g` is positive. -/
def hit (o R : BitVec 32) (r : ℕ) (g : EReal) : BitVec 1 :=
  IntOp.andi (IntOp.cmpi .eq R (IntOp.addi o (BitVec.ofNat 32 r))) (BitVec.ofBool (decide (0 < g)))

/-- The row of token data that rank hits bring to row `r`. -/
def pick {n : ℕ} (o : BitVec 32) (R : Fin n → BitVec 32) (g : Fin n → EReal) (r : ℕ) (z : Fin n → EReal) : EReal :=
  ∑ x, Scalar.select (hit o (R x) r (g x)) (z x) 0

/-- A row through half of an expert: `(silu (x a) * (x u)) o` over 1792 hidden columns. -/
def part (x : Fin 1024 → EReal) (a u : Fin 1024 → Fin 1792 → EReal) (o : Fin 1792 → EReal) : EReal :=
  ∑ f, ((∑ k, x k * a k f) * Ideal.div 1 (1 + Ideal.exp (0 - ∑ k, x k * a k f)) * ∑ k, x k * u k f) * o f

variable (v5 : BitVec 32)

theorem pay15_at (t : Fin (k0_t1_loop v5).trips) (R : S1x512.Idx → BitVec 32) (G : S1x512.Idx → EReal) (X : S512x1024.Idx → EReal) (xs : S256x1024.Idx → EReal) (r : Fin 256) (d : Fin 1024) :
    k0_pay15 (F := Ideal) v5 t R G X xs (ix2 r d)
      = xs (ix2 r d) + pick (Scalar.muli (Scf.iv 0#32 1#32 t.val) 256#32) (fun x => R (ix2 0 x)) (fun x => G (ix2 0 x)) r.val (fun x => X (ix2 x d)) := by
  unfold k0_pay15 pick hit
  pointwise

theorem pay19_at (R : S1x512.Idx → BitVec 32) (G : S1x512.Idx → EReal) (X : S512x1024.Idx → EReal) (xs : S128x1024.Idx → EReal) (r : Fin 128) (d : Fin 1024) :
    k0_pay19 (F := Ideal) v5 R G X xs (ix2 r d)
      = xs (ix2 r d) + pick (k0_mult5 v5) (fun x => R (ix2 0 x)) (fun x => G (ix2 0 x)) r.val (fun x => X (ix2 x d)) := by
  unfold k0_pay19 pick hit
  pointwise
  rfl

theorem pay10_at (t : Fin (k0_t8_loop v5).trips) (R : S1x512.Idx → BitVec 32) (G : S1x512.Idx → EReal) (X : S256x1024.Idx → EReal) (y : S512x1024.Idx → EReal) (r : Fin 512) (d : Fin 1024) :
    k0_pay10 (F := Ideal) v5 t R G X y (ix2 r d)
      = y (ix2 r d) + ∑ x : Fin 256, Scalar.select (hit (Scalar.muli (Scf.iv 0#32 1#32 t.val) 256#32) (R (ix2 0 r)) x.val (G (ix2 0 r)))
          (X (ix2 x d) * pick (Scalar.muli (Scf.iv 0#32 1#32 t.val) 256#32) (fun x => R (ix2 0 x)) (fun x => G (ix2 0 x)) x.val (fun x => G (ix2 0 x))) 0 := by
  unfold k0_pay10 pick hit
  pointwise

theorem pay12_at (v23 : BitVec 32) (R : S1x512.Idx → BitVec 32) (G : S1x512.Idx → EReal) (X : S128x1024.Idx → EReal) (y : S512x1024.Idx → EReal) (r : Fin 512) (d : Fin 1024) :
    k0_pay12 (F := Ideal) v23 R G X y (ix2 r d)
      = y (ix2 r d) + ∑ x : Fin 128, Scalar.select (hit (Scalar.muli v23 256#32) (R (ix2 0 r)) x.val (G (ix2 0 r)))
          (X (ix2 x d) * pick (Scalar.muli v23 256#32) (fun x => R (ix2 0 x)) (fun x => G (ix2 0 x)) x.val (fun x => G (ix2 0 x))) 0 := by
  unfold k0_pay12 pick hit
  pointwise

theorem pay13_at (r : Fin 2048) (d : Fin 1024) : k0_pay13 (F := Ideal) (ix2 r d) = 0 := by
  unfold k0_pay13
  pointwise
theorem pay14_at (r : Fin 256) (d : Fin 1024) : k0_pay14 (F := Ideal) (ix2 r d) = 0 := by
  unfold k0_pay14
  pointwise
theorem pay18_at (r : Fin 128) (d : Fin 1024) : k0_pay18 (F := Ideal) (ix2 r d) = 0 := by
  unfold k0_pay18
  pointwise

section
variable (x : S256x1024.Idx → EReal) (x' : S128x1024.Idx → EReal) (a u : S1x1024x1792.Idx → EReal) (o : S1x1792x1024.Idx → EReal)

theorem pay2_at (r : Fin 256) (d : Fin 1024) : k0_pay2 (F := Ideal) x a u o (ix2 r d)
    = part (fun k => x (ix2 r k)) (fun k f => a (ix3 0 k f)) (fun k f => u (ix3 0 k f)) (fun f => o (ix3 0 f d)) := by
  unfold k0_pay2 k0_pay1 part
  pointwise
theorem pay8_at (r : Fin 128) (d : Fin 1024) : k0_pay8 (F := Ideal) x' a u o (ix2 r d)
    = part (fun k => x' (ix2 r k)) (fun k f => a (ix3 0 k f)) (fun k f => u (ix3 0 k f)) (fun f => o (ix3 0 f d)) := by
  unfold k0_pay8 k0_pay7 part
  pointwise
theorem pay3_at (z : S256x1024.Idx → EReal) (r : Fin 256) (d : Fin 1024) : k0_pay3 (F := Ideal) x a u o z (ix2 r d)
    = z (ix2 r d) + part (fun k => x (ix2 r k)) (fun k f => a (ix3 0 k f)) (fun k f => u (ix3 0 k f)) (fun f => o (ix3 0 f d)) := by
  unfold k0_pay3 k0_pay1 part
  pointwise
theorem pay9_at (z : S128x1024.Idx → EReal) (r : Fin 128) (d : Fin 1024) : k0_pay9 (F := Ideal) x' a u o z (ix2 r d)
    = z (ix2 r d) + part (fun k => x' (ix2 r k)) (fun k f => a (ix3 0 k f)) (fun k f => u (ix3 0 k f)) (fun f => o (ix3 0 f d)) := by
  unfold k0_pay9 k0_pay7 part
  pointwise
end
end Cert.KernelIdeal.Hand
end
-- ==== Proof.Gather.lean ====
/- The gather of a grid point: the tokens an expert takes are counted in order, and after the gather the row a token's rank names
   holds that token's row. -/
module

public import proofs.«01_k».proof.Proof.Pay
public import proofs.«01_k».proof.Proof.Body

@[expose] public section
noncomputable section
namespace Cert.KernelIdeal.Hand
open Cert.KernelIdeal Cert.KernelIdeal.Gen
open Idealize.ShloMosaic Idealize.ShloMosaic.TcCoe Idealize.ShloMosaic.Tactic

/-- What a grid point sees of its tile: `b n` is one where token `n` is taken, `rk n` the number taken before it; the rank block,
    the gate block, the table and the count agree with them. -/
structure Tile (i : grid0.Coords) (v5 : BitVec 32) (T : S640.Idx → BitVec 32) (G : S8x2048.Idx → EReal) (R : S8x2048.Idx → BitVec 32) (rk b : ℕ → ℕ) : Prop where
  rank : ∀ n : Fin 2048, R (ix2 (i 1) n) = BitVec.ofNat 32 (rk n.val)
  gate : ∀ n : Fin 2048, 0 < G (ix2 (i 1) n) ↔ b n.val = 1
  word : ∀ (k : ℕ) (off : Fin 1 → ℕ) (inb : ∀ a, off a + S1.size a ≤ S640.size a), k ≤ 4 → off = ![40 * (i 0).val + 5 * (i 1).val + k] → tw T off inb = BitVec.ofNat 32 (rk (512 * k))
  count : v5.toNat = rk 2048
  zero : rk 0 = 0
  succ : ∀ n, rk (n + 1) = rk n + b n
  le : ∀ n, b n ≤ 1

section
variable {i : grid0.Coords} {v5 : BitVec 32} {T : S640.Idx → BitVec 32} {G : S8x2048.Idx → EReal} {R : S8x2048.Idx → BitVec 32} {rk b : ℕ → ℕ}

theorem Tile.mono (H : Tile i v5 T G R rk b) {n n' : ℕ} (h : n ≤ n') : rk n ≤ rk n' :=
  monotone_nat_of_le_succ (fun n => by rw [H.succ n]; exact Nat.le_add_right _ _) h

theorem Tile.lt (H : Tile i v5 T G R rk b) {n n' : ℕ} (h : n < n') (hb : b n = 1) : rk n < rk n' := by
  have h1 := H.mono (Nat.succ_le_of_lt h)
  have h2 := H.succ n
  simp only [Nat.succ_eq_add_one] at h1
  omega

theorem Tile.le_self (H : Tile i v5 T G R rk b) (n : ℕ) : rk n ≤ n := by
  induction n with
  | zero => exact le_of_eq H.zero
  | succ n ih => have h1 := H.succ n; have h2 := H.le n; omega

theorem Tile.inj (H : Tile i v5 T G R rk b) {n n' : ℕ} (hb : b n = 1) (hb' : b n' = 1) (h : rk n = rk n') : n = n' := by
  rcases lt_trichotomy n n' with h1 | h1 | h1
  · have := H.lt h1 hb; omega
  · exact h1
  · have := H.lt h1 hb'; omega

theorem Tile.lt_count (H : Tile i v5 T G R rk b) {n : ℕ} (hn : n < 2048) (hb : b n = 1) : rk n < v5.toNat := by
  rw [H.count]; exact H.lt hn hb

theorem Tile.row_lt (H : Tile i v5 T G R rk b) {n : ℕ} (hn : n < 2048) : rk n < 2048 := by
  have := H.le_self n; omega

/-- The subtile's part of the rank block's or gate block's row. -/
theorem win_row {α : Type} (x : S8x2048.Idx → α) {off : Fin 2 → ℕ} {k : ℕ} (hk : k < 4) (ho : off = ![(i 1).val, 512 * k])
    (inb : ∀ a, off a + S1x512.size a ≤ S8x2048.size a) (n : Fin 512) :
    VecWindow.window x off S1x512.size inb (ix2 (0 : Fin 1) n) = x (ix2 (i 1) ⟨512 * k + n.val, by omega⟩) :=
  window_at (A := 8) (B := 2048) (a := 1) (b := 512) x ho inb 0 n (i 1).isLt (by omega)

theorem muli_lt {o : BitVec 32} {n : ℕ} (h : o.toNat = n) (hn : n < 2 ^ 20) : o.toNat < 2 ^ 20 := by omega

/-- The rank hits on a row that a taken token's rank names: that token's entry if it is in the subtile, else nothing. -/
theorem pick_eq (H : Tile i v5 T G R rk b) {k : ℕ} (hk : k < 4) {o : BitVec 32} (ho : o.toNat ≤ 2048)
    (W : Fin 512 → BitVec 32) (g : Fin 512 → EReal) (hW : ∀ x : Fin 512, W x = R (ix2 (i 1) ⟨512 * k + x.val, by omega⟩))
    (hg : ∀ x : Fin 512, g x = G (ix2 (i 1) ⟨512 * k + x.val, by omega⟩)) {n : ℕ} (hn : n < 2048) (hb : b n = 1) {r : ℕ} (hr : rk n = o.toNat + r)
    (z : Fin 512 → EReal) (c : EReal) (hz : ∀ x : Fin 512, 512 * k + x.val = n → z x = c) :
    pick o W g r z = if n / 512 = k then c else 0 := by
  have hn' := H.row_lt hn
  have key : ∀ x : Fin 512, Scalar.select (hit o (W x) r (g x)) (z x) 0 = if 512 * k + x.val = n then c else 0 := fun x => by
    have hx := H.le_self (512 * k + x.val)
    have e : (W x = IntOp.addi o (BitVec.ofNat 32 r) ∧ 0 < g x) ↔ 512 * k + x.val = n := by
      rw [hW, hg, H.rank, H.gate, hit_iff (by omega) (by omega) (by have := x.isLt; show rk (512 * k + x.val) < _; omega)]
      constructor
      · rintro ⟨h1, h2⟩; exact H.inj h2 hb (h1.trans hr.symm)
      · rintro h1
        refine ⟨?_, ?_⟩
        · show rk (512 * k + x.val) = _; rw [h1]; exact hr
        · show b (512 * k + x.val) = 1; rw [h1]; exact hb
    unfold hit
    rw [select_hit]
    by_cases h : 512 * k + x.val = n
    · rw [if_pos (e.2 h), if_pos h, hz x h]
    · rw [if_neg (fun h' => h (e.1 h')), if_neg h]
  unfold pick
  rw [Finset.sum_congr rfl fun x _ => key x]
  by_cases h : n / 512 = k
  · rw [if_pos h, Finset.sum_eq_single (⟨n - 512 * k, by omega⟩ : Fin 512), if_pos (by show 512 * k + (n - 512 * k) = n; omega)]
    · intro x _ hx
      refine if_neg fun h' => hx (Fin.ext ?_)
      show x.val = n - 512 * k
      omega
    · intro h'; exact absurd (Finset.mem_univ _) h'
  · rw [if_neg h]
    refine Finset.sum_eq_zero fun x _ => if_neg fun h' => h ?_
    have := x.isLt
    omega

/-- A subtile is not skipped if it has a taken token whose rank is in the block. -/
theorem guard_of (H : Tile i v5 T G R rk b) {k : ℕ} (hk : k < 4) {o s : BitVec 32} (ho : o.toNat ≤ 2048) (hs : s.toNat ≤ 256)
    {off off' : Fin 1 → ℕ} (inb : ∀ a, off a + S1.size a ≤ S640.size a) (inb' : ∀ a, off' a + S1.size a ≤ S640.size a)
    (h : off = ![40 * (i 0).val + 5 * (i 1).val + k]) (h' : off' = ![40 * (i 0).val + 5 * (i 1).val + k + 1])
    {n : ℕ} (hn : n < 2048) (hb : b n = 1) (hd : n / 512 = k) (h1 : o.toNat ≤ rk n) (h2 : rk n < o.toNat + s.toNat) :
    guard o s (tw T off inb) (tw T off' inb') = 1#1 := by
  have hw := H.word k off inb (by omega) h
  have hw' := H.word (k + 1) off' inb' (by omega) (by rw [h']; rfl)
  have a1 := H.le_self (512 * k)
  have a2 := H.le_self (512 * (k + 1))
  have a3 := H.mono (show 512 * k ≤ n by omega)
  have a4 := H.lt (show n < 512 * (k + 1) by omega) hb
  have t1 : (BitVec.ofNat 32 (rk (512 * k))).toNat = rk (512 * k) := by rw [BitVec.toNat_ofNat]; exact Nat.mod_eq_of_lt (by omega)
  have t2 : (BitVec.ofNat 32 (rk (512 * (k + 1)))).toNat = rk (512 * (k + 1)) := by rw [BitVec.toNat_ofNat]; exact Nat.mod_eq_of_lt (by omega)
  rw [hw, hw']
  exact guard_holds (by omega) (by omega) (by omega) (by omega) (by omega) (by omega)

/-- A block of rows with one subtile's hits added in, at the row a taken token's rank names. -/
theorem block_row (H : Tile i v5 T G R rk b) {k : ℕ} (hk : k < 4) {s o : ℕ} {oW : BitVec 32} (hoW : oW.toNat = o) (ho : o ≤ 2048) {off : Fin 2 → ℕ} (hoff : off = ![o, 0])
    (inb : ∀ a, off a + (⟨2, ![s, 1024]⟩ : Shape).size a ≤ S2048x1024.size a)
    (W : Fin 512 → BitVec 32) (g : Fin 512 → EReal) (hW : ∀ x : Fin 512, W x = R (ix2 (i 1) ⟨512 * k + x.val, by omega⟩))
    (hg : ∀ x : Fin 512, g x = G (ix2 (i 1) ⟨512 * k + x.val, by omega⟩)) {n : ℕ} (hn : n < 2048) (hb : b n = 1)
    (xs X : S2048x1024.Idx → EReal) (z : Fin 512 → EReal) (d : Fin 1024) (hz : ∀ x : Fin 512, z x = X (ix2 ⟨512 * k + x.val, by omega⟩ d))
    (pay : (⟨2, ![s, 1024]⟩ : Shape).Idx → EReal)
    (hpay : ∀ r : Fin s, pay (ix2 r d) = VecWindow.window xs off (⟨2, ![s, 1024]⟩ : Shape).size inb (ix2 r d) + pick oW W g r.val z) :
    VecWindow.put xs off (⟨2, ![s, 1024]⟩ : Shape).size pay (ix2 ⟨rk n, H.row_lt hn⟩ d)
      = xs (ix2 ⟨rk n, H.row_lt hn⟩ d) + if n / 512 = k ∧ o ≤ rk n ∧ rk n < o + s then X (ix2 ⟨n, hn⟩ d) else 0 := by
  by_cases hr : o ≤ rk n ∧ rk n < o + s
  · refine (put_in (A := 2048) (B := 1024) (a := s) xs hoff pay ⟨rk n, H.row_lt hn⟩ d hr.1 hr.2).trans ?_
    rw [hpay]
    have e1 : VecWindow.window xs off (⟨2, ![s, 1024]⟩ : Shape).size inb (ix2 (⟨rk n - o, by omega⟩ : Fin s) d) = xs (ix2 ⟨rk n, H.row_lt hn⟩ d) := by
      refine (window_at (A := 2048) (B := 1024) (a := s) (b := 1024) xs hoff inb ⟨rk n - o, by omega⟩ d (by have := H.row_lt hn; show o + (rk n - o) < 2048; omega) (by have := d.isLt; omega)).trans ?_
      refine congrArg xs (congrArg₂ ix2 (Fin.ext ?_) (Fin.ext ?_))
      · show o + (rk n - o) = rk n; omega
      · show 0 + d.val = d.val; omega
    rw [e1, pick_eq H hk (by omega) W g hW hg hn hb (show rk n = oW.toNat + (rk n - o) by omega) z (X (ix2 ⟨n, hn⟩ d))
      (fun x hx => (hz x).trans (congrArg X (congrArg₂ ix2 (Fin.ext hx) rfl)))]
    exact congrArg _ (if_congr ⟨fun h => ⟨h, hr⟩, fun h => h.1⟩ rfl rfl)
  · rw [if_neg (fun h => hr h.2), add_zero]
    exact put_out (A := 2048) (B := 1024) (a := s) xs hoff pay ⟨rk n, H.row_lt hn⟩ d (by show rk n < o ∨ o + s ≤ rk n; omega)

end

section
variable (i : grid0.Coords) (v5 : BitVec 32) (hv : v5.toNat ≤ 2048) (T : S640.Idx → BitVec 32) (X : S2048x1024.Idx → EReal) (G : S8x2048.Idx → EReal) (R : S8x2048.Idx → BitVec 32) {rk b : ℕ → ℕ}

theorem gstep_row (H : Tile i v5 T G R rk b) (h2 : k0_cond2 i = 1#1) (t : Fin (k0_t1_loop v5).trips) (k : Fin k0_t2_loop.trips) (xs : S2048x1024.Idx → EReal) {n : ℕ} (hn : n < 2048) (hb : b n = 1) (d : Fin 1024) :
    gstep (F := Ideal) i v5 hv h2 t T X G R k xs (ix2 ⟨rk n, H.row_lt hn⟩ d)
      = xs (ix2 ⟨rk n, H.row_lt hn⟩ d) + if n / 512 = k.val ∧ 256 * t.val ≤ rk n ∧ rk n < 256 * t.val + 256 then X (ix2 ⟨n, hn⟩ d) else 0 := by
  have hk : k.val < 4 := k.isLt
  have ht : t.val < 8 := by have h1 := t.isLt; have h2 := trips1 hv; have h3 := nf_le hv; omega
  have ho : (Scalar.muli (Scf.iv 0#32 1#32 t.val) 256#32).toNat = 256 * t.val := muli_iv ht
  unfold gstep
  by_cases hc : k0_cond3 v5 t (tw T (k0_off3 i k) (k0_off3_inb i k h2)) (tw T (k0_off4 i k) (k0_off4_inb i k h2)) = 1#1
  · rw [if_pos hc]
    exact block_row H hk (s := 256) ho (by omega) (off2_eq hv t) (off2_inb hv t) _ _ (fun x => win_row R hk (k0_off5_eq i k) _ x) (fun x => win_row G hk (k0_off5_eq i k) _ x) hn hb xs X _ d
      (fun x => (window_at (A := 2048) (B := 1024) (a := 512) (b := 1024) X (k0_off6_eq k) _ x d (by omega) (by omega)).trans (congrArg X (congrArg₂ ix2 rfl (Fin.ext (Nat.zero_add _)))))
      _ (fun r => pay15_at v5 t _ _ _ _ r d)
  · rw [if_neg hc, if_neg, add_zero]
    rintro ⟨h1, h3, h4⟩
    exact hc (guard_of H hk (s := 256#32) (by omega) (by decide) _ _ (k0_off3_eq i k) (k0_off4_eq i k) hn hb h1 (by omega) (by rw [ho]; exact h4))

theorem gstepT_row (H : Tile i v5 T G R rk b) (h2 : k0_cond2 i = 1#1) (h5 : k0_cond5 v5 = 1#1) (k : Fin k0_t5_loop.trips) (xs : S2048x1024.Idx → EReal) {n : ℕ} (hn : n < 2048) (hb : b n = 1) (d : Fin 1024) :
    gstepT (F := Ideal) i v5 hv h2 h5 T X G R k xs (ix2 ⟨rk n, H.row_lt hn⟩ d)
      = xs (ix2 ⟨rk n, H.row_lt hn⟩ d) + if n / 512 = k.val ∧ 256 * nf v5.toNat ≤ rk n ∧ rk n < 256 * nf v5.toNat + 128 then X (ix2 ⟨n, hn⟩ d) else 0 := by
  have hk : k.val < 4 := k.isLt
  have hf := nf_le hv
  have ho : (k0_mult5 v5).toNat = 256 * nf v5.toNat := mult5_eq hv
  unfold gstepT
  by_cases hc : k0_cond6 v5 (tw T (k0_off15 i k) (k0_off15_inb i k h2)) (tw T (k0_off16 i k) (k0_off16_inb i k h2)) = 1#1
  · rw [if_pos hc]
    exact block_row H hk (s := 128) ho (by omega) (off14_eq hv) (off14_inb hv h5) _ _ (fun x => win_row R hk (k0_off17_eq i k) _ x) (fun x => win_row G hk (k0_off17_eq i k) _ x) hn hb xs X _ d
      (fun x => (window_at (A := 2048) (B := 1024) (a := 512) (b := 1024) X (k0_off18_eq k) _ x d (by omega) (by omega)).trans (congrArg X (congrArg₂ ix2 rfl (Fin.ext (Nat.zero_add _)))))
      _ (fun r => pay19_at v5 _ _ _ _ r d)
  · rw [if_neg hc, if_neg, add_zero]
    rintro ⟨h1, h3, h4⟩
    exact hc (guard_of H hk (o := k0_mult5 v5) (s := 128#32) (by omega) (by decide) _ _ (k0_off15_eq i k) (k0_off16_eq i k) hn hb h1 (by omega) (by rw [ho]; exact h4))

/-- Adding one case of a choice after the cases before it. -/
theorem step_case {x c : EReal} {a k : ℕ} {p : Prop} [Decidable p] : (x + if a < k ∧ p then c else 0) + (if a = k ∧ p then c else 0) = x + if a < k + 1 ∧ p then c else 0 := by
  by_cases hp : p
  · rcases lt_trichotomy a k with h | h | h
    · rw [if_pos ⟨h, hp⟩, if_neg (fun h' => by omega), if_pos ⟨by omega, hp⟩, add_zero]
    · rw [if_neg (fun h' => by omega), if_pos ⟨h, hp⟩, if_pos ⟨by omega, hp⟩, add_zero]
    · rw [if_neg (fun h' => by omega), if_neg (fun h' => by omega), if_neg (fun h' => by omega), add_zero]
  · rw [if_neg (fun h' => hp h'.2), if_neg (fun h' => hp h'.2), if_neg (fun h' => hp h'.2), add_zero]

theorem gblock_row (H : Tile i v5 T G R rk b) (h2 : k0_cond2 i = 1#1) (t : Fin (k0_t1_loop v5).trips) (xs : S2048x1024.Idx → EReal) {n : ℕ} (hn : n < 2048) (hb : b n = 1) (d : Fin 1024) :
    gblock (F := Ideal) i v5 hv h2 T X G R t xs (ix2 ⟨rk n, H.row_lt hn⟩ d)
      = if 256 * t.val ≤ rk n ∧ rk n < 256 * t.val + 256 then X (ix2 ⟨n, hn⟩ d) else xs (ix2 ⟨rk n, H.row_lt hn⟩ d) := by
  have h := itf_inv k0_t2_loop.trips (gstep (F := Ideal) i v5 hv h2 t T X G R) (VecWindow.put xs (k0_off2 v5 t) S256x1024.size (k0_pay14 (F := Ideal)))
    (fun k z => z (ix2 ⟨rk n, H.row_lt hn⟩ d) = VecWindow.put xs (k0_off2 v5 t) S256x1024.size (k0_pay14 (F := Ideal)) (ix2 ⟨rk n, H.row_lt hn⟩ d)
      + if n / 512 < k ∧ 256 * t.val ≤ rk n ∧ rk n < 256 * t.val + 256 then X (ix2 ⟨n, hn⟩ d) else 0)
    (by rw [if_neg (fun h => Nat.not_lt_zero _ h.1), add_zero])
    (fun k z hz => by rw [gstep_row i v5 hv T X G R H h2 t k z hn hb d, hz]; exact step_case) k0_t2_loop.trips le_rfl
  refine h.trans ?_
  have h4 : n / 512 < k0_t2_loop.trips := by show n / 512 < 4; omega
  by_cases hr : 256 * t.val ≤ rk n ∧ rk n < 256 * t.val + 256
  · rw [if_pos ⟨h4, hr⟩, if_pos hr]
    have e := put_in (A := 2048) (B := 1024) (a := 256) xs (off2_eq hv t) (k0_pay14 (F := Ideal)) ⟨rk n, H.row_lt hn⟩ d hr.1 hr.2
    rw [pay14_at] at e
    exact (congrArg (· + X (ix2 ⟨n, hn⟩ d)) e).trans (zero_add _)
  · rw [if_neg (fun h => hr h.2), if_neg hr, add_zero]
    exact put_out (A := 2048) (B := 1024) (a := 256) xs (off2_eq hv t) (k0_pay14 (F := Ideal)) ⟨rk n, H.row_lt hn⟩ d (by show rk n < 256 * t.val ∨ 256 * t.val + 256 ≤ rk n; omega)

/-- After the gather, the row a taken token's rank names is that token's row. -/
theorem gather_row (H : Tile i v5 T G R rk b) (h2 : k0_cond2 i = 1#1) (xs : S2048x1024.Idx → EReal) {n : ℕ} (hn : n < 2048) (hb : b n = 1) (d : Fin 1024) :
    gather (F := Ideal) i v5 hv T X G R xs (ix2 ⟨rk n, H.row_lt hn⟩ d) = X (ix2 ⟨n, hn⟩ d) := by
  have hc := H.lt_count hn hb
  have hf : 256 * nf v5.toNat ≤ v5.toNat + 127 ∧ v5.toNat ≤ 256 * nf v5.toNat + 128 := by unfold nf; omega
  have htr := trips1 hv
  have h := itf_inv (k0_t1_loop v5).trips (gblock (F := Ideal) i v5 hv h2 T X G R) xs (fun t z => rk n < 256 * t → z (ix2 ⟨rk n, H.row_lt hn⟩ d) = X (ix2 ⟨n, hn⟩ d))
    (fun h => absurd h (by omega))
    (fun t z hz h => by
      rw [gblock_row i v5 hv T X G R H h2 t z hn hb d]
      by_cases hr : 256 * t.val ≤ rk n
      · rw [if_pos ⟨hr, by omega⟩]
      · rw [if_neg (fun h' => hr h'.1)]; exact hz (by omega)) (k0_t1_loop v5).trips le_rfl
  unfold gather
  rw [dif_pos h2]
  by_cases h5 : k0_cond5 v5 = 1#1
  · simp only [dif_pos h5]
    have h' := itf_inv k0_t5_loop.trips (gstepT (F := Ideal) i v5 hv h2 h5 T X G R)
      (VecWindow.put (itf (k0_t1_loop v5).trips (gblock (F := Ideal) i v5 hv h2 T X G R) xs (k0_t1_loop v5).trips) (k0_off14 v5) S128x1024.size (k0_pay18 (F := Ideal)))
      (fun k z => z (ix2 ⟨rk n, H.row_lt hn⟩ d) = VecWindow.put (itf (k0_t1_loop v5).trips (gblock (F := Ideal) i v5 hv h2 T X G R) xs (k0_t1_loop v5).trips) (k0_off14 v5) S128x1024.size (k0_pay18 (F := Ideal)) (ix2 ⟨rk n, H.row_lt hn⟩ d)
        + if n / 512 < k ∧ 256 * nf v5.toNat ≤ rk n ∧ rk n < 256 * nf v5.toNat + 128 then X (ix2 ⟨n, hn⟩ d) else 0)
      (by rw [if_neg (fun h => Nat.not_lt_zero _ h.1), add_zero])
      (fun k z hz => by rw [gstepT_row i v5 hv T X G R H h2 h5 k z hn hb d, hz]; exact step_case) k0_t5_loop.trips le_rfl
    refine h'.trans ?_
    have h4 : n / 512 < k0_t5_loop.trips := by show n / 512 < 4; omega
    by_cases hr : 256 * nf v5.toNat ≤ rk n
    · have hr2 : rk n < 256 * nf v5.toNat + 128 := by omega
      rw [if_pos ⟨h4, hr, hr2⟩]
      have e := put_in (A := 2048) (B := 1024) (a := 128) (itf (k0_t1_loop v5).trips (gblock (F := Ideal) i v5 hv h2 T X G R) xs (k0_t1_loop v5).trips) (off14_eq hv) (k0_pay18 (F := Ideal)) ⟨rk n, H.row_lt hn⟩ d hr hr2
      rw [pay18_at] at e
      exact (congrArg (· + X (ix2 ⟨n, hn⟩ d)) e).trans (zero_add _)
    · rw [if_neg (fun h => hr h.2.1), add_zero]
      refine (put_out (A := 2048) (B := 1024) (a := 128) (itf (k0_t1_loop v5).trips (gblock (F := Ideal) i v5 hv h2 T X G R) xs (k0_t1_loop v5).trips) (off14_eq hv) (k0_pay18 (F := Ideal)) ⟨rk n, H.row_lt hn⟩ d (by show rk n < 256 * nf v5.toNat ∨ _; omega)).trans ?_
      exact h (by omega)
  · simp only [dif_neg h5]
    have h6 : ¬ 256 * nf v5.toNat < v5.toNat := fun h' => h5 ((cond5_iff hv).2 h')
    exact h (by omega)
end
end Cert.KernelIdeal.Hand
end
-- ==== Proof.Ffn.lean ====
/- The feed-forward of a grid point: the accumulator's row under the count takes half an expert's value of the gathered row, added
   to nothing at the first half of the columns and to the row at the second. -/
module

public import proofs.«01_k».proof.Proof.Gather

@[expose] public section
noncomputable section
namespace Cert.KernelIdeal.Hand
open Cert.KernelIdeal Cert.KernelIdeal.Gen
open Idealize.ShloMosaic Idealize.ShloMosaic.TcCoe Idealize.ShloMosaic.Tactic

theorem cond1_iff (i : grid0.Coords) : k0_cond1 i = 1#1 ↔ (i 1).val = 0 ∧ (i 2).val = 0 := by
  have h : ∀ (a : Fin 8) (b : Fin 2), Scalar.cmpi .ne (Scalar.extui (Scalar.andi (Scalar.cmpi .eq (BitVec.ofNat 32 a.val) 0#32) (Scalar.cmpi .eq (BitVec.ofNat 32 b.val) 0#32))) 0#32 = 1#1 ↔ a.val = 0 ∧ b.val = 0 := by decide
  exact h (i 1) (i 2)
theorem cond_first : ∀ b : Fin 2, Scalar.cmpi .ne (Scalar.extui (Scalar.cmpi .eq (BitVec.ofNat 32 b.val) 0#32)) 0#32 = 1#1 ↔ b.val = 0 := by decide
theorem cond_later : ∀ b : Fin 2, Scalar.cmpi .ne (Scalar.extui (Scalar.cmpi .sgt (BitVec.ofNat 32 b.val) 0#32)) 0#32 = 1#1 ↔ ¬ b.val = 0 := by decide
theorem cond_last : ∀ b : Fin 2, Scalar.cmpi .ne (Scalar.extui (Scalar.cmpi .eq (BitVec.ofNat 32 b.val) 1#32)) 0#32 = 1#1 ↔ b.val = 1 := by decide
theorem cond2_iff (i : grid0.Coords) : k0_cond2 i = 1#1 ↔ (i 2).val = 0 := cond_first (i 2)
theorem cond7_iff (i : grid0.Coords) : k0_cond7 i = 1#1 ↔ (i 2).val = 0 := cond_first (i 2)
theorem cond8_iff (i : grid0.Coords) : k0_cond8 i = 1#1 ↔ ¬ (i 2).val = 0 := cond_later (i 2)
theorem cond12_iff (i : grid0.Coords) : k0_cond12 i = 1#1 ↔ (i 2).val = 0 := cond_first (i 2)
theorem cond13_iff (i : grid0.Coords) : k0_cond13 i = 1#1 ↔ ¬ (i 2).val = 0 := cond_later (i 2)
theorem cond14_iff (i : grid0.Coords) : k0_cond14 i = 1#1 ↔ (i 2).val = 1 := cond_last (i 2)

/-- An array read whole is itself. -/
theorem whole3_at {a b d : ℕ} {α : Type} (w : (⟨3, ![a, b, d]⟩ : Shape).Idx → α) (inb : ∀ x, (![0, 0, 0] : Fin 3 → ℕ) x + (⟨3, ![a, b, d]⟩ : Shape).size x ≤ (⟨3, ![a, b, d]⟩ : Shape).size x)
    (y : (⟨3, ![a, b, d]⟩ : Shape).Idx) : whole3 w inb y = w y := by
  refine congrArg w (funext fun q => Fin.ext ?_)
  match q with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A half expert's value of row `ρ` of the gathered rows, at column `d`. -/
def rowPart (wa wu : S1x1024x1792.Idx → EReal) (wo : S1x1792x1024.Idx → EReal) (xs : S2048x1024.Idx → EReal) (ρ : Fin 2048) (d : Fin 1024) : EReal :=
  part (fun k => xs (ix2 ρ k)) (fun k f => wa (ix3 0 k f)) (fun k f => wu (ix3 0 k f)) (fun f => wo (ix3 0 f d))

/-- A row of a band read through the band's window. -/
theorem window_row {a : ℕ} (x : S2048x1024.Idx → EReal) {off : Fin 2 → ℕ} {o : ℕ} (ho : off = ![o, 0]) (inb : ∀ q, off q + (⟨2, ![a, 1024]⟩ : Shape).size q ≤ S2048x1024.size q) (ρ : Fin 2048) (d : Fin 1024)
    (h1 : o ≤ ρ.val) (h2 : ρ.val < o + a) : VecWindow.window x off (⟨2, ![a, 1024]⟩ : Shape).size inb (ix2 (⟨ρ.val - o, by omega⟩ : Fin a) d) = x (ix2 ρ d) := by
  have hρ := ρ.isLt
  refine (window_at (A := 2048) (B := 1024) (a := a) (b := 1024) x ho inb ⟨ρ.val - o, by omega⟩ d (by show o + (ρ.val - o) < 2048; omega) (by have := d.isLt; omega)).trans ?_
  refine congrArg x (congrArg₂ ix2 (Fin.ext ?_) (Fin.ext ?_))
  · show o + (ρ.val - o) = ρ.val; omega
  · show 0 + d.val = d.val; omega

variable (i : grid0.Coords) (v5 : BitVec 32) (hv : v5.toNat ≤ 2048) (wa wu : S1x1024x1792.Idx → EReal) (wo : S1x1792x1024.Idx → EReal) (xs : S2048x1024.Idx → EReal)

theorem fstep_row (t : Fin (k0_t6_loop v5).trips) (acc : S2048x1024.Idx → EReal) (ρ : Fin 2048) (d : Fin 1024) :
    fstep (F := Ideal) i v5 hv wa wu wo xs t acc (ix2 ρ d)
      = if 256 * t.val ≤ ρ.val ∧ ρ.val < 256 * t.val + 256 then (if (i 2).val = 0 then 0 else acc (ix2 ρ d)) + rowPart wa wu wo xs ρ d else acc (ix2 ρ d) := by
  unfold fstep
  by_cases hr : 256 * t.val ≤ ρ.val ∧ ρ.val < 256 * t.val + 256
  · rw [if_pos hr]
    have hx : ∀ d, VecWindow.window xs (k0_off20 v5 t) S256x1024.size (off20_inb hv t) (ix2 (⟨ρ.val - 256 * t.val, by omega⟩ : Fin 256) d) = xs (ix2 ρ d) := fun d =>
      window_row xs (off20_eq hv t) (off20_inb hv t) ρ d hr.1 hr.2
    by_cases h0 : (i 2).val = 0
    · have h7 := (cond7_iff i).2 h0
      have h8 : ¬ k0_cond8 i = 1#1 := fun h => (cond8_iff i).1 h h0
      simp only [if_pos h7, if_neg h8]
      rw [if_pos h0, zero_add]
      refine (put_in (A := 2048) (B := 1024) (a := 256) acc (off20_eq hv t) _ ρ d hr.1 hr.2).trans ?_
      rw [pay2_at]
      unfold rowPart
      simp only [whole3_at, hx]
    · have h7 : ¬ k0_cond7 i = 1#1 := fun h => h0 ((cond7_iff i).1 h)
      have h8 := (cond8_iff i).2 h0
      simp only [if_neg h7, if_pos h8]
      rw [if_neg h0]
      refine (put_in (A := 2048) (B := 1024) (a := 256) acc (off20_eq hv t) _ ρ d hr.1 hr.2).trans ?_
      rw [pay3_at]
      unfold rowPart
      simp only [whole3_at, hx]
      exact congrArg (· + _) (window_row acc (off20_eq hv t) (off20_inb hv t) ρ d hr.1 hr.2)
  · rw [if_neg hr]
    have ho : ∀ (z : S2048x1024.Idx → EReal) (w : S256x1024.Idx → EReal), VecWindow.put z (k0_off20 v5 t) S256x1024.size w (ix2 ρ d) = z (ix2 ρ d) := fun z w =>
      put_out (A := 2048) (B := 1024) (a := 256) z (off20_eq hv t) w ρ d (by omega)
    by_cases h0 : (i 2).val = 0
    · have h7 := (cond7_iff i).2 h0
      have h8 : ¬ k0_cond8 i = 1#1 := fun h => (cond8_iff i).1 h h0
      simp only [if_pos h7, if_neg h8]
      exact ho _ _
    · have h7 : ¬ k0_cond7 i = 1#1 := fun h => h0 ((cond7_iff i).1 h)
      have h8 := (cond8_iff i).2 h0
      simp only [if_neg h7, if_pos h8]
      exact ho _ _

theorem fstepT_row (h11 : k0_cond11 v5 = 1#1) (acc : S2048x1024.Idx → EReal) (ρ : Fin 2048) (d : Fin 1024) :
    fstepT (F := Ideal) i v5 hv wa wu wo xs h11 acc (ix2 ρ d)
      = if 256 * nf v5.toNat ≤ ρ.val ∧ ρ.val < 256 * nf v5.toNat + 128 then (if (i 2).val = 0 then 0 else acc (ix2 ρ d)) + rowPart wa wu wo xs ρ d else acc (ix2 ρ d) := by
  have hi : ∀ a, k0_off14 v5 a + S128x1024.size a ≤ S2048x1024.size a := off14_inb hv h11
  unfold fstepT
  by_cases hr : 256 * nf v5.toNat ≤ ρ.val ∧ ρ.val < 256 * nf v5.toNat + 128
  · rw [if_pos hr]
    have hx : ∀ d, VecWindow.window xs (k0_off26 v5) S128x1024.size (off14_inb hv h11) (ix2 (⟨ρ.val - 256 * nf v5.toNat, by omega⟩ : Fin 128) d) = xs (ix2 ρ d) := fun d =>
      window_row xs (off14_eq hv) hi ρ d hr.1 hr.2
    by_cases h0 : (i 2).val = 0
    · have h7 := (cond12_iff i).2 h0
      have h8 : ¬ k0_cond13 i = 1#1 := fun h => (cond13_iff i).1 h h0
      simp only [if_pos h7, if_neg h8]
      rw [if_pos h0, zero_add]
      refine (put_in (A := 2048) (B := 1024) (a := 128) acc (off14_eq hv) _ ρ d hr.1 hr.2).trans ?_
      rw [pay8_at]
      unfold rowPart
      simp only [whole3_at, hx]
    · have h7 : ¬ k0_cond12 i = 1#1 := fun h => h0 ((cond12_iff i).1 h)
      have h8 := (cond13_iff i).2 h0
      simp only [if_neg h7, if_pos h8]
      rw [if_neg h0]
      refine (put_in (A := 2048) (B := 1024) (a := 128) acc (off14_eq hv) _ ρ d hr.1 hr.2).trans ?_
      rw [pay9_at]
      unfold rowPart
      simp only [whole3_at, hx]
      exact congrArg (· + _) (window_row acc (off14_eq hv) hi ρ d hr.1 hr.2)
  · rw [if_neg hr]
    have ho : ∀ (z : S2048x1024.Idx → EReal) (w : S128x1024.Idx → EReal), VecWindow.put z (k0_off14 v5) S128x1024.size w (ix2 ρ d) = z (ix2 ρ d) := fun z w =>
      put_out (A := 2048) (B := 1024) (a := 128) z (off14_eq hv) w ρ d (by omega)
    by_cases h0 : (i 2).val = 0
    · have h7 := (cond12_iff i).2 h0
      have h8 : ¬ k0_cond13 i = 1#1 := fun h => (cond13_iff i).1 h h0
      simp only [if_pos h7, if_neg h8]
      exact ho _ _
    · have h7 : ¬ k0_cond12 i = 1#1 := fun h => h0 ((cond12_iff i).1 h)
      have h8 := (cond13_iff i).2 h0
      simp only [if_neg h7, if_pos h8]
      exact ho _ _

/-- A row under the count after the feed-forward. -/
theorem ffn_row (acc : S2048x1024.Idx → EReal) (ρ : Fin 2048) (hρ : ρ.val < v5.toNat) (d : Fin 1024) :
    ffn (F := Ideal) i v5 hv wa wu wo xs acc (ix2 ρ d) = (if (i 2).val = 0 then 0 else acc (ix2 ρ d)) + rowPart wa wu wo xs ρ d := by
  have hf : 256 * nf v5.toNat ≤ v5.toNat + 127 ∧ v5.toNat ≤ 256 * nf v5.toNat + 128 := by unfold nf; omega
  have htr := trips6 hv
  have h := itf_inv (k0_t6_loop v5).trips (fstep (F := Ideal) i v5 hv wa wu wo xs) acc
    (fun t z => z (ix2 ρ d) = if ρ.val < 256 * t then (if (i 2).val = 0 then 0 else acc (ix2 ρ d)) + rowPart wa wu wo xs ρ d else acc (ix2 ρ d))
    (by rw [if_neg (show ¬ ρ.val < 256 * 0 by omega)])
    (fun t z hz => by
      rw [fstep_row i v5 hv wa wu wo xs t z ρ d, hz]
      by_cases h1 : ρ.val < 256 * t.val
      · rw [if_neg (fun h => by omega), if_pos h1, if_pos (show ρ.val < 256 * (t.val + 1) by omega)]
      · by_cases h2 : ρ.val < 256 * t.val + 256
        · rw [if_pos ⟨by omega, h2⟩, if_neg h1, if_pos (show ρ.val < 256 * (t.val + 1) by omega)]
        · rw [if_neg (fun h => h2 h.2), if_neg h1, if_neg (show ¬ ρ.val < 256 * (t.val + 1) by omega)]) (k0_t6_loop v5).trips le_rfl
  unfold ffn
  by_cases h11 : k0_cond11 v5 = 1#1
  · simp only [dif_pos h11]
    rw [fstepT_row i v5 hv wa wu wo xs h11 _ ρ d, h]
    by_cases h1 : 256 * nf v5.toNat ≤ ρ.val
    · rw [if_pos ⟨h1, by omega⟩, if_neg (show ¬ ρ.val < 256 * (k0_t6_loop v5).trips by omega)]
    · rw [if_neg (fun h => h1 h.1), if_pos (show ρ.val < 256 * (k0_t6_loop v5).trips by omega)]
  · simp only [dif_neg h11]
    have h6 : ¬ 256 * nf v5.toNat < v5.toNat := fun h' => h11 ((cond5_iff hv).2 h')
    rw [h, if_pos (show ρ.val < 256 * (k0_t6_loop v5).trips by omega)]
end Cert.KernelIdeal.Hand
end
-- ==== Proof.Blocks.lean ====
/- The blocks that a grid point sees, at an entry of the arrays; and when the output block is written back. -/
module

public import proofs.«01_k».proof.Proof.Frames
public import proofs.«01_k».proof.Proof.Ffn
public import Idealize.ShloMosaic.Lib.Pipeline.ValueKit.Geometry
public import Idealize.ShloMosaic.Lib.Pipeline.ValueKit
import Idealize.ShloMosaic.Lib.Pointwise

@[expose] public section
noncomputable section
namespace Cert.KernelIdeal.Hand
open Cert.KernelIdeal Cert.KernelIdeal.Gen
open Idealize.ShloMosaic Idealize.ShloMosaic.TcCoe Idealize.ShloMosaic.Tactic

theorem word_small {n k : ℕ} (h : n < k) (hk : k ≤ 2 ^ 32) : (BitVec.ofNat 32 n).toNat = n := by
  rw [BitVec.toNat_ofNat]; exact Nat.mod_eq_of_lt (by omega)

theorem coords_at : ∀ t : Fin grid0.N, (grid0.coords t 0).val = t.val / 16 ∧ (grid0.coords t 1).val = t.val / 2 % 8 ∧ (grid0.coords t 2).val = t.val % 2 := by decide +kernel

theorem map0 (i : grid0.Coords) : cc0_transform_0 i = ![(i 0).val, 0] := by
  unfold cc0_transform_0; simp only [word_small (i 0).isLt (by decide), word_small (i 1).isLt (by decide), word_small (i 2).isLt (by decide)]; rfl
theorem map1 (i : grid0.Coords) : cc0_transform_1 i = ![0, (i 0).val] := by
  unfold cc0_transform_1; simp only [word_small (i 0).isLt (by decide), word_small (i 1).isLt (by decide), word_small (i 2).isLt (by decide)]; rfl
theorem map2 (i : grid0.Coords) : cc0_transform_2 i = ![0, (i 0).val] := by
  unfold cc0_transform_2; simp only [word_small (i 0).isLt (by decide), word_small (i 1).isLt (by decide), word_small (i 2).isLt (by decide)]; rfl
theorem map3 (i : grid0.Coords) : cc0_transform_3 i = ![(i 1).val, 0, (i 2).val] := by
  unfold cc0_transform_3; simp only [word_small (i 0).isLt (by decide), word_small (i 1).isLt (by decide), word_small (i 2).isLt (by decide)]; rfl
theorem add_two : ∀ b : Fin 2, (Scalar.addi (BitVec.ofNat 32 b.val) 2#32).toNat = 2 + b.val := by decide
theorem map4 (i : grid0.Coords) : cc0_transform_4 i = ![(i 1).val, 0, 2 + (i 2).val] := by
  have h := add_two (i 2)
  unfold cc0_transform_4; simp only [word_small (i 0).isLt (by decide), word_small (i 1).isLt (by decide), h]; rfl
theorem map5 (i : grid0.Coords) : cc0_transform_5 i = ![(i 1).val, (i 2).val, 0] := by
  unfold cc0_transform_5; simp only [word_small (i 0).isLt (by decide), word_small (i 1).isLt (by decide), word_small (i 2).isLt (by decide)]; rfl
theorem map6 (i : grid0.Coords) : cc0_transform_6 i = ![(i 0).val, 0] := by
  unfold cc0_transform_6; simp only [word_small (i 0).isLt (by decide), word_small (i 1).isLt (by decide), word_small (i 2).isLt (by decide)]; rfl

variable (m : (ℓ : Loc nD τ sig) → Buf (Elt Ideal) ℓ) (c : Dev nD) (t : Fin (cfgA m).N)

theorem blk0_at (n : Fin 2048) (d : Fin 1024) (h : 2048 * (grid0.coords t 0).val + n.val < 32768) :
    (iblk m c 0 t : S2048x1024.Idx → EReal) (ix2 n d) = V m c main_v0 (ix2 ⟨2048 * (grid0.coords t 0).val + n.val, h⟩ d) := by
  have e : ((cfgA m).win 0).index t = ![(grid0.coords t 0).val, 0] := map0 _
  refine (((cfgA m).win 0).fill_xinj ((cfgA m).grid.coords t) _ _ (ix2 n d)).trans ?_
  blk_ext [e]
theorem blk1_at (x : Fin 8) (n : Fin 2048) (h : 2048 * (grid0.coords t 0).val + n.val < 32768) :
    (iblk m c 1 t : S8x2048.Idx → EReal) (ix2 x n) = V m c main_arg1 (ix2 x ⟨2048 * (grid0.coords t 0).val + n.val, h⟩) := by
  have e : ((cfgA m).win 1).index t = ![0, (grid0.coords t 0).val] := map1 _
  refine (((cfgA m).win 1).fill_xinj ((cfgA m).grid.coords t) _ _ (ix2 x n)).trans ?_
  blk_ext [e]
theorem blk2_at (x : Fin 8) (n : Fin 2048) (h : 2048 * (grid0.coords t 0).val + n.val < 32768) :
    (iblk m c 2 t : S8x2048.Idx → BitVec 32) (ix2 x n) = V m c main_v7 (ix2 x ⟨2048 * (grid0.coords t 0).val + n.val, h⟩) := by
  have e : ((cfgA m).win 2).index t = ![0, (grid0.coords t 0).val] := map2 _
  refine (((cfgA m).win 2).fill_xinj ((cfgA m).grid.coords t) _ _ (ix2 x n)).trans ?_
  blk_ext [e]
theorem blk3_at (k : Fin 1024) (f : Fin 1792) (h : 1792 * (grid0.coords t 2).val + f.val < 7168) :
    (iblk m c 3 t : S1x1024x1792.Idx → EReal) (ix3 0 k f) = V m c main_v15 (ix3 (grid0.coords t 1) k ⟨1792 * (grid0.coords t 2).val + f.val, h⟩) := by
  have e : ((cfgA m).win 3).index t = ![(grid0.coords t 1).val, 0, (grid0.coords t 2).val] := map3 _
  refine (((cfgA m).win 3).fill_xinj ((cfgA m).grid.coords t) _ _ (ix3 0 k f)).trans ?_
  blk_ext [e]
theorem blk4_at (k : Fin 1024) (f : Fin 1792) (h : 3584 + 1792 * (grid0.coords t 2).val + f.val < 7168) :
    (iblk m c 4 t : S1x1024x1792.Idx → EReal) (ix3 0 k f) = V m c main_v15 (ix3 (grid0.coords t 1) k ⟨3584 + 1792 * (grid0.coords t 2).val + f.val, h⟩) := by
  have e : ((cfgA m).win 4).index t = ![(grid0.coords t 1).val, 0, 2 + (grid0.coords t 2).val] := map4 _
  refine (((cfgA m).win 4).fill_xinj ((cfgA m).grid.coords t) _ _ (ix3 0 k f)).trans ?_
  blk_ext [e]
theorem blk5_at (f : Fin 1792) (d : Fin 1024) (h : 1792 * (grid0.coords t 2).val + f.val < 3584) :
    (iblk m c 5 t : S1x1792x1024.Idx → EReal) (ix3 0 f d) = V m c main_v16 (ix3 (grid0.coords t 1) ⟨1792 * (grid0.coords t 2).val + f.val, h⟩ d) := by
  have e : ((cfgA m).win 5).index t = ![(grid0.coords t 1).val, (grid0.coords t 2).val, 0] := map5 _
  refine (((cfgA m).win 5).fill_xinj ((cfgA m).grid.coords t) _ _ (ix3 0 f d)).trans ?_
  blk_ext [e]

/-- The output block is written back at a tile's last point only. -/
theorem flush_last : ∀ t : Fin grid0.N, spec0_6.flushAt cc0_transform_6 t = true → t.val % 16 = 15 := by decide +kernel
theorem flush_at (h : ((cfgA m).win 6).flush t = true) : t.val % 16 = 15 := flush_last t h
theorem fetch_none : ((cfgA m).win 6).fetch t = false := rfl
/-- A closed choice of contents. -/
def m0 : (ℓ : Loc nD τ sig) → Buf (Elt Ideal) ℓ := fun _ _ => Classical.arbitrary _
theorem covers0 : ((cfgA m0).win 6).Covers := by decide +kernel
/-- The blocks written back make up the whole output. -/
theorem covers : ((cfgA m).win 6).Covers := covers0

end Cert.KernelIdeal.Hand
end
-- ==== Proof.Scatter.lean ====
/- The scatter of a grid point: every taken token's row takes its gate times the accumulated row that its rank names. -/
module

public import proofs.«01_k».proof.Proof.Gather

@[expose] public section
noncomputable section
namespace Cert.KernelIdeal.Hand
open Cert.KernelIdeal Cert.KernelIdeal.Gen
open Idealize.ShloMosaic Idealize.ShloMosaic.TcCoe Idealize.ShloMosaic.Tactic

section
variable {i : grid0.Coords} {v5 : BitVec 32} {T : S640.Idx → BitVec 32} {G : S8x2048.Idx → EReal} {R : S8x2048.Idx → BitVec 32} {rk b : ℕ → ℕ}

/-- One subtile of the output with one block's rows added in, at a token. -/
theorem scat_block (H : Tile i v5 T G R rk b) {k : ℕ} (hk : k < 4) {s o : ℕ} {oW : BitVec 32} (hoW : oW.toNat = o) (ho : o ≤ 2048) (hs : s ≤ 256) {off offy : Fin 2 → ℕ}
    (hoff : off = ![o, 0]) (hoffy : offy = ![512 * k, 0]) (inb : ∀ a, off a + (⟨2, ![s, 1024]⟩ : Shape).size a ≤ S2048x1024.size a)
    (inby : ∀ a, offy a + S512x1024.size a ≤ S2048x1024.size a)
    (W : Fin 512 → BitVec 32) (g : Fin 512 → EReal) (hW : ∀ x : Fin 512, W x = R (ix2 (i 1) ⟨512 * k + x.val, by omega⟩))
    (hg : ∀ x : Fin 512, g x = G (ix2 (i 1) ⟨512 * k + x.val, by omega⟩)) {n : ℕ} (hn : n < 2048)
    (acc y : S2048x1024.Idx → EReal) (d : Fin 1024) (pay : S512x1024.Idx → EReal)
    (hpay : ∀ r : Fin 512, pay (ix2 r d) = VecWindow.window y offy S512x1024.size inby (ix2 r d)
      + ∑ x : Fin s, Scalar.select (hit oW (W r) x.val (g r)) (VecWindow.window acc off (⟨2, ![s, 1024]⟩ : Shape).size inb (ix2 x d) * pick oW W g x.val g) 0) :
    VecWindow.put y offy S512x1024.size pay (ix2 ⟨n, hn⟩ d)
      = y (ix2 ⟨n, hn⟩ d) + if n / 512 = k ∧ b n = 1 ∧ o ≤ rk n ∧ rk n < o + s then acc (ix2 ⟨rk n, H.row_lt hn⟩ d) * G (ix2 (i 1) ⟨n, hn⟩) else 0 := by
  by_cases hd : n / 512 = k
  · refine (put_in (A := 2048) (B := 1024) (a := 512) y hoffy pay ⟨n, hn⟩ d (by show 512 * k ≤ n; omega) (by show n < 512 * k + 512; omega)).trans ?_
    rw [hpay]
    have e1 : VecWindow.window y offy S512x1024.size inby (ix2 (⟨n - 512 * k, by omega⟩ : Fin 512) d) = y (ix2 ⟨n, hn⟩ d) := by
      refine (window_at (A := 2048) (B := 1024) (a := 512) (b := 1024) y hoffy inby ⟨n - 512 * k, by omega⟩ d (by show 512 * k + (n - 512 * k) < 2048; omega) (by have := d.isLt; omega)).trans ?_
      refine congrArg y (congrArg₂ ix2 (Fin.ext ?_) (Fin.ext ?_))
      · show 512 * k + (n - 512 * k) = n; omega
      · show 0 + d.val = d.val; omega
    have hx : (⟨512 * k + (n - 512 * k), by omega⟩ : Fin 2048) = ⟨n, hn⟩ := Fin.ext (by show 512 * k + (n - 512 * k) = n; omega)
    have hWn : W ⟨n - 512 * k, by omega⟩ = BitVec.ofNat 32 (rk n) := by
      refine (hW _).trans ?_
      show R (ix2 (i 1) (⟨512 * k + (n - 512 * k), _⟩ : Fin 2048)) = _
      rw [hx, H.rank]
    have hgn : g ⟨n - 512 * k, by omega⟩ = G (ix2 (i 1) ⟨n, hn⟩) := by
      refine (hg _).trans ?_
      show G (ix2 (i 1) (⟨512 * k + (n - 512 * k), _⟩ : Fin 2048)) = _
      rw [hx]
    have hrl := H.row_lt hn
    have e : ∀ x : Fin s, (W ⟨n - 512 * k, by omega⟩ = IntOp.addi oW (BitVec.ofNat 32 x.val) ∧ 0 < g ⟨n - 512 * k, by omega⟩) ↔ (rk n = o + x.val ∧ b n = 1) := fun x => by
      have hxl := x.isLt
      rw [hWn, hgn, H.gate, hit_iff (by omega) (by omega) (by omega), hoW]
    refine congrArg₂ (· + ·) e1 ?_
    by_cases hr : b n = 1 ∧ o ≤ rk n ∧ rk n < o + s
    · rw [if_pos ⟨hd, hr⟩, Finset.sum_eq_single (⟨rk n - o, by omega⟩ : Fin s)]
      · unfold hit
        rw [select_hit, if_pos ((e ⟨rk n - o, by omega⟩).2 ⟨by show rk n = o + (rk n - o); omega, hr.1⟩)]
        refine congrArg₂ (· * ·) ?_ ?_
        · refine (window_at (A := 2048) (B := 1024) (a := s) (b := 1024) acc hoff inb ⟨rk n - o, by omega⟩ d (by show o + (rk n - o) < 2048; omega) (by have := d.isLt; omega)).trans ?_
          refine congrArg acc (congrArg₂ ix2 (Fin.ext ?_) (Fin.ext ?_))
          · show o + (rk n - o) = rk n; omega
          · show 0 + d.val = d.val; omega
        · rw [pick_eq H hk (by omega) W g hW hg hn hr.1 (show rk n = oW.toNat + (rk n - o) by omega) g (G (ix2 (i 1) ⟨n, hn⟩))
            (fun x hx => (hg x).trans (congrArg G (congrArg₂ ix2 rfl (Fin.ext hx)))), if_pos hd]
      · intro x _ hx
        unfold hit
        rw [select_hit]
        refine if_neg fun h' => hx (Fin.ext ?_)
        have := ((e x).1 h').1
        show x.val = rk n - o
        omega
      · intro h'; exact absurd (Finset.mem_univ _) h'
    · rw [if_neg (fun h => hr h.2)]
      refine Finset.sum_eq_zero fun x _ => ?_
      unfold hit
      rw [select_hit]
      refine if_neg fun h' => hr ?_
      have h1 := (e x).1 h'
      have := x.isLt
      exact ⟨h1.2, by omega, by omega⟩
  · rw [if_neg (fun h => hd h.1), add_zero]
    exact put_out (A := 2048) (B := 1024) (a := 512) y hoffy pay ⟨n, hn⟩ d (by show n < 512 * k ∨ 512 * k + 512 ≤ n; omega)

end

section
variable (i : grid0.Coords) (v5 : BitVec 32) (hv : v5.toNat ≤ 2048) (T : S640.Idx → BitVec 32) (G : S8x2048.Idx → EReal) (R : S8x2048.Idx → BitVec 32) (acc : S2048x1024.Idx → EReal) {rk b : ℕ → ℕ}

theorem sstep_at (H : Tile i v5 T G R rk b) (h14 : k0_cond14 i = 1#1) (t : Fin (k0_t8_loop v5).trips) (k : Fin k0_t9_loop.trips) (y : S2048x1024.Idx → EReal) {n : ℕ} (hn : n < 2048) (d : Fin 1024) :
    sstep (F := Ideal) i v5 hv h14 t T G R acc k y (ix2 ⟨n, hn⟩ d)
      = y (ix2 ⟨n, hn⟩ d) + if n / 512 = k.val ∧ b n = 1 ∧ 256 * t.val ≤ rk n ∧ rk n < 256 * t.val + 256 then acc (ix2 ⟨rk n, H.row_lt hn⟩ d) * G (ix2 (i 1) ⟨n, hn⟩) else 0 := by
  have hk : k.val < 4 := k.isLt
  have ht : t.val < 8 := by have h1 := t.isLt; have h2 := trips8 hv; have h3 := nf_le hv; omega
  have ho : (Scalar.muli (Scf.iv 0#32 1#32 t.val) 256#32).toNat = 256 * t.val := muli_iv ht
  unfold sstep
  by_cases hc : k0_cond15 v5 t (tw T (k0_off29 i k) (k0_off29_inb i k h14)) (tw T (k0_off30 i k) (k0_off30_inb i k h14)) = 1#1
  · rw [if_pos hc]
    exact scat_block H hk (s := 256) ho (by omega) le_rfl (off32_eq hv t) (k0_off33_eq k) (off32_inb hv t) (k0_off33_inb i k h14) _ _ (fun x => win_row R hk (k0_off31_eq i k) _ x) (fun x => win_row G hk (k0_off31_eq i k) _ x) hn acc y d
      _ (fun r => pay10_at v5 t _ _ _ _ r d)
  · rw [if_neg hc, if_neg, add_zero]
    rintro ⟨h1, hb, h3, h4⟩
    exact hc (guard_of H hk (s := 256#32) (by omega) (by decide) _ _ (k0_off29_eq i k) (k0_off30_eq i k) hn hb h1 (by omega) (by rw [ho]; exact h4))

theorem sstepT_at (H : Tile i v5 T G R rk b) (v23 : BitVec 32) (h23 : Scalar.muli v23 256#32 = k0_mult5 v5) (h14 : k0_cond14 i = 1#1) (h17 : k0_cond17 v5 = 1#1) (k : Fin k0_t12_loop.trips) (y : S2048x1024.Idx → EReal) {n : ℕ} (hn : n < 2048) (d : Fin 1024) :
    sstepT (F := Ideal) i v5 hv v23 h14 h17 T G R acc k y (ix2 ⟨n, hn⟩ d)
      = y (ix2 ⟨n, hn⟩ d) + if n / 512 = k.val ∧ b n = 1 ∧ 256 * nf v5.toNat ≤ rk n ∧ rk n < 256 * nf v5.toNat + 128 then acc (ix2 ⟨rk n, H.row_lt hn⟩ d) * G (ix2 (i 1) ⟨n, hn⟩) else 0 := by
  have hk : k.val < 4 := k.isLt
  have hf := nf_le hv
  have ho : (k0_mult5 v5).toNat = 256 * nf v5.toNat := mult5_eq hv
  unfold sstepT
  by_cases hc : k0_cond18 v5 (tw T (k0_off39 i k) (k0_off39_inb i k h14)) (tw T (k0_off40 i k) (k0_off40_inb i k h14)) = 1#1
  · rw [if_pos hc]
    exact scat_block H hk (s := 128) (oW := Scalar.muli v23 256#32) (by rw [h23]; exact ho) (by omega) (by omega) (off14_eq hv) (k0_off43_eq k) (off14_inb hv h17) (k0_off43_inb i k h14) _ _ (fun x => win_row R hk (k0_off41_eq i k) _ x) (fun x => win_row G hk (k0_off41_eq i k) _ x) hn acc y d
      _ (fun r => pay12_at v23 _ _ _ _ r d)
  · rw [if_neg hc, if_neg, add_zero]
    rintro ⟨h1, hb, h3, h4⟩
    exact hc (guard_of H hk (o := k0_mult5 v5) (s := 128#32) (by omega) (by decide) _ _ (k0_off39_eq i k) (k0_off40_eq i k) hn hb h1 (by omega) (by rw [ho]; exact h4))

theorem sblock_at (H : Tile i v5 T G R rk b) (h14 : k0_cond14 i = 1#1) (t : Fin (k0_t8_loop v5).trips) (y : S2048x1024.Idx → EReal) {n : ℕ} (hn : n < 2048) (d : Fin 1024) :
    sblock (F := Ideal) i v5 hv h14 T G R acc t y (ix2 ⟨n, hn⟩ d)
      = y (ix2 ⟨n, hn⟩ d) + if b n = 1 ∧ 256 * t.val ≤ rk n ∧ rk n < 256 * t.val + 256 then acc (ix2 ⟨rk n, H.row_lt hn⟩ d) * G (ix2 (i 1) ⟨n, hn⟩) else 0 := by
  have h := itf_inv k0_t9_loop.trips (sstep (F := Ideal) i v5 hv h14 t T G R acc) y
    (fun k z => z (ix2 ⟨n, hn⟩ d) = y (ix2 ⟨n, hn⟩ d)
      + if n / 512 < k ∧ b n = 1 ∧ 256 * t.val ≤ rk n ∧ rk n < 256 * t.val + 256 then acc (ix2 ⟨rk n, H.row_lt hn⟩ d) * G (ix2 (i 1) ⟨n, hn⟩) else 0)
    (by rw [if_neg (fun h => Nat.not_lt_zero _ h.1), add_zero])
    (fun k z hz => by rw [sstep_at i v5 hv T G R acc H h14 t k z hn d, hz]; exact step_case) k0_t9_loop.trips le_rfl
  have h4 : n / 512 < k0_t9_loop.trips := by show n / 512 < 4; omega
  exact h.trans (congrArg _ (if_congr ⟨fun h => h.2, fun h => ⟨h4, h⟩⟩ rfl rfl))

/-- What a token's row gains in the scatter. -/
theorem scatter_at (H : Tile i v5 T G R rk b) (v23 : BitVec 32) (h23 : Scalar.muli v23 256#32 = k0_mult5 v5) (h14 : k0_cond14 i = 1#1) (y : S2048x1024.Idx → EReal) {n : ℕ} (hn : n < 2048) (d : Fin 1024) :
    scatter (F := Ideal) i v5 hv v23 T G R acc y (ix2 ⟨n, hn⟩ d)
      = y (ix2 ⟨n, hn⟩ d) + if b n = 1 then acc (ix2 ⟨rk n, H.row_lt hn⟩ d) * G (ix2 (i 1) ⟨n, hn⟩) else 0 := by
  have hf : 256 * nf v5.toNat ≤ v5.toNat + 127 ∧ v5.toNat ≤ 256 * nf v5.toNat + 128 := by unfold nf; omega
  have htr := trips8 hv
  have h := itf_inv (k0_t8_loop v5).trips (sblock (F := Ideal) i v5 hv h14 T G R acc) y
    (fun t z => z (ix2 ⟨n, hn⟩ d) = y (ix2 ⟨n, hn⟩ d) + if rk n / 256 < t ∧ b n = 1 then acc (ix2 ⟨rk n, H.row_lt hn⟩ d) * G (ix2 (i 1) ⟨n, hn⟩) else 0)
    (by rw [if_neg (fun h => Nat.not_lt_zero _ h.1), add_zero])
    (fun t z hz => by
      rw [sblock_at i v5 hv T G R acc H h14 t z hn d, hz]
      refine Eq.trans (congrArg _ (if_congr (Q := rk n / 256 = t.val ∧ b n = 1) ⟨fun h => ⟨by omega, h.1⟩, fun h => ⟨h.2, by omega, by omega⟩⟩ rfl rfl)) step_case) (k0_t8_loop v5).trips le_rfl
  unfold scatter
  rw [dif_pos h14]
  by_cases h17 : k0_cond17 v5 = 1#1
  · simp only [dif_pos h17]
    have h' := itf_inv k0_t12_loop.trips (sstepT (F := Ideal) i v5 hv v23 h14 h17 T G R acc) (itf (k0_t8_loop v5).trips (sblock (F := Ideal) i v5 hv h14 T G R acc) y (k0_t8_loop v5).trips)
      (fun k z => z (ix2 ⟨n, hn⟩ d) = (itf (k0_t8_loop v5).trips (sblock (F := Ideal) i v5 hv h14 T G R acc) y (k0_t8_loop v5).trips) (ix2 ⟨n, hn⟩ d)
        + if n / 512 < k ∧ b n = 1 ∧ 256 * nf v5.toNat ≤ rk n ∧ rk n < 256 * nf v5.toNat + 128 then acc (ix2 ⟨rk n, H.row_lt hn⟩ d) * G (ix2 (i 1) ⟨n, hn⟩) else 0)
      (by rw [if_neg (fun h => Nat.not_lt_zero _ h.1), add_zero])
      (fun k z hz => by rw [sstepT_at i v5 hv T G R acc H v23 h23 h14 h17 k z hn d, hz]; exact step_case) k0_t12_loop.trips le_rfl
    refine h'.trans ?_
    rw [h]
    have h4 : n / 512 < k0_t12_loop.trips := by show n / 512 < 4; omega
    by_cases hb : b n = 1
    · have hc := H.lt_count hn hb
      by_cases hr : 256 * nf v5.toNat ≤ rk n
      · rw [if_neg (fun h => by omega), add_zero, if_pos ⟨h4, hb, hr, by omega⟩, if_pos hb]
      · rw [if_pos ⟨by omega, hb⟩, if_neg (fun h => hr h.2.2.1), add_zero, if_pos hb]
    · rw [if_neg (fun h => hb h.2), add_zero, if_neg (fun h => hb h.2.1), if_neg hb]
  · simp only [dif_neg h17]
    have h6 : ¬ 256 * nf v5.toNat < v5.toNat := fun h' => h17 ((cond5_iff hv).2 h')
    refine h.trans (congrArg _ (if_congr ⟨fun h => h.2, fun hb => ⟨?_, hb⟩⟩ rfl rfl))
    have hc := H.lt_count hn hb
    omega
end
end Cert.KernelIdeal.Hand
end
-- ==== Proof.Point.lean ====
/- A grid point read on the extended reals: the ranks, gates and counts it sees are the tokens' own. -/
module

public import proofs.«01_k».proof.Proof.Blocks
public import proofs.«01_k».proof.Proof.Scatter
import Idealize.ShloMosaic.Lib.Pointwise

@[expose] public section
noncomputable section
namespace Cert.KernelIdeal.Hand
open Cert.KernelIdeal Cert.KernelIdeal.Gen
open Idealize.ShloMosaic Idealize.ShloMosaic.TcCoe Idealize.ShloMosaic.Tactic

variable (m : (ℓ : Loc nD τ sig) → Buf (Elt Ideal) ℓ) (c : Dev nD) (t : Fin (cfgA m).N)

theorem tile_lt (i : grid0.Coords) (n : Fin 2048) : 2048 * (i 0).val + n.val < 32768 := by
  have h : (i 0).val < 16 := (i 0).isLt
  omega

/-- A token is taken exactly where its gate is positive. -/
theorem bn_iff (e : Fin 8) (n : Fin 32768) : 0 < gate m c (ix2 e n) ↔ bn m c e n.val = 1 := by
  unfold bn
  rw [dif_pos n.isLt]
  have h : FloatOps.cmpf (F := Ideal) .ogt (gate m c (ix2 e n)) (FloatOps.ofBits (F := Ideal) .f32 0x00000000#32) = BitVec.ofBool (decide ((0 : EReal) < gate m c (ix2 e n))) := by
    pointwise
  show _ ↔ (FloatOps.cmpf (F := Ideal) .ogt (gate m c (ix2 e n)) (FloatOps.ofBits (F := Ideal) .f32 0x00000000#32)).toNat = 1
  rw [h]
  by_cases hp : (0 : EReal) < gate m c (ix2 e n)
  · simp [hp]
  · simp [hp]

theorem tile (t : Fin (cfgA m).N) : Tile (grid0.coords t) (cnt m c (grid0.coords t)) (tab m c) (iblk m c 1 t) (iblk m c 2 t)
    (fun n => cum m c (grid0.coords t 1) (grid0.coords t 0).val n) (fun n => bn m c (grid0.coords t 1) (2048 * (grid0.coords t 0).val + n)) where
  rank n := (blk2_at m c t (grid0.coords t 1) n (tile_lt _ n)).trans (rank_at m c (grid0.coords t 1) (grid0.coords t 0) n (tile_lt _ n))
  gate n := by
    rw [blk1_at m c t (grid0.coords t 1) n (tile_lt _ n), V_arg1]
    exact bn_iff m c (grid0.coords t 1) ⟨_, tile_lt _ n⟩
  word k off inb hk ho := tab_word m c (grid0.coords t 1) (grid0.coords t 0) ⟨k, by omega⟩ off inb ho
  count := by
    rw [cnt_eq, BitVec.toNat_ofNat]
    exact Nat.mod_eq_of_lt (by have := cum_le m c (grid0.coords t 1) (grid0.coords t 0).val 2048; omega)
  zero := by unfold cum; rw [Finset.range_zero, Finset.sum_empty]
  succ n := cum_succ m c _ _ n
  le n := bn_le m c _ _
end Cert.KernelIdeal.Hand
end
-- ==== Proof.Grid.lean ====
/- The whole grid on the extended reals: after the call the output holds, for every token, the sum over the experts that take it of
   its gate times the expert's value of its row. -/
module

public import proofs.«01_k».proof.Proof.Point
public import Idealize.ShloMosaic.Lib.Pipeline.ArrRel
import Idealize.ShloMosaic.Lib.Pointwise

@[expose] public section
noncomputable section
namespace Cert.KernelIdeal.Hand
open Cert.KernelIdeal Cert.KernelIdeal.Gen
open Idealize.ShloMosaic Idealize.ShloMosaic.TcCoe Idealize.ShloMosaic.Tactic
open Idealize.ShloMosaic.Pipeline

section Value
variable (x : S32768x1024.Idx → EReal) (g : S8x32768.Idx → EReal) (wi : S8x1024x7168.Idx → EReal) (wo : S8x3584x1024.Idx → EReal)

/-- Half `b` of expert `e`'s value of token `n`'s row, at column `d`. -/
def half (e : Fin 8) (b : Fin 2) (n : Fin 32768) (d : Fin 1024) : EReal :=
  part (fun k => x (ix2 n k)) (fun k f => wi (ix3 e k ⟨1792 * b.val + f.val, by omega⟩)) (fun k f => wi (ix3 e k ⟨3584 + 1792 * b.val + f.val, by omega⟩))
    (fun f => wo (ix3 e ⟨1792 * b.val + f.val, by omega⟩ d))

open Classical in
/-- Expert `e`'s part of token `n`'s output: nothing unless the gate is positive. -/
def term (n : Fin 32768) (d : Fin 1024) (e : Fin 8) : EReal :=
  if 0 < g (ix2 e n) then (half x wi wo e 0 n d + half x wi wo e 1 n d) * g (ix2 e n) else 0

/-- The sum of the first `q` experts' parts. -/
def upTo (q : ℕ) (n : Fin 32768) (d : Fin 1024) : EReal := ∑ j ∈ Finset.range q, if h : j < 8 then term x g wi wo n d ⟨j, h⟩ else 0

theorem upTo_succ (q : Fin 8) (n : Fin 32768) (d : Fin 1024) : upTo x g wi wo (q.val + 1) n d = upTo x g wi wo q.val n d + term x g wi wo n d q := by
  unfold upTo
  rw [Finset.sum_range_succ, dif_pos q.isLt]
end Value

variable (m : (ℓ : Loc nD τ sig) → Buf (Elt Ideal) ℓ) (c : Dev nD)

/-- The arguments. -/
abbrev ax : S32768x1024.Idx → EReal := m (c, Proc.devRef .tc main_arg0)
abbrev ag : S8x32768.Idx → EReal := m (c, Proc.devRef .tc main_arg1)
abbrev ai : S8x1024x7168.Idx → EReal := m (c, Proc.devRef .tc main_arg2)
abbrev ao : S8x3584x1024.Idx → EReal := m (c, Proc.devRef .tc main_arg3)

theorem v0_at (j : S32768x1024.Idx) : V m c main_v0 j = ax m c j := by rw [V_v0]; rfl
theorem v15_at (j : S8x1024x7168.Idx) : V m c main_v15 j = ai m c j := by rw [V_v15]; rfl
theorem v16_at (j : S8x3584x1024.Idx) : V m c main_v16 j = ao m c j := by rw [V_v16]; rfl

theorem cum_lt (e : Fin 8) (i : ℕ) (n : Fin 2048) : cum m c e i n.val < 2048 := by
  have := cum_le m c e i n.val
  omega

theorem tok_lt (i : Fin 16) (n : Fin 2048) : 2048 * i.val + n.val < 32768 := by omega

/-- The row of the scratch buffers that token `n` of tile `i` has with expert `e`. -/
abbrev rowOf (e : Fin 8) (i : Fin 16) (n : Fin 2048) : Fin 2048 := ⟨cum m c e i.val n.val, cum_lt m c e i.val n⟩
/-- Token `n` of tile `i`. -/
abbrev tok (i : Fin 16) (n : Fin 2048) : Fin 32768 := ⟨2048 * i.val + n.val, tok_lt i n⟩

theorem reach_succ (t : Fin (cfgA m).N) {xs : S2048x1024.Idx → EReal} {acc : S2048x1024.Idx → EReal} (h : Reach m (cnt_le m) c (t.val + 1) xs acc) :
    ∃ xs0 acc0, Reach m (cnt_le m) c t.val xs0 acc0 ∧ xs = xsOf m (cnt_le m) c t xs0 ∧ acc = accOf m (cnt_le m) c t xs acc0 := by
  unfold Reach at h
  obtain ⟨h1, xs0, acc0, hR, hx, ha⟩ := h
  refine ⟨xs0, acc0, hR, hx, ?_⟩
  rw [hx]
  exact ha

theorem gathered_first (t : Fin (cfgA m).N) (i : Fin 16) (e : Fin 8) (h0 : grid0.coords t 0 = i) (h1 : grid0.coords t 1 = e) (h2 : (grid0.coords t 2).val = 0)
    {xs acc : S2048x1024.Idx → EReal} (hR : Reach m (cnt_le m) c (t.val + 1) xs acc) (n : Fin 2048) (hb : bn m c e (2048 * i.val + n.val) = 1) (d : Fin 1024) :
    xs (ix2 (rowOf m c e i n) d) = ax m c (ix2 (tok i n) d) := by
  subst h0 h1
  obtain ⟨xs0, acc0, -, rfl, -⟩ := reach_succ m c t hR
  refine (gather_row (grid0.coords t) (cnt m c (grid0.coords t)) (cnt_le m c _) (tab m c) (iblk m c 0 t) (iblk m c 1 t) (iblk m c 2 t) (tile m c t) ((cond2_iff _).2 h2) xs0 n.isLt hb d).trans ?_
  exact (blk0_at m c t n d (tile_lt _ n)).trans (v0_at m c _)

/-- The point before, of the same tile and expert. -/
theorem coords_prev (t : Fin (cfgA m).N) (h2 : (grid0.coords t 2).val = 1) : ∃ s : Fin (cfgA m).N, t.val = s.val + 1 ∧ grid0.coords s 0 = grid0.coords t 0 ∧ grid0.coords s 1 = grid0.coords t 1 ∧ (grid0.coords s 2).val = 0 := by
  have ht : t.val < 256 := t.isLt
  obtain ⟨a0, a1, a2⟩ := coords_at t
  have hs : t.val - 1 < grid0.N := by show t.val - 1 < 256; omega
  obtain ⟨b0, b1, b2⟩ := coords_at ⟨t.val - 1, hs⟩
  refine ⟨⟨t.val - 1, hs⟩, by show t.val = t.val - 1 + 1; omega, Fin.ext (b0.trans ?_), Fin.ext (b1.trans ?_), b2.trans ?_⟩
  · rw [a0]; show (t.val - 1) / 16 = _; omega
  · rw [a1]; show (t.val - 1) / 2 % 8 = _; omega
  · show (t.val - 1) % 2 = 0; omega

theorem half_cases (t : Fin (cfgA m).N) : (grid0.coords t 2).val = 0 ∨ (grid0.coords t 2).val = 1 := by
  have h : (grid0.coords t 2).val < 2 := (grid0.coords t 2).isLt
  omega

/-- At every point the row of a taken token is the token's. -/
theorem gathered (t : Fin (cfgA m).N) (i : Fin 16) (e : Fin 8) (h0 : grid0.coords t 0 = i) (h1 : grid0.coords t 1 = e)
    {xs acc : S2048x1024.Idx → EReal} (hR : Reach m (cnt_le m) c (t.val + 1) xs acc) (n : Fin 2048) (hb : bn m c e (2048 * i.val + n.val) = 1) (d : Fin 1024) :
    xs (ix2 (rowOf m c e i n) d) = ax m c (ix2 (tok i n) d) := by
  rcases half_cases m t with h2 | h2
  · exact gathered_first m c t i e h0 h1 h2 hR n hb d
  · obtain ⟨s, hs, s0, s1, s2⟩ := coords_prev m t h2
    obtain ⟨xs0, acc0, hR0, rfl, -⟩ := reach_succ m c t hR
    rw [hs] at hR0
    have hk : xsOf m (cnt_le m) c t xs0 = xs0 := by
      unfold xsOf gather
      exact dif_neg fun h => by have := (cond2_iff _).1 h; omega
    rw [hk]
    exact gathered_first m c s i e (s0.trans h0) (s1.trans h1) s2 hR0 n hb d

/-- A point's half of the expert's value of a taken token's row. -/
theorem rowPart_at (t : Fin (cfgA m).N) (i : Fin 16) (e : Fin 8) (b : Fin 2) (h0 : grid0.coords t 0 = i) (h1 : grid0.coords t 1 = e) (h2 : grid0.coords t 2 = b)
    {xs acc : S2048x1024.Idx → EReal} (hR : Reach m (cnt_le m) c (t.val + 1) xs acc) (n : Fin 2048) (hb : bn m c e (2048 * i.val + n.val) = 1) (d : Fin 1024) :
    rowPart (iblk m c 3 t) (iblk m c 4 t) (iblk m c 5 t) xs (rowOf m c e i n) d = half (ax m c) (ai m c) (ao m c) e b (tok i n) d := by
  have hx := gathered m c t i e h0 h1 hR n hb
  subst h0 h1 h2
  have hi : (grid0.coords t 2).val < 2 := (grid0.coords t 2).isLt
  unfold rowPart half
  refine congr (congr (congr (congrArg part ?_) ?_) ?_) ?_
  · funext k; exact hx k
  · funext k f; exact (blk3_at m c t k f (by omega)).trans (v15_at m c _)
  · funext k f; exact (blk4_at m c t k f (by omega)).trans (v15_at m c _)
  · funext f; exact (blk5_at m c t f d (by omega)).trans (v16_at m c _)

theorem row_under (t : Fin (cfgA m).N) (n : Fin 2048) (hb : bn m c (grid0.coords t 1) (2048 * (grid0.coords t 0).val + n.val) = 1) :
    (rowOf m c (grid0.coords t 1) (grid0.coords t 0) n).val < (cnt m c (grid0.coords t)).toNat := (tile m c t).lt_count n.isLt hb

theorem accumulated_first (t : Fin (cfgA m).N) (i : Fin 16) (e : Fin 8) (h0 : grid0.coords t 0 = i) (h1 : grid0.coords t 1 = e) (h2 : (grid0.coords t 2).val = 0)
    {xs acc : S2048x1024.Idx → EReal} (hR : Reach m (cnt_le m) c (t.val + 1) xs acc) (n : Fin 2048) (hb : bn m c e (2048 * i.val + n.val) = 1) (d : Fin 1024) :
    acc (ix2 (rowOf m c e i n) d) = half (ax m c) (ai m c) (ao m c) e 0 (tok i n) d := by
  have hp := rowPart_at m c t i e 0 h0 h1 (Fin.ext h2) hR n hb d
  subst h0 h1
  obtain ⟨xs0, acc0, hR0, -, ha⟩ := reach_succ m c t hR
  rw [ha]
  refine (ffn_row (grid0.coords t) (cnt m c (grid0.coords t)) (cnt_le m c _) (iblk m c 3 t) (iblk m c 4 t) (iblk m c 5 t) xs acc0 _ (row_under m c t n hb) d).trans ?_
  rw [if_pos h2, zero_add]
  exact hp

/-- At an expert's second point the accumulated row of a taken token is the expert's value of the token's row. -/
theorem accumulated (t : Fin (cfgA m).N) (i : Fin 16) (e : Fin 8) (h0 : grid0.coords t 0 = i) (h1 : grid0.coords t 1 = e) (h2 : (grid0.coords t 2).val = 1)
    {xs acc : S2048x1024.Idx → EReal} (hR : Reach m (cnt_le m) c (t.val + 1) xs acc) (n : Fin 2048) (hb : bn m c e (2048 * i.val + n.val) = 1) (d : Fin 1024) :
    acc (ix2 (rowOf m c e i n) d) = half (ax m c) (ai m c) (ao m c) e 0 (tok i n) d + half (ax m c) (ai m c) (ao m c) e 1 (tok i n) d := by
  have hp := rowPart_at m c t i e 1 h0 h1 (Fin.ext h2) hR n hb d
  obtain ⟨s, hs, s0, s1, s2⟩ := coords_prev m t h2
  obtain ⟨xs0, acc0, hR0, -, ha⟩ := reach_succ m c t hR
  rw [hs] at hR0
  have hq := accumulated_first m c s i e (s0.trans h0) (s1.trans h1) s2 hR0 n hb d
  subst h0 h1
  rw [ha]
  refine (ffn_row (grid0.coords t) (cnt m c (grid0.coords t)) (cnt_le m c _) (iblk m c 3 t) (iblk m c 4 t) (iblk m c 5 t) xs acc0 _ (row_under m c t n hb) d).trans ?_
  rw [if_neg (by omega)]
  exact congrArg₂ (· + ·) hq hp

/-- What a point's scatter adds to a token's row. -/
theorem scattered (t : Fin (cfgA m).N) (h2 : (grid0.coords t 2).val = 1)
    {xs acc : S2048x1024.Idx → EReal} (hR : Reach m (cnt_le m) c (t.val + 1) xs acc) (y : S2048x1024.Idx → EReal) (n : Fin 2048) (d : Fin 1024) :
    yOf m (cnt_le m) c t acc y (ix2 n d) = yzero (F := Ideal) (grid0.coords t) y (ix2 n d) + term (ax m c) (ag m c) (ai m c) (ao m c) (tok (grid0.coords t 0) n) d (grid0.coords t 1) := by
  refine (scatter_at (grid0.coords t) (cnt m c (grid0.coords t)) (cnt_le m c _) (tab m c) (iblk m c 1 t) (iblk m c 2 t) acc (tile m c t) _ (nfw_mul _) ((cond14_iff _).2 h2) _ n.isLt d).trans ?_
  refine congrArg _ ?_
  have hg : (iblk m c 1 t : S8x2048.Idx → EReal) (ix2 (grid0.coords t 1) n) = ag m c (ix2 (grid0.coords t 1) (tok (grid0.coords t 0) n)) := by
    refine (blk1_at m c t (grid0.coords t 1) n (tile_lt _ n)).trans ?_
    rw [V_arg1]
  have hi : 0 < ag m c (ix2 (grid0.coords t 1) (tok (grid0.coords t 0) n)) ↔ _ := bn_iff m c (grid0.coords t 1) (tok (grid0.coords t 0) n)
  unfold term
  by_cases hb : bn m c (grid0.coords t 1) (2048 * (grid0.coords t 0).val + n.val) = 1
  · refine (if_pos hb).trans (Eq.trans ?_ (if_pos (hi.2 hb)).symm)
    exact congrArg₂ (· * ·) (accumulated m c t _ _ rfl rfl h2 hR n hb d) hg
  · exact (if_neg hb).trans (if_neg (fun h => hb (hi.1 h))).symm

theorem unscattered (t : Fin (cfgA m).N) (h2 : (grid0.coords t 2).val = 0) (acc y : S2048x1024.Idx → EReal) :
    yOf m (cnt_le m) c t acc y = yzero (F := Ideal) (grid0.coords t) y := by
  unfold yOf scatter
  exact dif_neg fun h => by have := (cond14_iff _).1 h; omega

theorem yzero_first (t : Fin (cfgA m).N) (h1 : (grid0.coords t 1).val = 0) (h2 : (grid0.coords t 2).val = 0) (y : S2048x1024.Idx → EReal) (n : Fin 2048) (d : Fin 1024) :
    yzero (F := Ideal) (grid0.coords t) y (ix2 n d) = 0 := by
  unfold yzero
  rw [if_pos ((cond1_iff _).2 ⟨h1, h2⟩)]
  exact (put_in (A := 2048) (B := 1024) (a := 2048) y rfl (k0_pay13 (F := Ideal)) n d (Nat.zero_le _) (by omega)).trans (pay13_at _ d)

theorem yzero_later (t : Fin (cfgA m).N) (h : ¬ ((grid0.coords t 1).val = 0 ∧ (grid0.coords t 2).val = 0)) (y : S2048x1024.Idx → EReal) :
    yzero (F := Ideal) (grid0.coords t) y = y := by
  unfold yzero
  exact if_neg fun h' => h ((cond1_iff _).1 h')

theorem leaves_out (t : Fin (cfgA m).N) (X : S2048x1024.Idx → EReal) (h : (rdat m (cnt_le m) c).Leaves 6 t X) :
    ∃ (Y xs acc : S2048x1024.Idx → EReal), (rdat m (cnt_le m) c).Finds 6 t Y ∧ Reach m (cnt_le m) c (t.val + 1) xs acc ∧ X = yOf m (cnt_le m) c t acc Y := by
  obtain ⟨Y, hF, hA⟩ := h
  unfold rdat at hA
  obtain ⟨xs, acc, hR, hX⟩ := hA
  exact ⟨Y, xs, acc, hF, hR, hX⟩

/-- What the output block holds after a point: the sum over the experts done in the tile so far. -/
theorem left (k : ℕ) : ∀ (t : Fin (cfgA m).N), t.val = k → ∀ X : S2048x1024.Idx → EReal, (rdat m (cnt_le m) c).Leaves 6 t X → ∀ (n : Fin 2048) (d : Fin 1024),
    X (ix2 n d) = upTo (ax m c) (ag m c) (ai m c) (ao m c) ((grid0.coords t 1).val + (grid0.coords t 2).val) (tok (grid0.coords t 0) n) d := by
  induction k with
  | zero =>
    intro t ht X hX n d
    obtain ⟨a0, a1, a2⟩ := coords_at t
    obtain ⟨Y, xs, acc, -, hR, rfl⟩ := leaves_out m c t X hX
    have h1 : (grid0.coords t 1).val = 0 := by omega
    have h2 : (grid0.coords t 2).val = 0 := by omega
    rw [unscattered m c t h2, yzero_first m t h1 h2, h1, h2]
    rfl
  | succ k ih =>
    intro t ht X hX n d
    have htl : t.val < 256 := t.isLt
    obtain ⟨a0, a1, a2⟩ := coords_at t
    obtain ⟨Y, xs, acc, hF, hR, rfl⟩ := leaves_out m c t X hX
    by_cases hz : (grid0.coords t 1).val = 0 ∧ (grid0.coords t 2).val = 0
    · rw [unscattered m c t hz.2, yzero_first m t hz.1 hz.2, hz.1, hz.2]
      rfl
    · have hs : t.val - 1 < grid0.N := by show t.val - 1 < 256; omega
      obtain ⟨b0, b1, b2⟩ := coords_at ⟨t.val - 1, hs⟩
      simp only at b0 b1 b2
      have hL : (rdat m (cnt_le m) c).Leaves 6 ⟨t.val - 1, hs⟩ Y := by
        rcases ((rdat m (cnt_le m) c).finds_of_pos (fetch_none m t) (by omega) Y).1 hF with hf | hf
        · have := flush_at m _ hf
          simp only at this
          omega
        · exact hf
      have hY := ih ⟨t.val - 1, hs⟩ (by show t.val - 1 = k; omega) Y hL n d
      have e0 : grid0.coords ⟨t.val - 1, hs⟩ 0 = grid0.coords t 0 := Fin.ext (by omega)
      rw [e0] at hY
      rcases half_cases m t with h2 | h2
      · rw [unscattered m c t h2, yzero_later m t hz, hY]
        exact congrArg (fun q => upTo (ax m c) (ag m c) (ai m c) (ao m c) q (tok (grid0.coords t 0) n) d) (by omega)
      · rw [scattered m c t h2 hR, yzero_later m t hz, hY, h2]
        refine Eq.trans ?_ (upTo_succ (ax m c) (ag m c) (ai m c) (ao m c) (grid0.coords t 1) _ d).symm
        exact congrArg (fun q => upTo (ax m c) (ag m c) (ai m c) (ao m c) q (tok (grid0.coords t 0) n) d + _) (by omega)

/-- The routed experts' sum. -/
def routed (x : S32768x1024.Idx → EReal) (g : S8x32768.Idx → EReal) (wi : S8x1024x7168.Idx → EReal) (wo : S8x3584x1024.Idx → EReal) : S32768x1024.Idx → EReal :=
  fun j => upTo x g wi wo 8 (j 0) (j 1)

theorem post_out (r : PUnit × MemSt nD τ sig (Elt Ideal)) (h : RDat.FramePost (cfgA m) (rdat m (cnt_le m)) (V m) r) (c : Dev nD) :
    r.2.mem ((c.tc : Thread nD τ).loc main_v17) = routed (ax m c) (ag m c) (ai m c) (ao m c) := by
  obtain ⟨after, hL, hA⟩ := RDat.FramePost.exists_exact h c
  refine (hA 6).trans ?_
  refine ((rdat m (cnt_le m) c).withAfter after).arrAt_eq_of_covers 6 _ (covers m) fun t hf y => ?_
  have hl := left m c t.val t rfl (after 6 t) (hL 6 t hf)
  have hm := flush_at m t hf
  obtain ⟨a0, a1, a2⟩ := coords_at t
  have e : ((cfgA m).win 6).index t = ![(grid0.coords t 0).val, 0] := map6 _
  have hq : (grid0.coords t 1).val + (grid0.coords t 2).val = 8 := by omega
  have key : ∀ z : S2048x1024.Idx, after 6 t z = upTo (ax m c) (ag m c) (ai m c) (ao m c) 8 (tok (grid0.coords t 0) (z 0)) (z 1) := fun z => by
    have hz := hl (z 0) (z 1)
    rw [hq] at hz
    exact (congrArg (after 6 t) (by funext a; fin_cases a <;> rfl)).trans hz
  refine (key y).trans ?_
  unfold routed
  refine congrArg₂ (upTo (ax m c) (ag m c) (ai m c) (ao m c) 8) (Fin.ext ?_) (Fin.ext ?_)
  · blk_simp
    exact (Nat.add_comm _ _).trans ((Nat.add_comm _ _).trans (congrArg₂ (· + ·) ((Nat.mul_comm _ _).trans (congrArg (· * 2048) (congrFun e (0 : Fin 2)).symm)) rfl))
  · blk_simp
    exact (Nat.zero_add _).symm.trans (congrArg₂ (· + ·) ((Nat.zero_mul 1024).symm.trans (congrArg (· * 1024) (congrFun e (1 : Fin 2)).symm)) rfl)

end Cert.KernelIdeal.Hand
end
-- ==== Proof.RefVal.lean ====
/- The reference's output at an entry, on the extended reals: the sum over the experts of the gate times the expert's value, and
   that this is the kernel's sum wherever the gates are nonnegative. -/
module

public import proofs.«01_k».proof.Proof.Grid
public import proofs.«01_k».proof.Proof.Gen.ReferenceIdeal.Run
import Idealize.ShloMosaic.Lib.Pointwise

@[expose] public section
set_option maxRecDepth 16384
noncomputable section
namespace Cert.ReferenceIdeal.Hand
open Cert.ReferenceIdeal Cert.ReferenceIdeal.Gen
open Idealize.ShloMosaic Idealize.ShloMosaic.TcCoe Idealize.ShloMosaic.Tactic

variable (x : S32768x1024.Idx → EReal) (g : S8x32768.Idx → EReal) (wi : S8x1024x7168.Idx → EReal) (wo : S8x3584x1024.Idx → EReal)

/-- Entry `(n, q)` of the tokens' rows times expert `e`'s first matrix. -/
def inner (e : Fin 8) (n : Fin 32768) (q : Fin 7168) : EReal := ∑ k : Fin 1024, x (ix2 n k) * wi (ix3 e k q)

/-- Expert `e`'s value of token `n`'s row, at column `d`. -/
def value (e : Fin 8) (n : Fin 32768) (d : Fin 1024) : EReal :=
  ∑ f : Fin 3584, (inner x wi e n ⟨f.val, by omega⟩ * Ideal.div 1 (1 + Ideal.exp (0 - inner x wi e n ⟨f.val, by omega⟩)) * inner x wi e n ⟨3584 + f.val, by omega⟩) * wo (ix3 e f d)

/-- An expert's value is the sum of its two halves. -/
theorem value_halves (e : Fin 8) (n : Fin 32768) (d : Fin 1024) :
    value x wi wo e n d = Cert.KernelIdeal.Hand.half x wi wo e 0 n d + Cert.KernelIdeal.Hand.half x wi wo e 1 n d := by
  unfold value
  refine (Fin.sum_univ_add (a := 1792) (b := 1792) _).trans (congrArg₂ (· + ·) ?_ ?_)
  · unfold Cert.KernelIdeal.Hand.half Cert.KernelIdeal.Hand.part inner
    refine Finset.sum_congr rfl fun f _ => ?_
    have h0 : Fin.castAdd 1792 f = (⟨1792 * (0 : Fin 2).val + f.val, by show 1792 * 0 + f.val < 3584; omega⟩ : Fin 3584) := Fin.ext (by simp [Nat.add_comm])
    simp only [h0, Nat.add_assoc]
  · unfold Cert.KernelIdeal.Hand.half Cert.KernelIdeal.Hand.part inner
    refine Finset.sum_congr rfl fun f _ => ?_
    have h1 : Fin.natAdd 1792 f = (⟨1792 * (1 : Fin 2).val + f.val, by show 1792 * 1 + f.val < 3584; omega⟩ : Fin 3584) := Fin.ext (by simp [Nat.add_comm])
    simp only [h1, Nat.add_assoc]

/-- The tokens' rows times expert `e`'s first matrix. -/
def prod (e : ℕ) (h : S8x1024x7168.Slices ![e, 0, 0] S1x1024x7168) : FVec Ideal S32768x7168 .f32 :=
  Host.dotGeneral (φ₁ := .f32) (φ₂ := .f32) dot_S32768x1024_S1024x7168_S32768x7168_1_0_0_1_n_n none x (shapeCast _ (extractStridedSlice S1x1024x7168 ![e, 0, 0] wi h) shapeCasts_S1x1024x7168_S1024x7168)

/-- Expert `e`'s gate times its value, from the product with its first matrix. -/
def gated (e : ℕ) (h1 : S8x32768.Slices ![e, 0] S1x32768) (h3 : S8x3584x1024.Slices ![e, 0, 0] S1x3584x1024) (P : FVec Ideal S32768x7168 .f32) (A : FVec Ideal S32768x3584 .f32) : FVec Ideal S32768x1024 .f32 :=
  mulf (broadcastInDim S32768x1024 ![0, 1] bcast_S32768x1_S32768x1024_0_1 (broadcastInDim S32768x1 ![0] bcast_S32768_S32768x1_0 (shapeCast _ (extractStridedSlice S1x32768 ![e, 0] g h1) shapeCasts_S1x32768_S32768)))
    (Host.dotGeneral (φ₁ := .f32) (φ₂ := .f32) dot_S32768x3584_S3584x1024_S32768x1024_1_0_0_1_n_n none
      (mulf (mulf A (Host.divf (broadcastInDim S32768x3584 ![] bcast_S_S32768x3584 (constant S_ .f32 0x3F800000#32)) (addf (broadcastInDim S32768x3584 ![] bcast_S_S32768x3584 (constant S_ .f32 0x3F800000#32)) (Host.exp (Host.negf A)))))
        (extractStridedSlice S32768x3584 ![0, 3584] P slices_S32768x7168_S32768x3584_0_3584))
      (shapeCast _ (extractStridedSlice S1x3584x1024 ![e, 0, 0] wo h3) shapeCasts_S1x3584x1024_S3584x1024))

theorem inner_at (e : ℕ) (he : e < 8) (h : S8x1024x7168.Slices ![e, 0, 0] S1x1024x7168) (n : Fin 32768) (q : Fin 7168) :
    prod x wi e h (ix2 n q) = inner x wi ⟨e, he⟩ n q := by
  unfold inner prod
  pointwise

theorem gated_at (e : ℕ) (he : e < 8) (h1 : S8x32768.Slices ![e, 0] S1x32768) (h3 : S8x3584x1024.Slices ![e, 0, 0] S1x3584x1024) (P : FVec Ideal S32768x7168 .f32) (A : FVec Ideal S32768x3584 .f32) (n : Fin 32768) (d : Fin 1024) :
    gated g wo e h1 h3 P A (ix2 n d) = g (ix2 ⟨e, he⟩ n) * ∑ f : Fin 3584, (A (ix2 n f) * Ideal.div 1 (1 + Ideal.exp (0 - A (ix2 n f))) * P (ix2 n ⟨3584 + f.val, by omega⟩)) * wo (ix3 ⟨e, he⟩ f d) := by
  unfold gated
  pointwise
  simp only [zero_sub]

/-- The first half of the columns. -/
def lower (P : FVec Ideal S32768x7168 .f32) : FVec Ideal S32768x3584 .f32 := extractStridedSlice S32768x3584 ![0, 0] P slices_S32768x7168_S32768x3584_0_0

theorem lower_at (P : FVec Ideal S32768x7168 .f32) (n : Fin 32768) (f : Fin 3584) : lower P (ix2 n f) = P (ix2 n ⟨f.val, by omega⟩) := by
  unfold lower
  pointwise

/-- One expert's part of the reference's sum is the kernel's, its gate being nonnegative. -/
theorem part_at (hg : ∀ j, 0 ≤ g j) (e : ℕ) (he : e < 8) (h1 : S8x32768.Slices ![e, 0] S1x32768) (h2 : S8x1024x7168.Slices ![e, 0, 0] S1x1024x7168) (h3 : S8x3584x1024.Slices ![e, 0, 0] S1x3584x1024) (n : Fin 32768) (d : Fin 1024) :
    gated g wo e h1 h3 (prod x wi e h2) (lower (prod x wi e h2)) (ix2 n d) = Cert.KernelIdeal.Hand.term x g wi wo n d ⟨e, he⟩ := by
  rw [gated_at g wo e he]
  simp only [lower_at, inner_at x wi e he]
  refine (congrArg (g (ix2 ⟨e, he⟩ n) * ·) (value_halves x wi wo ⟨e, he⟩ n d)).trans ?_
  unfold Cert.KernelIdeal.Hand.term
  split
  · exact mul_comm _ _
  · rename_i h
    rw [show g (ix2 ⟨e, he⟩ n) = 0 from le_antisymm (not_lt.1 h) (hg _), zero_mul]

/-- The reference's output as a function of its arguments. -/
def refOut : FVec Ideal S32768x1024 .f32 :=
  addf (addf (addf (addf (addf (addf (addf (addf (broadcastInDim S32768x1024 ![] bcast_S_S32768x1024 (constant S_ .f32 0x00000000#32))
    (gated g wo 0 slices_S8x32768_S1x32768_0_0 slices_S8x3584x1024_S1x3584x1024_0_0_0 (prod x wi 0 slices_S8x1024x7168_S1x1024x7168_0_0_0) (lower (prod x wi 0 slices_S8x1024x7168_S1x1024x7168_0_0_0))))
    (gated g wo 1 slices_S8x32768_S1x32768_1_0 slices_S8x3584x1024_S1x3584x1024_1_0_0 (prod x wi 1 slices_S8x1024x7168_S1x1024x7168_1_0_0) (lower (prod x wi 1 slices_S8x1024x7168_S1x1024x7168_1_0_0))))
    (gated g wo 2 slices_S8x32768_S1x32768_2_0 slices_S8x3584x1024_S1x3584x1024_2_0_0 (prod x wi 2 slices_S8x1024x7168_S1x1024x7168_2_0_0) (lower (prod x wi 2 slices_S8x1024x7168_S1x1024x7168_2_0_0))))
    (gated g wo 3 slices_S8x32768_S1x32768_3_0 slices_S8x3584x1024_S1x3584x1024_3_0_0 (prod x wi 3 slices_S8x1024x7168_S1x1024x7168_3_0_0) (lower (prod x wi 3 slices_S8x1024x7168_S1x1024x7168_3_0_0))))
    (gated g wo 4 slices_S8x32768_S1x32768_4_0 slices_S8x3584x1024_S1x3584x1024_4_0_0 (prod x wi 4 slices_S8x1024x7168_S1x1024x7168_4_0_0) (lower (prod x wi 4 slices_S8x1024x7168_S1x1024x7168_4_0_0))))
    (gated g wo 5 slices_S8x32768_S1x32768_5_0 slices_S8x3584x1024_S1x3584x1024_5_0_0 (prod x wi 5 slices_S8x1024x7168_S1x1024x7168_5_0_0) (lower (prod x wi 5 slices_S8x1024x7168_S1x1024x7168_5_0_0))))
    (gated g wo 6 slices_S8x32768_S1x32768_6_0 slices_S8x3584x1024_S1x3584x1024_6_0_0 (prod x wi 6 slices_S8x1024x7168_S1x1024x7168_6_0_0) (lower (prod x wi 6 slices_S8x1024x7168_S1x1024x7168_6_0_0))))
    (gated g wo 7 slices_S8x32768_S1x32768_7_0 slices_S8x3584x1024_S1x3584x1024_7_0_0 (prod x wi 7 slices_S8x1024x7168_S1x1024x7168_7_0_0) (lower (prod x wi 7 slices_S8x1024x7168_S1x1024x7168_7_0_0)))

theorem add_at (A B : FVec Ideal S32768x1024 .f32) (j : S32768x1024.Idx) : addf A B j = (A j + B j : EReal) := rfl

theorem zero_at (j : S32768x1024.Idx) : (broadcastInDim S32768x1024 ![] bcast_S_S32768x1024 (constant S_ .f32 0x00000000#32) : FVec Ideal S32768x1024 .f32) j = (0 : EReal) := by
  pointwise

theorem refOut_eq (hg : ∀ j, 0 ≤ g j) : refOut x g wi wo = Cert.KernelIdeal.Hand.routed x g wi wo := by
  funext j
  obtain ⟨n, d, rfl⟩ : ∃ n d, j = ix2 n d := ⟨j 0, j 1, by funext a; fin_cases a <;> rfl⟩
  unfold refOut Cert.KernelIdeal.Hand.routed Cert.KernelIdeal.Hand.upTo
  simp only [add_at, Finset.sum_range_succ, Finset.sum_range_zero, Nat.reduceLT, ↓reduceDIte]
  iterate 8 refine congrArg₂ (fun a b : EReal => a + b) ?_ (part_at x g wi wo hg _ (by decide) _ _ _ n d)
  exact zero_at _

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v128) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Value.run m ρ)

end Cert.ReferenceIdeal.Hand
end
-- ==== Proof.Algebraic.lean ====
/- The value claim: with nonnegative gates the kernel's call and the reference end with the same array. -/
module

public import proofs.«01_k».proof.Defs
public import proofs.«01_k».proof.Proof.Frames
public import proofs.«01_k».proof.Proof.RefVal
import Idealize.ShloMosaic.Lib.Pointwise

@[expose] public section
set_option maxRecDepth 16384
noncomputable section
namespace Cert.Pre_gates_nonneg
/-- The precondition's one shape relation. -/
theorem facts : Facts := ⟨by decide⟩
end Cert.Pre_gates_nonneg

namespace Cert.KernelIdeal.Hand
open Cert.KernelIdeal Cert.KernelIdeal.Gen
open Idealize.ShloMosaic Idealize.ShloMosaic.TcCoe Idealize.ShloMosaic.Tactic

attribute [local instance] Cert.Pre_gates_nonneg.facts

/-- What the precondition says of one gate. -/
theorem gate_nonneg (x : S32768x1024.Idx → EReal) (g : S8x32768.Idx → EReal) (wi : S8x1024x7168.Idx → EReal) (wo : S8x3584x1024.Idx → EReal)
    (h : Cert.Pre_gates_nonneg.fn (F := Ideal) x g wi wo = fun _ => 1#1) (j : S8x32768.Idx) : 0 ≤ g j := by
  have hj := congrFun h j
  obtain ⟨e, n, rfl⟩ : ∃ e n, j = ix2 e n := ⟨j 0, j 1, by funext a; fin_cases a <;> rfl⟩
  unfold Cert.Pre_gates_nonneg.fn at hj
  pointwise at hj
  by_contra hn
  rw [decide_eq_false hn] at hj
  exact absurd hj (by decide)

theorem frame_ideal_pre : Cert.quiescent_KernelIdeal_pre_gates_nonneg (hKernelIdeal := Cert.KernelIdeal.Gen.facts) :=
  fun m g _ => frame_run m g

theorem frame_reference_pre : Cert.quiescent_ReferenceIdeal_pre_gates_nonneg (hReferenceIdeal := Cert.ReferenceIdeal.Gen.facts) :=
  fun m g _ => frame_reference m g trivial

/-- The kernel's output is the reference's. -/
theorem algebraic : Cert.algebraic_KernelIdeal_ReferenceIdeal_pre_gates_nonneg (hKernelIdeal := Cert.KernelIdeal.Gen.facts) (hReferenceIdeal := Cert.ReferenceIdeal.Gen.facts) := by
  intro m ρ m' ρ' hp hm
  refine ⟨fun c => routed (ax m c) (ag m c) (ai m c) (ao m c),
    (θ_run defs _ _).mono (fun r h c => ⟨post_out m r h.1 c, post_args m r h.1 c⟩) (run_main m ρ (cnt_le m)),
    (θ_run Cert.ReferenceIdeal.defs _ _).mono (fun r h c => ⟨?_, (h c).2⟩) (Cert.ReferenceIdeal.Hand.ref_run m' ρ')⟩
  have hc := (h c).1
  rw [(hm c).1, (hm c).2.1, (hm c).2.2.1, (hm c).2.2.2] at hc
  exact hc.trans (Cert.ReferenceIdeal.Hand.refOut_eq _ _ _ _ (gate_nonneg _ _ _ _ (hp c)))

end Cert.KernelIdeal.Hand
end
-- ==== Proof.AddLn.lean ====
/- The second sum with its layer norm: each row of the output is the reference's row. -/
module

public import proofs.«01_k».proof.Defs
public import proofs.«01_k».proof.Proof.Gen.Kernel2Ideal.Value
public import proofs.«01_k».proof.Proof.Gen.Reference2Ideal.Run
public import Idealize.ShloMosaic.Lib.Pointwise.Index
import Idealize.ShloMosaic.Lib.Pointwise
public import Idealize.ShloMosaic.Lib.Pipeline.ValueKit
import Idealize.ShloMosaic.Lib.Claim

@[expose] public section
set_option maxRecDepth 16384
noncomputable section

namespace Cert.Rows
open Idealize.ShloMosaic Idealize.ShloMosaic.TcCoe Idealize.ShloMosaic.Tactic

/-- The mean of a row of 1024. -/
def mean (z : Fin 1024 → EReal) : EReal := Ideal.div (∑ k, z k) (Ideal.ofBits .f32 0x44800000#32)

/-- A row's layer norm at a column, with the column's gain and offset. -/
def lnorm (z : Fin 1024 → EReal) (a b : EReal) (d : Fin 1024) : EReal :=
  (z d - mean z) * Ideal.rsqrt (Ideal.div (∑ k, (z k - mean z) * (z k - mean z)) (Ideal.ofBits .f32 0x44800000#32) + Ideal.ofBits .f32 0x3727C5AC#32) * a + b

/-- The weighted residual plus the branch, at a column. -/
def mix (x y : Fin 1024 → EReal) (k : Fin 1024) : EReal := Ideal.ofBits .f32 0x3FB504F3#32 * x k + y k
end Cert.Rows

namespace Cert.Reference2Ideal.Hand
open Cert.Reference2Ideal Cert.Reference2Ideal.Gen
open Idealize.ShloMosaic Idealize.ShloMosaic.TcCoe Idealize.ShloMosaic.Tactic
open Cert.Rows

variable (x y : FVec Ideal S32768x1024 .f32) (g b : FVec Ideal S1024 .f32)

/-- The weighted sum. -/
def summed : FVec Ideal S32768x1024 .f32 := addf (mulf (broadcastInDim S32768x1024 ![] bcast_S_S32768x1024 (constant S_ .f32 0x3FB504F3#32)) x) y

/-- An array less its rows' means. -/
def centred (s : FVec Ideal S32768x1024 .f32) : FVec Ideal S32768x1024 .f32 := subf s (broadcastInDim S32768x1024 ![0, 1] bcast_S32768x1_S32768x1024_0_1 (Host.divf (broadcastInDim S32768x1 ![0] bcast_S32768_S32768x1_0 (Host.reduceAdd s (constant S_ .f32 0x00000000#32) reducesTo_S32768x1024_S32768_d1 h_S_)) (broadcastInDim S32768x1 ![] bcast_S_S32768x1 (constant S_ .f32 0x44800000#32))))

/-- The normed rows. -/
def normed (w : FVec Ideal S32768x1024 .f32) : FVec Ideal S32768x1024 .f32 := addf (mulf (mulf w (broadcastInDim S32768x1024 ![0, 1] bcast_S32768x1_S32768x1024_0_1 (Host.rsqrt (addf (Host.divf (broadcastInDim S32768x1 ![0] bcast_S32768_S32768x1_0 (Host.reduceAdd (mulf w w) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 g))) (broadcastInDim S32768x1024 ![0, 1] bcast_S1x1024_S32768x1024_0_1 (broadcastInDim S1x1024 ![1] bcast_S1024_S1x1024_1 b))

theorem centred_at (s : FVec Ideal S32768x1024 .f32) (n : Fin 32768) (d : Fin 1024) :
    centred s (ix2 n d) = s (ix2 n d) - mean fun k => s (ix2 n k) := by
  unfold centred mean
  pointwise

theorem normed_at (n : Fin 32768) (d : Fin 1024) :
    normed g b (centred (summed x y)) (ix2 n d) = lnorm (mix (fun k => x (ix2 n k)) fun k => y (ix2 n k)) (g (ix1 d)) (b (ix1 d)) d := by
  have h : ∀ k, summed x y (ix2 n k) = mix (fun k => x (ix2 n k)) (fun k => y (ix2 n k)) k := fun k => by
    unfold summed mix
    pointwise
  unfold normed lnorm
  pointwise
  simp only [centred_at, h]

/-- The reference's run, its result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = normed (m ((c.tc : Thread nD τ).loc main_arg2)) (m ((c.tc : Thread nD τ).loc main_arg3)) (centred (summed (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference2Ideal.Value.run m ρ

theorem frame_reference : Cert.quiescent_Reference2Ideal (hReference2Ideal := Cert.Reference2Ideal.Gen.facts) :=
  fun m g _ => (θ_run Cert.Reference2Ideal.defs _ _).mono (fun r h => ⟨fun c => (h c).2, sem_eq_zero_of_no_sems rfl r.2⟩)
    (Cert.Reference2Ideal.Value.run (F := Ideal) m g)
end Cert.Reference2Ideal.Hand

namespace Cert.Kernel2Ideal.Hand
open Cert.Kernel2Ideal Cert.Kernel2Ideal.Gen Cert.Kernel2Ideal.Value
open Idealize.ShloMosaic Idealize.ShloMosaic.TcCoe Idealize.ShloMosaic.Tactic
open Cert.Rows

/-- What a point stores, at an entry. -/
theorem pay_at (v0 v3 : S1024x1024.Idx → EReal) (v5 v7 : S1x1024.Idx → EReal) (n d : Fin 1024) :
    k0_pay1 (F := Ideal) v0 v3 v5 v7 (ix2 n d) = lnorm (mix (fun k => v0 (ix2 n k)) fun k => v3 (ix2 n k)) (v5 (ix2 0 d)) (v7 (ix2 0 d)) d := by
  unfold k0_pay1 lnorm mean mix
  pointwise

variable (m : (ℓ : Loc nD τ sig) → Buf (Elt Ideal) ℓ) (c : Dev nD)

theorem blk0_at (t : Fin cfg0.N) (n d : Fin 1024) (h : 1024 * t.val + n.val < 32768) :
    (iblk m c 0 t : S1024x1024.Idx → EReal) (ix2 n d) = m ((c.tc : Thread nD τ).loc main_arg0) (ix2 ⟨1024 * t.val + n.val, h⟩ d) := by
  have e : (cfg0.win 0).index t = ![t.val, 0] := (by decide +kernel : ∀ t : Fin grid0.N, win0_0.index t = ![t.val, 0]) t
  have hi : ((cfg0.win 0).blk t).view.emb (ix2 n d) = (ix2 ⟨1024 * t.val + n.val, h⟩ d : S32768x1024.Idx) := by blk_ext [e]
  exact (congrArg (V m c main_arg0) hi).trans (congrFun (V_main_arg0 m c) _)
theorem blk1_at (t : Fin cfg0.N) (n d : Fin 1024) (h : 1024 * t.val + n.val < 32768) :
    (iblk m c 1 t : S1024x1024.Idx → EReal) (ix2 n d) = m ((c.tc : Thread nD τ).loc main_arg1) (ix2 ⟨1024 * t.val + n.val, h⟩ d) := by
  have e : (cfg0.win 1).index t = ![t.val, 0] := (by decide +kernel : ∀ t : Fin grid0.N, win0_1.index t = ![t.val, 0]) t
  have hi : ((cfg0.win 1).blk t).view.emb (ix2 n d) = (ix2 ⟨1024 * t.val + n.val, h⟩ d : S32768x1024.Idx) := by blk_ext [e]
  exact (congrArg (V m c main_arg1) hi).trans (congrFun (V_main_arg1 m c) _)
theorem blk2_at (t : Fin cfg0.N) (d : Fin 1024) :
    (iblk m c 2 t : S1x1024.Idx → EReal) (ix2 0 d) = m ((c.tc : Thread nD τ).loc main_arg2) (ix1 d) := by
  have e : (cfg0.win 2).index t = ![0, 0] := (by decide +kernel : ∀ t : Fin grid0.N, win0_2.index t = ![0, 0]) t
  have hi : ((cfg0.win 2).blk t).view.emb (ix2 0 d) = (ix2 0 d : S1x1024.Idx) := by blk_ext [e]
  have hv : V m c main_v0 = shapeCast S1x1024 (m ((c.tc : Thread nD τ).loc main_arg2)) shapeCasts_S1024_S1x1024 := by entry_read; rfl
  refine (congrArg (V m c main_v0) hi).trans ((congrFun hv _).trans ?_)
  pointwise
theorem blk3_at (t : Fin cfg0.N) (d : Fin 1024) :
    (iblk m c 3 t : S1x1024.Idx → EReal) (ix2 0 d) = m ((c.tc : Thread nD τ).loc main_arg3) (ix1 d) := by
  have e : (cfg0.win 3).index t = ![0, 0] := (by decide +kernel : ∀ t : Fin grid0.N, win0_3.index t = ![0, 0]) t
  have hi : ((cfg0.win 3).blk t).view.emb (ix2 0 d) = (ix2 0 d : S1x1024.Idx) := by blk_ext [e]
  have hv : V m c main_v1 = shapeCast S1x1024 (m ((c.tc : Thread nD τ).loc main_arg3)) shapeCasts_S1024_S1x1024 := by entry_read; rfl
  refine (congrArg (V m c main_v1) hi).trans ((congrFun hv _).trans ?_)
  pointwise

/-- The call's output is the reference's, of the same arguments. -/
theorem out : (dats m 0 c).arrAt 4 cfg0.N = Cert.Reference2Ideal.Hand.normed (m ((c.tc : Thread nD τ).loc main_arg2)) (m ((c.tc : Thread nD τ).loc main_arg3)) (Cert.Reference2Ideal.Hand.centred (Cert.Reference2Ideal.Hand.summed (m ((c.tc : Thread nD τ).loc main_arg0)) (m ((c.tc : Thread nD τ).loc main_arg1)))) := by
  refine (dats m 0 c).arrAt_eq_of_covers 4 _ (by decide +kernel) fun t hf y => ?_
  have e : (cfg0.win 4).index t = ![t.val, 0] := (by decide +kernel : ∀ t : Fin grid0.N, win0_4.index t = ![t.val, 0]) t
  have ht : t.val < 32 := t.isLt
  obtain ⟨n, d, rfl⟩ : ∃ n d : Fin 1024, y = ix2 n d := ⟨y 0, y 1, by funext a; fin_cases a <;> rfl⟩
  have hn : 1024 * t.val + n.val < 32768 := by omega
  have hi : ((cfg0.win 4).blk t).view.emb (ix2 n d) = (ix2 ⟨1024 * t.val + n.val, hn⟩ d : S32768x1024.Idx) := by blk_ext [e]
  refine Eq.trans ?_ (congrArg (Cert.Reference2Ideal.Hand.normed _ _ _) hi).symm
  rw [Cert.Reference2Ideal.Hand.normed_at]
  blk_simp
  rw [after0_4]
  frame_out
  refine (pay_at _ _ _ _ n d).trans ?_
  simp only [blk0_at m c t _ _ hn, blk1_at m c t _ _ hn, blk2_at, blk3_at]

theorem frame_ideal : Cert.quiescent_Kernel2Ideal (hKernel2Ideal := Cert.Kernel2Ideal.Gen.facts) :=
  fun m g _ => Cert.Kernel2Ideal.Gen.frame m g

/-- The kernel's output is the reference's. -/
theorem algebraic : Cert.algebraic_Kernel2Ideal_Reference2Ideal (hKernel2Ideal := Cert.Kernel2Ideal.Gen.facts) (hReference2Ideal := Cert.Reference2Ideal.Gen.facts) := by
  intro m ρ m' ρ' _ hm
  refine ⟨_, (θ_run defs _ _).mono (fun r h c => ⟨(h c).1.trans (out m c), (h c).2⟩) (run_blocks m ρ),
    (θ_run Cert.Reference2Ideal.defs _ _).mono (fun r h c => ⟨?_, (h c).2⟩) (Cert.Reference2Ideal.Hand.ref_run m' ρ')⟩
  have hc := (h c).1
  rw [(hm c).1, (hm c).2.1, (hm c).2.2.1, (hm c).2.2.2] at hc
  exact hc
end Cert.Kernel2Ideal.Hand
end
-- ==== Proof.KvProj.lean ====
/- The attention layer's projections: the three key-value rows of a token are the reference's. -/
module

public import proofs.«01_k».proof.Defs
public import proofs.«01_k».proof.Proof.Gen.Kernel3Ideal.Value
public import proofs.«01_k».proof.Proof.Gen.Reference3Ideal.Run
public import Idealize.ShloMosaic.Lib.Pointwise.Index
import Idealize.ShloMosaic.Lib.Pointwise
public import Idealize.ShloMosaic.Lib.Pipeline.ValueKit
import Idealize.ShloMosaic.Lib.Claim

@[expose] public section
set_option maxRecDepth 16384
noncomputable section

namespace Cert.Reference3Ideal.Hand
open Cert.Reference3Ideal Cert.Reference3Ideal.Gen
open Idealize.ShloMosaic Idealize.ShloMosaic.TcCoe Idealize.ShloMosaic.Tactic

/-- The product of the tokens' rows with the key-value weights. -/
def rows (x : FVec Ideal S16x2048x1024 .f32) (w : FVec Ideal S1024x1536 .f32) : FVec Ideal S16x2048x1536 .f32 :=
  Host.dotGeneral (φ₁ := .f32) (φ₂ := .f32) dot_S16x2048x1024_S1024x1536_S16x2048x1536_2_0_01_1_n_n none x w

/-- A third of its columns. -/
def third (o : ℕ) (h : S16x2048x1536.Slices ![0, 0, o] S16x2048x512) (z : FVec Ideal S16x2048x1536 .f32) : FVec Ideal S16x2048x512 .f32 :=
  extractStridedSlice S16x2048x512 ![0, 0, o] z h

theorem third_at (o : ℕ) (ho : o ≤ 1024) (h : S16x2048x1536.Slices ![0, 0, o] S16x2048x512) (x : FVec Ideal S16x2048x1024 .f32) (w : FVec Ideal S1024x1536 .f32) (b : Fin 16) (n : Fin 2048) (d : Fin 512) :
    third o h (rows x w) (ix3 b n d) = ∑ k : Fin 1024, x (ix3 b n k) * w (ix2 k ⟨o + d.val, by omega⟩) := by
  unfold third rows
  pointwise

theorem frame_reference : Cert.quiescent_Reference3Ideal (hReference3Ideal := Cert.Reference3Ideal.Gen.facts) :=
  fun m g _ => (θ_run Cert.Reference3Ideal.defs _ _).mono (fun r h => ⟨fun c => (h c).2.2.2, sem_eq_zero_of_no_sems rfl r.2⟩)
    (Cert.Reference3Ideal.Value.run (F := Ideal) m g)
end Cert.Reference3Ideal.Hand

namespace Cert.Kernel3Ideal.Hand
open Cert.Kernel3Ideal Cert.Kernel3Ideal.Gen Cert.Kernel3Ideal.Value
open Idealize.ShloMosaic Idealize.ShloMosaic.TcCoe Idealize.ShloMosaic.Tactic

theorem pay5_at (x : S1x512x1024.Idx → EReal) (w : S1024x2688.Idx → EReal) (n d : Fin 512) :
    k0_pay5 (F := Ideal) x w (ix3 0 n d) = ∑ k : Fin 1024, x (ix3 0 n k) * w (ix2 k ⟨0 + d.val, by omega⟩) := by
  unfold k0_pay5 k0_pay4
  pointwise
theorem pay6_at (x : S1x512x1024.Idx → EReal) (w : S1024x2688.Idx → EReal) (n d : Fin 512) :
    k0_pay6 (F := Ideal) x w (ix3 0 n d) = ∑ k : Fin 1024, x (ix3 0 n k) * w (ix2 k ⟨512 + d.val, by omega⟩) := by
  unfold k0_pay6 k0_pay4
  pointwise
theorem pay7_at (x : S1x512x1024.Idx → EReal) (w : S1024x2688.Idx → EReal) (n d : Fin 512) :
    k0_pay7 (F := Ideal) x w (ix3 0 n d) = ∑ k : Fin 1024, x (ix3 0 n k) * w (ix2 k ⟨1024 + d.val, by omega⟩) := by
  unfold k0_pay7 k0_pay4
  pointwise

variable (m : (ℓ : Loc nD τ sig) → Buf (Elt Ideal) ℓ) (c : Dev nD)

theorem blk0_at (t : Fin cfg0.N) (n : Fin 512) (k : Fin 1024) (hb : t.val / 4 < 16) (hn : 512 * (t.val % 4) + n.val < 2048) :
    (iblk m c 0 t : S1x512x1024.Idx → EReal) (ix3 0 n k) = m ((c.tc : Thread nD τ).loc main_arg0) (ix3 ⟨t.val / 4, hb⟩ ⟨512 * (t.val % 4) + n.val, hn⟩ k) := by
  have e : (cfg0.win 0).index t = ![t.val / 4, t.val % 4, 0] := (by decide +kernel : ∀ t : Fin grid0.N, win0_0.index t = ![t.val / 4, t.val % 4, 0]) t
  have hi : ((cfg0.win 0).blk t).view.emb (ix3 0 n k) = (ix3 ⟨t.val / 4, hb⟩ ⟨512 * (t.val % 4) + n.val, hn⟩ k : S16x2048x1024.Idx) := by blk_ext [e]
  exact (congrArg (V m c main_arg0) hi).trans (congrFun (V_main_arg0 m c) _)

/-- The weights side by side, as the call reads them. -/
def wide (w : FVec Ideal S1024x1536 .f32) (v : FVec Ideal S1024x1072 .f32) : FVec Ideal S1024x2688 .bf16 :=
  truncf .bf16 (pad S1024x2688 ![0, 0] ![0, 80] ![0, 0] (concatenate S1024x2608 1 [⟨S1024x1536, w⟩, ⟨S1024x1072, v⟩] concatenates_S1024x1536_S1024x1072_S1024x2608_d1) (sitofp .f32 (constantI S_ 32 0#32)) pads_S1024x2608_S1024x2688_000_0800 h_S_) bitsLt_bf16_f32

theorem wide_at (w : FVec Ideal S1024x1536 .f32) (v : FVec Ideal S1024x1072 .f32) (k : Fin 1024) (q : ℕ) (hq : q < 1536) :
    wide w v (ix2 k ⟨q, by omega⟩) = w (ix2 k ⟨q, hq⟩) := by
  unfold wide
  pointwise
  exact (dif_pos (by omega)).trans (dif_pos hq)

theorem blk1_at (t : Fin cfg0.N) (k : Fin 1024) (q : ℕ) (hq : q < 1536) :
    (iblk m c 1 t : S1024x2688.Idx → EReal) (ix2 k ⟨q, by omega⟩) = m ((c.tc : Thread nD τ).loc main_arg1) (ix2 k ⟨q, hq⟩) := by
  have e : (cfg0.win 1).index t = ![0, 0] := (by decide +kernel : ∀ t : Fin grid0.N, win0_1.index t = ![0, 0]) t
  have hi : ((cfg0.win 1).blk t).view.emb (ix2 k ⟨q, by omega⟩) = (ix2 k ⟨q, by omega⟩ : S1024x2688.Idx) := by blk_ext [e]
  have hv : V m c main_v2 = wide (m ((c.tc : Thread nD τ).loc main_arg1)) (m ((c.tc : Thread nD τ).loc main_arg2)) := by entry_read; rfl
  exact (congrArg (V m c main_v2) hi).trans ((congrFun hv _).trans (wide_at _ _ k q hq))

theorem out2 : (dats m 0 c).arrAt 2 cfg0.N = Cert.Reference3Ideal.Hand.third 0 Cert.Reference3Ideal.Gen.slices_S16x2048x1536_S16x2048x512_0_0_0 (Cert.Reference3Ideal.Hand.rows (m ((c.tc : Thread nD τ).loc main_arg0)) (m ((c.tc : Thread nD τ).loc main_arg1))) := by
  refine (dats m 0 c).arrAt_eq_of_covers 2 _ (by decide +kernel) fun t hf y => ?_
  have e : (cfg0.win 2).index t = ![t.val / 4, t.val % 4, 0] := (by decide +kernel : ∀ t : Fin grid0.N, win0_2.index t = ![t.val / 4, t.val % 4, 0]) t
  have ht : t.val < 64 := t.isLt
  obtain ⟨n, d, rfl⟩ : ∃ n d : Fin 512, y = ix3 0 n d := ⟨y 1, y 2, by funext a; fin_cases a; exacts [Subsingleton.elim (α := Fin 1) _ _, rfl, rfl]⟩
  have hb : t.val / 4 < 16 := by omega
  have hn : 512 * (t.val % 4) + n.val < 2048 := by omega
  have hi : ((cfg0.win 2).blk t).view.emb (ix3 0 n d) = (ix3 ⟨t.val / 4, hb⟩ ⟨512 * (t.val % 4) + n.val, hn⟩ d : S16x2048x512.Idx) := by blk_ext [e]
  refine Eq.trans ?_ ((congrArg (Cert.Reference3Ideal.Hand.third _ _ _) hi).trans (Cert.Reference3Ideal.Hand.third_at _ (by decide) _ _ _ _ _ _)).symm
  blk_simp
  rw [after0_2]
  frame_out
  refine (pay5_at _ _ n d).trans ?_
  exact Finset.sum_congr rfl fun k _ => congrArg₂ (· * ·) (blk0_at m c t n k hb hn) ((blk1_at m c t k (0 + d.val) (by omega)).trans (congrArg (fun q => m ((c.tc : Thread nD τ).loc main_arg1) (ix2 k q)) (Fin.ext (Nat.zero_add _))))

theorem out3 : (dats m 0 c).arrAt 3 cfg0.N = Cert.Reference3Ideal.Hand.third 512 Cert.Reference3Ideal.Gen.slices_S16x2048x1536_S16x2048x512_0_0_512 (Cert.Reference3Ideal.Hand.rows (m ((c.tc : Thread nD τ).loc main_arg0)) (m ((c.tc : Thread nD τ).loc main_arg1))) := by
  refine (dats m 0 c).arrAt_eq_of_covers 3 _ (by decide +kernel) fun t hf y => ?_
  have e : (cfg0.win 3).index t = ![t.val / 4, t.val % 4, 0] := (by decide +kernel : ∀ t : Fin grid0.N, win0_3.index t = ![t.val / 4, t.val % 4, 0]) t
  have ht : t.val < 64 := t.isLt
  obtain ⟨n, d, rfl⟩ : ∃ n d : Fin 512, y = ix3 0 n d := ⟨y 1, y 2, by funext a; fin_cases a; exacts [Subsingleton.elim (α := Fin 1) _ _, rfl, rfl]⟩
  have hb : t.val / 4 < 16 := by omega
  have hn : 512 * (t.val % 4) + n.val < 2048 := by omega
  have hi : ((cfg0.win 3).blk t).view.emb (ix3 0 n d) = (ix3 ⟨t.val / 4, hb⟩ ⟨512 * (t.val % 4) + n.val, hn⟩ d : S16x2048x512.Idx) := by blk_ext [e]
  refine Eq.trans ?_ ((congrArg (Cert.Reference3Ideal.Hand.third _ _ _) hi).trans (Cert.Reference3Ideal.Hand.third_at _ (by decide) _ _ _ _ _ _)).symm
  blk_simp
  rw [after0_3]
  frame_out
  refine (pay6_at _ _ n d).trans ?_
  exact Finset.sum_congr rfl fun k _ => congrArg₂ (· * ·) (blk0_at m c t n k hb hn) (blk1_at m c t k (512 + d.val) (by omega))

theorem out4 : (dats m 0 c).arrAt 4 cfg0.N = Cert.Reference3Ideal.Hand.third 1024 Cert.Reference3Ideal.Gen.slices_S16x2048x1536_S16x2048x512_0_0_1024 (Cert.Reference3Ideal.Hand.rows (m ((c.tc : Thread nD τ).loc main_arg0)) (m ((c.tc : Thread nD τ).loc main_arg1))) := by
  refine (dats m 0 c).arrAt_eq_of_covers 4 _ (by decide +kernel) fun t hf y => ?_
  have e : (cfg0.win 4).index t = ![t.val / 4, t.val % 4, 0] := (by decide +kernel : ∀ t : Fin grid0.N, win0_4.index t = ![t.val / 4, t.val % 4, 0]) t
  have ht : t.val < 64 := t.isLt
  obtain ⟨n, d, rfl⟩ : ∃ n d : Fin 512, y = ix3 0 n d := ⟨y 1, y 2, by funext a; fin_cases a; exacts [Subsingleton.elim (α := Fin 1) _ _, rfl, rfl]⟩
  have hb : t.val / 4 < 16 := by omega
  have hn : 512 * (t.val % 4) + n.val < 2048 := by omega
  have hi : ((cfg0.win 4).blk t).view.emb (ix3 0 n d) = (ix3 ⟨t.val / 4, hb⟩ ⟨512 * (t.val % 4) + n.val, hn⟩ d : S16x2048x512.Idx) := by blk_ext [e]
  refine Eq.trans ?_ ((congrArg (Cert.Reference3Ideal.Hand.third _ _ _) hi).trans (Cert.Reference3Ideal.Hand.third_at _ (by decide) _ _ _ _ _ _)).symm
  blk_simp
  rw [after0_4]
  frame_out
  refine (pay7_at _ _ n d).trans ?_
  exact Finset.sum_congr rfl fun k _ => congrArg₂ (· * ·) (blk0_at m c t n k hb hn) (blk1_at m c t k (1024 + d.val) (by omega))

theorem frame_ideal : Cert.quiescent_Kernel3Ideal (hKernel3Ideal := Cert.Kernel3Ideal.Gen.facts) :=
  fun m g _ => Cert.Kernel3Ideal.Gen.frame m g

/-- The kernel's three outputs are the reference's. -/
theorem algebraic : Cert.algebraic_Kernel3Ideal_Reference3Ideal (hKernel3Ideal := Cert.Kernel3Ideal.Gen.facts) (hReference3Ideal := Cert.Reference3Ideal.Gen.facts) := by
  intro m ρ m' ρ' _ hm
  refine ⟨_, _, _, (θ_run defs _ _).mono (fun r h c => ⟨(h c).1.trans (out2 m c), (h c).2.1.trans (out3 m c), (h c).2.2.1.trans (out4 m c), (h c).2.2.2.2.2.2.2.2.2⟩) (run_blocks m ρ),
    (θ_run Cert.Reference3Ideal.defs _ _).mono (fun r h c => ⟨?_, ?_, ?_, (h c).2.2.2⟩) (Cert.Reference3Ideal.Value.run m' ρ')⟩
  · have hc := (h c).1
    rw [(hm c).1, (hm c).2.1] at hc
    exact hc
  · have hc := (h c).2.1
    rw [(hm c).1, (hm c).2.1] at hc
    exact hc
  · have hc := (h c).2.2.1
    rw [(hm c).1, (hm c).2.1] at hc
    exact hc
end Cert.Kernel3Ideal.Hand
end
-- ==== Proof.Sample.lean ====
/- The decoded tokens' projections: the new key-value rows, and the window of the kept and the new rows, are the reference's. -/
module

public import proofs.«01_k».proof.Defs
public import proofs.«01_k».proof.Proof.Gen.Kernel4Ideal.Frame
public import proofs.«01_k».proof.Proof.Gen.Reference4Ideal.Run
public import Idealize.ShloMosaic.Lib.Pointwise.Index
import Idealize.ShloMosaic.Lib.Pointwise
public import Idealize.ShloMosaic.Lib.Pipeline.ValueKit
import Idealize.ShloMosaic.Lib.Claim

@[expose] public section
set_option maxRecDepth 16384
noncomputable section

namespace Cert.Reference4Ideal.Hand
open Cert.Reference4Ideal Cert.Reference4Ideal.Gen
open Idealize.ShloMosaic Idealize.ShloMosaic.TcCoe Idealize.ShloMosaic.Tactic

/-- The product of the tokens' rows with the key-value weights. -/
def rows (x : FVec Ideal S256x1024 .f32) (w : FVec Ideal S1024x1536 .f32) : FVec Ideal S256x1536 .f32 :=
  Host.dotGeneral (φ₁ := .f32) (φ₂ := .f32) dot_S256x1024_S1024x1536_S256x1536_1_0_0_1_n_n none x w

theorem rows_at (x : FVec Ideal S256x1024 .f32) (w : FVec Ideal S1024x1536 .f32) (n : Fin 256) (q : Fin 1536) :
    rows x w (ix2 n q) = ∑ k : Fin 1024, x (ix2 n k) * w (ix2 k q) := by
  unfold rows
  pointwise

/-- One of the three key-value rows of each token, by head. -/
def third (o : ℕ) (h : S32x8x3x2x4x64.Slices ![0, 0, o, 0, 0, 0] S32x8x1x2x4x64) (z : FVec Ideal S256x1536 .f32) : FVec Ideal S32x8x2x4x64 .f32 :=
  shapeCast _ (extractStridedSlice S32x8x1x2x4x64 ![0, 0, o, 0, 0, 0] (shapeCast _ z shapeCasts_S256x1536_S32x8x3x2x4x64) h) shapeCasts_S32x8x1x2x4x64_S32x8x2x4x64

/-- The kept rows and the new ones, the oldest dropped. -/
def window (a : FVec Ideal S32x512x2x4x64 .f32) (b : FVec Ideal S32x8x2x4x64 .f32) : FVec Ideal S32x512x2x4x64 .f32 :=
  extractStridedSlice S32x512x2x4x64 ![0, 8, 0, 0, 0] (concatenate S32x520x2x4x64 1 [⟨S32x512x2x4x64, a⟩, ⟨S32x8x2x4x64, b⟩] concatenates_S32x512x2x4x64_S32x8x2x4x64_S32x520x2x4x64_d1) slices_S32x520x2x4x64_S32x512x2x4x64_0_8_0_0_0

theorem third_at (o : ℕ) (ho : o < 3) (h : S32x8x3x2x4x64.Slices ![0, 0, o, 0, 0, 0] S32x8x1x2x4x64) (z : FVec Ideal S256x1536 .f32) (b : Fin 32) (t : Fin 8) (u : Fin 2) (v : Fin 4) (d : Fin 64) :
    third o h z (ix5 b t u v d) = z (ix2 ⟨8 * b.val + t.val, by omega⟩ ⟨512 * o + (256 * u.val + 64 * v.val + d.val), by omega⟩) := by
  unfold third
  pointwise
  exact congrArg z (congrArg₂ ix2 (Fin.ext (by show b.val * 8 + t.val = 8 * b.val + t.val; omega)) (Fin.ext (by show o * 512 + u.val * 256 + v.val * 64 + d.val = 512 * o + (256 * u.val + 64 * v.val + d.val); omega)))

theorem frame_reference : Cert.quiescent_Reference4Ideal (hReference4Ideal := Cert.Reference4Ideal.Gen.facts) :=
  fun m g _ => (θ_run Cert.Reference4Ideal.defs _ _).mono (fun r h => ⟨fun c => (h c).2.2.2, sem_eq_zero_of_no_sems rfl r.2⟩)
    (Cert.Reference4Ideal.Value.run (F := Ideal) m g)
end Cert.Reference4Ideal.Hand

namespace Cert.Kernel4Ideal.Hand
open Cert.Kernel4Ideal Cert.Kernel4Ideal.Gen
open Idealize.ShloMosaic Idealize.ShloMosaic.TcCoe Idealize.ShloMosaic.Tactic

theorem pay_at (x : S256x1024.Idx → EReal) (w : S1024x2688.Idx → EReal) (n : Fin 256) (q : Fin 2688) :
    k0_pay1 (F := Ideal) x w (ix2 n q) = ∑ k : Fin 1024, x (ix2 n k) * w (ix2 k q) := by
  unfold k0_pay1
  pointwise

variable (m : (ℓ : Loc nD τ sig) → Buf (Elt Ideal) ℓ) (ρ : Dev nD → PrngReg) (c : Dev nD)

theorem blk0_at (t : Fin cfg0.N) (n : Fin 256) (k : Fin 1024) :
    (iblk m c 0 t : S256x1024.Idx → EReal) (ix2 n k) = m ((c.tc : Thread nD τ).loc main_arg0) (ix2 n k) := by
  have e : (cfg0.win 0).index t = ![0, 0] := (by decide +kernel : ∀ t : Fin grid0.N, win0_0.index t = ![0, 0]) t
  have hi : ((cfg0.win 0).blk t).view.emb (ix2 n k) = (ix2 n k : S256x1024.Idx) := by blk_ext [e]
  exact (congrArg (V m c main_arg0) hi).trans (congrFun (V_main_arg0 m c) _)

/-- The weights side by side, as the call reads them. -/
def wide (w : FVec Ideal S1024x1536 .f32) (v : FVec Ideal S1024x1072 .f32) : FVec Ideal S1024x2688 .bf16 :=
  truncf .bf16 (pad S1024x2688 ![0, 0] ![0, 80] ![0, 0] (concatenate S1024x2608 1 [⟨S1024x1536, w⟩, ⟨S1024x1072, v⟩] concatenates_S1024x1536_S1024x1072_S1024x2608_d1) (sitofp .f32 (constantI S_ 32 0#32)) pads_S1024x2608_S1024x2688_000_0800 h_S_) bitsLt_bf16_f32

theorem wide_at (w : FVec Ideal S1024x1536 .f32) (v : FVec Ideal S1024x1072 .f32) (k : Fin 1024) (q : ℕ) (hq : q < 1536) :
    wide w v (ix2 k ⟨q, by omega⟩) = w (ix2 k ⟨q, hq⟩) := by
  unfold wide
  pointwise
  exact (dif_pos (by omega)).trans (dif_pos hq)

theorem blk1_at (t : Fin cfg0.N) (k : Fin 1024) (q : Fin 2688) :
    (iblk m c 1 t : S1024x2688.Idx → EReal) (ix2 k q) = wide (m ((c.tc : Thread nD τ).loc main_arg2)) (m ((c.tc : Thread nD τ).loc main_arg3)) (ix2 k q) := by
  have e : (cfg0.win 1).index t = ![0, 0] := (by decide +kernel : ∀ t : Fin grid0.N, win0_1.index t = ![0, 0]) t
  have hi : ((cfg0.win 1).blk t).view.emb (ix2 k q) = (ix2 k q : S1024x2688.Idx) := by blk_ext [e]
  have hv : V m c main_v2 = wide (m ((c.tc : Thread nD τ).loc main_arg2)) (m ((c.tc : Thread nD τ).loc main_arg3)) := by entry_read; rfl
  exact (congrArg (V m c main_v2) hi).trans (congrFun hv _)

/-- What the call leaves: the product of the tokens' rows with all the weights. -/
def prod (x : FVec Ideal S256x1024 .f32) (w : FVec Ideal S1024x2688 .bf16) : FVec Ideal S256x2688 .f32 :=
  fun j => ∑ k : Fin 1024, x (ix2 (j 0) k) * w (ix2 k (j 1))

theorem out : (dats m 0 c).arrAt 2 cfg0.N = prod (m ((c.tc : Thread nD τ).loc main_arg0)) (wide (m ((c.tc : Thread nD τ).loc main_arg2)) (m ((c.tc : Thread nD τ).loc main_arg3))) := by
  refine (dats m 0 c).arrAt_eq_of_covers 2 _ (by decide +kernel) fun t hf y => ?_
  have e : (cfg0.win 2).index t = ![0, 0] := (by decide +kernel : ∀ t : Fin grid0.N, win0_2.index t = ![0, 0]) t
  obtain ⟨n, q, rfl⟩ : ∃ (n : Fin 256) (q : Fin 2688), y = ix2 n q := ⟨y 0, y 1, by funext a; fin_cases a <;> rfl⟩
  have hi : ((cfg0.win 2).blk t).view.emb (ix2 n q) = (ix2 n q : S256x2688.Idx) := by blk_ext [e]
  refine Eq.trans ?_ (congrArg (prod _ _) hi).symm
  blk_simp
  rw [after0_2]
  frame_out
  refine (pay_at _ _ n q).trans ?_
  exact Finset.sum_congr rfl fun k _ => congrArg₂ (· * ·) (blk0_at m c t n k) (blk1_at m c t k q)

/-- One of the three key-value rows of each token, by head, as the kernel cuts it. -/
def cut (o : ℕ) (h : S32x8x3x512.Slices ![0, 0, o, 0] S32x8x1x512) (z : FVec Ideal S256x2688 .f32) : FVec Ideal S32x8x2x4x64 .f32 :=
  shapeCast S32x8x2x4x64 (shapeCast S32x8x512 (extractStridedSlice S32x8x1x512 ![0, 0, o, 0] (shapeCast S32x8x3x512 (extractStridedSlice S256x1536 ![0, 0] z slices_S256x2688_S256x1536_0_0) shapeCasts_S256x1536_S32x8x3x512) h) shapeCasts_S32x8x1x512_S32x8x512) shapeCasts_S32x8x512_S32x8x2x4x64

theorem cut_at (o : ℕ) (ho : o < 3) (h : S32x8x3x512.Slices ![0, 0, o, 0] S32x8x1x512) (z : FVec Ideal S256x2688 .f32) (b : Fin 32) (t : Fin 8) (u : Fin 2) (v : Fin 4) (d : Fin 64) :
    cut o h z (ix5 b t u v d) = z (ix2 ⟨8 * b.val + t.val, by omega⟩ ⟨512 * o + (256 * u.val + 64 * v.val + d.val), by omega⟩) := by
  unfold cut
  pointwise
  exact congrArg z (congrArg₂ ix2 (Fin.ext (by show b.val * 8 + t.val = 8 * b.val + t.val; omega)) (Fin.ext (by show o * 512 + (u.val * 256 + v.val * 64 + d.val) = 512 * o + (256 * u.val + 64 * v.val + d.val); omega)))

/-- The lines after the call, over any contents before them. -/
theorem tail_cmp (W : Valuation τ sig (Elt Ideal)) :
    StableHlo.after [hostOps1].flatten W (Proc.devRef .tc main_v12) = cut 0 slices_S32x8x3x512_S32x8x1x512_0_0_0_0 (W (Proc.devRef .tc main_v3)) := by
  show StableHlo.after hostOps1 W (Proc.devRef .tc main_v12) = _
  after_results
  rfl
theorem tail_sel (W : Valuation τ sig (Elt Ideal)) :
    StableHlo.after [hostOps1].flatten W (Proc.devRef .tc main_v15) = cut 1 slices_S32x8x3x512_S32x8x1x512_0_0_1_0 (W (Proc.devRef .tc main_v3)) := by
  show StableHlo.after hostOps1 W (Proc.devRef .tc main_v15) = _
  after_results
  rfl
theorem tail_win (W : Valuation τ sig (Elt Ideal)) :
    StableHlo.after [hostOps1].flatten W (Proc.devRef .tc main_v16) = Cert.Reference4Ideal.Hand.window (W (Proc.devRef .tc main_arg1)) (cut 2 slices_S32x8x3x512_S32x8x1x512_0_0_2_0 (W (Proc.devRef .tc main_v3))) := by
  show StableHlo.after hostOps1 W (Proc.devRef .tc main_v16) = _
  after_results
  rfl

/-- What the call leaves, before the lines after it. -/
abbrev mid : Valuation τ sig (Elt Ideal) := Pipeline.withArrays (cfgs 0).spec c (V0 m c) fun w => (dats m 0 c).arrAt w (cfgs 0).N

theorem mid_out : mid m c (Proc.devRef .tc main_v3) = prod (m ((c.tc : Thread nD τ).loc main_arg0)) (wide (m ((c.tc : Thread nD τ).loc main_arg2)) (m ((c.tc : Thread nD τ).loc main_arg3))) :=
  (Pipeline.withArrays_arr (cfgs 0).spec (by decide) c (V0 m c) (fun w => (dats m 0 c).arrAt w (cfgs 0).N) 2).trans (out m c)
theorem mid_arg1 : mid m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)

/-- The kernel's cut of the wide product is the reference's third of its own. -/
theorem cut_prod (o : ℕ) (ho : o < 3) (h : S32x8x3x512.Slices ![0, 0, o, 0] S32x8x1x512) (h' : Cert.Reference4Ideal.S32x8x3x2x4x64.Slices ![0, 0, o, 0, 0, 0] Cert.Reference4Ideal.S32x8x1x2x4x64)
    (x : FVec Ideal S256x1024 .f32) (w : FVec Ideal S1024x1536 .f32) (v : FVec Ideal S1024x1072 .f32) :
    cut o h (prod x (wide w v)) = Cert.Reference4Ideal.Hand.third o h' (Cert.Reference4Ideal.Hand.rows x w) := by
  funext j
  obtain ⟨b, t, u, z, d, rfl⟩ : ∃ (b : Fin 32) (t : Fin 8) (u : Fin 2) (z : Fin 4) (d : Fin 64), j = ix5 b t u z d := ⟨j 0, j 1, j 2, j 3, j 4, by funext a; fin_cases a <;> rfl⟩
  refine (cut_at o ho h _ b t u z d).trans (Eq.trans ?_ ((Cert.Reference4Ideal.Hand.third_at o ho h' _ b t u z d).trans (Cert.Reference4Ideal.Hand.rows_at x w _ _)).symm)
  exact Finset.sum_congr rfl fun k _ => congrArg (x _ * ·) (wide_at w v k _ (by omega))

theorem run_read : θ_run defs (onTc (τ := τ) (main (F := Ideal))) ⟨m, fun _ => 0, ρ⟩ fun r => ∀ c : Dev nD,
      r.2.mem ((c.tc : Thread nD τ).loc main_v12) = Cert.Reference4Ideal.Hand.third 0 Cert.Reference4Ideal.Gen.slices_S32x8x3x2x4x64_S32x8x1x2x4x64_0_0_0_0_0_0 (Cert.Reference4Ideal.Hand.rows (m ((c.tc : Thread nD τ).loc main_arg0)) (m ((c.tc : Thread nD τ).loc main_arg2)))
      ∧ r.2.mem ((c.tc : Thread nD τ).loc main_v15) = Cert.Reference4Ideal.Hand.third 1 Cert.Reference4Ideal.Gen.slices_S32x8x3x2x4x64_S32x8x1x2x4x64_0_0_1_0_0_0 (Cert.Reference4Ideal.Hand.rows (m ((c.tc : Thread nD τ).loc main_arg0)) (m ((c.tc : Thread nD τ).loc main_arg2)))
      ∧ r.2.mem ((c.tc : Thread nD τ).loc main_v16) = Cert.Reference4Ideal.Hand.window (m ((c.tc : Thread nD τ).loc main_arg1)) (Cert.Reference4Ideal.Hand.third 2 Cert.Reference4Ideal.Gen.slices_S32x8x3x2x4x64_S32x8x1x2x4x64_0_0_2_0_0_0 (Cert.Reference4Ideal.Hand.rows (m ((c.tc : Thread nD τ).loc main_arg0)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  run_from run_main m ρ
  · refine (tail_cmp (mid m c)).trans ?_
    rw [mid_out]
    exact cut_prod 0 (by decide) _ _ _ _ _
  · refine (tail_sel (mid m c)).trans ?_
    rw [mid_out]
    exact cut_prod 1 (by decide) _ _ _ _ _
  · refine (tail_win (mid m c)).trans ?_
    rw [mid_out, mid_arg1]
    exact congrArg (Cert.Reference4Ideal.Hand.window _) (cut_prod 2 (by decide) _ _ _ _ _)
  · exact W_main_arg1 m (dats m) c
  · exact W_main_arg2 m (dats m) c
  · exact W_main_arg3 m (dats m) c

theorem frame_ideal : Cert.quiescent_Kernel4Ideal (hKernel4Ideal := Cert.Kernel4Ideal.Gen.facts) :=
  fun m g _ => Cert.Kernel4Ideal.Gen.frame m g

/-- The kernel's three outputs are the reference's. -/
theorem algebraic : Cert.algebraic_Kernel4Ideal_Reference4Ideal (hKernel4Ideal := Cert.Kernel4Ideal.Gen.facts) (hReference4Ideal := Cert.Reference4Ideal.Gen.facts) := by
  intro m ρ m' ρ' _ hm
  refine ⟨_, _, _, run_read m ρ,
    (θ_run Cert.Reference4Ideal.defs _ _).mono (fun r h c => ⟨?_, ?_, ?_, (h c).2.2.2⟩) (Cert.Reference4Ideal.Value.run m' ρ')⟩
  · have hc := (h c).1
    rw [(hm c).1, (hm c).2.2.1] at hc
    exact hc
  · have hc := (h c).2.1
    rw [(hm c).1, (hm c).2.2.1] at hc
    exact hc
  · refine ((h c).2.2.1).trans ?_
    refine congrArg₂ Cert.Reference4Ideal.Hand.window (hm c).2.1 ?_
    exact congrArg₂ (fun x w => Cert.Reference4Ideal.Hand.third 2 Cert.Reference4Ideal.Gen.slices_S32x8x3x2x4x64_S32x8x1x2x4x64_0_0_2_0_0_0 (Cert.Reference4Ideal.Hand.rows x w)) (hm c).1 (hm c).2.2.1
end Cert.Kernel4Ideal.Hand
end
-- ==== Proof.FfRun.lean ====
/- The dense feed-forward's body at one grid point, its launch, and its frame. -/
module

public import proofs.«01_k».proof.Proof.Scalars
public import proofs.«01_k».proof.Defs
public import proofs.«01_k».proof.Proof.Gen.Kernel6Ideal.Skeleton
public import proofs.«01_k».proof.Proof.Gen.Kernel6Ideal.Launch
public import Idealize.ShloMosaic.Lib.VecWindow
import Idealize.ShloMosaic.Lib.Pointwise
import Idealize.ShloMosaic.Lib.StableHlo.ReadAt

@[expose] public section

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal.Hand (itf itf_succ put_in)

variable {F : FTy → Type} [FloatOps F]

/-- A trip over 256 rows: their part of the product with this half of the hidden columns, stored at the first half, added at the second. -/
def fstep (i : grid0.Coords) (wa wu : S1024x1408.Idx → Elt F .bf16) (wo : S1408x1024.Idx → Elt F .bf16) (xb : S1024x1024.Idx → Elt F .bf16)
    (t : Fin k0_t1_loop.trips) (acc : S1024x1024.Idx → Elt F .f32) : S1024x1024.Idx → Elt F .f32 :=
  let x := VecWindow.window xb (k0_off1 t) S256x1024.size (k0_off1_inb t)
  let a := VecWindow.window wa ![0, 0] S1024x1408.size inb_S1024x1408_S1024x1408_0_0
  let u := VecWindow.window wu ![0, 0] S1024x1408.size inb_S1024x1408_S1024x1408_0_0
  let o := VecWindow.window wo ![0, 0] S1408x1024.size inb_S1408x1024_S1408x1024_0_0
  if h3 : k0_cond3 i = 1#1 then VecWindow.put acc (k0_off3 t) S256x1024.size (k0_pay4 x a u o (VecWindow.window acc (k0_off3 t) S256x1024.size (k0_off3_inb i t h3)))
  else VecWindow.put acc (k0_off2 t) S256x1024.size (k0_pay3 x a u o)

/-- The rows at half the width after a point: taken at the first half, kept at the second. -/
def xbOf (i : grid0.Coords) (x : S1024x1024.Idx → Elt F .f32) (xb : S1024x1024.Idx → Elt F .bf16) : S1024x1024.Idx → Elt F .bf16 :=
  if k0_cond3 i = 1#1 then xb else k0_pay1 (VecWindow.window x ![0, 0] S1024x1024.size inb_S1024x1024_S1024x1024_0_0)

/-- The sum after a point. -/
def accOf (i : grid0.Coords) (wa wu : S1024x1408.Idx → Elt F .bf16) (wo : S1408x1024.Idx → Elt F .bf16) (xb : S1024x1024.Idx → Elt F .bf16)
    (acc : S1024x1024.Idx → Elt F .f32) : S1024x1024.Idx → Elt F .f32 :=
  itf k0_t1_loop.trips (fstep i wa wu wo xb) acc k0_t1_loop.trips

/-- The output block after a point: written at the second half. -/
def yOf (i : grid0.Coords) (x acc : S1024x1024.Idx → Elt F .f32) (g b : S1x1024.Idx → Elt F .f32) (y : S1024x1024.Idx → Elt F .f32) : S1024x1024.Idx → Elt F .f32 :=
  if k0_cond3 i = 1#1 then k0_pay5 (VecWindow.window x ![0, 0] S1024x1024.size inb_S1024x1024_S1024x1024_0_0)
    (VecWindow.window acc ![0, 0] S1024x1024.size inb_S1024x1024_S1024x1024_0_0) (VecWindow.window g ![0, 0] S1x1024.size inb_S1x1024_S1x1024_0_0)
    (VecWindow.window b ![0, 0] S1x1024.size inb_S1x1024_S1x1024_0_0)
  else y

/-- An array with the whole replaced is what replaced it. -/
theorem put_whole {α : Type} {a b : ℕ} (x w : (⟨2, ![a, b]⟩ : Shape).Idx → α) : VecWindow.put (s := ⟨2, ![a, b]⟩) x ![0, 0] (⟨2, ![a, b]⟩ : Shape).size w = w := by
  funext y
  obtain ⟨n, d, rfl⟩ : ∃ (n : Fin a) (d : Fin b), y = ix2 n d := ⟨y 0, y 1, by funext q; match q with | ⟨0, _⟩ => rfl | ⟨1, _⟩ => rfl⟩
  exact put_in (A := a) (B := b) (a := a) x (off := ![0, 0]) (o := 0) rfl w n d (Nat.zero_le _) (by have := n.isLt; omega)

/-- The four tests of a point: the first half or the second. -/
theorem conds : ∀ i : grid0.Coords, (k0_cond3 i = 1#1 → ¬ k0_cond2 i = 1#1 ∧ k0_cond4 i = 1#1
      ∧ ¬ Scalar.cmpi .ne (Scalar.extui (Scalar.cmpi .eq (BitVec.ofNat 32 (i 1).val) 0#32)) 0#32 = 1#1)
    ∧ (¬ k0_cond3 i = 1#1 → k0_cond2 i = 1#1 ∧ ¬ k0_cond4 i = 1#1
      ∧ Scalar.cmpi .ne (Scalar.extui (Scalar.cmpi .eq (BitVec.ofNat 32 (i 1).val) 0#32)) 0#32 = 1#1) := by decide +kernel

section body

local notation "𝕄" => MT nD τ sig Unit (Elt F) ℕ (UR sig nD τ) ℕ

variable (c : Dev nD) (i : grid0.Coords)
  (arg2 : Memref sig .tc .vmem S1024x1024 .f32) (harg2 : arg2.IsWhole)
  (arg3 : Memref sig .tc .vmem S1024x1408 .bf16) (harg3 : arg3.IsWhole)
  (arg4 : Memref sig .tc .vmem S1024x1408 .bf16) (harg4 : arg4.IsWhole)
  (arg5 : Memref sig .tc .vmem S1408x1024 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1024x1024 .f32) (harg8 : arg8.IsWhole)
  (arg9 : Memref sig .tc .vmem S1024x1024 .f32) (harg9 : arg9.IsWhole)
  (arg10 : Memref sig .tc .vmem S1024x1024 .bf16) (harg10 : arg10.IsWhole)

/-- A memref opened: its buffer at contents that read the array. -/
theorem own_elim {sp : Space} {sh : Shape} {e : EltTy} (M : Memref sig .tc sp sh e) (q : PosShare TreeShare) (X : sh.Idx → Elt F e) :
    (owns (c : Thread nD τ) M q X : sProp 𝕄) ⊢ iprop(∃ f, ⌜M.view.read (Elt F) f = X⌝ ∗ M.view.loc (c : Thread nD τ) ↦[M.view.set]{q} f) := by
  unfold owns
  exact .rfl

/-- A memref closed again. -/
theorem own_intro {sp : Space} {sh : Shape} {e : EltTy} (M : Memref sig .tc sp sh e) (q : PosShare TreeShare) (X : sh.Idx → Elt F e) (f : M.view.ty.Contents (Elt F))
    (h : M.view.read (Elt F) f = X) :
    (iprop(M.view.loc (c : Thread nD τ) ↦[M.view.set]{q} f) : sProp 𝕄) ⊢ owns (c : Thread nD τ) M q X := by
  unfold owns
  iintro H
  iexists f
  isplitr
  · ipureintro; exact h
  iexact H

/-- A trip of the loop over the blocks of 256 rows. -/
theorem t1_trip (k : Fin k0_t1_loop.trips) (a : Unit) (wa : S1024x1408.Idx → Elt F .bf16) (wu : S1024x1408.Idx → Elt F .bf16) (wo : S1408x1024.Idx → Elt F .bf16) (xb : S1024x1024.Idx → Elt F .bf16) (acc : S1024x1024.Idx → Elt F .f32) :
    (iprop(owns (c : Thread nD τ) arg3 fullShare wa ∗ owns (c : Thread nD τ) arg4 fullShare wu ∗ owns (c : Thread nD τ) arg5 fullShare wo ∗ owns (c : Thread nD τ) arg10 fullShare xb ∗ owns (c : Thread nD τ) arg9 fullShare acc) : sProp 𝕄)
      ⊢ wp frame (wpE defs₀ Variants.none (c : Thread nD τ) none) Set.univ (k0_t1_body (F := F) i arg2 harg2 arg3 harg3 arg4 harg4 arg5 harg5 arg6 harg6 arg7 harg7 arg8 harg8 arg9 harg9 arg10 harg10 k a)
        (fun _ => iprop(owns (c : Thread nD τ) arg3 fullShare wa ∗ owns (c : Thread nD τ) arg4 fullShare wu ∗ owns (c : Thread nD τ) arg5 fullShare wo ∗ owns (c : Thread nD τ) arg10 fullShare xb ∗ owns (c : Thread nD τ) arg9 fullShare (fstep i wa wu wo xb k acc))) := by
  unfold k0_t1_body
  iintro ⟨H3, H4, H5, H10, H9⟩
  ihave H := (own_elim c arg3 _ _) $$ H3
  icases H with ⟨%f3, %e3, H3⟩
  ihave H := (own_elim c arg4 _ _) $$ H4
  icases H with ⟨%f4, %e4, H4⟩
  ihave H := (own_elim c arg5 _ _) $$ H5
  icases H with ⟨%f5, %e5, H5⟩
  ihave H := (own_elim c arg10 _ _) $$ H10
  icases H with ⟨%f10, %e10, H10⟩
  ihave H := (own_elim c arg9 _ _) $$ H9
  icases H with ⟨%f9, %e9, H9⟩
  subst e3 e4 e5 e10 e9
  by_cases h3 : k0_cond3 i = 1#1
  · obtain ⟨h2, h4, h1⟩ := (conds i).1 h3
    sl_exec
    sl_step
    isplitl [H3]
    · iapply (own_intro c arg3 fullShare _ _ rfl) $$ H3
    isplitl [H4]
    · iapply (own_intro c arg4 fullShare _ _ rfl) $$ H4
    isplitl [H5]
    · iapply (own_intro c arg5 fullShare _ _ rfl) $$ H5
    isplitl [H10]
    · iapply (own_intro c arg10 fullShare _ _ rfl) $$ H10
    iapply (own_intro c arg9 fullShare _ _ ?_) $$ H9
    unfold fstep
    simp only [dif_pos h3]
    exact View.read_writes_cons_put _ _ _ _ [] rfl
  · obtain ⟨h2, h4, h1⟩ := (conds i).2 h3
    sl_exec
    sl_step
    isplitl [H3]
    · iapply (own_intro c arg3 fullShare _ _ rfl) $$ H3
    isplitl [H4]
    · iapply (own_intro c arg4 fullShare _ _ rfl) $$ H4
    isplitl [H5]
    · iapply (own_intro c arg5 fullShare _ _ rfl) $$ H5
    isplitl [H10]
    · iapply (own_intro c arg10 fullShare _ _ rfl) $$ H10
    iapply (own_intro c arg9 fullShare _ _ ?_) $$ H9
    unfold fstep
    simp only [dif_neg h3]
    exact View.read_writes_cons_put _ _ _ _ [] rfl

/-- The loop leaves the four trips, one after the other. -/
theorem t1_loop (hok : k0_t1_loop.OK) (wa : S1024x1408.Idx → Elt F .bf16) (wu : S1024x1408.Idx → Elt F .bf16) (wo : S1408x1024.Idx → Elt F .bf16) (xb : S1024x1024.Idx → Elt F .bf16) (acc : S1024x1024.Idx → Elt F .f32) {β : Type} (init : Unit) (kk : Unit → Prog (TpuEff nD τ sig (Elt F) Λ₀ .tc) β) (Q : β → sProp 𝕄) :
    (iprop(owns (c : Thread nD τ) arg3 fullShare wa ∗ owns (c : Thread nD τ) arg4 fullShare wu ∗ owns (c : Thread nD τ) arg5 fullShare wo ∗ owns (c : Thread nD τ) arg10 fullShare xb ∗ owns (c : Thread nD τ) arg9 fullShare acc) : sProp 𝕄)
      ⊢ iprop((∀ a, (owns (c : Thread nD τ) arg3 fullShare wa ∗ owns (c : Thread nD τ) arg4 fullShare wu ∗ owns (c : Thread nD τ) arg5 fullShare wo ∗ owns (c : Thread nD τ) arg10 fullShare xb ∗ owns (c : Thread nD τ) arg9 fullShare (itf k0_t1_loop.trips (fstep i wa wu wo xb) acc k0_t1_loop.trips)) -∗ wp frame (wpE defs₀ Variants.none (c : Thread nD τ) none) Set.univ (kk a) Q) -∗
        wp frame (wpE defs₀ Variants.none (c : Thread nD τ) none) Set.univ (Scf.Loop.for k0_t1_loop hok init (k0_t1_body (F := F) i arg2 harg2 arg3 harg3 arg4 harg4 arg5 harg5 arg6 harg6 arg7 harg7 arg8 harg8 arg9 harg9 arg10 harg10) >>= kk) Q) :=
  Scf.wp_for_bind frame (wpE defs₀ Variants.none (c : Thread nD τ) none) Set.univ k0_t1_loop.lb k0_t1_loop.ub k0_t1_loop.st hok init (k0_t1_body (F := F) i arg2 harg2 arg3 harg3 arg4 harg4 arg5 harg5 arg6 harg6 arg7 harg7 arg8 harg8 arg9 harg9 arg10 harg10)
    (fun k _ => iprop(owns (c : Thread nD τ) arg3 fullShare wa ∗ owns (c : Thread nD τ) arg4 fullShare wu ∗ owns (c : Thread nD τ) arg5 fullShare wo ∗ owns (c : Thread nD τ) arg10 fullShare xb ∗ owns (c : Thread nD τ) arg9 fullShare (itf k0_t1_loop.trips (fstep i wa wu wo xb) acc k)))
    (fun k a => by rw [itf_succ]; exact t1_trip c i arg2 harg2 arg3 harg3 arg4 harg4 arg5 harg5 arg6 harg6 arg7 harg7 arg8 harg8 arg9 harg9 arg10 harg10 k a wa wu wo xb _)

/-- The body at a first half. -/
theorem run_a (x : S1024x1024.Idx → Elt F .f32) (wa : S1024x1408.Idx → Elt F .bf16) (wu : S1024x1408.Idx → Elt F .bf16) (wo : S1408x1024.Idx → Elt F .bf16) (g : S1x1024.Idx → Elt F .f32) (b : S1x1024.Idx → Elt F .f32) (y : S1024x1024.Idx → Elt F .f32) (acc : S1024x1024.Idx → Elt F .f32) (xb : S1024x1024.Idx → Elt F .bf16) (h3 : ¬ k0_cond3 i = 1#1) :
    (iprop(owns (c : Thread nD τ) arg2 fullShare x ∗ owns (c : Thread nD τ) arg3 fullShare wa ∗ owns (c : Thread nD τ) arg4 fullShare wu ∗ owns (c : Thread nD τ) arg5 fullShare wo ∗ owns (c : Thread nD τ) arg6 fullShare g ∗ owns (c : Thread nD τ) arg7 fullShare b ∗ owns (c : Thread nD τ) arg8 fullShare y ∗ owns (c : Thread nD τ) arg9 fullShare acc ∗ owns (c : Thread nD τ) arg10 fullShare xb) : sProp 𝕄)
      ⊢ wp frame (wpE defs₀ Variants.none (c : Thread nD τ) none) Set.univ (cc0_ffn_layer (F := F) i arg2 harg2 arg3 harg3 arg4 harg4 arg5 harg5 arg6 harg6 arg7 harg7 arg8 harg8 arg9 harg9 arg10 harg10) (fun _ =>
          iprop(owns (c : Thread nD τ) arg2 fullShare x ∗ owns (c : Thread nD τ) arg3 fullShare wa ∗ owns (c : Thread nD τ) arg4 fullShare wu ∗ owns (c : Thread nD τ) arg5 fullShare wo ∗ owns (c : Thread nD τ) arg6 fullShare g ∗ owns (c : Thread nD τ) arg7 fullShare b ∗ owns (c : Thread nD τ) arg8 fullShare (yOf i x (accOf i wa wu wo (xbOf i x xb) acc) g b y) ∗ owns (c : Thread nD τ) arg9 fullShare (accOf i wa wu wo (xbOf i x xb) acc) ∗ owns (c : Thread nD τ) arg10 fullShare (xbOf i x xb))) := by
  obtain ⟨h2, h4, h1⟩ := (conds i).2 h3
  simp only [cc0_ffn_layer_eq_skeleton]
  unfold cc0_ffn_layer_skel
  iintro ⟨H2, H3, H4, H5, H6, H7, H8, H9, H10⟩
  ihave H := (own_elim c arg2 _ _) $$ H2
  icases H with ⟨%f2, %e2, H2⟩
  ihave H := (own_elim c arg10 _ _) $$ H10
  icases H with ⟨%f10, %e10, H10⟩
  sl_exec
  ihave H10 : (owns (c : Thread nD τ) arg10 fullShare (xbOf i x xb)) $$ [H10]
  · iapply (own_intro c arg10 fullShare _ _ ?_) $$ H10
    subst e2 e10
    unfold xbOf
    rw [if_neg h3]
    exact (View.read_writes_cons_put _ _ _ _ [] rfl).trans (put_whole _ _)
  ihave H2 := (own_intro c arg2 fullShare _ _ e2) $$ H2
  iapply (t1_loop c i arg2 harg2 arg3 harg3 arg4 harg4 arg5 harg5 arg6 harg6 arg7 harg7 arg8 harg8 arg9 harg9 arg10 harg10 _ wa wu wo (xbOf i x xb) acc _ _ _) $$ [H3 H4 H5 H10 H9]
  · isplitl [H3]
    · iexact H3
    isplitl [H4]
    · iexact H4
    isplitl [H5]
    · iexact H5
    isplitl [H10]
    · iexact H10
    iexact H9
  iintro %a1 ⟨H3, H4, H5, H10, H9⟩
  sl_exec
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · rw [show yOf i x (accOf i wa wu wo (xbOf i x xb) acc) g b y = y from if_neg h3]; iexact H8
  isplitl [H9]
  · iexact H9
  iexact H10

/-- The body at a second half. -/
theorem run_b (x : S1024x1024.Idx → Elt F .f32) (wa : S1024x1408.Idx → Elt F .bf16) (wu : S1024x1408.Idx → Elt F .bf16) (wo : S1408x1024.Idx → Elt F .bf16) (g : S1x1024.Idx → Elt F .f32) (b : S1x1024.Idx → Elt F .f32) (y : S1024x1024.Idx → Elt F .f32) (acc : S1024x1024.Idx → Elt F .f32) (xb : S1024x1024.Idx → Elt F .bf16) (h3 : k0_cond3 i = 1#1) :
    (iprop(owns (c : Thread nD τ) arg2 fullShare x ∗ owns (c : Thread nD τ) arg3 fullShare wa ∗ owns (c : Thread nD τ) arg4 fullShare wu ∗ owns (c : Thread nD τ) arg5 fullShare wo ∗ owns (c : Thread nD τ) arg6 fullShare g ∗ owns (c : Thread nD τ) arg7 fullShare b ∗ owns (c : Thread nD τ) arg8 fullShare y ∗ owns (c : Thread nD τ) arg9 fullShare acc ∗ owns (c : Thread nD τ) arg10 fullShare xb) : sProp 𝕄)
      ⊢ wp frame (wpE defs₀ Variants.none (c : Thread nD τ) none) Set.univ (cc0_ffn_layer (F := F) i arg2 harg2 arg3 harg3 arg4 harg4 arg5 harg5 arg6 harg6 arg7 harg7 arg8 harg8 arg9 harg9 arg10 harg10) (fun _ =>
          iprop(owns (c : Thread nD τ) arg2 fullShare x ∗ owns (c : Thread nD τ) arg3 fullShare wa ∗ owns (c : Thread nD τ) arg4 fullShare wu ∗ owns (c : Thread nD τ) arg5 fullShare wo ∗ owns (c : Thread nD τ) arg6 fullShare g ∗ owns (c : Thread nD τ) arg7 fullShare b ∗ owns (c : Thread nD τ) arg8 fullShare (yOf i x (accOf i wa wu wo (xbOf i x xb) acc) g b y) ∗ owns (c : Thread nD τ) arg9 fullShare (accOf i wa wu wo (xbOf i x xb) acc) ∗ owns (c : Thread nD τ) arg10 fullShare (xbOf i x xb))) := by
  obtain ⟨h2, h4, h1⟩ := (conds i).1 h3
  simp only [cc0_ffn_layer_eq_skeleton]
  unfold cc0_ffn_layer_skel
  iintro ⟨H2, H3, H4, H5, H6, H7, H8, H9, H10⟩
  have ex : xbOf i x xb = xb := if_pos h3
  rw [ex]
  sl_exec
  iapply (t1_loop c i arg2 harg2 arg3 harg3 arg4 harg4 arg5 harg5 arg6 harg6 arg7 harg7 arg8 harg8 arg9 harg9 arg10 harg10 _ wa wu wo xb acc _ _ _) $$ [H3 H4 H5 H10 H9]
  · isplitl [H3]
    · iexact H3
    isplitl [H4]
    · iexact H4
    isplitl [H5]
    · iexact H5
    isplitl [H10]
    · iexact H10
    iexact H9
  iintro %a1 ⟨H3, H4, H5, H10, H9⟩
  generalize hz : itf k0_t1_loop.trips (fstep i wa wu wo xb) acc k0_t1_loop.trips = z
  have ez : accOf i wa wu wo xb acc = z := hz
  rw [ez]
  ihave H := (own_elim c arg2 _ _) $$ H2
  icases H with ⟨%f2, %e2, H2⟩
  ihave H := (own_elim c arg6 _ _) $$ H6
  icases H with ⟨%f6, %e6, H6⟩
  ihave H := (own_elim c arg7 _ _) $$ H7
  icases H with ⟨%f7, %e7, H7⟩
  ihave H := (own_elim c arg8 _ _) $$ H8
  icases H with ⟨%f8, %e8, H8⟩
  ihave H := (own_elim c arg9 _ _) $$ H9
  icases H with ⟨%f9, %e9, H9⟩
  sl_exec
  sl_step
  ihave H8 : (owns (c : Thread nD τ) arg8 fullShare (yOf i x z g b y)) $$ [H8]
  · iapply (own_intro c arg8 fullShare _ _ ?_) $$ H8
    subst e2 e6 e7 e8 e9
    unfold yOf
    rw [if_pos h3]
    exact (View.read_writes_cons_put _ _ _ _ [] rfl).trans (put_whole _ _)
  ihave H2 := (own_intro c arg2 fullShare _ _ e2) $$ H2
  ihave H6 := (own_intro c arg6 fullShare _ _ e6) $$ H6
  ihave H7 := (own_intro c arg7 fullShare _ _ e7) $$ H7
  ihave H9 := (own_intro c arg9 fullShare _ _ e9) $$ H9
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  iexact H10

/-- The body at any point. -/
theorem body_run (x : S1024x1024.Idx → Elt F .f32) (wa : S1024x1408.Idx → Elt F .bf16) (wu : S1024x1408.Idx → Elt F .bf16) (wo : S1408x1024.Idx → Elt F .bf16) (g : S1x1024.Idx → Elt F .f32) (b : S1x1024.Idx → Elt F .f32) (y : S1024x1024.Idx → Elt F .f32) (acc : S1024x1024.Idx → Elt F .f32) (xb : S1024x1024.Idx → Elt F .bf16) :
    (iprop(owns (c : Thread nD τ) arg2 fullShare x ∗ owns (c : Thread nD τ) arg3 fullShare wa ∗ owns (c : Thread nD τ) arg4 fullShare wu ∗ owns (c : Thread nD τ) arg5 fullShare wo ∗ owns (c : Thread nD τ) arg6 fullShare g ∗ owns (c : Thread nD τ) arg7 fullShare b ∗ owns (c : Thread nD τ) arg8 fullShare y ∗ owns (c : Thread nD τ) arg9 fullShare acc ∗ owns (c : Thread nD τ) arg10 fullShare xb) : sProp 𝕄)
      ⊢ wp frame (wpE defs₀ Variants.none (c : Thread nD τ) none) Set.univ (cc0_ffn_layer (F := F) i arg2 harg2 arg3 harg3 arg4 harg4 arg5 harg5 arg6 harg6 arg7 harg7 arg8 harg8 arg9 harg9 arg10 harg10) (fun _ =>
          iprop(owns (c : Thread nD τ) arg2 fullShare x ∗ owns (c : Thread nD τ) arg3 fullShare wa ∗ owns (c : Thread nD τ) arg4 fullShare wu ∗ owns (c : Thread nD τ) arg5 fullShare wo ∗ owns (c : Thread nD τ) arg6 fullShare g ∗ owns (c : Thread nD τ) arg7 fullShare b ∗ owns (c : Thread nD τ) arg8 fullShare (yOf i x (accOf i wa wu wo (xbOf i x xb) acc) g b y) ∗ owns (c : Thread nD τ) arg9 fullShare (accOf i wa wu wo (xbOf i x xb) acc) ∗ owns (c : Thread nD τ) arg10 fullShare (xbOf i x xb))) := by
  by_cases h3 : k0_cond3 i = 1#1
  · exact run_b c i arg2 harg2 arg3 harg3 arg4 harg4 arg5 harg5 arg6 harg6 arg7 harg7 arg8 harg8 arg9 harg9 arg10 harg10 x wa wu wo g b y acc xb h3
  · exact run_a c i arg2 harg2 arg3 harg3 arg4 harg4 arg5 harg5 arg6 harg6 arg7 harg7 arg8 harg8 arg9 harg9 arg10 harg10 x wa wu wo g b y acc xb h3

end body

variable [∀ e, Nonempty (Elt F e)]

local notation "𝕄" => MT nD τ sig Unit (Elt F) ℕ (UR sig nD τ) ℕ

variable (m : (ℓ : Loc nD τ sig) → Buf (Elt F) ℓ) (ρ : Dev nD → PrngReg)

/-- What each buffer holds when the call begins. -/
def V (c : Dev nD) (b : Ref sig .tc) : Buf (Elt F) ((c.tc : Thread nD τ).loc b) :=
  StableHlo.after hostOps0 (fun b => m (c, b)) b

/-- The block of an input that a grid point sees. -/
def iblk (c : Dev nD) (w : Fin cfg0.W) (t : Fin cfg0.N) : (cfg0.win w).block.Idx → Elt F (cfg0.win w).elt :=
  (cfg0.win w).fill (cfg0.grid.coords t) (fun _ => Classical.arbitrary _)
    (((cfg0.win w).blk t).view.read (Elt F) (V m c (arrRef cfg0.spec w)))

/-- The rows at half the width after a grid point, from those before. -/
def xbAt (c : Dev nD) (t : Fin cfg0.N) (xb : S1024x1024.Idx → Elt F .bf16) : S1024x1024.Idx → Elt F .bf16 :=
  xbOf (grid0.coords t) (iblk m c 0 t) xb

/-- The sum after a grid point. -/
def accAt (c : Dev nD) (t : Fin cfg0.N) (xb : S1024x1024.Idx → Elt F .bf16) (acc : S1024x1024.Idx → Elt F .f32) : S1024x1024.Idx → Elt F .f32 :=
  accOf (grid0.coords t) (iblk m c 1 t) (iblk m c 2 t) (iblk m c 3 t) xb acc

/-- The output block after a grid point. -/
def yAt (c : Dev nD) (t : Fin cfg0.N) (acc y : S1024x1024.Idx → Elt F .f32) : S1024x1024.Idx → Elt F .f32 :=
  yOf (grid0.coords t) (iblk m c 0 t) acc (iblk m c 4 t) (iblk m c 5 t) y

/-- What the two scratch buffers may hold before point `n`. -/
def Reach (c : Dev nD) : ℕ → (S1024x1024.Idx → Elt F .bf16) → (S1024x1024.Idx → Elt F .f32) → Prop
  | 0 => fun _ _ => True
  | n + 1 => fun xb acc => ∃ (h : n < cfg0.N) (xb0 : S1024x1024.Idx → Elt F .bf16) (acc0 : S1024x1024.Idx → Elt F .f32),
      Reach c n xb0 acc0 ∧ xb = xbAt m c ⟨n, h⟩ xb0 ∧ acc = accAt m c ⟨n, h⟩ (xbAt m c ⟨n, h⟩ xb0) acc0

/-- The invariant before point `n`. -/
def Inv (c : Dev nD) (n : ℕ) : sProp 𝕄 :=
  iprop(∃ (acc : S1024x1024.Idx → Elt F .f32) (xb : S1024x1024.Idx → Elt F .bf16), ⌜Reach m c n xb acc⌝
    ∗ owns (c : Thread nD τ) (Memref.whole cc0_scratch0) fullShare acc ∗ owns (c : Thread nD τ) (Memref.whole cc0_scratch1) fullShare xb
    ∗ (∃ r, prngReg c r))

/-- What the body does to a window's block: the inputs stay, the output is as the sum says. -/
def aft (c : Dev nD) (w : Fin cfg0.W) (t : Fin cfg0.N) :
    ((cfg0.win w).block.Idx → Elt F (cfg0.win w).elt) → ((cfg0.win w).block.Idx → Elt F (cfg0.win w).elt) → Prop :=
  match w with
  | 0 => fun Y X => X = Y
  | 1 => fun Y X => X = Y
  | 2 => fun Y X => X = Y
  | 3 => fun Y X => X = Y
  | 4 => fun Y X => X = Y
  | 5 => fun Y X => X = Y
  | 6 => fun Y X => ∃ xb acc, Reach m c (t.val + 1) xb acc ∧ X = yAt m c t acc Y

/-- The data of the call's run. -/
def rdat (c : Dev nD) : RDat τ (Elt F) Unit ℕ (UR sig nD τ) ℕ cfg0 c where
  A w := V m c (arrRef cfg0.spec w)
  after w t := aft m c w t
  Φ n := Inv m c n.val
  q w := shareOf cfg0.spec w
  owed _ := 0

/-- The body at a point. -/
def bodyAt (t : Fin cfg0.N) :=
  cc0_ffn_layer (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _)

/-- The body table's row at a point is the body. -/
theorem row (t : Fin cfg0.N) : defs₀ (F := F) .tc cfg0.body (cfg0.bodyArgs t (cfg0.slots t)) = bodyAt t := by
  unfold defs₀; rw [Defs.onTc_tc]; rfl

/-- An input's buffer holds its block at every point. -/
theorem finds_in (c : Dev nD) (w : Fin cfg0.W) (hw : (cfg0.win w).isOut = false)
    (hk : ∀ t Y X, aft m c w t Y X → X = Y) (hclip : ∀ i a, (cfg0.win w).clip i a = none)
    (t : Fin cfg0.N) (Y : (cfg0.win w).block.Idx → Elt F (cfg0.win w).elt)
    (h : (rdat m c).Finds w t Y) : Y = iblk m c w t := by
  obtain ⟨d, rfl⟩ := (rdat m c).finds_in_eq_fetched w hw (fun t t' _ => by funext a; exact (hclip _ a).trans (hclip _ a).symm) hk t Y h
  exact fill_of_clip_none (cfg := cfg0) w _ (hclip _) _ _ _

/-- The body's triple at a point. -/
theorem sound_body (c : Dev nD) (t : Fin cfg0.N) (Y6 : S1024x1024.Idx → Elt F .f32) :
    (iprop(Inv m c t.val ∗ (rdat m c).owesAt () t.castSucc
      ∗ owns (c : Thread nD τ) (win0_0.stage (cfg0.slots t 0)) fullShare (iblk m c 0 t)
      ∗ owns (c : Thread nD τ) (win0_1.stage (cfg0.slots t 1)) fullShare (iblk m c 1 t)
      ∗ owns (c : Thread nD τ) (win0_2.stage (cfg0.slots t 2)) fullShare (iblk m c 2 t)
      ∗ owns (c : Thread nD τ) (win0_3.stage (cfg0.slots t 3)) fullShare (iblk m c 3 t)
      ∗ owns (c : Thread nD τ) (win0_4.stage (cfg0.slots t 4)) fullShare (iblk m c 4 t)
      ∗ owns (c : Thread nD τ) (win0_5.stage (cfg0.slots t 5)) fullShare (iblk m c 5 t)
      ∗ owns (c : Thread nD τ) (win0_6.stage (cfg0.slots t 6)) fullShare Y6) : sProp 𝕄)
    ⊢ wp frame (wpE (defs₀ (F := F)) Variants.none (c : Thread nD τ) none) Set.univ (bodyAt t) (fun _ =>
      iprop(Inv m c (t.val + 1) ∗ (rdat m c).owesAt () t.castSucc
      ∗ (∃ X, ⌜X = iblk m c 0 t⌝ ∗ owns (c : Thread nD τ) (win0_0.stage (cfg0.slots t 0)) fullShare X)
      ∗ (∃ X, ⌜X = iblk m c 1 t⌝ ∗ owns (c : Thread nD τ) (win0_1.stage (cfg0.slots t 1)) fullShare X)
      ∗ (∃ X, ⌜X = iblk m c 2 t⌝ ∗ owns (c : Thread nD τ) (win0_2.stage (cfg0.slots t 2)) fullShare X)
      ∗ (∃ X, ⌜X = iblk m c 3 t⌝ ∗ owns (c : Thread nD τ) (win0_3.stage (cfg0.slots t 3)) fullShare X)
      ∗ (∃ X, ⌜X = iblk m c 4 t⌝ ∗ owns (c : Thread nD τ) (win0_4.stage (cfg0.slots t 4)) fullShare X)
      ∗ (∃ X, ⌜X = iblk m c 5 t⌝ ∗ owns (c : Thread nD τ) (win0_5.stage (cfg0.slots t 5)) fullShare X)
      ∗ (∃ X : S1024x1024.Idx → Elt F .f32, ⌜∃ xb acc, Reach m c (t.val + 1) xb acc ∧ X = yAt m c t acc Y6⌝ ∗ owns (c : Thread nD τ) (win0_6.stage (cfg0.slots t 6)) fullShare X))) := by
  unfold bodyAt Inv
  iintro ⟨⟨%acc, %xb, %hR, Hacc, Hxb, Hg⟩, HO, H0, H1, H2, H3, H4, H5, H6⟩
  have hR' : Reach m c (t.val + 1) (xbAt m c t xb) (accAt m c t (xbAt m c t xb) acc) := ⟨t.isLt, xb, acc, hR, rfl, rfl⟩
  iapply wp_wand $$ [Hxb Hacc H0 H1 H2 H3 H4 H5 H6]
  · iapply (body_run c (grid0.coords t) _ _ _ _ _ _ _ _ _ _ _ _ _ _ _ _ _ _ (iblk m c 0 t) (iblk m c 1 t) (iblk m c 2 t) (iblk m c 3 t) (iblk m c 4 t) (iblk m c 5 t) Y6 acc xb)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hacc]; · iexact Hacc
    iexact Hxb
  iintro %_ ⟨H0, H1, H2, H3, H4, H5, H6, Hacc, Hxb⟩
  isplitl [Hxb Hacc Hg]
  · iexists _, _
    isplitr; swap
    · isplitl [Hacc]; · iexact Hacc
      isplitl [Hxb]; · iexact Hxb
      iexact Hg
    · ipureintro; exact hR'
  isplitl [HO]; · iexact HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  · iexists _; isplitr; swap; · iexact H6
    ipureintro; exact ⟨_, _, hR', rfl⟩

theorem found0 (c : Dev nD) (t : Fin cfg0.N) (Y : (cfg0.win 0).block.Idx → Elt F (cfg0.win 0).elt) (h : (rdat m c).Finds 0 t Y) : Y = iblk m c 0 t :=
  finds_in m c 0 rfl (fun _ _ _ h => h) (fun _ _ => rfl) t Y h
theorem found1 (c : Dev nD) (t : Fin cfg0.N) (Y : (cfg0.win 1).block.Idx → Elt F (cfg0.win 1).elt) (h : (rdat m c).Finds 1 t Y) : Y = iblk m c 1 t :=
  finds_in m c 1 rfl (fun _ _ _ h => h) (fun _ _ => rfl) t Y h
theorem found2 (c : Dev nD) (t : Fin cfg0.N) (Y : (cfg0.win 2).block.Idx → Elt F (cfg0.win 2).elt) (h : (rdat m c).Finds 2 t Y) : Y = iblk m c 2 t :=
  finds_in m c 2 rfl (fun _ _ _ h => h) (fun _ _ => rfl) t Y h
theorem found3 (c : Dev nD) (t : Fin cfg0.N) (Y : (cfg0.win 3).block.Idx → Elt F (cfg0.win 3).elt) (h : (rdat m c).Finds 3 t Y) : Y = iblk m c 3 t :=
  finds_in m c 3 rfl (fun _ _ _ h => h) (fun _ _ => rfl) t Y h
theorem found4 (c : Dev nD) (t : Fin cfg0.N) (Y : (cfg0.win 4).block.Idx → Elt F (cfg0.win 4).elt) (h : (rdat m c).Finds 4 t Y) : Y = iblk m c 4 t :=
  finds_in m c 4 rfl (fun _ _ _ h => h) (fun _ _ => rfl) t Y h
theorem found5 (c : Dev nD) (t : Fin cfg0.N) (Y : (cfg0.win 5).block.Idx → Elt F (cfg0.win 5).elt) (h : (rdat m c).Finds 5 t Y) : Y = iblk m c 5 t :=
  finds_in m c 5 rfl (fun _ _ _ h => h) (fun _ _ => rfl) t Y h

theorem phi_eq (c : Dev nD) (n : Fin (cfg0.N + 1)) : (rdat m c).Φ n = Inv m c n.val := by unfold rdat; rfl
theorem phi_castSucc (c : Dev nD) (t : Fin cfg0.N) : (rdat m c).Φ t.castSucc = Inv m c t.val := by rw [phi_eq]; exact congrArg _ (Fin.val_castSucc _)
theorem phi_succ (c : Dev nD) (t : Fin cfg0.N) : (rdat m c).Φ t.succ = Inv m c (t.val + 1) := by rw [phi_eq]; exact congrArg _ (Fin.val_succ _)
theorem owes_succ (c : Dev nD) (t : Fin cfg0.N) : (rdat m c).owesAt () t.succ = (rdat m c).owesAt () t.castSucc := rfl

/-- The library's body obligation. -/
theorem body_obligation (c : Dev nD) : (rdat m c).BodyObligation (defs₀ (F := F)) Variants.none () Set.univ := by
  intro t Y hY
  have e0 := found0 m c t _ (hY 0)
  have e1 := found1 m c t _ (hY 1)
  have e2 := found2 m c t _ (hY 2)
  have e3 := found3 m c t _ (hY 3)
  have e4 := found4 m c t _ (hY 4)
  have e5 := found5 m c t _ (hY 5)
  rw [phi_castSucc, phi_succ,
    bigSep_W0, bigSep_W0, owes_succ, row, e0, e1, e2, e3, e4, e5]
  refine triple_restated (sound_body m c t (Y 6)) rfl ?_ ?_
  · iintro ⟨H, HO, H0, H1, H2, H3, H4, H5, H6⟩
    isplitl [H]; · iexact H
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6
  · intro _
    iintro ⟨H, HO, H0, H1, H2, H3, H4, H5, H6⟩
    isplitl [H]; · iexact H
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6

theorem phi_in (c : Dev nD) : ΦA cfg0.spec c ⊢ (Inv m c 0 : sProp 𝕄) := by
  unfold ΦA
  rw [show cfg0.spec = spec0 from rfl, scopedRest0_eq]
  unfold Inv
  simp only [owns_whole]
  iintro ⟨⟨⟨%acc, Hacc⟩, %xb, Hxb⟩, Hg⟩
  iexists acc, xb
  isplitr; swap
  · isplitl [Hacc]; · iexact Hacc
    isplitl [Hxb]; · iexact Hxb
    iexact Hg
  · ipureintro; trivial

theorem phi_out (c : Dev nD) (n : ℕ) : (Inv m c n : sProp 𝕄) ⊢ ΦA cfg0.spec c := by
  unfold ΦA
  rw [show cfg0.spec = spec0 from rfl, scopedRest0_eq]
  unfold Inv
  simp only [owns_whole]
  iintro ⟨%acc, %xb, -, Hacc, Hxb, Hg⟩
  isplitl [Hacc Hxb]
  · isplitl [Hacc]; · iexists _; iexact Hacc
    iexists _; iexact Hxb
  iexact Hg

theorem hostOps0_fresh : (hostOps0 : List (HloOp τ sig (Elt F))).Forall fun op => op.fresh = ∅ := by
  simp only [List.Forall]; repeat' constructor

set_option maxHeartbeats 1600000 in
set_option backward.isDefEq.respectTransparency.types false in
/-- The run of the program: it ends, the buffers it does not write keep what they held, and the output holds what the grid points left in it. -/
theorem run_main :
    θ_run defs (onTc (τ := τ) (main (F := F))) (s₀ m ρ)
      (fun r => RDat.FramePost cfg0 (rdat m) (V m) r ∧ r.2.sem = fun _ => 0) :=
  RDat.θ_run_frame_track_shared (Q' := _) cfgs (0 : Fin 1) launch₀0 defs₀ Variants.none (rdat m) m ρ main
    (hbody := body_obligation m) (hq := fun _ _ _ => rfl) (howed := fun _ _ => rfl) (V := V m)
    (hmain := Pipeline.hmain_prefix cfgs 0 defs₀ Variants.none m main hostOps0 hostOps0_sub hostOps0_fresh main_chain)
    (hA := fun _ _ => rfl) (hin := phi_in m) (hout := fun c => phi_out m c _) (hQ' := fun _ h => h)

theorem V_arg0 (c : Dev nD) : V m c main_arg0 = m (c, Proc.devRef .tc main_arg0) := by
  unfold V; after_reads_simp
theorem V_arg1 (c : Dev nD) : V m c main_arg1 = m (c, Proc.devRef .tc main_arg1) := by
  unfold V; after_reads_simp
theorem V_arg2 (c : Dev nD) : V m c main_arg2 = m (c, Proc.devRef .tc main_arg2) := by
  unfold V; after_reads_simp
theorem V_arg3 (c : Dev nD) : V m c main_arg3 = m (c, Proc.devRef .tc main_arg3) := by
  unfold V; after_reads_simp
theorem V_arg4 (c : Dev nD) : V m c main_arg4 = m (c, Proc.devRef .tc main_arg4) := by
  unfold V; after_reads_simp
theorem V_v0 (c : Dev nD) : V m c main_v0 = truncf .bf16 (m (c, Proc.devRef .tc main_arg1)) bitsLt_bf16_f32 := by
  unfold V; after_reads_simp
theorem V_v1 (c : Dev nD) : V m c main_v1 = truncf .bf16 (m (c, Proc.devRef .tc main_arg2)) bitsLt_bf16_f32 := by
  unfold V; after_reads_simp

theorem V_v2 (c : Dev nD) : V m c main_v2 = shapeCast S1x1024 (m (c, Proc.devRef .tc main_arg3)) shapeCasts_S1024_S1x1024 := by
  unfold V; after_reads_simp; rfl
theorem V_v3 (c : Dev nD) : V m c main_v3 = shapeCast S1x1024 (m (c, Proc.devRef .tc main_arg4)) shapeCasts_S1024_S1x1024 := by
  unfold V; after_reads_simp; rfl

/-- What the run leaves, of the arguments. -/
theorem post_args (r : PUnit × MemSt nD τ sig (Elt F)) (h : RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine ⟨?_, ((h c).2 main_arg1 (Pipeline.mem_restRefs_of (win := spec0) main_arg1 (by decide) (by decide))).trans (V_arg1 m c), ((h c).2 main_arg2 (Pipeline.mem_restRefs_of (win := spec0) main_arg2 (by decide) (by decide))).trans (V_arg2 m c), ((h c).2 main_arg3 (Pipeline.mem_restRefs_of (win := spec0) main_arg3 (by decide) (by decide))).trans (V_arg3 m c), ((h c).2 main_arg4 (Pipeline.mem_restRefs_of (win := spec0) main_arg4 (by decide) (by decide))).trans (V_arg4 m c)⟩
  have h1 := (h c).1 0
  rw [(rdat m c).ArrAt_in 0 rfl] at h1
  exact Eq.trans h1 (V_arg0 m c)

/-- The frame of the program, over any float values. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨post_args m r h.1, h.2⟩) (run_main m ρ)

theorem frame_ideal : Cert.quiescent_Kernel6Ideal (hKernel6Ideal := Cert.Kernel6Ideal.Gen.facts) :=
  fun m g _ => frame_run m g

end Cert.Kernel6Ideal.Hand

end
-- ==== Proof.FrameN.lean ====
/- The frames of the smaller calls over words: the runs of their idealizations, which have the same texts, at the words. -/
module

public import proofs.«01_k».proof.Defs
public import proofs.«01_k».proof.Proof.Gen.Kernel2
public import proofs.«01_k».proof.Proof.Gen.Kernel2Ideal.Frame
public import proofs.«01_k».proof.Proof.Gen.Kernel3
public import proofs.«01_k».proof.Proof.Gen.Kernel3Ideal.Frame
public import proofs.«01_k».proof.Proof.Gen.Kernel4
public import proofs.«01_k».proof.Proof.Gen.Kernel4Ideal.Frame
public import proofs.«01_k».proof.Proof.Gen.Kernel5
public import proofs.«01_k».proof.Proof.Gen.Kernel5Ideal.Frame
public import proofs.«01_k».proof.Proof.Gen.Kernel6
public import proofs.«01_k».proof.Proof.FfRun

@[expose] public section
set_option maxHeartbeats 4000000
noncomputable section
namespace Cert.Frames
open Idealize.ShloMosaic Idealize.ShloMosaic.TcCoe Idealize.ShloMosaic.Tactic

theorem same_body2 : @Cert.Kernel2.cc0_add_ln Bits _ _ = @Cert.Kernel2Ideal.cc0_add_ln Bits _ _ := rfl

theorem same_table2 : Cert.Kernel2.defs₀ (F := Bits) = Cert.Kernel2Ideal.defs₀ (F := Bits) := by
  unfold Cert.Kernel2.defs₀ Cert.Kernel2Ideal.defs₀
  refine congrArg Defs.onTc (funext fun l => ?_)
  match l with
  | ⟨0, _⟩ =>
    refine funext fun a => ?_
    dsimp only
    rw [same_body2]
    rfl
  | ⟨_ + 1, h⟩ => exact absurd h (Nat.not_lt.2 (Nat.le_add_left _ _))

theorem same_defs2 : Cert.Kernel2.defs (F := Bits) = Cert.Kernel2Ideal.defs (F := Bits) := by
  unfold Cert.Kernel2.defs Cert.Kernel2Ideal.defs
  rw [same_table2]
  rfl

set_option backward.isDefEq.respectTransparency.types false in
theorem same_main2 : Cert.Kernel2.main (F := Bits) = Cert.Kernel2Ideal.main (F := Bits) := rfl

theorem frame_kernel2 : Cert.quiescent_Kernel2 (hKernel2 := Cert.Kernel2.Gen.facts) := by
  intro m ρ _
  rw [same_defs2, same_main2]
  exact (θ_run Cert.Kernel2Ideal.defs _ _).mono (fun _ h => h) (Cert.Kernel2Ideal.Gen.frame (F := Bits) m ρ)

theorem same_body3 : @Cert.Kernel3.cc0_nsa_proj Bits _ _ = @Cert.Kernel3Ideal.cc0_nsa_proj Bits _ _ := rfl

theorem same_table3 : Cert.Kernel3.defs₀ (F := Bits) = Cert.Kernel3Ideal.defs₀ (F := Bits) := by
  unfold Cert.Kernel3.defs₀ Cert.Kernel3Ideal.defs₀
  refine congrArg Defs.onTc (funext fun l => ?_)
  match l with
  | ⟨0, _⟩ =>
    refine funext fun a => ?_
    dsimp only
    rw [same_body3]
    rfl
  | ⟨_ + 1, h⟩ => exact absurd h (Nat.not_lt.2 (Nat.le_add_left _ _))

theorem same_defs3 : Cert.Kernel3.defs (F := Bits) = Cert.Kernel3Ideal.defs (F := Bits) := by
  unfold Cert.Kernel3.defs Cert.Kernel3Ideal.defs
  rw [same_table3]
  rfl

set_option backward.isDefEq.respectTransparency.types false in
theorem same_main3 : Cert.Kernel3.main (F := Bits) = Cert.Kernel3Ideal.main (F := Bits) := rfl

theorem frame_kernel3 : Cert.quiescent_Kernel3 (hKernel3 := Cert.Kernel3.Gen.facts) := by
  intro m ρ _
  rw [same_defs3, same_main3]
  exact (θ_run Cert.Kernel3Ideal.defs _ _).mono (fun _ h => h) (Cert.Kernel3Ideal.Gen.frame (F := Bits) m ρ)

theorem same_body4 : @Cert.Kernel4.cc0_proj Bits _ _ = @Cert.Kernel4Ideal.cc0_proj Bits _ _ := rfl

theorem same_table4 : Cert.Kernel4.defs₀ (F := Bits) = Cert.Kernel4Ideal.defs₀ (F := Bits) := by
  unfold Cert.Kernel4.defs₀ Cert.Kernel4Ideal.defs₀
  refine congrArg Defs.onTc (funext fun l => ?_)
  match l with
  | ⟨0, _⟩ =>
    refine funext fun a => ?_
    dsimp only
    rw [same_body4]
    rfl
  | ⟨_ + 1, h⟩ => exact absurd h (Nat.not_lt.2 (Nat.le_add_left _ _))

theorem same_defs4 : Cert.Kernel4.defs (F := Bits) = Cert.Kernel4Ideal.defs (F := Bits) := by
  unfold Cert.Kernel4.defs Cert.Kernel4Ideal.defs
  rw [same_table4]
  rfl

set_option backward.isDefEq.respectTransparency.types false in
theorem same_main4 : Cert.Kernel4.main (F := Bits) = Cert.Kernel4Ideal.main (F := Bits) := rfl

theorem frame_kernel4 : Cert.quiescent_Kernel4 (hKernel4 := Cert.Kernel4.Gen.facts) := by
  intro m ρ _
  rw [same_defs4, same_main4]
  exact (θ_run Cert.Kernel4Ideal.defs _ _).mono (fun _ h => h) (Cert.Kernel4Ideal.Gen.frame (F := Bits) m ρ)

theorem same_body5 : @Cert.Kernel5.cc0_add_ln Bits _ _ = @Cert.Kernel5Ideal.cc0_add_ln Bits _ _ := rfl

theorem same_table5 : Cert.Kernel5.defs₀ (F := Bits) = Cert.Kernel5Ideal.defs₀ (F := Bits) := by
  unfold Cert.Kernel5.defs₀ Cert.Kernel5Ideal.defs₀
  refine congrArg Defs.onTc (funext fun l => ?_)
  match l with
  | ⟨0, _⟩ =>
    refine funext fun a => ?_
    dsimp only
    rw [same_body5]
    rfl
  | ⟨_ + 1, h⟩ => exact absurd h (Nat.not_lt.2 (Nat.le_add_left _ _))

theorem same_defs5 : Cert.Kernel5.defs (F := Bits) = Cert.Kernel5Ideal.defs (F := Bits) := by
  unfold Cert.Kernel5.defs Cert.Kernel5Ideal.defs
  rw [same_table5]
  rfl

set_option backward.isDefEq.respectTransparency.types false in
theorem same_main5 : Cert.Kernel5.main (F := Bits) = Cert.Kernel5Ideal.main (F := Bits) := rfl

theorem frame_kernel5 : Cert.quiescent_Kernel5 (hKernel5 := Cert.Kernel5.Gen.facts) := by
  intro m ρ _
  rw [same_defs5, same_main5]
  exact (θ_run Cert.Kernel5Ideal.defs _ _).mono (fun _ h => h) (Cert.Kernel5Ideal.Gen.frame (F := Bits) m ρ)

theorem same_body6 : @Cert.Kernel6.cc0_ffn_layer Bits _ _ = @Cert.Kernel6Ideal.cc0_ffn_layer Bits _ _ := rfl

theorem same_table6 : Cert.Kernel6.defs₀ (F := Bits) = Cert.Kernel6Ideal.defs₀ (F := Bits) := by
  unfold Cert.Kernel6.defs₀ Cert.Kernel6Ideal.defs₀
  refine congrArg Defs.onTc (funext fun l => ?_)
  match l with
  | ⟨0, _⟩ =>
    refine funext fun a => ?_
    dsimp only
    rw [same_body6]
    rfl
  | ⟨_ + 1, h⟩ => exact absurd h (Nat.not_lt.2 (Nat.le_add_left _ _))

theorem same_defs6 : Cert.Kernel6.defs (F := Bits) = Cert.Kernel6Ideal.defs (F := Bits) := by
  unfold Cert.Kernel6.defs Cert.Kernel6Ideal.defs
  rw [same_table6]
  rfl

set_option backward.isDefEq.respectTransparency.types false in
theorem same_main6 : Cert.Kernel6.main (F := Bits) = Cert.Kernel6Ideal.main (F := Bits) := rfl

theorem frame_kernel6 : Cert.quiescent_Kernel6 (hKernel6 := Cert.Kernel6.Gen.facts) := by
  intro m ρ _
  rw [same_defs6, same_main6]
  exact (θ_run Cert.Kernel6Ideal.defs _ _).mono (fun _ h => h) (Cert.Kernel6Ideal.Hand.frame_run (F := Bits) m ρ)

end Cert.Frames
end
-- ==== Proof.AddLnSample.lean ====
/- The last sum with its layer norm, for the decoded tokens. -/
module

public import proofs.«01_k».proof.Defs
public import proofs.«01_k».proof.Proof.AddLn
public import proofs.«01_k».proof.Proof.Gen.Kernel5Ideal.Value
public import proofs.«01_k».proof.Proof.Gen.Reference5Ideal.Run
public import Idealize.ShloMosaic.Lib.Pointwise.Index
import Idealize.ShloMosaic.Lib.Pointwise
public import Idealize.ShloMosaic.Lib.Pipeline.ValueKit
import Idealize.ShloMosaic.Lib.Claim

@[expose] public section
set_option maxRecDepth 16384
noncomputable section

namespace Cert.Reference5Ideal.Hand
open Cert.Reference5Ideal Cert.Reference5Ideal.Gen
open Idealize.ShloMosaic Idealize.ShloMosaic.TcCoe Idealize.ShloMosaic.Tactic
open Cert.Rows

variable (x y : FVec Ideal S256x1024 .f32) (g b : FVec Ideal S1024 .f32)

/-- The weighted sum. -/
def summed : FVec Ideal S256x1024 .f32 := addf (mulf (broadcastInDim S256x1024 ![] bcast_S_S256x1024 (constant S_ .f32 0x3FB504F3#32)) x) y

/-- An array less its rows' means. -/
def centred (s : FVec Ideal S256x1024 .f32) : FVec Ideal S256x1024 .f32 := subf s (broadcastInDim S256x1024 ![0, 1] bcast_S256x1_S256x1024_0_1 (Host.divf (broadcastInDim S256x1 ![0] bcast_S256_S256x1_0 (Host.reduceAdd s (constant S_ .f32 0x00000000#32) reducesTo_S256x1024_S256_d1 h_S_)) (broadcastInDim S256x1 ![] bcast_S_S256x1 (constant S_ .f32 0x44800000#32))))

/-- The normed rows. -/
def normed (w : FVec Ideal S256x1024 .f32) : FVec Ideal S256x1024 .f32 := addf (mulf (mulf w (broadcastInDim S256x1024 ![0, 1] bcast_S256x1_S256x1024_0_1 (Host.rsqrt (addf (Host.divf (broadcastInDim S256x1 ![0] bcast_S256_S256x1_0 (Host.reduceAdd (mulf w w) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x3727C5AC#32)))))) (broadcastInDim S256x1024 ![0, 1] bcast_S1x1024_S256x1024_0_1 (broadcastInDim S1x1024 ![1] bcast_S1024_S1x1024_1 g))) (broadcastInDim S256x1024 ![0, 1] bcast_S1x1024_S256x1024_0_1 (broadcastInDim S1x1024 ![1] bcast_S1024_S1x1024_1 b))

theorem centred_at (s : FVec Ideal S256x1024 .f32) (n : Fin 256) (d : Fin 1024) :
    centred s (ix2 n d) = s (ix2 n d) - mean fun k => s (ix2 n k) := by
  unfold centred mean
  pointwise

theorem normed_at (n : Fin 256) (d : Fin 1024) :
    normed g b (centred (summed x y)) (ix2 n d) = lnorm (mix (fun k => x (ix2 n k)) fun k => y (ix2 n k)) (g (ix1 d)) (b (ix1 d)) d := by
  have h : ∀ k, summed x y (ix2 n k) = mix (fun k => x (ix2 n k)) (fun k => y (ix2 n k)) k := fun k => by
    unfold summed mix
    pointwise
  unfold normed lnorm
  pointwise
  simp only [centred_at, h]

/-- The reference's run, its result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = normed (m ((c.tc : Thread nD τ).loc main_arg2)) (m ((c.tc : Thread nD τ).loc main_arg3)) (centred (summed (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference5Ideal.Value.run m ρ

theorem frame_reference : Cert.quiescent_Reference5Ideal (hReference5Ideal := Cert.Reference5Ideal.Gen.facts) :=
  fun m g _ => (θ_run Cert.Reference5Ideal.defs _ _).mono (fun r h => ⟨fun c => (h c).2, sem_eq_zero_of_no_sems rfl r.2⟩)
    (Cert.Reference5Ideal.Value.run (F := Ideal) m g)
end Cert.Reference5Ideal.Hand

namespace Cert.Kernel5Ideal.Hand
open Cert.Kernel5Ideal Cert.Kernel5Ideal.Gen Cert.Kernel5Ideal.Value
open Idealize.ShloMosaic Idealize.ShloMosaic.TcCoe Idealize.ShloMosaic.Tactic
open Cert.Rows

/-- What a point stores, at an entry. -/
theorem pay_at (v0 v3 : S256x1024.Idx → EReal) (v5 v7 : S1x1024.Idx → EReal) (n : Fin 256) (d : Fin 1024) :
    k0_pay1 (F := Ideal) v0 v3 v5 v7 (ix2 n d) = lnorm (mix (fun k => v0 (ix2 n k)) fun k => v3 (ix2 n k)) (v5 (ix2 0 d)) (v7 (ix2 0 d)) d := by
  unfold k0_pay1 lnorm mean mix
  pointwise

variable (m : (ℓ : Loc nD τ sig) → Buf (Elt Ideal) ℓ) (c : Dev nD)

theorem blk0_at (t : Fin cfg0.N) (n : Fin 256) (d : Fin 1024) (h : 256 * t.val + n.val < 256) :
    (iblk m c 0 t : S256x1024.Idx → EReal) (ix2 n d) = m ((c.tc : Thread nD τ).loc main_arg0) (ix2 ⟨256 * t.val + n.val, h⟩ d) := by
  have e : (cfg0.win 0).index t = ![t.val, 0] := (by decide +kernel : ∀ t : Fin grid0.N, win0_0.index t = ![t.val, 0]) t
  have hi : ((cfg0.win 0).blk t).view.emb (ix2 n d) = (ix2 ⟨256 * t.val + n.val, h⟩ d : S256x1024.Idx) := by blk_ext [e]
  exact (congrArg (V m c main_arg0) hi).trans (congrFun (V_main_arg0 m c) _)
theorem blk1_at (t : Fin cfg0.N) (n : Fin 256) (d : Fin 1024) (h : 256 * t.val + n.val < 256) :
    (iblk m c 1 t : S256x1024.Idx → EReal) (ix2 n d) = m ((c.tc : Thread nD τ).loc main_arg1) (ix2 ⟨256 * t.val + n.val, h⟩ d) := by
  have e : (cfg0.win 1).index t = ![t.val, 0] := (by decide +kernel : ∀ t : Fin grid0.N, win0_1.index t = ![t.val, 0]) t
  have hi : ((cfg0.win 1).blk t).view.emb (ix2 n d) = (ix2 ⟨256 * t.val + n.val, h⟩ d : S256x1024.Idx) := by blk_ext [e]
  exact (congrArg (V m c main_arg1) hi).trans (congrFun (V_main_arg1 m c) _)
theorem blk2_at (t : Fin cfg0.N) (d : Fin 1024) :
    (iblk m c 2 t : S1x1024.Idx → EReal) (ix2 0 d) = m ((c.tc : Thread nD τ).loc main_arg2) (ix1 d) := by
  have e : (cfg0.win 2).index t = ![0, 0] := (by decide +kernel : ∀ t : Fin grid0.N, win0_2.index t = ![0, 0]) t
  have hi : ((cfg0.win 2).blk t).view.emb (ix2 0 d) = (ix2 0 d : S1x1024.Idx) := by blk_ext [e]
  have hv : V m c main_v0 = shapeCast S1x1024 (m ((c.tc : Thread nD τ).loc main_arg2)) shapeCasts_S1024_S1x1024 := by entry_read; rfl
  refine (congrArg (V m c main_v0) hi).trans ((congrFun hv _).trans ?_)
  pointwise
theorem blk3_at (t : Fin cfg0.N) (d : Fin 1024) :
    (iblk m c 3 t : S1x1024.Idx → EReal) (ix2 0 d) = m ((c.tc : Thread nD τ).loc main_arg3) (ix1 d) := by
  have e : (cfg0.win 3).index t = ![0, 0] := (by decide +kernel : ∀ t : Fin grid0.N, win0_3.index t = ![0, 0]) t
  have hi : ((cfg0.win 3).blk t).view.emb (ix2 0 d) = (ix2 0 d : S1x1024.Idx) := by blk_ext [e]
  have hv : V m c main_v1 = shapeCast S1x1024 (m ((c.tc : Thread nD τ).loc main_arg3)) shapeCasts_S1024_S1x1024 := by entry_read; rfl
  refine (congrArg (V m c main_v1) hi).trans ((congrFun hv _).trans ?_)
  pointwise

/-- The call's output is the reference's, of the same arguments. -/
theorem out : (dats m 0 c).arrAt 4 cfg0.N = Cert.Reference5Ideal.Hand.normed (m ((c.tc : Thread nD τ).loc main_arg2)) (m ((c.tc : Thread nD τ).loc main_arg3)) (Cert.Reference5Ideal.Hand.centred (Cert.Reference5Ideal.Hand.summed (m ((c.tc : Thread nD τ).loc main_arg0)) (m ((c.tc : Thread nD τ).loc main_arg1)))) := by
  refine (dats m 0 c).arrAt_eq_of_covers 4 _ (by decide +kernel) fun t hf y => ?_
  have e : (cfg0.win 4).index t = ![t.val, 0] := (by decide +kernel : ∀ t : Fin grid0.N, win0_4.index t = ![t.val, 0]) t
  have ht : t.val < 1 := t.isLt
  obtain ⟨n, d, rfl⟩ : ∃ (n : Fin 256) (d : Fin 1024), y = ix2 n d := ⟨y 0, y 1, by funext a; fin_cases a <;> rfl⟩
  have hn : 256 * t.val + n.val < 256 := by omega
  have hi : ((cfg0.win 4).blk t).view.emb (ix2 n d) = (ix2 ⟨256 * t.val + n.val, hn⟩ d : S256x1024.Idx) := by blk_ext [e]
  refine Eq.trans ?_ (congrArg (Cert.Reference5Ideal.Hand.normed _ _ _) hi).symm
  rw [Cert.Reference5Ideal.Hand.normed_at]
  blk_simp
  rw [after0_4]
  frame_out
  refine (pay_at _ _ _ _ n d).trans ?_
  simp only [blk0_at m c t _ _ hn, blk1_at m c t _ _ hn, blk2_at, blk3_at, show t.val = 0 by omega]

theorem frame_ideal : Cert.quiescent_Kernel5Ideal (hKernel5Ideal := Cert.Kernel5Ideal.Gen.facts) :=
  fun m g _ => Cert.Kernel5Ideal.Gen.frame m g

/-- The kernel's output is the reference's. -/
theorem algebraic : Cert.algebraic_Kernel5Ideal_Reference5Ideal (hKernel5Ideal := Cert.Kernel5Ideal.Gen.facts) (hReference5Ideal := Cert.Reference5Ideal.Gen.facts) := by
  intro m ρ m' ρ' _ hm
  refine ⟨_, (θ_run defs _ _).mono (fun r h c => ⟨(h c).1.trans (out m c), (h c).2⟩) (run_blocks m ρ),
    (θ_run Cert.Reference5Ideal.defs _ _).mono (fun r h c => ⟨?_, (h c).2⟩) (Cert.Reference5Ideal.Hand.ref_run m' ρ')⟩
  have hc := (h c).1
  rw [(hm c).1, (hm c).2.1, (hm c).2.2.1, (hm c).2.2.2] at hc
  exact hc
end Cert.Kernel5Ideal.Hand
end
-- ==== Proof.FfVal.lean ====
/- The dense feed-forward on the extended reals: a row of the output is the layer norm of the weighted row plus the sum of the two
   halves of its gated product. -/
module

public import proofs.«01_k».proof.Proof.FfRun
public import proofs.«01_k».proof.Proof.AddLn
public import Idealize.ShloMosaic.Lib.Pipeline.ValueKit.Geometry
public import Idealize.ShloMosaic.Lib.Pipeline.ValueKit
public import Idealize.ShloMosaic.Lib.Pipeline.ArrRel
import Idealize.ShloMosaic.Lib.Pointwise

@[expose] public section
set_option maxRecDepth 16384
noncomputable section
namespace Cert.Kernel6Ideal.Hand
open Cert.Kernel6Ideal Cert.Kernel6Ideal.Gen
open Idealize.ShloMosaic Idealize.ShloMosaic.TcCoe Idealize.ShloMosaic.Tactic
open Idealize.ShloMosaic.Pipeline
open Cert.Rows
open Cert.KernelIdeal.Hand (itf itf_inv put_in put_out window_at)

/-- A row through half of the hidden columns: `(silu (x a) * (x u)) o` over 1408 of them. -/
def part (x : Fin 1024 → EReal) (a u : Fin 1024 → Fin 1408 → EReal) (o : Fin 1408 → EReal) : EReal :=
  ∑ f, ((∑ k, x k * a k f) * Ideal.div 1 (1 + Ideal.exp (0 - ∑ k, x k * a k f)) * ∑ k, x k * u k f) * o f

theorem pay1_at (x : S1024x1024.Idx → EReal) (n d : Fin 1024) : k0_pay1 (F := Ideal) x (ix2 n d) = x (ix2 n d) := by
  unfold k0_pay1
  pointwise

section
variable (x : S256x1024.Idx → EReal) (a u : S1024x1408.Idx → EReal) (o : S1408x1024.Idx → EReal)
theorem pay3_at (r : Fin 256) (d : Fin 1024) : k0_pay3 (F := Ideal) x a u o (ix2 r d)
    = part (fun k => x (ix2 r k)) (fun k f => a (ix2 k f)) (fun k f => u (ix2 k f)) (fun f => o (ix2 f d)) := by
  unfold k0_pay3 k0_pay2 part
  pointwise
theorem pay4_at (z : S256x1024.Idx → EReal) (r : Fin 256) (d : Fin 1024) : k0_pay4 (F := Ideal) x a u o z (ix2 r d)
    = z (ix2 r d) + part (fun k => x (ix2 r k)) (fun k f => a (ix2 k f)) (fun k f => u (ix2 k f)) (fun f => o (ix2 f d)) := by
  unfold k0_pay4 k0_pay2 part
  pointwise
end

theorem pay5_at (x s : S1024x1024.Idx → EReal) (g b : S1x1024.Idx → EReal) (n d : Fin 1024) :
    k0_pay5 (F := Ideal) x s g b (ix2 n d) = lnorm (mix (fun k => x (ix2 n k)) fun k => s (ix2 n k)) (g (ix2 0 d)) (b (ix2 0 d)) d := by
  unfold k0_pay5 lnorm mean mix
  pointwise

theorem cond3_iff (i : grid0.Coords) : k0_cond3 i = 1#1 ↔ ¬ (i 1).val = 0 := by
  have h : ∀ b : Fin 2, Scalar.cmpi .ne (Scalar.extui (Scalar.cmpi .sgt (BitVec.ofNat 32 b.val) 0#32)) 0#32 = 1#1 ↔ ¬ b.val = 0 := by decide
  exact h (i 1)

/-- An array read whole is itself. -/
theorem whole2_at {a b : ℕ} {α : Type} (w : (⟨2, ![a, b]⟩ : Shape).Idx → α) (inb : ∀ x, (![0, 0] : Fin 2 → ℕ) x + (⟨2, ![a, b]⟩ : Shape).size x ≤ (⟨2, ![a, b]⟩ : Shape).size x)
    (y : (⟨2, ![a, b]⟩ : Shape).Idx) : VecWindow.window (s := ⟨2, ![a, b]⟩) w ![0, 0] (⟨2, ![a, b]⟩ : Shape).size inb y = w y := by
  refine congrArg w (funext fun q => Fin.ext ?_)
  match q with
  | ⟨0, _⟩ => show 0 + 1 * (y 0).val = (y 0).val; omega
  | ⟨1, _⟩ => show 0 + 1 * (y 1).val = (y 1).val; omega

/-- A row of 256 read through their window. -/
theorem window_row (x : S1024x1024.Idx → EReal) {off : Fin 2 → ℕ} {o : ℕ} (ho : off = ![o, 0]) (inb : ∀ q, off q + S256x1024.size q ≤ S1024x1024.size q) (ρ d : Fin 1024)
    (h1 : o ≤ ρ.val) (h2 : ρ.val < o + 256) : VecWindow.window x off S256x1024.size inb (ix2 (⟨ρ.val - o, by omega⟩ : Fin 256) d) = x (ix2 ρ d) := by
  have hρ := ρ.isLt
  refine (window_at (A := 1024) (B := 1024) (a := 256) (b := 1024) x ho inb ⟨ρ.val - o, by omega⟩ d (by show o + (ρ.val - o) < 1024; omega) (by have := d.isLt; omega)).trans ?_
  refine congrArg x (congrArg₂ ix2 (Fin.ext ?_) (Fin.ext ?_))
  · show o + (ρ.val - o) = ρ.val; omega
  · show 0 + d.val = d.val; omega

/-- The part of row `ρ`, at column `d`. -/
def rowPart (wa wu : S1024x1408.Idx → EReal) (wo : S1408x1024.Idx → EReal) (xb : S1024x1024.Idx → EReal) (ρ d : Fin 1024) : EReal :=
  part (fun k => xb (ix2 ρ k)) (fun k f => wa (ix2 k f)) (fun k f => wu (ix2 k f)) (fun f => wo (ix2 f d))

section
variable (i : grid0.Coords) (wa wu : S1024x1408.Idx → EReal) (wo : S1408x1024.Idx → EReal) (xb : S1024x1024.Idx → EReal)

theorem fstep_row (t : Fin k0_t1_loop.trips) (acc : S1024x1024.Idx → EReal) (ρ d : Fin 1024) :
    fstep (F := Ideal) i wa wu wo xb t acc (ix2 ρ d)
      = if 256 * t.val ≤ ρ.val ∧ ρ.val < 256 * t.val + 256 then (if (i 1).val = 0 then 0 else acc (ix2 ρ d)) + rowPart wa wu wo xb ρ d else acc (ix2 ρ d) := by
  unfold fstep
  by_cases hr : 256 * t.val ≤ ρ.val ∧ ρ.val < 256 * t.val + 256
  · rw [if_pos hr]
    have hx : ∀ d, VecWindow.window xb (k0_off1 t) S256x1024.size (k0_off1_inb t) (ix2 (⟨ρ.val - 256 * t.val, by omega⟩ : Fin 256) d) = xb (ix2 ρ d) := fun d =>
      window_row xb (k0_off1_eq t) (k0_off1_inb t) ρ d hr.1 hr.2
    by_cases h0 : (i 1).val = 0
    · have h3 : ¬ k0_cond3 i = 1#1 := fun h => (cond3_iff i).1 h h0
      simp only [dif_neg h3]
      rw [if_pos h0, zero_add]
      refine (put_in (A := 1024) (B := 1024) (a := 256) acc (k0_off2_eq t) _ ρ d hr.1 hr.2).trans ?_
      exact (pay3_at _ _ _ _ _ _).trans (congr (congr (congr (congrArg part (funext hx)) (funext fun k => funext fun f => whole2_at wa _ _)) (funext fun k => funext fun f => whole2_at wu _ _)) (funext fun f => whole2_at wo _ _))
    · have h3 := (cond3_iff i).2 h0
      simp only [dif_pos h3]
      rw [if_neg h0]
      refine (put_in (A := 1024) (B := 1024) (a := 256) acc (k0_off3_eq t) _ ρ d hr.1 hr.2).trans ?_
      exact (pay4_at _ _ _ _ _ _ _).trans (congrArg₂ (· + ·) (window_row acc (k0_off3_eq t) (k0_off3_inb i t h3) ρ d hr.1 hr.2)
        (congr (congr (congr (congrArg part (funext hx)) (funext fun k => funext fun f => whole2_at wa _ _)) (funext fun k => funext fun f => whole2_at wu _ _)) (funext fun f => whole2_at wo _ _)))
  · rw [if_neg hr]
    by_cases h3 : k0_cond3 i = 1#1
    · simp only [dif_pos h3]
      exact put_out (A := 1024) (B := 1024) (a := 256) acc (k0_off3_eq t) _ ρ d (by omega)
    · simp only [dif_neg h3]
      exact put_out (A := 1024) (B := 1024) (a := 256) acc (k0_off2_eq t) _ ρ d (by omega)

theorem trips_eq : k0_t1_loop.trips = 4 := by decide

/-- A row of the sum after a point. -/
theorem acc_row (acc : S1024x1024.Idx → EReal) (ρ d : Fin 1024) :
    accOf (F := Ideal) i wa wu wo xb acc (ix2 ρ d) = (if (i 1).val = 0 then 0 else acc (ix2 ρ d)) + rowPart wa wu wo xb ρ d := by
  have hρ := ρ.isLt
  have h4 := trips_eq
  have h := itf_inv k0_t1_loop.trips (fstep (F := Ideal) i wa wu wo xb) acc
    (fun t z => z (ix2 ρ d) = if ρ.val < 256 * t then (if (i 1).val = 0 then 0 else acc (ix2 ρ d)) + rowPart wa wu wo xb ρ d else acc (ix2 ρ d))
    (by rw [if_neg (show ¬ ρ.val < 256 * 0 by omega)])
    (fun t z hz => by
      rw [fstep_row i wa wu wo xb t z ρ d, hz]
      by_cases h1 : ρ.val < 256 * t.val
      · rw [if_neg (fun h => by omega), if_pos h1, if_pos (show ρ.val < 256 * (t.val + 1) by omega)]
      · by_cases h2 : ρ.val < 256 * t.val + 256
        · rw [if_pos ⟨by omega, h2⟩, if_neg h1, if_pos (show ρ.val < 256 * (t.val + 1) by omega)]
        · rw [if_neg (fun h => h2 h.2), if_neg h1, if_neg (show ¬ ρ.val < 256 * (t.val + 1) by omega)]) k0_t1_loop.trips le_rfl
  unfold accOf
  rw [h, if_pos (show ρ.val < 256 * k0_t1_loop.trips by omega)]

theorem xb_first (h0 : (i 1).val = 0) (x : S1024x1024.Idx → EReal) (n d : Fin 1024) : xbOf (F := Ideal) i x xb (ix2 n d) = x (ix2 n d) := by
  have h3 : ¬ k0_cond3 i = 1#1 := fun h => (cond3_iff i).1 h h0
  unfold xbOf
  rw [if_neg h3]
  exact (pay1_at _ _ _).trans (whole2_at x _ _)

theorem xb_second (h0 : ¬ (i 1).val = 0) (x : S1024x1024.Idx → EReal) : xbOf (F := Ideal) i x xb = xb := if_pos ((cond3_iff i).2 h0)

theorem y_second (h0 : ¬ (i 1).val = 0) (x s : S1024x1024.Idx → EReal) (g b : S1x1024.Idx → EReal) (y : S1024x1024.Idx → EReal) (n d : Fin 1024) :
    yOf (F := Ideal) i x s g b y (ix2 n d) = lnorm (mix (fun k => x (ix2 n k)) fun k => s (ix2 n k)) (g (ix2 0 d)) (b (ix2 0 d)) d := by
  unfold yOf
  rw [if_pos ((cond3_iff i).2 h0)]
  exact (pay5_at _ _ _ _ _ _).trans (congrFun (congr (congr (congrArg lnorm (congrArg₂ mix (funext fun k => whole2_at x _ _) (funext fun k => whole2_at s _ _)))
    (whole2_at g _ _)) (whole2_at b _ _)) d)
end

section Value
variable (x : S32768x1024.Idx → EReal) (wi : S1024x5632.Idx → EReal) (wo : S2816x1024.Idx → EReal) (g b : S1024.Idx → EReal)

/-- Half `q` of the gated product of row `n`, at column `d`. -/
def half (q : Fin 2) (n : Fin 32768) (d : Fin 1024) : EReal :=
  part (fun k => x (ix2 n k)) (fun k f => wi (ix2 k ⟨1408 * q.val + f.val, by omega⟩)) (fun k f => wi (ix2 k ⟨2816 + 1408 * q.val + f.val, by omega⟩))
    (fun f => wo (ix2 ⟨1408 * q.val + f.val, by omega⟩ d))

/-- The normed rows. -/
def ffOut : S32768x1024.Idx → EReal := fun j =>
  lnorm (mix (fun k => x (ix2 (j 0) k)) fun k => half x wi wo 0 (j 0) k + half x wi wo 1 (j 0) k) (g (ix1 (j 1))) (b (ix1 (j 1))) (j 1)
end Value

variable (m : (ℓ : Loc nD τ sig) → Buf (Elt Ideal) ℓ) (c : Dev nD) (t : Fin cfg0.N)

/-- The arguments. -/
abbrev ax : S32768x1024.Idx → EReal := m ((c.tc : Thread nD τ).loc main_arg0)
abbrev ai : S1024x5632.Idx → EReal := m ((c.tc : Thread nD τ).loc main_arg1)
abbrev ao : S2816x1024.Idx → EReal := m ((c.tc : Thread nD τ).loc main_arg2)
abbrev ag : S1024.Idx → EReal := m ((c.tc : Thread nD τ).loc main_arg3)
abbrev ab : S1024.Idx → EReal := m ((c.tc : Thread nD τ).loc main_arg4)

theorem coords_at : ∀ t : Fin grid0.N, (grid0.coords t 0).val = t.val / 2 ∧ (grid0.coords t 1).val = t.val % 2 := by decide +kernel

theorem blk0_at (n d : Fin 1024) (h : 1024 * (t.val / 2) + n.val < 32768) :
    (iblk m c 0 t : S1024x1024.Idx → EReal) (ix2 n d) = ax m c (ix2 ⟨1024 * (t.val / 2) + n.val, h⟩ d) := by
  have e : (cfg0.win 0).index t = ![t.val / 2, 0] := (by decide +kernel : ∀ t : Fin grid0.N, win0_0.index t = ![t.val / 2, 0]) t
  refine ((cfg0.win 0).fill_xinj (cfg0.grid.coords t) _ _ (ix2 n d)).trans ?_
  have hi : ((cfg0.win 0).blk t).view.emb (ix2 n d) = (ix2 ⟨1024 * (t.val / 2) + n.val, h⟩ d : S32768x1024.Idx) := by blk_ext [e]
  exact (congrArg (V m c main_arg0) hi).trans (congrFun (V_arg0 m c) _)
theorem blk1_at (k : Fin 1024) (f : Fin 1408) (h : 1408 * (t.val % 2) + f.val < 5632) :
    (iblk m c 1 t : S1024x1408.Idx → EReal) (ix2 k f) = ai m c (ix2 k ⟨1408 * (t.val % 2) + f.val, h⟩) := by
  have e : (cfg0.win 1).index t = ![0, t.val % 2] := (by decide +kernel : ∀ t : Fin grid0.N, win0_1.index t = ![0, t.val % 2]) t
  refine ((cfg0.win 1).fill_xinj (cfg0.grid.coords t) _ _ (ix2 k f)).trans ?_
  have hi : ((cfg0.win 1).blk t).view.emb (ix2 k f) = (ix2 k ⟨1408 * (t.val % 2) + f.val, h⟩ : S1024x5632.Idx) := by blk_ext [e]
  exact (congrArg (V m c main_v0) hi).trans (congrFun (V_v0 m c) _)
theorem blk2_at (k : Fin 1024) (f : Fin 1408) (h : 2816 + 1408 * (t.val % 2) + f.val < 5632) :
    (iblk m c 2 t : S1024x1408.Idx → EReal) (ix2 k f) = ai m c (ix2 k ⟨2816 + 1408 * (t.val % 2) + f.val, h⟩) := by
  have e : (cfg0.win 2).index t = ![0, 2 + t.val % 2] := (by decide +kernel : ∀ t : Fin grid0.N, win0_2.index t = ![0, 2 + t.val % 2]) t
  refine ((cfg0.win 2).fill_xinj (cfg0.grid.coords t) _ _ (ix2 k f)).trans ?_
  have hi : ((cfg0.win 2).blk t).view.emb (ix2 k f) = (ix2 k ⟨2816 + 1408 * (t.val % 2) + f.val, h⟩ : S1024x5632.Idx) := by blk_ext [e]
  exact (congrArg (V m c main_v0) hi).trans (congrFun (V_v0 m c) _)
theorem blk3_at (f : Fin 1408) (d : Fin 1024) (h : 1408 * (t.val % 2) + f.val < 2816) :
    (iblk m c 3 t : S1408x1024.Idx → EReal) (ix2 f d) = ao m c (ix2 ⟨1408 * (t.val % 2) + f.val, h⟩ d) := by
  have e : (cfg0.win 3).index t = ![t.val % 2, 0] := (by decide +kernel : ∀ t : Fin grid0.N, win0_3.index t = ![t.val % 2, 0]) t
  refine ((cfg0.win 3).fill_xinj (cfg0.grid.coords t) _ _ (ix2 f d)).trans ?_
  have hi : ((cfg0.win 3).blk t).view.emb (ix2 f d) = (ix2 ⟨1408 * (t.val % 2) + f.val, h⟩ d : S2816x1024.Idx) := by blk_ext [e]
  exact (congrArg (V m c main_v1) hi).trans (congrFun (V_v1 m c) _)
theorem blk4_at (d : Fin 1024) : (iblk m c 4 t : S1x1024.Idx → EReal) (ix2 0 d) = ag m c (ix1 d) := by
  have e : (cfg0.win 4).index t = ![0, 0] := (by decide +kernel : ∀ t : Fin grid0.N, win0_4.index t = ![0, 0]) t
  refine ((cfg0.win 4).fill_xinj (cfg0.grid.coords t) _ _ (ix2 0 d)).trans ?_
  have hi : ((cfg0.win 4).blk t).view.emb (ix2 0 d) = (ix2 0 d : S1x1024.Idx) := by blk_ext [e]
  refine (congrArg (V m c main_v2) hi).trans ((congrFun (V_v2 m c) _).trans ?_)
  pointwise
theorem blk5_at (d : Fin 1024) : (iblk m c 5 t : S1x1024.Idx → EReal) (ix2 0 d) = ab m c (ix1 d) := by
  have e : (cfg0.win 5).index t = ![0, 0] := (by decide +kernel : ∀ t : Fin grid0.N, win0_5.index t = ![0, 0]) t
  refine ((cfg0.win 5).fill_xinj (cfg0.grid.coords t) _ _ (ix2 0 d)).trans ?_
  have hi : ((cfg0.win 5).blk t).view.emb (ix2 0 d) = (ix2 0 d : S1x1024.Idx) := by blk_ext [e]
  refine (congrArg (V m c main_v3) hi).trans ((congrFun (V_v3 m c) _).trans ?_)
  pointwise

theorem flush_at : ∀ t : Fin grid0.N, win0_6.flush t = true → t.val % 2 = 1 := by decide +kernel

/-- A point's part of a row is the half of the gated product that the point's columns make. -/
theorem rowPart_at (q : Fin 2) (hq : t.val % 2 = q.val) (xb : S1024x1024.Idx → EReal) (ρ d : Fin 1024) (h : 1024 * (t.val / 2) + ρ.val < 32768)
    (hx : ∀ k, xb (ix2 ρ k) = ax m c (ix2 ⟨1024 * (t.val / 2) + ρ.val, h⟩ k)) :
    rowPart (iblk m c 1 t) (iblk m c 2 t) (iblk m c 3 t) xb ρ d = half (ax m c) (ai m c) (ao m c) q ⟨1024 * (t.val / 2) + ρ.val, h⟩ d := by
  have hq2 := q.isLt
  unfold rowPart half
  refine congr (congr (congr (congrArg part ?_) ?_) ?_) ?_
  · funext k; exact hx k
  · funext k f
    have hf := f.isLt
    refine (blk1_at m c t k f (by omega)).trans (congrArg (ai m c) (congrArg (ix2 k) (Fin.ext ?_)))
    show 1408 * (t.val % 2) + f.val = 1408 * q.val + f.val
    rw [hq]
  · funext k f
    have hf := f.isLt
    refine (blk2_at m c t k f (by omega)).trans (congrArg (ai m c) (congrArg (ix2 k) (Fin.ext ?_)))
    show 2816 + 1408 * (t.val % 2) + f.val = 2816 + 1408 * q.val + f.val
    rw [hq]
  · funext f
    have hf := f.isLt
    refine (blk3_at m c t f d (by omega)).trans (congrArg (ao m c) (congrArg (ix2 · d) (Fin.ext ?_)))
    show 1408 * (t.val % 2) + f.val = 1408 * q.val + f.val
    rw [hq]

/-- After a second half the sum holds both halves. -/
theorem summed_at (ht : t.val % 2 = 1) {xb acc : S1024x1024.Idx → EReal} (hR : Reach m c (t.val + 1) xb acc) (ρ d : Fin 1024) (h : 1024 * (t.val / 2) + ρ.val < 32768) :
    acc (ix2 ρ d) = half (ax m c) (ai m c) (ao m c) 0 ⟨1024 * (t.val / 2) + ρ.val, h⟩ d + half (ax m c) (ai m c) (ao m c) 1 ⟨1024 * (t.val / 2) + ρ.val, h⟩ d := by
  have htl : t.val < 64 := t.isLt
  have hs : t.val - 1 < grid0.N := by show t.val - 1 < 64; omega
  obtain ⟨s, hse⟩ : ∃ s : Fin cfg0.N, t.val = s.val + 1 := ⟨⟨t.val - 1, hs⟩, by show t.val = t.val - 1 + 1; omega⟩
  obtain ⟨a0, a1⟩ := coords_at t
  obtain ⟨b0, b1⟩ := coords_at s
  have t1 : ¬ (grid0.coords t 1).val = 0 := by omega
  have s1 : (grid0.coords s 1).val = 0 := by omega
  unfold Reach at hR
  obtain ⟨_, xb1, acc1, hR1, rfl, rfl⟩ := hR
  rw [hse] at hR1
  unfold Reach at hR1
  obtain ⟨_, xb0, acc0, _, rfl, rfl⟩ := hR1
  have hd : s.val / 2 = t.val / 2 := by omega
  have h' : 1024 * (s.val / 2) + ρ.val < 32768 := by omega
  have ex : xbAt m c t (xbAt m c s xb0) = xbAt m c s xb0 := xb_second _ _ t1 _
  have hx : ∀ k, xbAt m c s xb0 (ix2 ρ k) = ax m c (ix2 ⟨1024 * (s.val / 2) + ρ.val, h'⟩ k) := fun k =>
    (xb_first _ xb0 s1 _ ρ k).trans (blk0_at m c s ρ k h')
  have hn : (⟨1024 * (s.val / 2) + ρ.val, h'⟩ : Fin 32768) = ⟨1024 * (t.val / 2) + ρ.val, h⟩ := Fin.ext (by show 1024 * (s.val / 2) + ρ.val = 1024 * (t.val / 2) + ρ.val; rw [hd])
  have hx' : ∀ k, xbAt m c s xb0 (ix2 ρ k) = ax m c (ix2 ⟨1024 * (t.val / 2) + ρ.val, h⟩ k) := fun k => by rw [hx k, hn]
  show accAt m c t (xbAt m c t (xbAt m c s xb0)) (accAt m c s (xbAt m c s xb0) acc0) (ix2 ρ d) = _
  rw [ex]
  refine (acc_row _ _ _ _ _ _ ρ d).trans ?_
  rw [if_neg t1, rowPart_at m c t 1 ht _ ρ d h hx']
  refine congrArg (· + _) ((acc_row _ _ _ _ _ _ ρ d).trans ?_)
  rw [if_pos s1, zero_add, rowPart_at m c s 0 (by show s.val % 2 = 0; omega) _ ρ d h' hx, hn]

/-- What a second half leaves in the output's block. -/
theorem left (ht : t.val % 2 = 1) (X : S1024x1024.Idx → EReal) (hX : (rdat m c).Leaves 6 t X) (n d : Fin 1024) (h : 1024 * (t.val / 2) + n.val < 32768) :
    X (ix2 n d) = ffOut (ax m c) (ai m c) (ao m c) (ag m c) (ab m c) (ix2 ⟨1024 * (t.val / 2) + n.val, h⟩ d) := by
  obtain ⟨Y, _, xb, acc, hR, rfl⟩ := hX
  obtain ⟨a0, a1⟩ := coords_at t
  have t1 : ¬ (grid0.coords t 1).val = 0 := by omega
  refine (y_second _ t1 _ _ _ _ _ n d).trans ?_
  rw [blk4_at, blk5_at]
  simp only [blk0_at m c t _ _ h, summed_at m c t ht hR _ _ h]
  rfl

theorem post_out (r : PUnit × MemSt nD τ sig (Elt Ideal)) (h : RDat.FramePost cfg0 (rdat m) (V m) r) (c : Dev nD) :
    r.2.mem ((c.tc : Thread nD τ).loc main_v4) = ffOut (ax m c) (ai m c) (ao m c) (ag m c) (ab m c) := by
  obtain ⟨after, hL, hA⟩ := RDat.FramePost.exists_exact h c
  refine (hA 6).trans ?_
  refine ((rdat m c).withAfter after).arrAt_eq_of_covers 6 _ (by decide +kernel) fun t hf y => ?_
  have ht : t.val % 2 = 1 := flush_at t hf
  have htl : t.val < 64 := t.isLt
  have e : (cfg0.win 6).index t = ![t.val / 2, 0] := (by decide +kernel : ∀ t : Fin grid0.N, win0_6.index t = ![t.val / 2, 0]) t
  obtain ⟨n, d, rfl⟩ : ∃ n d : Fin 1024, y = ix2 n d := ⟨y 0, y 1, by funext a; fin_cases a <;> rfl⟩
  have hn : 1024 * (t.val / 2) + n.val < 32768 := by have := n.isLt; omega
  have hi : ((cfg0.win 6).blk t).view.emb (ix2 n d) = (ix2 ⟨1024 * (t.val / 2) + n.val, hn⟩ d : S32768x1024.Idx) := by blk_ext [e]
  refine Eq.trans ?_ (congrArg (ffOut _ _ _ _ _) hi).symm
  exact left m c t ht (after 6 t) (hL 6 t hf) n d hn

end Cert.Kernel6Ideal.Hand
end
-- ==== Proof.FfRef.lean ====
/- The dense feed-forward's reference, and that the kernel agrees with it. -/
module

public import proofs.«01_k».proof.Defs
public import proofs.«01_k».proof.Proof.FfVal
public import proofs.«01_k».proof.Proof.Gen.Reference6Ideal.Run
public import Idealize.ShloMosaic.Lib.Pointwise.Index
import Idealize.ShloMosaic.Lib.Pointwise
import Idealize.ShloMosaic.Lib.Claim

@[expose] public section
set_option maxRecDepth 16384
noncomputable section

namespace Cert.Reference6Ideal.Hand
open Cert.Reference6Ideal Cert.Reference6Ideal.Gen
open Idealize.ShloMosaic Idealize.ShloMosaic.TcCoe Idealize.ShloMosaic.Tactic
open Cert.Rows

section
variable (x y : FVec Ideal S32768x1024 .f32) (g b : FVec Ideal S1024 .f32)

/-- The weighted sum. -/
def summed : FVec Ideal S32768x1024 .f32 := addf (mulf (broadcastInDim S32768x1024 ![] bcast_S_S32768x1024 (constant S_ .f32 0x3FB504F3#32)) x) y

/-- An array less its rows' means. -/
def centred (s : FVec Ideal S32768x1024 .f32) : FVec Ideal S32768x1024 .f32 := subf s (broadcastInDim S32768x1024 ![0, 1] bcast_S32768x1_S32768x1024_0_1 (Host.divf (broadcastInDim S32768x1 ![0] bcast_S32768_S32768x1_0 (Host.reduceAdd s (constant S_ .f32 0x00000000#32) reducesTo_S32768x1024_S32768_d1 h_S_)) (broadcastInDim S32768x1 ![] bcast_S_S32768x1 (constant S_ .f32 0x44800000#32))))

/-- The normed rows. -/
def normed (w : FVec Ideal S32768x1024 .f32) : FVec Ideal S32768x1024 .f32 := addf (mulf (mulf w (broadcastInDim S32768x1024 ![0, 1] bcast_S32768x1_S32768x1024_0_1 (Host.rsqrt (addf (Host.divf (broadcastInDim S32768x1 ![0] bcast_S32768_S32768x1_0 (Host.reduceAdd (mulf w w) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 g))) (broadcastInDim S32768x1024 ![0, 1] bcast_S1x1024_S32768x1024_0_1 (broadcastInDim S1x1024 ![1] bcast_S1024_S1x1024_1 b))

theorem centred_at (s : FVec Ideal S32768x1024 .f32) (n : Fin 32768) (d : Fin 1024) :
    centred s (ix2 n d) = s (ix2 n d) - mean fun k => s (ix2 n k) := by
  unfold centred mean
  pointwise

theorem normed_at (n : Fin 32768) (d : Fin 1024) :
    normed g b (centred (summed x y)) (ix2 n d) = lnorm (mix (fun k => x (ix2 n k)) fun k => y (ix2 n k)) (g (ix1 d)) (b (ix1 d)) d := by
  have h : ∀ k, summed x y (ix2 n k) = mix (fun k => x (ix2 n k)) (fun k => y (ix2 n k)) k := fun k => by
    unfold summed mix
    pointwise
  unfold normed lnorm
  pointwise
  simp only [centred_at, h]

end

section
variable (x : FVec Ideal S32768x1024 .f32) (wi : FVec Ideal S1024x5632 .f32) (wo : FVec Ideal S2816x1024 .f32)

/-- The hidden columns, both groups. -/
def hidden : FVec Ideal S32768x5632 .f32 := Host.dotGeneral (φ₁ := .f32) (φ₂ := .f32) dot_S32768x1024_S1024x5632_S32768x5632_1_0_0_1_n_n none x wi

/-- The group that is gated, and the group that is not. -/
def left (z : FVec Ideal S32768x5632 .f32) : FVec Ideal S32768x2816 .f32 := extractStridedSlice S32768x2816 ![0, 0] z slices_S32768x5632_S32768x2816_0_0
def right (z : FVec Ideal S32768x5632 .f32) : FVec Ideal S32768x2816 .f32 := extractStridedSlice S32768x2816 ![0, 2816] z slices_S32768x5632_S32768x2816_0_2816

/-- The gated columns. -/
def gated (a u : FVec Ideal S32768x2816 .f32) : FVec Ideal S32768x2816 .f32 :=
  mulf (mulf a (Host.divf (broadcastInDim S32768x2816 ![] bcast_S_S32768x2816 (constant S_ .f32 0x3F800000#32)) (addf (broadcastInDim S32768x2816 ![] bcast_S_S32768x2816 (constant S_ .f32 0x3F800000#32)) (Host.exp (Host.negf a))))) u

/-- The product with the second weights. -/
def lower (h : FVec Ideal S32768x2816 .f32) : FVec Ideal S32768x1024 .f32 := Host.dotGeneral (φ₁ := .f32) (φ₂ := .f32) dot_S32768x2816_S2816x1024_S32768x1024_1_0_0_1_n_n none h wo

/-- The feed-forward. -/
def ff : FVec Ideal S32768x1024 .f32 := lower wo (gated (left (hidden x wi)) (right (hidden x wi)))

theorem hidden_at (n : Fin 32768) (f : Fin 5632) : hidden x wi (ix2 n f) = ∑ k : Fin 1024, x (ix2 n k) * wi (ix2 k f) := by
  unfold hidden
  pointwise
theorem left_at (z : FVec Ideal S32768x5632 .f32) (n : Fin 32768) (f : Fin 2816) (h : f.val < 5632) : left z (ix2 n f) = z (ix2 n ⟨f.val, h⟩) := by
  unfold left
  refine congrArg z (funext fun q => Fin.ext ?_)
  match q with
  | ⟨0, _⟩ => show 0 + n.val = n.val; omega
  | ⟨1, _⟩ => show 0 + f.val = f.val; omega
theorem right_at (z : FVec Ideal S32768x5632 .f32) (n : Fin 32768) (f : Fin 2816) (h : 2816 + f.val < 5632) : right z (ix2 n f) = z (ix2 n ⟨2816 + f.val, h⟩) := by
  unfold right
  refine congrArg z (funext fun q => Fin.ext ?_)
  match q with
  | ⟨0, _⟩ => show 0 + n.val = n.val; omega
  | ⟨1, _⟩ => rfl
theorem gated_at (a u : FVec Ideal S32768x2816 .f32) (n : Fin 32768) (f : Fin 2816) :
    gated a u (ix2 n f) = a (ix2 n f) * Ideal.div 1 (1 + Ideal.exp (0 - a (ix2 n f))) * u (ix2 n f) := by
  unfold gated
  pointwise
  try simp only [zero_sub]
theorem lower_at (h : FVec Ideal S32768x2816 .f32) (n : Fin 32768) (d : Fin 1024) : lower wo h (ix2 n d) = ∑ f : Fin 2816, h (ix2 n f) * wo (ix2 f d) := by
  unfold lower
  pointwise

/-- One hidden column's term of an entry. -/
def inner (n : Fin 32768) (d : Fin 1024) (f : Fin 2816) : EReal :=
  ((∑ k : Fin 1024, x (ix2 n k) * wi (ix2 k ⟨f.val, by omega⟩)) * Ideal.div 1 (1 + Ideal.exp (0 - ∑ k : Fin 1024, x (ix2 n k) * wi (ix2 k ⟨f.val, by omega⟩)))
    * ∑ k : Fin 1024, x (ix2 n k) * wi (ix2 k ⟨2816 + f.val, by omega⟩)) * wo (ix2 f d)

theorem ff_at (n : Fin 32768) (d : Fin 1024) : ff x wi wo (ix2 n d) = ∑ f, inner x wi wo n d f := by
  unfold ff
  refine (lower_at _ _ _ _).trans (Finset.sum_congr rfl fun f _ => ?_)
  have h1 : f.val < 5632 := by omega
  have h2 : 2816 + f.val < 5632 := by omega
  rw [gated_at, left_at _ _ _ h1, right_at _ _ _ h2, hidden_at, hidden_at]
  rfl

/-- The sum over the hidden columns is that of its halves. -/
theorem ff_halves (n : Fin 32768) (d : Fin 1024) :
    ff x wi wo (ix2 n d) = Cert.Kernel6Ideal.Hand.half x wi wo 0 n d + Cert.Kernel6Ideal.Hand.half x wi wo 1 n d := by
  refine (ff_at x wi wo n d).trans ((Fin.sum_univ_add (a := 1408) (b := 1408) _).trans (congrArg₂ (· + ·) ?_ ?_))
  · unfold Cert.Kernel6Ideal.Hand.half Cert.Kernel6Ideal.Hand.part inner
    refine Finset.sum_congr rfl fun f _ => ?_
    have h0 : Fin.castAdd 1408 f = (⟨1408 * (0 : Fin 2).val + f.val, by show 1408 * 0 + f.val < 2816; omega⟩ : Fin 2816) := Fin.ext (by simp)
    simp only [h0, Nat.add_assoc]
  · unfold Cert.Kernel6Ideal.Hand.half Cert.Kernel6Ideal.Hand.part inner
    refine Finset.sum_congr rfl fun f _ => ?_
    have h1 : Fin.natAdd 1408 f = (⟨1408 * (1 : Fin 2).val + f.val, by show 1408 * 1 + f.val < 2816; omega⟩ : Fin 2816) := Fin.ext (by simp [Nat.add_comm])
    simp only [h1, Nat.add_assoc]
end

/-- The reference's result. -/
def result (x : FVec Ideal S32768x1024 .f32) (wi : FVec Ideal S1024x5632 .f32) (wo : FVec Ideal S2816x1024 .f32) (g b : FVec Ideal S1024 .f32) : FVec Ideal S32768x1024 .f32 :=
  normed g b (centred (summed x (ff x wi wo)))

theorem result_eq (x : FVec Ideal S32768x1024 .f32) (wi : FVec Ideal S1024x5632 .f32) (wo : FVec Ideal S2816x1024 .f32) (g b : FVec Ideal S1024 .f32) :
    result x wi wo g b = Cert.Kernel6Ideal.Hand.ffOut x wi wo g b := by
  funext j
  obtain ⟨n, d, rfl⟩ : ∃ (n : Fin 32768) (d : Fin 1024), j = ix2 n d := ⟨j 0, j 1, by funext a; fin_cases a <;> rfl⟩
  unfold result
  refine (normed_at x (ff x wi wo) g b n d).trans ?_
  simp only [ff_halves]
  rfl

/-- The reference's run, its result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference6Ideal.Value.run m ρ

theorem frame_reference : Cert.quiescent_Reference6Ideal (hReference6Ideal := Cert.Reference6Ideal.Gen.facts) :=
  fun m g _ => (θ_run Cert.Reference6Ideal.defs _ _).mono (fun r h => ⟨fun c => (h c).2, sem_eq_zero_of_no_sems rfl r.2⟩)
    (Cert.Reference6Ideal.Value.run (F := Ideal) m g)
end Cert.Reference6Ideal.Hand

namespace Cert.Kernel6Ideal.Hand
open Cert.Kernel6Ideal Cert.Kernel6Ideal.Gen
open Idealize.ShloMosaic Idealize.ShloMosaic.TcCoe Idealize.ShloMosaic.Tactic
open Cert.Rows

/-- The kernel's output is the reference's. -/
theorem algebraic : Cert.algebraic_Kernel6Ideal_Reference6Ideal (hKernel6Ideal := Cert.Kernel6Ideal.Gen.facts) (hReference6Ideal := Cert.Reference6Ideal.Gen.facts) := by
  intro m ρ m' ρ' _ hm
  refine ⟨fun c => ffOut (ax m c) (ai m c) (ao m c) (ag m c) (ab m c), (θ_run defs _ _).mono (fun r h c => ⟨post_out m r h.1 c, post_args m r h.1 c⟩) (run_main (F := Ideal) m ρ),
    (θ_run Cert.Reference6Ideal.defs _ _).mono (fun r h c => ⟨?_, (h c).2⟩) (Cert.Reference6Ideal.Hand.ref_run m' ρ')⟩
  have hc := (h c).1
  rw [(hm c).1, (hm c).2.1, (hm c).2.2.1, (hm c).2.2.2.1, (hm c).2.2.2.2] at hc
  exact hc.trans (Cert.Reference6Ideal.Hand.result_eq _ _ _ _ _)
end Cert.Kernel6Ideal.Hand
end
-- ==== Proof.lean ====
/- The proof of the certificate. -/
module

public import proofs.«01_k».proof.Defs
public import proofs.«01_k».proof.Proof.Frames
public import proofs.«01_k».proof.Proof.FrameK
public import proofs.«01_k».proof.Proof.Algebraic
public import proofs.«01_k».proof.Proof.AddLn
public import proofs.«01_k».proof.Proof.KvProj
public import proofs.«01_k».proof.Proof.Sample
public import proofs.«01_k».proof.Proof.FrameN
public import proofs.«01_k».proof.Proof.AddLnSample
public import proofs.«01_k».proof.Proof.FfRef

@[expose] public section

noncomputable section

/-- Everything the certificate claims. -/
theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_gates_nonneg.facts,
    Cert.KernelIdeal.Hand.frame_kernel, Cert.KernelIdeal.Hand.frame_ideal, Cert.KernelIdeal.Hand.frame_ideal_pre,
    Cert.KernelIdeal.Hand.frame_reference, Cert.KernelIdeal.Hand.frame_reference_pre,
    Cert.Frames.frame_kernel2, Cert.Kernel2Ideal.Hand.frame_ideal, Cert.Reference2Ideal.Hand.frame_reference,
    Cert.Frames.frame_kernel3, Cert.Kernel3Ideal.Hand.frame_ideal, Cert.Reference3Ideal.Hand.frame_reference,
    Cert.Frames.frame_kernel4, Cert.Kernel4Ideal.Hand.frame_ideal, Cert.Reference4Ideal.Hand.frame_reference,
    Cert.Frames.frame_kernel5, Cert.Kernel5Ideal.Hand.frame_ideal, Cert.Reference5Ideal.Hand.frame_reference,
    Cert.Frames.frame_kernel6, Cert.Kernel6Ideal.Hand.frame_ideal, Cert.Reference6Ideal.Hand.frame_reference,
    trivial, Cert.KernelIdeal.Hand.algebraic,
    trivial, Cert.Kernel2Ideal.Hand.algebraic,
    trivial, Cert.Kernel3Ideal.Hand.algebraic,
    trivial, Cert.Kernel4Ideal.Hand.algebraic,
    trivial, Cert.Kernel5Ideal.Hand.algebraic,
    trivial, Cert.Kernel6Ideal.Hand.algebraic⟩

end
